-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v20)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v20) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v23)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v23) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v32) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v23)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v23) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v32) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v9)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v15) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S2x4096x16x192 : Shape := ⟨4, ![2, 4096, 16, 192]⟩
abbrev S2x4096x16x256 : Shape := ⟨4, ![2, 4096, 16, 256]⟩
abbrev S2x4096x64 : Shape := ⟨3, ![2, 4096, 64]⟩
abbrev S2x4096x16384 : Shape := ⟨3, ![2, 4096, 16384]⟩
abbrev S2x4096x1x64 : Shape := ⟨4, ![2, 4096, 1, 64]⟩
abbrev S2x4096x16x64 : Shape := ⟨4, ![2, 4096, 16, 64]⟩
abbrev S2x4096x16x128 : Shape := ⟨4, ![2, 4096, 16, 128]⟩
abbrev S2x4096x16x384 : Shape := ⟨4, ![2, 4096, 16, 384]⟩
abbrev S_ : Shape := ⟨0, ![]⟩

class Facts : Prop where
  bcast_S2x4096x64_S2x4096x1x64_0_1_3 : S2x4096x64.BroadcastsInDim S2x4096x1x64 (![0, 1, 3] : Fin 3 → Fin S2x4096x1x64.rank)
  bcast_S2x4096x1x64_S2x4096x16x64_0_1_2_3 : S2x4096x1x64.BroadcastsInDim S2x4096x16x64 (![0, 1, 2, 3] : Fin 4 → Fin S2x4096x16x64.rank)
  slices_S2x4096x16x256_S2x4096x16x128_0_0_0_0 : S2x4096x16x256.Slices ![0, 0, 0, 0] S2x4096x16x128
  concatenates_S2x4096x16x192_S2x4096x16x128_S2x4096x16x64_S2x4096x16x384_d3 : Shape.Concatenates [S2x4096x16x192, S2x4096x16x128, S2x4096x16x64] S2x4096x16x384 3
  bcast_S_S2x4096x16x384 : S_.BroadcastsInDim S2x4096x16x384 (![] : Fin 0 → Fin S2x4096x16x384.rank)

variable [Facts]

def fn {F : FTy → Type} [FloatOps F] (main_arg0 : FVec F S2x4096x16x192 .f32) (main_arg1 : FVec F S2x4096x16x256 .f32) (main_arg2 : FVec F S2x4096x64 .f32) (main_arg3 : FVec F S2x4096x16384 .f32) : IVec S2x4096x16x384 1 :=
  let main_v0 : FVec F S2x4096x1x64 .f32 := broadcastInDim S2x4096x1x64 ![0, 1, 3] bcast_S2x4096x64_S2x4096x1x64_0_1_3 main_arg2
  let main_v1 : FVec F S2x4096x16x64 .f32 := broadcastInDim S2x4096x16x64 ![0, 1, 2, 3] bcast_S2x4096x1x64_S2x4096x16x64_0_1_2_3 main_v0
  let main_v2 : FVec F S2x4096x16x128 .f32 := (extractStridedSlice S2x4096x16x128 ![0, 0, 0, 0] · slices_S2x4096x16x256_S2x4096x16x128_0_0_0_0) main_arg1
  let main_v3 : FVec F S2x4096x16x384 .f32 := concatenate S2x4096x16x384 3 [⟨S2x4096x16x192, main_arg0⟩, ⟨S2x4096x16x128, main_v2⟩, ⟨S2x4096x16x64, main_v1⟩] concatenates_S2x4096x16x192_S2x4096x16x128_S2x4096x16x64_S2x4096x16x384_d3
  let main_v4 : FVec F S2x4096x16x384 .f32 := Host.absf main_v3
  let main_cst : FVec F S_ .f32 := constant S_ .f32 0x7F800000#32
  let main_v5 : FVec F S2x4096x16x384 .f32 := broadcastInDim S2x4096x16x384 ![] bcast_S_S2x4096x16x384 main_cst
  let main_v6 : IVec S2x4096x16x384 1 := cmpf .olt main_v4 main_v5
  main_v6
-- ==== Kernel.lean ====
abbrev S2x4096x16x192 : Shape := ⟨4, ![2, 4096, 16, 192]⟩
abbrev S2x4096x16x256 : Shape := ⟨4, ![2, 4096, 16, 256]⟩
abbrev S2x4096x64 : Shape := ⟨3, ![2, 4096, 64]⟩
abbrev S2x4096x16384 : Shape := ⟨3, ![2, 4096, 16384]⟩
abbrev S_ : Shape := ⟨0, ![]⟩
abbrev S8192x16x192 : Shape := ⟨3, ![8192, 16, 192]⟩
abbrev S8192x16x128 : Shape := ⟨3, ![8192, 16, 128]⟩
abbrev S8192x2048 : Shape := ⟨2, ![8192, 2048]⟩
abbrev S2048x8192 : Shape := ⟨2, ![2048, 8192]⟩
abbrev S8192x16x64 : Shape := ⟨3, ![8192, 16, 64]⟩
abbrev S8192x1024 : Shape := ⟨2, ![8192, 1024]⟩
abbrev S1024x8192 : Shape := ⟨2, ![1024, 8192]⟩
abbrev S8192x16x256 : Shape := ⟨3, ![8192, 16, 256]⟩
abbrev S8192x4096 : Shape := ⟨2, ![8192, 4096]⟩
abbrev S8192x64 : Shape := ⟨2, ![8192, 64]⟩
abbrev S8192x384 : Shape := ⟨2, ![8192, 384]⟩
abbrev S8192x512 : Shape := ⟨2, ![8192, 512]⟩
abbrev S4096x16384 : Shape := ⟨2, ![4096, 16384]⟩
abbrev S1024x128 : Shape := ⟨2, ![1024, 128]⟩
abbrev S512x128 : Shape := ⟨2, ![512, 128]⟩
abbrev S4096x128 : Shape := ⟨2, ![4096, 128]⟩
abbrev S4096x1024 : Shape := ⟨2, ![4096, 1024]⟩
abbrev S1x32x16384 : Shape := ⟨3, ![1, 32, 16384]⟩
abbrev S128x1024 : Shape := ⟨2, ![128, 1024]⟩
abbrev S32x16384 : Shape := ⟨2, ![32, 16384]⟩
abbrev S8x16x128x256 : Shape := ⟨4, ![8, 16, 128, 256]⟩
abbrev S8x1x128 : Shape := ⟨3, ![8, 1, 128]⟩
abbrev S8x136x128 : Shape := ⟨3, ![8, 136, 128]⟩
abbrev S256x128 : Shape := ⟨2, ![256, 128]⟩
abbrev S128x256 : Shape := ⟨2, ![128, 256]⟩
abbrev S1x1x128x256 : Shape := ⟨4, ![1, 1, 128, 256]⟩
abbrev S128x128 : Shape := ⟨2, ![128, 128]⟩
abbrev S256x1024 : Shape := ⟨2, ![256, 1024]⟩
abbrev S1x1x128 : Shape := ⟨3, ![1, 1, 128]⟩
abbrev S1x128 : Shape := ⟨2, ![1, 128]⟩
abbrev S32x8x128 : Shape := ⟨3, ![32, 8, 128]⟩
abbrev S8x128 : Shape := ⟨2, ![8, 128]⟩
abbrev S128 : Shape := ⟨1, ![128]⟩
abbrev S1x8x128 : Shape := ⟨3, ![1, 8, 128]⟩
abbrev S1x128x128 : Shape := ⟨3, ![1, 128, 128]⟩

abbrev nBuf : Space → Nat
  | .hbm => 35
  | .vmem => 18
  | .smem => 0
  | _ => 0

abbrev bufTy : (tb : Table) → Fin (tcTables nBuf tb) → BufTy
  | .hbm, ⟨0, _⟩ => ⟨S2x4096x16x192, .f32⟩
  | .hbm, ⟨1, _⟩ => ⟨S2x4096x16x256, .f32⟩
  | .hbm, ⟨2, _⟩ => ⟨S2x4096x64, .f32⟩
  | .hbm, ⟨3, _⟩ => ⟨S2x4096x16384, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x16x192, .f32⟩
  | .hbm, ⟨12, _⟩ => ⟨S8192x16x192, .f32⟩
  | .hbm, ⟨13, _⟩ => ⟨S8192x16x192, .f32⟩
  | .hbm, ⟨14, _⟩ => ⟨S8192x16x128, .f32⟩
  | .hbm, ⟨15, _⟩ => ⟨S8192x2048, .f32⟩
  | .hbm, ⟨16, _⟩ => ⟨S2048x8192, .f32⟩
  | .hbm, ⟨17, _⟩ => ⟨S2048x8192, .bf16⟩
  | .hbm, ⟨18, _⟩ => ⟨S8192x16x64, .f32⟩
  | .hbm, ⟨19, _⟩ => ⟨S8192x1024, .f32⟩
  | .hbm, ⟨20, _⟩ => ⟨S1024x8192, .f32⟩
  | .hbm, ⟨21, _⟩ => ⟨S1024x8192, .bf16⟩
  | .hbm, ⟨22, _⟩ => ⟨S8192x16x256, .f32⟩
  | .hbm, ⟨23, _⟩ => ⟨S8192x16x128, .f32⟩
  | .hbm, ⟨24, _⟩ => ⟨S8192x2048, .f32⟩
  | .hbm, ⟨25, _⟩ => ⟨S8192x16x128, .f32⟩
  | .hbm, ⟨26, _⟩ => ⟨S8192x2048, .f32⟩
  | .hbm, ⟨27, _⟩ => ⟨S8192x4096, .f32⟩
  | .hbm, ⟨28, _⟩ => ⟨S8192x4096, .bf16⟩
  | .hbm, ⟨29, _⟩ => ⟨S8192x64, .f32⟩
  | .hbm, ⟨30, _⟩ => ⟨S_, .f32⟩
  | .hbm, ⟨31, _⟩ => ⟨S8192x384, .f32⟩
  | .hbm, ⟨32, _⟩ => ⟨S8192x512, .f32⟩
  | .hbm, ⟨33, _⟩ => ⟨S8192x2048, .bf16⟩
  | .hbm, ⟨34, _⟩ => ⟨S4096x16384, .bf16⟩
  | .local _ .vmem, ⟨0, _⟩ => ⟨S1024x128, .bf16⟩
  | .local _ .vmem, ⟨1, _⟩ => ⟨S1024x128, .bf16⟩
  | .local _ .vmem, ⟨2, _⟩ => ⟨S512x128, .bf16⟩
  | .local _ .vmem, ⟨3, _⟩ => ⟨S512x128, .bf16⟩
  | .local _ .vmem, ⟨4, _⟩ => ⟨S4096x128, .f32⟩
  | .local _ .vmem, ⟨5, _⟩ => ⟨S4096x128, .f32⟩
  | .local _ .vmem, ⟨6, _⟩ => ⟨S4096x1024, .bf16⟩
  | .local _ .vmem, ⟨7, _⟩ => ⟨S4096x1024, .bf16⟩
  | .local _ .vmem, ⟨8, _⟩ => ⟨S1x32x16384, .f32⟩
  | .local _ .vmem, ⟨9, _⟩ => ⟨S1x32x16384, .f32⟩
  | .local _ .vmem, ⟨10, _⟩ => ⟨S128x1024, .bf16⟩
  | .local _ .vmem, ⟨11, _⟩ => ⟨S128x1024, .bf16⟩
  | .local _ .vmem, ⟨12, _⟩ => ⟨S32x16384, .bf16⟩
  | .local _ .vmem, ⟨13, _⟩ => ⟨S32x16384, .bf16⟩
  | .local _ .vmem, ⟨14, _⟩ => ⟨S128x1024, .bf16⟩
  | .local _ .vmem, ⟨15, _⟩ => ⟨S8x16x128x256, .bf16⟩
  | .local _ .vmem, ⟨16, _⟩ => ⟨S8x1x128, .f32⟩
  | .local _ .vmem, ⟨17, _⟩ => ⟨S8x136x128, .f32⟩
  | _, _ => ⟨S2x4096x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 2, 32], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

@[reducible] def k0_t1_loop : Scf.Loop 32 :=
  let c0_i32_473 : BitVec 32 := 0#32
  let c16_i32 : BitVec 32 := 16#32
  let v905 : BitVec 32 := Scalar.addi c0_i32_473 c16_i32
  let c1_i32_474 : BitVec 32 := 1#32
  ⟨c0_i32_473, v905, c1_i32_474⟩
def k0_mult1 (k0_t1 : Fin k0_t1_loop.trips) : BitVec 32 :=
  let c0_i32_473 : BitVec 32 := 0#32
  let c1_i32_474 : BitVec 32 := 1#32
  let arg15 : BitVec 32 := Scf.iv c0_i32_473 c1_i32_474 k0_t1
  let c256_i32_476 : BitVec 32 := 256#32
  let v906 : BitVec 32 := Scalar.muli arg15 c256_i32_476
  v906
def k0_off1 (k0_t1 : Fin k0_t1_loop.trips) : Fin 2 → Nat :=
  let c0_i32_473 : BitVec 32 := 0#32
  let c1_i32_474 : BitVec 32 := 1#32
  let arg15 : BitVec 32 := Scf.iv c0_i32_473 c1_i32_474 k0_t1
  let c256_i32_476 : BitVec 32 := 256#32
  let v906 : BitVec 32 := Scalar.muli arg15 c256_i32_476
  let v907 : BitVec 32 := v906
  let v908 : Index := Scalar.indexCast v907
  let c0_477 : Index := 0#32
  ![v908.toNat, 0]
def k0_off2 (k0_t1 : Fin k0_t1_loop.trips) : Fin 4 → Nat :=
  let c0_478 : Index := 0#32
  let c0_i32_473 : BitVec 32 := 0#32
  let c1_i32_474 : BitVec 32 := 1#32
  let arg15 : BitVec 32 := Scf.iv c0_i32_473 c1_i32_474 k0_t1
  let v914 : Index := Scalar.indexCast arg15
  let c0_479 : Index := 0#32
  let c0_480 : Index := 0#32
  ![0, v914.toNat, 0, 0]
def k0_off3 (k0_t1 : Fin k0_t1_loop.trips) : Fin 2 → Nat :=
  let c0_i32_473 : BitVec 32 := 0#32
  let c1_i32_474 : BitVec 32 := 1#32
  let arg15 : BitVec 32 := Scf.iv c0_i32_473 c1_i32_474 k0_t1
  let c256_i32_476 : BitVec 32 := 256#32
  let v906 : BitVec 32 := Scalar.muli arg15 c256_i32_476
  let v907 : BitVec 32 := v906
  let v918 : Index := Scalar.indexCast v907
  let c128_481 : Index := 128#32
  ![v918.toNat, 128]
def k0_off4 (k0_t1 : Fin k0_t1_loop.trips) : Fin 4 → Nat :=
  let c1_482 : Index := 1#32
  let c0_i32_473 : BitVec 32 := 0#32
  let c1_i32_474 : BitVec 32 := 1#32
  let arg15 : BitVec 32 := Scf.iv c0_i32_473 c1_i32_474 k0_t1
  let v924 : Index := Scalar.indexCast arg15
  let c0_483 : Index := 0#32
  let c0_484 : Index := 0#32
  ![1, v924.toNat, 0, 0]
def k0_off5 (k0_t1 : Fin k0_t1_loop.trips) : Fin 2 → Nat :=
  let c0_i32_473 : BitVec 32 := 0#32
  let c1_i32_474 : BitVec 32 := 1#32
  let arg15 : BitVec 32 := Scf.iv c0_i32_473 c1_i32_474 k0_t1
  let c256_i32_476 : BitVec 32 := 256#32
  let v906 : BitVec 32 := Scalar.muli arg15 c256_i32_476
  let v907 : BitVec 32 := v906
  let v928 : Index := Scalar.indexCast v907
  let c256_485 : Index := 256#32
  ![v928.toNat, 256]
def k0_off6 (k0_t1 : Fin k0_t1_loop.trips) : Fin 4 → Nat :=
  let c2_486 : Index := 2#32
  let c0_i32_473 : BitVec 32 := 0#32
  let c1_i32_474 : BitVec 32 := 1#32
  let arg15 : BitVec 32 := Scf.iv c0_i32_473 c1_i32_474 k0_t1
  let v934 : Index := Scalar.indexCast arg15
  let c0_487 : Index := 0#32
  let c0_488 : Index := 0#32
  ![2, v934.toNat, 0, 0]
def k0_off7 (k0_t1 : Fin k0_t1_loop.trips) : Fin 2 → Nat :=
  let c0_i32_473 : BitVec 32 := 0#32
  let c1_i32_474 : BitVec 32 := 1#32
  let arg15 : BitVec 32 := Scf.iv c0_i32_473 c1_i32_474 k0_t1
  let c256_i32_476 : BitVec 32 := 256#32
  let v906 : BitVec 32 := Scalar.muli arg15 c256_i32_476
  let v907 : BitVec 32 := v906
  let v938 : Index := Scalar.indexCast v907
  let c384_489 : Index := 384#32
  ![v938.toNat, 384]
def k0_off8 (k0_t1 : Fin k0_t1_loop.trips) : Fin 4 → Nat :=
  let c3_490 : Index := 3#32
  let c0_i32_473 : BitVec 32 := 0#32
  let c1_i32_474 : BitVec 32 := 1#32
  let arg15 : BitVec 32 := Scf.iv c0_i32_473 c1_i32_474 k0_t1
  let v944 : Index := Scalar.indexCast arg15
  let c0_491 : Index := 0#32
  let c0_492 : Index := 0#32
  ![3, v944.toNat, 0, 0]
def k0_off9 (k0_t1 : Fin k0_t1_loop.trips) : Fin 2 → Nat :=
  let c0_i32_473 : BitVec 32 := 0#32
  let c1_i32_474 : BitVec 32 := 1#32
  let arg15 : BitVec 32 := Scf.iv c0_i32_473 c1_i32_474 k0_t1
  let c256_i32_476 : BitVec 32 := 256#32
  let v906 : BitVec 32 := Scalar.muli arg15 c256_i32_476
  let v907 : BitVec 32 := v906
  let v948 : Index := Scalar.indexCast v907
  let c512_493 : Index := 512#32
  ![v948.toNat, 512]
def k0_off10 (k0_t1 : Fin k0_t1_loop.trips) : Fin 4 → Nat :=
  let c4_494 : Index := 4#32
  let c0_i32_473 : BitVec 32 := 0#32
  let c1_i32_474 : BitVec 32 := 1#32
  let arg15 : BitVec 32 := Scf.iv c0_i32_473 c1_i32_474 k0_t1
  let v954 : Index := Scalar.indexCast arg15
  let c0_495 : Index := 0#32
  let c0_496 : Index := 0#32
  ![4, v954.toNat, 0, 0]
def k0_off11 (k0_t1 : Fin k0_t1_loop.trips) : Fin 2 → Nat :=
  let c0_i32_473 : BitVec 32 := 0#32
  let c1_i32_474 : BitVec 32 := 1#32
  let arg15 : BitVec 32 := Scf.iv c0_i32_473 c1_i32_474 k0_t1
  let c256_i32_476 : BitVec 32 := 256#32
  let v906 : BitVec 32 := Scalar.muli arg15 c256_i32_476
  let v907 : BitVec 32 := v906
  let v958 : Index := Scalar.indexCast v907
  let c640_497 : Index := 640#32
  ![v958.toNat, 640]
def k0_off12 (k0_t1 : Fin k0_t1_loop.trips) : Fin 4 → Nat :=
  let c5_498 : Index := 5#32
  let c0_i32_473 : BitVec 32 := 0#32
  let c1_i32_474 : BitVec 32 := 1#32
  let arg15 : BitVec 32 := Scf.iv c0_i32_473 c1_i32_474 k0_t1
  let v964 : Index := Scalar.indexCast arg15
  let c0_499 : Index := 0#32
  let c0_500 : Index := 0#32
  ![5, v964.toNat, 0, 0]
def k0_off13 (k0_t1 : Fin k0_t1_loop.trips) : Fin 2 → Nat :=
  let c0_i32_473 : BitVec 32 := 0#32
  let c1_i32_474 : BitVec 32 := 1#32
  let arg15 : BitVec 32 := Scf.iv c0_i32_473 c1_i32_474 k0_t1
  let c256_i32_476 : BitVec 32 := 256#32
  let v906 : BitVec 32 := Scalar.muli arg15 c256_i32_476
  let v907 : BitVec 32 := v906
  let v968 : Index := Scalar.indexCast v907
  let c768_501 : Index := 768#32
  ![v968.toNat, 768]
def k0_off14 (k0_t1 : Fin k0_t1_loop.trips) : Fin 4 → Nat :=
  let c6_502 : Index := 6#32
  let c0_i32_473 : BitVec 32 := 0#32
  let c1_i32_474 : BitVec 32 := 1#32
  let arg15 : BitVec 32 := Scf.iv c0_i32_473 c1_i32_474 k0_t1
  let v974 : Index := Scalar.indexCast arg15
  let c0_503 : Index := 0#32
  let c0_504 : Index := 0#32
  ![6, v974.toNat, 0, 0]
def k0_off15 (k0_t1 : Fin k0_t1_loop.trips) : Fin 2 → Nat :=
  let c0_i32_473 : BitVec 32 := 0#32
  let c1_i32_474 : BitVec 32 := 1#32
  let arg15 : BitVec 32 := Scf.iv c0_i32_473 c1_i32_474 k0_t1
  let c256_i32_476 : BitVec 32 := 256#32
  let v906 : BitVec 32 := Scalar.muli arg15 c256_i32_476
  let v907 : BitVec 32 := v906
  let v978 : Index := Scalar.indexCast v907
  let c896_505 : Index := 896#32
  ![v978.toNat, 896]
def k0_off16 (k0_t1 : Fin k0_t1_loop.trips) : Fin 4 → Nat :=
  let c7_506 : Index := 7#32
  let c0_i32_473 : BitVec 32 := 0#32
  let c1_i32_474 : BitVec 32 := 1#32
  let arg15 : BitVec 32 := Scf.iv c0_i32_473 c1_i32_474 k0_t1
  let v984 : Index := Scalar.indexCast arg15
  let c0_507 : Index := 0#32
  let c0_508 : Index := 0#32
  ![7, v984.toNat, 0, 0]
@[reducible] def k0_t2_loop (i : grid0.Coords) : Scf.Loop 32 :=
  let c0_i32_121 : BitVec 32 := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_114 : BitVec 32 := 0#32
  let v304 : BitVec 1 := Scalar.cmpi .sgt v24 c0_i32_114
  let v305 : BitVec 32 := Scalar.extui v304
  let c0_i32_115 : BitVec 32 := 0#32
  let v306 : BitVec 1 := Scalar.cmpi .slt v24 c0_i32_115
  let v307 : BitVec 32 := Scalar.extui v306
  let v308 : BitVec 32 := Scalar.subi v305 v307
  let c4_i32 : BitVec 32 := 4#32
  let c0_i32_116 : BitVec 32 := 0#32
  let v309 : BitVec 1 := Scalar.cmpi .sgt c4_i32 c0_i32_116
  let v310 : BitVec 32 := Scalar.extui v309
  let c0_i32_117 : BitVec 32 := 0#32
  let v311 : BitVec 1 := Scalar.cmpi .slt c4_i32 c0_i32_117
  let v312 : BitVec 32 := Scalar.extui v311
  let v313 : BitVec 32 := Scalar.subi v310 v312
  let v314 : BitVec 1 := Scalar.cmpi .ne v308 v313
  let v315 : BitVec 32 := Scalar.remsi v24 c4_i32
  let c0_i32_118 : BitVec 32 := 0#32
  let v316 : BitVec 1 := Scalar.cmpi .ne v315 c0_i32_118
  let v317 : BitVec 1 := Scalar.andi v314 v316
  let v303 : BitVec 32 := Scalar.divsi v24 c4_i32
  let c1_i32_119 : BitVec 32 := 1#32
  let v318 : BitVec 32 := Scalar.subi v303 c1_i32_119
  let v319 : BitVec 32 := Scalar.select v317 v318 v303
  let v320 : BitVec 32 := Scalar.subi v319 c0_i32_121
  let c1_i32_122 : BitVec 32 := 1#32
  let v322 : BitVec 32 := Scalar.divsi v320 c1_i32_122
  let v323 : BitVec 32 := Scalar.muli v322 c1_i32_122
  let v324 : BitVec 32 := Scalar.addi c0_i32_121 v323
  let c1_i32_123 : BitVec 32 := 1#32
  ⟨c0_i32_121, v324, c1_i32_123⟩
def k0_mult2 (i : grid0.Coords) (k0_t2 : Fin (k0_t2_loop i).trips) : BitVec 32 :=
  let c4_i32_473 : BitVec 32 := 4#32
  let c0_i32_121 : BitVec 32 := 0#32
  let c1_i32_123 : BitVec 32 := 1#32
  let arg15 : BitVec 32 := Scf.iv c0_i32_121 c1_i32_123 k0_t2
  let v905 : BitVec 32 := Scalar.muli c4_i32_473 arg15
  let c0_i32_474 : BitVec 32 := 0#32
  let v906 : BitVec 32 := Scalar.addi v905 c0_i32_474
  let c256_i32_475 : BitVec 32 := 256#32
  let v907 : BitVec 32 := Scalar.muli v906 c256_i32_475
  v907
def k0_off17 (i : grid0.Coords) (k0_t2 : Fin (k0_t2_loop i).trips) (c0_i32_474 : BitVec 32) : Fin 2 → Nat :=
  let c4_i32_473 : BitVec 32 := 4#32
  let c0_i32_121 : BitVec 32 := 0#32
  let c1_i32_123 : BitVec 32 := 1#32
  let arg15 : BitVec 32 := Scf.iv c0_i32_121 c1_i32_123 k0_t2
  let v905 : BitVec 32 := Scalar.muli c4_i32_473 arg15
  let v906 : BitVec 32 := Scalar.addi v905 c0_i32_474
  let c256_i32_475 : BitVec 32 := 256#32
  let v907 : BitVec 32 := Scalar.muli v906 c256_i32_475
  let v908 : BitVec 32 := v907
  let v909 : Index := Scalar.indexCast v908
  let c0_476 : Index := 0#32
  ![v909.toNat, 0]
def k0_off18 (i : grid0.Coords) (k0_t2 : Fin (k0_t2_loop i).trips) (c0_i32_474 : BitVec 32) : Fin 2 → Nat :=
  let c4_i32_473 : BitVec 32 := 4#32
  let c0_i32_121 : BitVec 32 := 0#32
  let c1_i32_123 : BitVec 32 := 1#32
  let arg15 : BitVec 32 := Scf.iv c0_i32_121 c1_i32_123 k0_t2
  let v905 : BitVec 32 := Scalar.muli c4_i32_473 arg15
  let v906 : BitVec 32 := Scalar.addi v905 c0_i32_474
  let c256_i32_475 : BitVec 32 := 256#32
  let v907 : BitVec 32 := Scalar.muli v906 c256_i32_475
  let v908 : BitVec 32 := v907
  let v915 : Index := Scalar.indexCast v908
  let c0_480 : Index := 0#32
  ![v915.toNat, 0]
def k0_off19 (i : grid0.Coords) (k0_t2 : Fin (k0_t2_loop i).trips) (c0_i32_474 : BitVec 32) : Fin 4 → Nat :=
  let c0_484 : Index := 0#32
  let c4_i32_473 : BitVec 32 := 4#32
  let c0_i32_121 : BitVec 32 := 0#32
  let c1_i32_123 : BitVec 32 := 1#32
  let arg15 : BitVec 32 := Scf.iv c0_i32_121 c1_i32_123 k0_t2
  let v905 : BitVec 32 := Scalar.muli c4_i32_473 arg15
  let v906 : BitVec 32 := Scalar.addi v905 c0_i32_474
  let v923 : Index := Scalar.indexCast v906
  let c0_485 : Index := 0#32
  let c0_486 : Index := 0#32
  ![0, v923.toNat, 0, 0]
def k0_off20 (i : grid0.Coords) (k0_t2 : Fin (k0_t2_loop i).trips) (c0_i32_474 : BitVec 32) : Fin 2 → Nat :=
  let c4_i32_473 : BitVec 32 := 4#32
  let c0_i32_121 : BitVec 32 := 0#32
  let c1_i32_123 : BitVec 32 := 1#32
  let arg15 : BitVec 32 := Scf.iv c0_i32_121 c1_i32_123 k0_t2
  let v905 : BitVec 32 := Scalar.muli c4_i32_473 arg15
  let v906 : BitVec 32 := Scalar.addi v905 c0_i32_474
  let c256_i32_475 : BitVec 32 := 256#32
  let v907 : BitVec 32 := Scalar.muli v906 c256_i32_475
  let v908 : BitVec 32 := v907
  let v961 : Index := Scalar.indexCast v908
  let c128_509 : Index := 128#32
  ![v961.toNat, 128]
def k0_off21 (i : grid0.Coords) (k0_t2 : Fin (k0_t2_loop i).trips) (c0_i32_474 : BitVec 32) : Fin 4 → Nat :=
  let c1_513 : Index := 1#32
  let c4_i32_473 : BitVec 32 := 4#32
  let c0_i32_121 : BitVec 32 := 0#32
  let c1_i32_123 : BitVec 32 := 1#32
  let arg15 : BitVec 32 := Scf.iv c0_i32_121 c1_i32_123 k0_t2
  let v905 : BitVec 32 := Scalar.muli c4_i32_473 arg15
  let v906 : BitVec 32 := Scalar.addi v905 c0_i32_474
  let v969 : Index := Scalar.indexCast v906
  let c0_514 : Index := 0#32
  let c0_515 : Index := 0#32
  ![1, v969.toNat, 0, 0]
def k0_off22 (i : grid0.Coords) (k0_t2 : Fin (k0_t2_loop i).trips) (c0_i32_474 : BitVec 32) : Fin 2 → Nat :=
  let c4_i32_473 : BitVec 32 := 4#32
  let c0_i32_121 : BitVec 32 := 0#32
  let c1_i32_123 : BitVec 32 := 1#32
  let arg15 : BitVec 32 := Scf.iv c0_i32_121 c1_i32_123 k0_t2
  let v905 : BitVec 32 := Scalar.muli c4_i32_473 arg15
  let v906 : BitVec 32 := Scalar.addi v905 c0_i32_474
  let c256_i32_475 : BitVec 32 := 256#32
  let v907 : BitVec 32 := Scalar.muli v906 c256_i32_475
  let v908 : BitVec 32 := v907
  let v1007 : Index := Scalar.indexCast v908
  let c256_538 : Index := 256#32
  ![v1007.toNat, 256]
def k0_off23 (i : grid0.Coords) (k0_t2 : Fin (k0_t2_loop i).trips) (c0_i32_474 : BitVec 32) : Fin 4 → Nat :=
  let c2_542 : Index := 2#32
  let c4_i32_473 : BitVec 32 := 4#32
  let c0_i32_121 : BitVec 32 := 0#32
  let c1_i32_123 : BitVec 32 := 1#32
  let arg15 : BitVec 32 := Scf.iv c0_i32_121 c1_i32_123 k0_t2
  let v905 : BitVec 32 := Scalar.muli c4_i32_473 arg15
  let v906 : BitVec 32 := Scalar.addi v905 c0_i32_474
  let v1015 : Index := Scalar.indexCast v906
  let c0_543 : Index := 0#32
  let c0_544 : Index := 0#32
  ![2, v1015.toNat, 0, 0]
def k0_off24 (i : grid0.Coords) (k0_t2 : Fin (k0_t2_loop i).trips) (c0_i32_474 : BitVec 32) : Fin 2 → Nat :=
  let c4_i32_473 : BitVec 32 := 4#32
  let c0_i32_121 : BitVec 32 := 0#32
  let c1_i32_123 : BitVec 32 := 1#32
  let arg15 : BitVec 32 := Scf.iv c0_i32_121 c1_i32_123 k0_t2
  let v905 : BitVec 32 := Scalar.muli c4_i32_473 arg15
  let v906 : BitVec 32 := Scalar.addi v905 c0_i32_474
  let c256_i32_475 : BitVec 32 := 256#32
  let v907 : BitVec 32 := Scalar.muli v906 c256_i32_475
  let v908 : BitVec 32 := v907
  let v1053 : Index := Scalar.indexCast v908
  let c384_567 : Index := 384#32
  ![v1053.toNat, 384]
def k0_off25 (i : grid0.Coords) (k0_t2 : Fin (k0_t2_loop i).trips) (c0_i32_474 : BitVec 32) : Fin 4 → Nat :=
  let c3_571 : Index := 3#32
  let c4_i32_473 : BitVec 32 := 4#32
  let c0_i32_121 : BitVec 32 := 0#32
  let c1_i32_123 : BitVec 32 := 1#32
  let arg15 : BitVec 32 := Scf.iv c0_i32_121 c1_i32_123 k0_t2
  let v905 : BitVec 32 := Scalar.muli c4_i32_473 arg15
  let v906 : BitVec 32 := Scalar.addi v905 c0_i32_474
  let v1061 : Index := Scalar.indexCast v906
  let c0_572 : Index := 0#32
  let c0_573 : Index := 0#32
  ![3, v1061.toNat, 0, 0]
def k0_off26 (i : grid0.Coords) (k0_t2 : Fin (k0_t2_loop i).trips) (c0_i32_474 : BitVec 32) : Fin 2 → Nat :=
  let c4_i32_473 : BitVec 32 := 4#32
  let c0_i32_121 : BitVec 32 := 0#32
  let c1_i32_123 : BitVec 32 := 1#32
  let arg15 : BitVec 32 := Scf.iv c0_i32_121 c1_i32_123 k0_t2
  let v905 : BitVec 32 := Scalar.muli c4_i32_473 arg15
  let v906 : BitVec 32 := Scalar.addi v905 c0_i32_474
  let c256_i32_475 : BitVec 32 := 256#32
  let v907 : BitVec 32 := Scalar.muli v906 c256_i32_475
  let v908 : BitVec 32 := v907
  let v1099 : Index := Scalar.indexCast v908
  let c512_596 : Index := 512#32
  ![v1099.toNat, 512]
def k0_off27 (i : grid0.Coords) (k0_t2 : Fin (k0_t2_loop i).trips) (c0_i32_474 : BitVec 32) : Fin 4 → Nat :=
  let c4_600 : Index := 4#32
  let c4_i32_473 : BitVec 32 := 4#32
  let c0_i32_121 : BitVec 32 := 0#32
  let c1_i32_123 : BitVec 32 := 1#32
  let arg15 : BitVec 32 := Scf.iv c0_i32_121 c1_i32_123 k0_t2
  let v905 : BitVec 32 := Scalar.muli c4_i32_473 arg15
  let v906 : BitVec 32 := Scalar.addi v905 c0_i32_474
  let v1107 : Index := Scalar.indexCast v906
  let c0_601 : Index := 0#32
  let c0_602 : Index := 0#32
  ![4, v1107.toNat, 0, 0]
def k0_off28 (i : grid0.Coords) (k0_t2 : Fin (k0_t2_loop i).trips) (c0_i32_474 : BitVec 32) : Fin 2 → Nat :=
  let c4_i32_473 : BitVec 32 := 4#32
  let c0_i32_121 : BitVec 32 := 0#32
  let c1_i32_123 : BitVec 32 := 1#32
  let arg15 : BitVec 32 := Scf.iv c0_i32_121 c1_i32_123 k0_t2
  let v905 : BitVec 32 := Scalar.muli c4_i32_473 arg15
  let v906 : BitVec 32 := Scalar.addi v905 c0_i32_474
  let c256_i32_475 : BitVec 32 := 256#32
  let v907 : BitVec 32 := Scalar.muli v906 c256_i32_475
  let v908 : BitVec 32 := v907
  let v1145 : Index := Scalar.indexCast v908
  let c640_625 : Index := 640#32
  ![v1145.toNat, 640]
def k0_off29 (i : grid0.Coords) (k0_t2 : Fin (k0_t2_loop i).trips) (c0_i32_474 : BitVec 32) : Fin 4 → Nat :=
  let c5_629 : Index := 5#32
  let c4_i32_473 : BitVec 32 := 4#32
  let c0_i32_121 : BitVec 32 := 0#32
  let c1_i32_123 : BitVec 32 := 1#32
  let arg15 : BitVec 32 := Scf.iv c0_i32_121 c1_i32_123 k0_t2
  let v905 : BitVec 32 := Scalar.muli c4_i32_473 arg15
  let v906 : BitVec 32 := Scalar.addi v905 c0_i32_474
  let v1153 : Index := Scalar.indexCast v906
  let c0_630 : Index := 0#32
  let c0_631 : Index := 0#32
  ![5, v1153.toNat, 0, 0]
def k0_off30 (i : grid0.Coords) (k0_t2 : Fin (k0_t2_loop i).trips) (c0_i32_474 : BitVec 32) : Fin 2 → Nat :=
  let c4_i32_473 : BitVec 32 := 4#32
  let c0_i32_121 : BitVec 32 := 0#32
  let c1_i32_123 : BitVec 32 := 1#32
  let arg15 : BitVec 32 := Scf.iv c0_i32_121 c1_i32_123 k0_t2
  let v905 : BitVec 32 := Scalar.muli c4_i32_473 arg15
  let v906 : BitVec 32 := Scalar.addi v905 c0_i32_474
  let c256_i32_475 : BitVec 32 := 256#32
  let v907 : BitVec 32 := Scalar.muli v906 c256_i32_475
  let v908 : BitVec 32 := v907
  let v1191 : Index := Scalar.indexCast v908
  let c768_654 : Index := 768#32
  ![v1191.toNat, 768]
def k0_off31 (i : grid0.Coords) (k0_t2 : Fin (k0_t2_loop i).trips) (c0_i32_474 : BitVec 32) : Fin 4 → Nat :=
  let c6_658 : Index := 6#32
  let c4_i32_473 : BitVec 32 := 4#32
  let c0_i32_121 : BitVec 32 := 0#32
  let c1_i32_123 : BitVec 32 := 1#32
  let arg15 : BitVec 32 := Scf.iv c0_i32_121 c1_i32_123 k0_t2
  let v905 : BitVec 32 := Scalar.muli c4_i32_473 arg15
  let v906 : BitVec 32 := Scalar.addi v905 c0_i32_474
  let v1199 : Index := Scalar.indexCast v906
  let c0_659 : Index := 0#32
  let c0_660 : Index := 0#32
  ![6, v1199.toNat, 0, 0]
def k0_off32 (i : grid0.Coords) (k0_t2 : Fin (k0_t2_loop i).trips) (c0_i32_474 : BitVec 32) : Fin 2 → Nat :=
  let c4_i32_473 : BitVec 32 := 4#32
  let c0_i32_121 : BitVec 32 := 0#32
  let c1_i32_123 : BitVec 32 := 1#32
  let arg15 : BitVec 32 := Scf.iv c0_i32_121 c1_i32_123 k0_t2
  let v905 : BitVec 32 := Scalar.muli c4_i32_473 arg15
  let v906 : BitVec 32 := Scalar.addi v905 c0_i32_474
  let c256_i32_475 : BitVec 32 := 256#32
  let v907 : BitVec 32 := Scalar.muli v906 c256_i32_475
  let v908 : BitVec 32 := v907
  let v1237 : Index := Scalar.indexCast v908
  let c896_683 : Index := 896#32
  ![v1237.toNat, 896]
def k0_off33 (i : grid0.Coords) (k0_t2 : Fin (k0_t2_loop i).trips) (c0_i32_474 : BitVec 32) : Fin 4 → Nat :=
  let c7_687 : Index := 7#32
  let c4_i32_473 : BitVec 32 := 4#32
  let c0_i32_121 : BitVec 32 := 0#32
  let c1_i32_123 : BitVec 32 := 1#32
  let arg15 : BitVec 32 := Scf.iv c0_i32_121 c1_i32_123 k0_t2
  let v905 : BitVec 32 := Scalar.muli c4_i32_473 arg15
  let v906 : BitVec 32 := Scalar.addi v905 c0_i32_474
  let v1245 : Index := Scalar.indexCast v906
  let c0_688 : Index := 0#32
  let c0_689 : Index := 0#32
  ![7, v1245.toNat, 0, 0]
def k0_mult3 (i : grid0.Coords) (k0_t2 : Fin (k0_t2_loop i).trips) : BitVec 32 :=
  let c4_i32_712 : BitVec 32 := 4#32
  let c0_i32_121 : BitVec 32 := 0#32
  let c1_i32_123 : BitVec 32 := 1#32
  let arg15 : BitVec 32 := Scf.iv c0_i32_121 c1_i32_123 k0_t2
  let v1283 : BitVec 32 := Scalar.muli c4_i32_712 arg15
  let c1_i32_713 : BitVec 32 := 1#32
  let v1284 : BitVec 32 := Scalar.addi v1283 c1_i32_713
  let c256_i32_714 : BitVec 32 := 256#32
  let v1285 : BitVec 32 := Scalar.muli v1284 c256_i32_714
  v1285
def k0_mult4 (i : grid0.Coords) (k0_t2 : Fin (k0_t2_loop i).trips) : BitVec 32 :=
  let c4_i32_951 : BitVec 32 := 4#32
  let c0_i32_121 : BitVec 32 := 0#32
  let c1_i32_123 : BitVec 32 := 1#32
  let arg15 : BitVec 32 := Scf.iv c0_i32_121 c1_i32_123 k0_t2
  let v1661 : BitVec 32 := Scalar.muli c4_i32_951 arg15
  let c2_i32_952 : BitVec 32 := 2#32
  let v1662 : BitVec 32 := Scalar.addi v1661 c2_i32_952
  let c256_i32_953 : BitVec 32 := 256#32
  let v1663 : BitVec 32 := Scalar.muli v1662 c256_i32_953
  v1663
def k0_mult5 (i : grid0.Coords) (k0_t2 : Fin (k0_t2_loop i).trips) : BitVec 32 :=
  let c4_i32_1190 : BitVec 32 := 4#32
  let c0_i32_121 : BitVec 32 := 0#32
  let c1_i32_123 : BitVec 32 := 1#32
  let arg15 : BitVec 32 := Scf.iv c0_i32_121 c1_i32_123 k0_t2
  let v2039 : BitVec 32 := Scalar.muli c4_i32_1190 arg15
  let c3_i32 : BitVec 32 := 3#32
  let v2040 : BitVec 32 := Scalar.addi v2039 c3_i32
  let c256_i32_1191 : BitVec 32 := 256#32
  let v2041 : BitVec 32 := Scalar.muli v2040 c256_i32_1191
  v2041
@[reducible] def k0_t3_loop (i : grid0.Coords) : Scf.Loop 32 :=
  let c0_i32_121 : BitVec 32 := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_114 : BitVec 32 := 0#32
  let v304 : BitVec 1 := Scalar.cmpi .sgt v24 c0_i32_114
  let v305 : BitVec 32 := Scalar.extui v304
  let c0_i32_115 : BitVec 32 := 0#32
  let v306 : BitVec 1 := Scalar.cmpi .slt v24 c0_i32_115
  let v307 : BitVec 32 := Scalar.extui v306
  let v308 : BitVec 32 := Scalar.subi v305 v307
  let c4_i32 : BitVec 32 := 4#32
  let c0_i32_116 : BitVec 32 := 0#32
  let v309 : BitVec 1 := Scalar.cmpi .sgt c4_i32 c0_i32_116
  let v310 : BitVec 32 := Scalar.extui v309
  let c0_i32_117 : BitVec 32 := 0#32
  let v311 : BitVec 1 := Scalar.cmpi .slt c4_i32 c0_i32_117
  let v312 : BitVec 32 := Scalar.extui v311
  let v313 : BitVec 32 := Scalar.subi v310 v312
  let v314 : BitVec 1 := Scalar.cmpi .ne v308 v313
  let v315 : BitVec 32 := Scalar.remsi v24 c4_i32
  let c0_i32_118 : BitVec 32 := 0#32
  let v316 : BitVec 1 := Scalar.cmpi .ne v315 c0_i32_118
  let v317 : BitVec 1 := Scalar.andi v314 v316
  let v303 : BitVec 32 := Scalar.divsi v24 c4_i32
  let c1_i32_119 : BitVec 32 := 1#32
  let v318 : BitVec 32 := Scalar.subi v303 c1_i32_119
  let v319 : BitVec 32 := Scalar.select v317 v318 v303
  let v320 : BitVec 32 := Scalar.subi v319 c0_i32_121
  let c1_i32_122 : BitVec 32 := 1#32
  let v322 : BitVec 32 := Scalar.divsi v320 c1_i32_122
  let v323 : BitVec 32 := Scalar.muli v322 c1_i32_122
  let v324 : BitVec 32 := Scalar.addi c0_i32_121 v323
  let v321 : BitVec 32 := Scalar.addi c0_i32_121 v320
  let c1_i32_124 : BitVec 32 := 1#32
  ⟨v324, v321, c1_i32_124⟩
def k0_mult6 (i : grid0.Coords) (k0_t3 : Fin (k0_t3_loop i).trips) : BitVec 32 :=
  let c4_i32_473 : BitVec 32 := 4#32
  let c0_i32_121 : BitVec 32 := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_114 : BitVec 32 := 0#32
  let v304 : BitVec 1 := Scalar.cmpi .sgt v24 c0_i32_114
  let v305 : BitVec 32 := Scalar.extui v304
  let c0_i32_115 : BitVec 32 := 0#32
  let v306 : BitVec 1 := Scalar.cmpi .slt v24 c0_i32_115
  let v307 : BitVec 32 := Scalar.extui v306
  let v308 : BitVec 32 := Scalar.subi v305 v307
  let c4_i32 : BitVec 32 := 4#32
  let c0_i32_116 : BitVec 32 := 0#32
  let v309 : BitVec 1 := Scalar.cmpi .sgt c4_i32 c0_i32_116
  let v310 : BitVec 32 := Scalar.extui v309
  let c0_i32_117 : BitVec 32 := 0#32
  let v311 : BitVec 1 := Scalar.cmpi .slt c4_i32 c0_i32_117
  let v312 : BitVec 32 := Scalar.extui v311
  let v313 : BitVec 32 := Scalar.subi v310 v312
  let v314 : BitVec 1 := Scalar.cmpi .ne v308 v313
  let v315 : BitVec 32 := Scalar.remsi v24 c4_i32
  let c0_i32_118 : BitVec 32 := 0#32
  let v316 : BitVec 1 := Scalar.cmpi .ne v315 c0_i32_118
  let v317 : BitVec 1 := Scalar.andi v314 v316
  let v303 : BitVec 32 := Scalar.divsi v24 c4_i32
  let c1_i32_119 : BitVec 32 := 1#32
  let v318 : BitVec 32 := Scalar.subi v303 c1_i32_119
  let v319 : BitVec 32 := Scalar.select v317 v318 v303
  let v320 : BitVec 32 := Scalar.subi v319 c0_i32_121
  let c1_i32_122 : BitVec 32 := 1#32
  let v322 : BitVec 32 := Scalar.divsi v320 c1_i32_122
  let v323 : BitVec 32 := Scalar.muli v322 c1_i32_122
  let v324 : BitVec 32 := Scalar.addi c0_i32_121 v323
  let c1_i32_124 : BitVec 32 := 1#32
  let arg15 : BitVec 32 := Scf.iv v324 c1_i32_124 k0_t3
  let v905 : BitVec 32 := Scalar.muli c4_i32_473 arg15
  let c0_i32_474 : BitVec 32 := 0#32
  let v906 : BitVec 32 := Scalar.addi v905 c0_i32_474
  let c256_i32_475 : BitVec 32 := 256#32
  let v907 : BitVec 32 := Scalar.muli v906 c256_i32_475
  v907
def k0_off34 (i : grid0.Coords) (k0_t3 : Fin (k0_t3_loop i).trips) (c0_i32_474 : BitVec 32) : Fin 2 → Nat :=
  let c4_i32_473 : BitVec 32 := 4#32
  let c0_i32_121 : BitVec 32 := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_114 : BitVec 32 := 0#32
  let v304 : BitVec 1 := Scalar.cmpi .sgt v24 c0_i32_114
  let v305 : BitVec 32 := Scalar.extui v304
  let c0_i32_115 : BitVec 32 := 0#32
  let v306 : BitVec 1 := Scalar.cmpi .slt v24 c0_i32_115
  let v307 : BitVec 32 := Scalar.extui v306
  let v308 : BitVec 32 := Scalar.subi v305 v307
  let c4_i32 : BitVec 32 := 4#32
  let c0_i32_116 : BitVec 32 := 0#32
  let v309 : BitVec 1 := Scalar.cmpi .sgt c4_i32 c0_i32_116
  let v310 : BitVec 32 := Scalar.extui v309
  let c0_i32_117 : BitVec 32 := 0#32
  let v311 : BitVec 1 := Scalar.cmpi .slt c4_i32 c0_i32_117
  let v312 : BitVec 32 := Scalar.extui v311
  let v313 : BitVec 32 := Scalar.subi v310 v312
  let v314 : BitVec 1 := Scalar.cmpi .ne v308 v313
  let v315 : BitVec 32 := Scalar.remsi v24 c4_i32
  let c0_i32_118 : BitVec 32 := 0#32
  let v316 : BitVec 1 := Scalar.cmpi .ne v315 c0_i32_118
  let v317 : BitVec 1 := Scalar.andi v314 v316
  let v303 : BitVec 32 := Scalar.divsi v24 c4_i32
  let c1_i32_119 : BitVec 32 := 1#32
  let v318 : BitVec 32 := Scalar.subi v303 c1_i32_119
  let v319 : BitVec 32 := Scalar.select v317 v318 v303
  let v320 : BitVec 32 := Scalar.subi v319 c0_i32_121
  let c1_i32_122 : BitVec 32 := 1#32
  let v322 : BitVec 32 := Scalar.divsi v320 c1_i32_122
  let v323 : BitVec 32 := Scalar.muli v322 c1_i32_122
  let v324 : BitVec 32 := Scalar.addi c0_i32_121 v323
  let c1_i32_124 : BitVec 32 := 1#32
  let arg15 : BitVec 32 := Scf.iv v324 c1_i32_124 k0_t3
  let v905 : BitVec 32 := Scalar.muli c4_i32_473 arg15
  let v906 : BitVec 32 := Scalar.addi v905 c0_i32_474
  let c256_i32_475 : BitVec 32 := 256#32
  let v907 : BitVec 32 := Scalar.muli v906 c256_i32_475
  let v908 : BitVec 32 := v907
  let v909 : Index := Scalar.indexCast v908
  let c0_476 : Index := 0#32
  ![v909.toNat, 0]
def k0_off35 (i : grid0.Coords) (k0_t3 : Fin (k0_t3_loop i).trips) (c0_i32_474 : BitVec 32) : Fin 2 → Nat :=
  let c4_i32_473 : BitVec 32 := 4#32
  let c0_i32_121 : BitVec 32 := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_114 : BitVec 32 := 0#32
  let v304 : BitVec 1 := Scalar.cmpi .sgt v24 c0_i32_114
  let v305 : BitVec 32 := Scalar.extui v304
  let c0_i32_115 : BitVec 32 := 0#32
  let v306 : BitVec 1 := Scalar.cmpi .slt v24 c0_i32_115
  let v307 : BitVec 32 := Scalar.extui v306
  let v308 : BitVec 32 := Scalar.subi v305 v307
  let c4_i32 : BitVec 32 := 4#32
  let c0_i32_116 : BitVec 32 := 0#32
  let v309 : BitVec 1 := Scalar.cmpi .sgt c4_i32 c0_i32_116
  let v310 : BitVec 32 := Scalar.extui v309
  let c0_i32_117 : BitVec 32 := 0#32
  let v311 : BitVec 1 := Scalar.cmpi .slt c4_i32 c0_i32_117
  let v312 : BitVec 32 := Scalar.extui v311
  let v313 : BitVec 32 := Scalar.subi v310 v312
  let v314 : BitVec 1 := Scalar.cmpi .ne v308 v313
  let v315 : BitVec 32 := Scalar.remsi v24 c4_i32
  let c0_i32_118 : BitVec 32 := 0#32
  let v316 : BitVec 1 := Scalar.cmpi .ne v315 c0_i32_118
  let v317 : BitVec 1 := Scalar.andi v314 v316
  let v303 : BitVec 32 := Scalar.divsi v24 c4_i32
  let c1_i32_119 : BitVec 32 := 1#32
  let v318 : BitVec 32 := Scalar.subi v303 c1_i32_119
  let v319 : BitVec 32 := Scalar.select v317 v318 v303
  let v320 : BitVec 32 := Scalar.subi v319 c0_i32_121
  let c1_i32_122 : BitVec 32 := 1#32
  let v322 : BitVec 32 := Scalar.divsi v320 c1_i32_122
  let v323 : BitVec 32 := Scalar.muli v322 c1_i32_122
  let v324 : BitVec 32 := Scalar.addi c0_i32_121 v323
  let c1_i32_124 : BitVec 32 := 1#32
  let arg15 : BitVec 32 := Scf.iv v324 c1_i32_124 k0_t3
  let v905 : BitVec 32 := Scalar.muli c4_i32_473 arg15
  let v906 : BitVec 32 := Scalar.addi v905 c0_i32_474
  let c256_i32_475 : BitVec 32 := 256#32
  let v907 : BitVec 32 := Scalar.muli v906 c256_i32_475
  let v908 : BitVec 32 := v907
  let v915 : Index := Scalar.indexCast v908
  let c0_480 : Index := 0#32
  ![v915.toNat, 0]
def k0_off36 (i : grid0.Coords) (k0_t3 : Fin (k0_t3_loop i).trips) (c0_i32_474 : BitVec 32) : Fin 4 → Nat :=
  let c0_484 : Index := 0#32
  let c4_i32_473 : BitVec 32 := 4#32
  let c0_i32_121 : BitVec 32 := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_114 : BitVec 32 := 0#32
  let v304 : BitVec 1 := Scalar.cmpi .sgt v24 c0_i32_114
  let v305 : BitVec 32 := Scalar.extui v304
  let c0_i32_115 : BitVec 32 := 0#32
  let v306 : BitVec 1 := Scalar.cmpi .slt v24 c0_i32_115
  let v307 : BitVec 32 := Scalar.extui v306
  let v308 : BitVec 32 := Scalar.subi v305 v307
  let c4_i32 : BitVec 32 := 4#32
  let c0_i32_116 : BitVec 32 := 0#32
  let v309 : BitVec 1 := Scalar.cmpi .sgt c4_i32 c0_i32_116
  let v310 : BitVec 32 := Scalar.extui v309
  let c0_i32_117 : BitVec 32 := 0#32
  let v311 : BitVec 1 := Scalar.cmpi .slt c4_i32 c0_i32_117
  let v312 : BitVec 32 := Scalar.extui v311
  let v313 : BitVec 32 := Scalar.subi v310 v312
  let v314 : BitVec 1 := Scalar.cmpi .ne v308 v313
  let v315 : BitVec 32 := Scalar.remsi v24 c4_i32
  let c0_i32_118 : BitVec 32 := 0#32
  let v316 : BitVec 1 := Scalar.cmpi .ne v315 c0_i32_118
  let v317 : BitVec 1 := Scalar.andi v314 v316
  let v303 : BitVec 32 := Scalar.divsi v24 c4_i32
  let c1_i32_119 : BitVec 32 := 1#32
  let v318 : BitVec 32 := Scalar.subi v303 c1_i32_119
  let v319 : BitVec 32 := Scalar.select v317 v318 v303
  let v320 : BitVec 32 := Scalar.subi v319 c0_i32_121
  let c1_i32_122 : BitVec 32 := 1#32
  let v322 : BitVec 32 := Scalar.divsi v320 c1_i32_122
  let v323 : BitVec 32 := Scalar.muli v322 c1_i32_122
  let v324 : BitVec 32 := Scalar.addi c0_i32_121 v323
  let c1_i32_124 : BitVec 32 := 1#32
  let arg15 : BitVec 32 := Scf.iv v324 c1_i32_124 k0_t3
  let v905 : BitVec 32 := Scalar.muli c4_i32_473 arg15
  let v906 : BitVec 32 := Scalar.addi v905 c0_i32_474
  let v923 : Index := Scalar.indexCast v906
  let c0_485 : Index := 0#32
  let c0_486 : Index := 0#32
  ![0, v923.toNat, 0, 0]
def k0_off37 (i : grid0.Coords) (k0_t3 : Fin (k0_t3_loop i).trips) (c0_i32_474 : BitVec 32) : Fin 2 → Nat :=
  let c4_i32_473 : BitVec 32 := 4#32
  let c0_i32_121 : BitVec 32 := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_114 : BitVec 32 := 0#32
  let v304 : BitVec 1 := Scalar.cmpi .sgt v24 c0_i32_114
  let v305 : BitVec 32 := Scalar.extui v304
  let c0_i32_115 : BitVec 32 := 0#32
  let v306 : BitVec 1 := Scalar.cmpi .slt v24 c0_i32_115
  let v307 : BitVec 32 := Scalar.extui v306
  let v308 : BitVec 32 := Scalar.subi v305 v307
  let c4_i32 : BitVec 32 := 4#32
  let c0_i32_116 : BitVec 32 := 0#32
  let v309 : BitVec 1 := Scalar.cmpi .sgt c4_i32 c0_i32_116
  let v310 : BitVec 32 := Scalar.extui v309
  let c0_i32_117 : BitVec 32 := 0#32
  let v311 : BitVec 1 := Scalar.cmpi .slt c4_i32 c0_i32_117
  let v312 : BitVec 32 := Scalar.extui v311
  let v313 : BitVec 32 := Scalar.subi v310 v312
  let v314 : BitVec 1 := Scalar.cmpi .ne v308 v313
  let v315 : BitVec 32 := Scalar.remsi v24 c4_i32
  let c0_i32_118 : BitVec 32 := 0#32
  let v316 : BitVec 1 := Scalar.cmpi .ne v315 c0_i32_118
  let v317 : BitVec 1 := Scalar.andi v314 v316
  let v303 : BitVec 32 := Scalar.divsi v24 c4_i32
  let c1_i32_119 : BitVec 32 := 1#32
  let v318 : BitVec 32 := Scalar.subi v303 c1_i32_119
  let v319 : BitVec 32 := Scalar.select v317 v318 v303
  let v320 : BitVec 32 := Scalar.subi v319 c0_i32_121
  let c1_i32_122 : BitVec 32 := 1#32
  let v322 : BitVec 32 := Scalar.divsi v320 c1_i32_122
  let v323 : BitVec 32 := Scalar.muli v322 c1_i32_122
  let v324 : BitVec 32 := Scalar.addi c0_i32_121 v323
  let c1_i32_124 : BitVec 32 := 1#32
  let arg15 : BitVec 32 := Scf.iv v324 c1_i32_124 k0_t3
  let v905 : BitVec 32 := Scalar.muli c4_i32_473 arg15
  let v906 : BitVec 32 := Scalar.addi v905 c0_i32_474
  let c256_i32_475 : BitVec 32 := 256#32
  let v907 : BitVec 32 := Scalar.muli v906 c256_i32_475
  let v908 : BitVec 32 := v907
  let v961 : Index := Scalar.indexCast v908
  let c128_509 : Index := 128#32
  ![v961.toNat, 128]
def k0_off38 (i : grid0.Coords) (k0_t3 : Fin (k0_t3_loop i).trips) (c0_i32_474 : BitVec 32) : Fin 4 → Nat :=
  let c1_513 : Index := 1#32
  let c4_i32_473 : BitVec 32 := 4#32
  let c0_i32_121 : BitVec 32 := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_114 : BitVec 32 := 0#32
  let v304 : BitVec 1 := Scalar.cmpi .sgt v24 c0_i32_114
  let v305 : BitVec 32 := Scalar.extui v304
  let c0_i32_115 : BitVec 32 := 0#32
  let v306 : BitVec 1 := Scalar.cmpi .slt v24 c0_i32_115
  let v307 : BitVec 32 := Scalar.extui v306
  let v308 : BitVec 32 := Scalar.subi v305 v307
  let c4_i32 : BitVec 32 := 4#32
  let c0_i32_116 : BitVec 32 := 0#32
  let v309 : BitVec 1 := Scalar.cmpi .sgt c4_i32 c0_i32_116
  let v310 : BitVec 32 := Scalar.extui v309
  let c0_i32_117 : BitVec 32 := 0#32
  let v311 : BitVec 1 := Scalar.cmpi .slt c4_i32 c0_i32_117
  let v312 : BitVec 32 := Scalar.extui v311
  let v313 : BitVec 32 := Scalar.subi v310 v312
  let v314 : BitVec 1 := Scalar.cmpi .ne v308 v313
  let v315 : BitVec 32 := Scalar.remsi v24 c4_i32
  let c0_i32_118 : BitVec 32 := 0#32
  let v316 : BitVec 1 := Scalar.cmpi .ne v315 c0_i32_118
  let v317 : BitVec 1 := Scalar.andi v314 v316
  let v303 : BitVec 32 := Scalar.divsi v24 c4_i32
  let c1_i32_119 : BitVec 32 := 1#32
  let v318 : BitVec 32 := Scalar.subi v303 c1_i32_119
  let v319 : BitVec 32 := Scalar.select v317 v318 v303
  let v320 : BitVec 32 := Scalar.subi v319 c0_i32_121
  let c1_i32_122 : BitVec 32 := 1#32
  let v322 : BitVec 32 := Scalar.divsi v320 c1_i32_122
  let v323 : BitVec 32 := Scalar.muli v322 c1_i32_122
  let v324 : BitVec 32 := Scalar.addi c0_i32_121 v323
  let c1_i32_124 : BitVec 32 := 1#32
  let arg15 : BitVec 32 := Scf.iv v324 c1_i32_124 k0_t3
  let v905 : BitVec 32 := Scalar.muli c4_i32_473 arg15
  let v906 : BitVec 32 := Scalar.addi v905 c0_i32_474
  let v969 : Index := Scalar.indexCast v906
  let c0_514 : Index := 0#32
  let c0_515 : Index := 0#32
  ![1, v969.toNat, 0, 0]
def k0_off39 (i : grid0.Coords) (k0_t3 : Fin (k0_t3_loop i).trips) (c0_i32_474 : BitVec 32) : Fin 2 → Nat :=
  let c4_i32_473 : BitVec 32 := 4#32
  let c0_i32_121 : BitVec 32 := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_114 : BitVec 32 := 0#32
  let v304 : BitVec 1 := Scalar.cmpi .sgt v24 c0_i32_114
  let v305 : BitVec 32 := Scalar.extui v304
  let c0_i32_115 : BitVec 32 := 0#32
  let v306 : BitVec 1 := Scalar.cmpi .slt v24 c0_i32_115
  let v307 : BitVec 32 := Scalar.extui v306
  let v308 : BitVec 32 := Scalar.subi v305 v307
  let c4_i32 : BitVec 32 := 4#32
  let c0_i32_116 : BitVec 32 := 0#32
  let v309 : BitVec 1 := Scalar.cmpi .sgt c4_i32 c0_i32_116
  let v310 : BitVec 32 := Scalar.extui v309
  let c0_i32_117 : BitVec 32 := 0#32
  let v311 : BitVec 1 := Scalar.cmpi .slt c4_i32 c0_i32_117
  let v312 : BitVec 32 := Scalar.extui v311
  let v313 : BitVec 32 := Scalar.subi v310 v312
  let v314 : BitVec 1 := Scalar.cmpi .ne v308 v313
  let v315 : BitVec 32 := Scalar.remsi v24 c4_i32
  let c0_i32_118 : BitVec 32 := 0#32
  let v316 : BitVec 1 := Scalar.cmpi .ne v315 c0_i32_118
  let v317 : BitVec 1 := Scalar.andi v314 v316
  let v303 : BitVec 32 := Scalar.divsi v24 c4_i32
  let c1_i32_119 : BitVec 32 := 1#32
  let v318 : BitVec 32 := Scalar.subi v303 c1_i32_119
  let v319 : BitVec 32 := Scalar.select v317 v318 v303
  let v320 : BitVec 32 := Scalar.subi v319 c0_i32_121
  let c1_i32_122 : BitVec 32 := 1#32
  let v322 : BitVec 32 := Scalar.divsi v320 c1_i32_122
  let v323 : BitVec 32 := Scalar.muli v322 c1_i32_122
  let v324 : BitVec 32 := Scalar.addi c0_i32_121 v323
  let c1_i32_124 : BitVec 32 := 1#32
  let arg15 : BitVec 32 := Scf.iv v324 c1_i32_124 k0_t3
  let v905 : BitVec 32 := Scalar.muli c4_i32_473 arg15
  let v906 : BitVec 32 := Scalar.addi v905 c0_i32_474
  let c256_i32_475 : BitVec 32 := 256#32
  let v907 : BitVec 32 := Scalar.muli v906 c256_i32_475
  let v908 : BitVec 32 := v907
  let v1007 : Index := Scalar.indexCast v908
  let c256_538 : Index := 256#32
  ![v1007.toNat, 256]
def k0_off40 (i : grid0.Coords) (k0_t3 : Fin (k0_t3_loop i).trips) (c0_i32_474 : BitVec 32) : Fin 4 → Nat :=
  let c2_542 : Index := 2#32
  let c4_i32_473 : BitVec 32 := 4#32
  let c0_i32_121 : BitVec 32 := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_114 : BitVec 32 := 0#32
  let v304 : BitVec 1 := Scalar.cmpi .sgt v24 c0_i32_114
  let v305 : BitVec 32 := Scalar.extui v304
  let c0_i32_115 : BitVec 32 := 0#32
  let v306 : BitVec 1 := Scalar.cmpi .slt v24 c0_i32_115
  let v307 : BitVec 32 := Scalar.extui v306
  let v308 : BitVec 32 := Scalar.subi v305 v307
  let c4_i32 : BitVec 32 := 4#32
  let c0_i32_116 : BitVec 32 := 0#32
  let v309 : BitVec 1 := Scalar.cmpi .sgt c4_i32 c0_i32_116
  let v310 : BitVec 32 := Scalar.extui v309
  let c0_i32_117 : BitVec 32 := 0#32
  let v311 : BitVec 1 := Scalar.cmpi .slt c4_i32 c0_i32_117
  let v312 : BitVec 32 := Scalar.extui v311
  let v313 : BitVec 32 := Scalar.subi v310 v312
  let v314 : BitVec 1 := Scalar.cmpi .ne v308 v313
  let v315 : BitVec 32 := Scalar.remsi v24 c4_i32
  let c0_i32_118 : BitVec 32 := 0#32
  let v316 : BitVec 1 := Scalar.cmpi .ne v315 c0_i32_118
  let v317 : BitVec 1 := Scalar.andi v314 v316
  let v303 : BitVec 32 := Scalar.divsi v24 c4_i32
  let c1_i32_119 : BitVec 32 := 1#32
  let v318 : BitVec 32 := Scalar.subi v303 c1_i32_119
  let v319 : BitVec 32 := Scalar.select v317 v318 v303
  let v320 : BitVec 32 := Scalar.subi v319 c0_i32_121
  let c1_i32_122 : BitVec 32 := 1#32
  let v322 : BitVec 32 := Scalar.divsi v320 c1_i32_122
  let v323 : BitVec 32 := Scalar.muli v322 c1_i32_122
  let v324 : BitVec 32 := Scalar.addi c0_i32_121 v323
  let c1_i32_124 : BitVec 32 := 1#32
  let arg15 : BitVec 32 := Scf.iv v324 c1_i32_124 k0_t3
  let v905 : BitVec 32 := Scalar.muli c4_i32_473 arg15
  let v906 : BitVec 32 := Scalar.addi v905 c0_i32_474
  let v1015 : Index := Scalar.indexCast v906
  let c0_543 : Index := 0#32
  let c0_544 : Index := 0#32
  ![2, v1015.toNat, 0, 0]
def k0_off41 (i : grid0.Coords) (k0_t3 : Fin (k0_t3_loop i).trips) (c0_i32_474 : BitVec 32) : Fin 2 → Nat :=
  let c4_i32_473 : BitVec 32 := 4#32
  let c0_i32_121 : BitVec 32 := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_114 : BitVec 32 := 0#32
  let v304 : BitVec 1 := Scalar.cmpi .sgt v24 c0_i32_114
  let v305 : BitVec 32 := Scalar.extui v304
  let c0_i32_115 : BitVec 32 := 0#32
  let v306 : BitVec 1 := Scalar.cmpi .slt v24 c0_i32_115
  let v307 : BitVec 32 := Scalar.extui v306
  let v308 : BitVec 32 := Scalar.subi v305 v307
  let c4_i32 : BitVec 32 := 4#32
  let c0_i32_116 : BitVec 32 := 0#32
  let v309 : BitVec 1 := Scalar.cmpi .sgt c4_i32 c0_i32_116
  let v310 : BitVec 32 := Scalar.extui v309
  let c0_i32_117 : BitVec 32 := 0#32
  let v311 : BitVec 1 := Scalar.cmpi .slt c4_i32 c0_i32_117
  let v312 : BitVec 32 := Scalar.extui v311
  let v313 : BitVec 32 := Scalar.subi v310 v312
  let v314 : BitVec 1 := Scalar.cmpi .ne v308 v313
  let v315 : BitVec 32 := Scalar.remsi v24 c4_i32
  let c0_i32_118 : BitVec 32 := 0#32
  let v316 : BitVec 1 := Scalar.cmpi .ne v315 c0_i32_118
  let v317 : BitVec 1 := Scalar.andi v314 v316
  let v303 : BitVec 32 := Scalar.divsi v24 c4_i32
  let c1_i32_119 : BitVec 32 := 1#32
  let v318 : BitVec 32 := Scalar.subi v303 c1_i32_119
  let v319 : BitVec 32 := Scalar.select v317 v318 v303
  let v320 : BitVec 32 := Scalar.subi v319 c0_i32_121
  let c1_i32_122 : BitVec 32 := 1#32
  let v322 : BitVec 32 := Scalar.divsi v320 c1_i32_122
  let v323 : BitVec 32 := Scalar.muli v322 c1_i32_122
  let v324 : BitVec 32 := Scalar.addi c0_i32_121 v323
  let c1_i32_124 : BitVec 32 := 1#32
  let arg15 : BitVec 32 := Scf.iv v324 c1_i32_124 k0_t3
  let v905 : BitVec 32 := Scalar.muli c4_i32_473 arg15
  let v906 : BitVec 32 := Scalar.addi v905 c0_i32_474
  let c256_i32_475 : BitVec 32 := 256#32
  let v907 : BitVec 32 := Scalar.muli v906 c256_i32_475
  let v908 : BitVec 32 := v907
  let v1053 : Index := Scalar.indexCast v908
  let c384_567 : Index := 384#32
  ![v1053.toNat, 384]
def k0_off42 (i : grid0.Coords) (k0_t3 : Fin (k0_t3_loop i).trips) (c0_i32_474 : BitVec 32) : Fin 4 → Nat :=
  let c3_571 : Index := 3#32
  let c4_i32_473 : BitVec 32 := 4#32
  let c0_i32_121 : BitVec 32 := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_114 : BitVec 32 := 0#32
  let v304 : BitVec 1 := Scalar.cmpi .sgt v24 c0_i32_114
  let v305 : BitVec 32 := Scalar.extui v304
  let c0_i32_115 : BitVec 32 := 0#32
  let v306 : BitVec 1 := Scalar.cmpi .slt v24 c0_i32_115
  let v307 : BitVec 32 := Scalar.extui v306
  let v308 : BitVec 32 := Scalar.subi v305 v307
  let c4_i32 : BitVec 32 := 4#32
  let c0_i32_116 : BitVec 32 := 0#32
  let v309 : BitVec 1 := Scalar.cmpi .sgt c4_i32 c0_i32_116
  let v310 : BitVec 32 := Scalar.extui v309
  let c0_i32_117 : BitVec 32 := 0#32
  let v311 : BitVec 1 := Scalar.cmpi .slt c4_i32 c0_i32_117
  let v312 : BitVec 32 := Scalar.extui v311
  let v313 : BitVec 32 := Scalar.subi v310 v312
  let v314 : BitVec 1 := Scalar.cmpi .ne v308 v313
  let v315 : BitVec 32 := Scalar.remsi v24 c4_i32
  let c0_i32_118 : BitVec 32 := 0#32
  let v316 : BitVec 1 := Scalar.cmpi .ne v315 c0_i32_118
  let v317 : BitVec 1 := Scalar.andi v314 v316
  let v303 : BitVec 32 := Scalar.divsi v24 c4_i32
  let c1_i32_119 : BitVec 32 := 1#32
  let v318 : BitVec 32 := Scalar.subi v303 c1_i32_119
  let v319 : BitVec 32 := Scalar.select v317 v318 v303
  let v320 : BitVec 32 := Scalar.subi v319 c0_i32_121
  let c1_i32_122 : BitVec 32 := 1#32
  let v322 : BitVec 32 := Scalar.divsi v320 c1_i32_122
  let v323 : BitVec 32 := Scalar.muli v322 c1_i32_122
  let v324 : BitVec 32 := Scalar.addi c0_i32_121 v323
  let c1_i32_124 : BitVec 32 := 1#32
  let arg15 : BitVec 32 := Scf.iv v324 c1_i32_124 k0_t3
  let v905 : BitVec 32 := Scalar.muli c4_i32_473 arg15
  let v906 : BitVec 32 := Scalar.addi v905 c0_i32_474
  let v1061 : Index := Scalar.indexCast v906
  let c0_572 : Index := 0#32
  let c0_573 : Index := 0#32
  ![3, v1061.toNat, 0, 0]
def k0_off43 (i : grid0.Coords) (k0_t3 : Fin (k0_t3_loop i).trips) (c0_i32_474 : BitVec 32) : Fin 2 → Nat :=
  let c4_i32_473 : BitVec 32 := 4#32
  let c0_i32_121 : BitVec 32 := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_114 : BitVec 32 := 0#32
  let v304 : BitVec 1 := Scalar.cmpi .sgt v24 c0_i32_114
  let v305 : BitVec 32 := Scalar.extui v304
  let c0_i32_115 : BitVec 32 := 0#32
  let v306 : BitVec 1 := Scalar.cmpi .slt v24 c0_i32_115
  let v307 : BitVec 32 := Scalar.extui v306
  let v308 : BitVec 32 := Scalar.subi v305 v307
  let c4_i32 : BitVec 32 := 4#32
  let c0_i32_116 : BitVec 32 := 0#32
  let v309 : BitVec 1 := Scalar.cmpi .sgt c4_i32 c0_i32_116
  let v310 : BitVec 32 := Scalar.extui v309
  let c0_i32_117 : BitVec 32 := 0#32
  let v311 : BitVec 1 := Scalar.cmpi .slt c4_i32 c0_i32_117
  let v312 : BitVec 32 := Scalar.extui v311
  let v313 : BitVec 32 := Scalar.subi v310 v312
  let v314 : BitVec 1 := Scalar.cmpi .ne v308 v313
  let v315 : BitVec 32 := Scalar.remsi v24 c4_i32
  let c0_i32_118 : BitVec 32 := 0#32
  let v316 : BitVec 1 := Scalar.cmpi .ne v315 c0_i32_118
  let v317 : BitVec 1 := Scalar.andi v314 v316
  let v303 : BitVec 32 := Scalar.divsi v24 c4_i32
  let c1_i32_119 : BitVec 32 := 1#32
  let v318 : BitVec 32 := Scalar.subi v303 c1_i32_119
  let v319 : BitVec 32 := Scalar.select v317 v318 v303
  let v320 : BitVec 32 := Scalar.subi v319 c0_i32_121
  let c1_i32_122 : BitVec 32 := 1#32
  let v322 : BitVec 32 := Scalar.divsi v320 c1_i32_122
  let v323 : BitVec 32 := Scalar.muli v322 c1_i32_122
  let v324 : BitVec 32 := Scalar.addi c0_i32_121 v323
  let c1_i32_124 : BitVec 32 := 1#32
  let arg15 : BitVec 32 := Scf.iv v324 c1_i32_124 k0_t3
  let v905 : BitVec 32 := Scalar.muli c4_i32_473 arg15
  let v906 : BitVec 32 := Scalar.addi v905 c0_i32_474
  let c256_i32_475 : BitVec 32 := 256#32
  let v907 : BitVec 32 := Scalar.muli v906 c256_i32_475
  let v908 : BitVec 32 := v907
  let v1099 : Index := Scalar.indexCast v908
  let c512_596 : Index := 512#32
  ![v1099.toNat, 512]
def k0_off44 (i : grid0.Coords) (k0_t3 : Fin (k0_t3_loop i).trips) (c0_i32_474 : BitVec 32) : Fin 4 → Nat :=
  let c4_600 : Index := 4#32
  let c4_i32_473 : BitVec 32 := 4#32
  let c0_i32_121 : BitVec 32 := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_114 : BitVec 32 := 0#32
  let v304 : BitVec 1 := Scalar.cmpi .sgt v24 c0_i32_114
  let v305 : BitVec 32 := Scalar.extui v304
  let c0_i32_115 : BitVec 32 := 0#32
  let v306 : BitVec 1 := Scalar.cmpi .slt v24 c0_i32_115
  let v307 : BitVec 32 := Scalar.extui v306
  let v308 : BitVec 32 := Scalar.subi v305 v307
  let c4_i32 : BitVec 32 := 4#32
  let c0_i32_116 : BitVec 32 := 0#32
  let v309 : BitVec 1 := Scalar.cmpi .sgt c4_i32 c0_i32_116
  let v310 : BitVec 32 := Scalar.extui v309
  let c0_i32_117 : BitVec 32 := 0#32
  let v311 : BitVec 1 := Scalar.cmpi .slt c4_i32 c0_i32_117
  let v312 : BitVec 32 := Scalar.extui v311
  let v313 : BitVec 32 := Scalar.subi v310 v312
  let v314 : BitVec 1 := Scalar.cmpi .ne v308 v313
  let v315 : BitVec 32 := Scalar.remsi v24 c4_i32
  let c0_i32_118 : BitVec 32 := 0#32
  let v316 : BitVec 1 := Scalar.cmpi .ne v315 c0_i32_118
  let v317 : BitVec 1 := Scalar.andi v314 v316
  let v303 : BitVec 32 := Scalar.divsi v24 c4_i32
  let c1_i32_119 : BitVec 32 := 1#32
  let v318 : BitVec 32 := Scalar.subi v303 c1_i32_119
  let v319 : BitVec 32 := Scalar.select v317 v318 v303
  let v320 : BitVec 32 := Scalar.subi v319 c0_i32_121
  let c1_i32_122 : BitVec 32 := 1#32
  let v322 : BitVec 32 := Scalar.divsi v320 c1_i32_122
  let v323 : BitVec 32 := Scalar.muli v322 c1_i32_122
  let v324 : BitVec 32 := Scalar.addi c0_i32_121 v323
  let c1_i32_124 : BitVec 32 := 1#32
  let arg15 : BitVec 32 := Scf.iv v324 c1_i32_124 k0_t3
  let v905 : BitVec 32 := Scalar.muli c4_i32_473 arg15
  let v906 : BitVec 32 := Scalar.addi v905 c0_i32_474
  let v1107 : Index := Scalar.indexCast v906
  let c0_601 : Index := 0#32
  let c0_602 : Index := 0#32
  ![4, v1107.toNat, 0, 0]
def k0_off45 (i : grid0.Coords) (k0_t3 : Fin (k0_t3_loop i).trips) (c0_i32_474 : BitVec 32) : Fin 2 → Nat :=
  let c4_i32_473 : BitVec 32 := 4#32
  let c0_i32_121 : BitVec 32 := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_114 : BitVec 32 := 0#32
  let v304 : BitVec 1 := Scalar.cmpi .sgt v24 c0_i32_114
  let v305 : BitVec 32 := Scalar.extui v304
  let c0_i32_115 : BitVec 32 := 0#32
  let v306 : BitVec 1 := Scalar.cmpi .slt v24 c0_i32_115
  let v307 : BitVec 32 := Scalar.extui v306
  let v308 : BitVec 32 := Scalar.subi v305 v307
  let c4_i32 : BitVec 32 := 4#32
  let c0_i32_116 : BitVec 32 := 0#32
  let v309 : BitVec 1 := Scalar.cmpi .sgt c4_i32 c0_i32_116
  let v310 : BitVec 32 := Scalar.extui v309
  let c0_i32_117 : BitVec 32 := 0#32
  let v311 : BitVec 1 := Scalar.cmpi .slt c4_i32 c0_i32_117
  let v312 : BitVec 32 := Scalar.extui v311
  let v313 : BitVec 32 := Scalar.subi v310 v312
  let v314 : BitVec 1 := Scalar.cmpi .ne v308 v313
  let v315 : BitVec 32 := Scalar.remsi v24 c4_i32
  let c0_i32_118 : BitVec 32 := 0#32
  let v316 : BitVec 1 := Scalar.cmpi .ne v315 c0_i32_118
  let v317 : BitVec 1 := Scalar.andi v314 v316
  let v303 : BitVec 32 := Scalar.divsi v24 c4_i32
  let c1_i32_119 : BitVec 32 := 1#32
  let v318 : BitVec 32 := Scalar.subi v303 c1_i32_119
  let v319 : BitVec 32 := Scalar.select v317 v318 v303
  let v320 : BitVec 32 := Scalar.subi v319 c0_i32_121
  let c1_i32_122 : BitVec 32 := 1#32
  let v322 : BitVec 32 := Scalar.divsi v320 c1_i32_122
  let v323 : BitVec 32 := Scalar.muli v322 c1_i32_122
  let v324 : BitVec 32 := Scalar.addi c0_i32_121 v323
  let c1_i32_124 : BitVec 32 := 1#32
  let arg15 : BitVec 32 := Scf.iv v324 c1_i32_124 k0_t3
  let v905 : BitVec 32 := Scalar.muli c4_i32_473 arg15
  let v906 : BitVec 32 := Scalar.addi v905 c0_i32_474
  let c256_i32_475 : BitVec 32 := 256#32
  let v907 : BitVec 32 := Scalar.muli v906 c256_i32_475
  let v908 : BitVec 32 := v907
  let v1145 : Index := Scalar.indexCast v908
  let c640_625 : Index := 640#32
  ![v1145.toNat, 640]
def k0_off46 (i : grid0.Coords) (k0_t3 : Fin (k0_t3_loop i).trips) (c0_i32_474 : BitVec 32) : Fin 4 → Nat :=
  let c5_629 : Index := 5#32
  let c4_i32_473 : BitVec 32 := 4#32
  let c0_i32_121 : BitVec 32 := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_114 : BitVec 32 := 0#32
  let v304 : BitVec 1 := Scalar.cmpi .sgt v24 c0_i32_114
  let v305 : BitVec 32 := Scalar.extui v304
  let c0_i32_115 : BitVec 32 := 0#32
  let v306 : BitVec 1 := Scalar.cmpi .slt v24 c0_i32_115
  let v307 : BitVec 32 := Scalar.extui v306
  let v308 : BitVec 32 := Scalar.subi v305 v307
  let c4_i32 : BitVec 32 := 4#32
  let c0_i32_116 : BitVec 32 := 0#32
  let v309 : BitVec 1 := Scalar.cmpi .sgt c4_i32 c0_i32_116
  let v310 : BitVec 32 := Scalar.extui v309
  let c0_i32_117 : BitVec 32 := 0#32
  let v311 : BitVec 1 := Scalar.cmpi .slt c4_i32 c0_i32_117
  let v312 : BitVec 32 := Scalar.extui v311
  let v313 : BitVec 32 := Scalar.subi v310 v312
  let v314 : BitVec 1 := Scalar.cmpi .ne v308 v313
  let v315 : BitVec 32 := Scalar.remsi v24 c4_i32
  let c0_i32_118 : BitVec 32 := 0#32
  let v316 : BitVec 1 := Scalar.cmpi .ne v315 c0_i32_118
  let v317 : BitVec 1 := Scalar.andi v314 v316
  let v303 : BitVec 32 := Scalar.divsi v24 c4_i32
  let c1_i32_119 : BitVec 32 := 1#32
  let v318 : BitVec 32 := Scalar.subi v303 c1_i32_119
  let v319 : BitVec 32 := Scalar.select v317 v318 v303
  let v320 : BitVec 32 := Scalar.subi v319 c0_i32_121
  let c1_i32_122 : BitVec 32 := 1#32
  let v322 : BitVec 32 := Scalar.divsi v320 c1_i32_122
  let v323 : BitVec 32 := Scalar.muli v322 c1_i32_122
  let v324 : BitVec 32 := Scalar.addi c0_i32_121 v323
  let c1_i32_124 : BitVec 32 := 1#32
  let arg15 : BitVec 32 := Scf.iv v324 c1_i32_124 k0_t3
  let v905 : BitVec 32 := Scalar.muli c4_i32_473 arg15
  let v906 : BitVec 32 := Scalar.addi v905 c0_i32_474
  let v1153 : Index := Scalar.indexCast v906
  let c0_630 : Index := 0#32
  let c0_631 : Index := 0#32
  ![5, v1153.toNat, 0, 0]
def k0_off47 (i : grid0.Coords) (k0_t3 : Fin (k0_t3_loop i).trips) (c0_i32_474 : BitVec 32) : Fin 2 → Nat :=
  let c4_i32_473 : BitVec 32 := 4#32
  let c0_i32_121 : BitVec 32 := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_114 : BitVec 32 := 0#32
  let v304 : BitVec 1 := Scalar.cmpi .sgt v24 c0_i32_114
  let v305 : BitVec 32 := Scalar.extui v304
  let c0_i32_115 : BitVec 32 := 0#32
  let v306 : BitVec 1 := Scalar.cmpi .slt v24 c0_i32_115
  let v307 : BitVec 32 := Scalar.extui v306
  let v308 : BitVec 32 := Scalar.subi v305 v307
  let c4_i32 : BitVec 32 := 4#32
  let c0_i32_116 : BitVec 32 := 0#32
  let v309 : BitVec 1 := Scalar.cmpi .sgt c4_i32 c0_i32_116
  let v310 : BitVec 32 := Scalar.extui v309
  let c0_i32_117 : BitVec 32 := 0#32
  let v311 : BitVec 1 := Scalar.cmpi .slt c4_i32 c0_i32_117
  let v312 : BitVec 32 := Scalar.extui v311
  let v313 : BitVec 32 := Scalar.subi v310 v312
  let v314 : BitVec 1 := Scalar.cmpi .ne v308 v313
  let v315 : BitVec 32 := Scalar.remsi v24 c4_i32
  let c0_i32_118 : BitVec 32 := 0#32
  let v316 : BitVec 1 := Scalar.cmpi .ne v315 c0_i32_118
  let v317 : BitVec 1 := Scalar.andi v314 v316
  let v303 : BitVec 32 := Scalar.divsi v24 c4_i32
  let c1_i32_119 : BitVec 32 := 1#32
  let v318 : BitVec 32 := Scalar.subi v303 c1_i32_119
  let v319 : BitVec 32 := Scalar.select v317 v318 v303
  let v320 : BitVec 32 := Scalar.subi v319 c0_i32_121
  let c1_i32_122 : BitVec 32 := 1#32
  let v322 : BitVec 32 := Scalar.divsi v320 c1_i32_122
  let v323 : BitVec 32 := Scalar.muli v322 c1_i32_122
  let v324 : BitVec 32 := Scalar.addi c0_i32_121 v323
  let c1_i32_124 : BitVec 32 := 1#32
  let arg15 : BitVec 32 := Scf.iv v324 c1_i32_124 k0_t3
  let v905 : BitVec 32 := Scalar.muli c4_i32_473 arg15
  let v906 : BitVec 32 := Scalar.addi v905 c0_i32_474
  let c256_i32_475 : BitVec 32 := 256#32
  let v907 : BitVec 32 := Scalar.muli v906 c256_i32_475
  let v908 : BitVec 32 := v907
  let v1191 : Index := Scalar.indexCast v908
  let c768_654 : Index := 768#32
  ![v1191.toNat, 768]
def k0_off48 (i : grid0.Coords) (k0_t3 : Fin (k0_t3_loop i).trips) (c0_i32_474 : BitVec 32) : Fin 4 → Nat :=
  let c6_658 : Index := 6#32
  let c4_i32_473 : BitVec 32 := 4#32
  let c0_i32_121 : BitVec 32 := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_114 : BitVec 32 := 0#32
  let v304 : BitVec 1 := Scalar.cmpi .sgt v24 c0_i32_114
  let v305 : BitVec 32 := Scalar.extui v304
  let c0_i32_115 : BitVec 32 := 0#32
  let v306 : BitVec 1 := Scalar.cmpi .slt v24 c0_i32_115
  let v307 : BitVec 32 := Scalar.extui v306
  let v308 : BitVec 32 := Scalar.subi v305 v307
  let c4_i32 : BitVec 32 := 4#32
  let c0_i32_116 : BitVec 32 := 0#32
  let v309 : BitVec 1 := Scalar.cmpi .sgt c4_i32 c0_i32_116
  let v310 : BitVec 32 := Scalar.extui v309
  let c0_i32_117 : BitVec 32 := 0#32
  let v311 : BitVec 1 := Scalar.cmpi .slt c4_i32 c0_i32_117
  let v312 : BitVec 32 := Scalar.extui v311
  let v313 : BitVec 32 := Scalar.subi v310 v312
  let v314 : BitVec 1 := Scalar.cmpi .ne v308 v313
  let v315 : BitVec 32 := Scalar.remsi v24 c4_i32
  let c0_i32_118 : BitVec 32 := 0#32
  let v316 : BitVec 1 := Scalar.cmpi .ne v315 c0_i32_118
  let v317 : BitVec 1 := Scalar.andi v314 v316
  let v303 : BitVec 32 := Scalar.divsi v24 c4_i32
  let c1_i32_119 : BitVec 32 := 1#32
  let v318 : BitVec 32 := Scalar.subi v303 c1_i32_119
  let v319 : BitVec 32 := Scalar.select v317 v318 v303
  let v320 : BitVec 32 := Scalar.subi v319 c0_i32_121
  let c1_i32_122 : BitVec 32 := 1#32
  let v322 : BitVec 32 := Scalar.divsi v320 c1_i32_122
  let v323 : BitVec 32 := Scalar.muli v322 c1_i32_122
  let v324 : BitVec 32 := Scalar.addi c0_i32_121 v323
  let c1_i32_124 : BitVec 32 := 1#32
  let arg15 : BitVec 32 := Scf.iv v324 c1_i32_124 k0_t3
  let v905 : BitVec 32 := Scalar.muli c4_i32_473 arg15
  let v906 : BitVec 32 := Scalar.addi v905 c0_i32_474
  let v1199 : Index := Scalar.indexCast v906
  let c0_659 : Index := 0#32
  let c0_660 : Index := 0#32
  ![6, v1199.toNat, 0, 0]
def k0_off49 (i : grid0.Coords) (k0_t3 : Fin (k0_t3_loop i).trips) (c0_i32_474 : BitVec 32) : Fin 2 → Nat :=
  let c4_i32_473 : BitVec 32 := 4#32
  let c0_i32_121 : BitVec 32 := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_114 : BitVec 32 := 0#32
  let v304 : BitVec 1 := Scalar.cmpi .sgt v24 c0_i32_114
  let v305 : BitVec 32 := Scalar.extui v304
  let c0_i32_115 : BitVec 32 := 0#32
  let v306 : BitVec 1 := Scalar.cmpi .slt v24 c0_i32_115
  let v307 : BitVec 32 := Scalar.extui v306
  let v308 : BitVec 32 := Scalar.subi v305 v307
  let c4_i32 : BitVec 32 := 4#32
  let c0_i32_116 : BitVec 32 := 0#32
  let v309 : BitVec 1 := Scalar.cmpi .sgt c4_i32 c0_i32_116
  let v310 : BitVec 32 := Scalar.extui v309
  let c0_i32_117 : BitVec 32 := 0#32
  let v311 : BitVec 1 := Scalar.cmpi .slt c4_i32 c0_i32_117
  let v312 : BitVec 32 := Scalar.extui v311
  let v313 : BitVec 32 := Scalar.subi v310 v312
  let v314 : BitVec 1 := Scalar.cmpi .ne v308 v313
  let v315 : BitVec 32 := Scalar.remsi v24 c4_i32
  let c0_i32_118 : BitVec 32 := 0#32
  let v316 : BitVec 1 := Scalar.cmpi .ne v315 c0_i32_118
  let v317 : BitVec 1 := Scalar.andi v314 v316
  let v303 : BitVec 32 := Scalar.divsi v24 c4_i32
  let c1_i32_119 : BitVec 32 := 1#32
  let v318 : BitVec 32 := Scalar.subi v303 c1_i32_119
  let v319 : BitVec 32 := Scalar.select v317 v318 v303
  let v320 : BitVec 32 := Scalar.subi v319 c0_i32_121
  let c1_i32_122 : BitVec 32 := 1#32
  let v322 : BitVec 32 := Scalar.divsi v320 c1_i32_122
  let v323 : BitVec 32 := Scalar.muli v322 c1_i32_122
  let v324 : BitVec 32 := Scalar.addi c0_i32_121 v323
  let c1_i32_124 : BitVec 32 := 1#32
  let arg15 : BitVec 32 := Scf.iv v324 c1_i32_124 k0_t3
  let v905 : BitVec 32 := Scalar.muli c4_i32_473 arg15
  let v906 : BitVec 32 := Scalar.addi v905 c0_i32_474
  let c256_i32_475 : BitVec 32 := 256#32
  let v907 : BitVec 32 := Scalar.muli v906 c256_i32_475
  let v908 : BitVec 32 := v907
  let v1237 : Index := Scalar.indexCast v908
  let c896_683 : Index := 896#32
  ![v1237.toNat, 896]
def k0_off50 (i : grid0.Coords) (k0_t3 : Fin (k0_t3_loop i).trips) (c0_i32_474 : BitVec 32) : Fin 4 → Nat :=
  let c7_687 : Index := 7#32
  let c4_i32_473 : BitVec 32 := 4#32
  let c0_i32_121 : BitVec 32 := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_114 : BitVec 32 := 0#32
  let v304 : BitVec 1 := Scalar.cmpi .sgt v24 c0_i32_114
  let v305 : BitVec 32 := Scalar.extui v304
  let c0_i32_115 : BitVec 32 := 0#32
  let v306 : BitVec 1 := Scalar.cmpi .slt v24 c0_i32_115
  let v307 : BitVec 32 := Scalar.extui v306
  let v308 : BitVec 32 := Scalar.subi v305 v307
  let c4_i32 : BitVec 32 := 4#32
  let c0_i32_116 : BitVec 32 := 0#32
  let v309 : BitVec 1 := Scalar.cmpi .sgt c4_i32 c0_i32_116
  let v310 : BitVec 32 := Scalar.extui v309
  let c0_i32_117 : BitVec 32 := 0#32
  let v311 : BitVec 1 := Scalar.cmpi .slt c4_i32 c0_i32_117
  let v312 : BitVec 32 := Scalar.extui v311
  let v313 : BitVec 32 := Scalar.subi v310 v312
  let v314 : BitVec 1 := Scalar.cmpi .ne v308 v313
  let v315 : BitVec 32 := Scalar.remsi v24 c4_i32
  let c0_i32_118 : BitVec 32 := 0#32
  let v316 : BitVec 1 := Scalar.cmpi .ne v315 c0_i32_118
  let v317 : BitVec 1 := Scalar.andi v314 v316
  let v303 : BitVec 32 := Scalar.divsi v24 c4_i32
  let c1_i32_119 : BitVec 32 := 1#32
  let v318 : BitVec 32 := Scalar.subi v303 c1_i32_119
  let v319 : BitVec 32 := Scalar.select v317 v318 v303
  let v320 : BitVec 32 := Scalar.subi v319 c0_i32_121
  let c1_i32_122 : BitVec 32 := 1#32
  let v322 : BitVec 32 := Scalar.divsi v320 c1_i32_122
  let v323 : BitVec 32 := Scalar.muli v322 c1_i32_122
  let v324 : BitVec 32 := Scalar.addi c0_i32_121 v323
  let c1_i32_124 : BitVec 32 := 1#32
  let arg15 : BitVec 32 := Scf.iv v324 c1_i32_124 k0_t3
  let v905 : BitVec 32 := Scalar.muli c4_i32_473 arg15
  let v906 : BitVec 32 := Scalar.addi v905 c0_i32_474
  let v1245 : Index := Scalar.indexCast v906
  let c0_688 : Index := 0#32
  let c0_689 : Index := 0#32
  ![7, v1245.toNat, 0, 0]
def k0_mult7 (i : grid0.Coords) (k0_t3 : Fin (k0_t3_loop i).trips) : BitVec 32 :=
  let c4_i32_712 : BitVec 32 := 4#32
  let c0_i32_121 : BitVec 32 := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_114 : BitVec 32 := 0#32
  let v304 : BitVec 1 := Scalar.cmpi .sgt v24 c0_i32_114
  let v305 : BitVec 32 := Scalar.extui v304
  let c0_i32_115 : BitVec 32 := 0#32
  let v306 : BitVec 1 := Scalar.cmpi .slt v24 c0_i32_115
  let v307 : BitVec 32 := Scalar.extui v306
  let v308 : BitVec 32 := Scalar.subi v305 v307
  let c4_i32 : BitVec 32 := 4#32
  let c0_i32_116 : BitVec 32 := 0#32
  let v309 : BitVec 1 := Scalar.cmpi .sgt c4_i32 c0_i32_116
  let v310 : BitVec 32 := Scalar.extui v309
  let c0_i32_117 : BitVec 32 := 0#32
  let v311 : BitVec 1 := Scalar.cmpi .slt c4_i32 c0_i32_117
  let v312 : BitVec 32 := Scalar.extui v311
  let v313 : BitVec 32 := Scalar.subi v310 v312
  let v314 : BitVec 1 := Scalar.cmpi .ne v308 v313
  let v315 : BitVec 32 := Scalar.remsi v24 c4_i32
  let c0_i32_118 : BitVec 32 := 0#32
  let v316 : BitVec 1 := Scalar.cmpi .ne v315 c0_i32_118
  let v317 : BitVec 1 := Scalar.andi v314 v316
  let v303 : BitVec 32 := Scalar.divsi v24 c4_i32
  let c1_i32_119 : BitVec 32 := 1#32
  let v318 : BitVec 32 := Scalar.subi v303 c1_i32_119
  let v319 : BitVec 32 := Scalar.select v317 v318 v303
  let v320 : BitVec 32 := Scalar.subi v319 c0_i32_121
  let c1_i32_122 : BitVec 32 := 1#32
  let v322 : BitVec 32 := Scalar.divsi v320 c1_i32_122
  let v323 : BitVec 32 := Scalar.muli v322 c1_i32_122
  let v324 : BitVec 32 := Scalar.addi c0_i32_121 v323
  let c1_i32_124 : BitVec 32 := 1#32
  let arg15 : BitVec 32 := Scf.iv v324 c1_i32_124 k0_t3
  let v1283 : BitVec 32 := Scalar.muli c4_i32_712 arg15
  let c1_i32_713 : BitVec 32 := 1#32
  let v1284 : BitVec 32 := Scalar.addi v1283 c1_i32_713
  let c256_i32_714 : BitVec 32 := 256#32
  let v1285 : BitVec 32 := Scalar.muli v1284 c256_i32_714
  v1285
def k0_mult8 (i : grid0.Coords) (k0_t3 : Fin (k0_t3_loop i).trips) : BitVec 32 :=
  let c4_i32_951 : BitVec 32 := 4#32
  let c0_i32_121 : BitVec 32 := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_114 : BitVec 32 := 0#32
  let v304 : BitVec 1 := Scalar.cmpi .sgt v24 c0_i32_114
  let v305 : BitVec 32 := Scalar.extui v304
  let c0_i32_115 : BitVec 32 := 0#32
  let v306 : BitVec 1 := Scalar.cmpi .slt v24 c0_i32_115
  let v307 : BitVec 32 := Scalar.extui v306
  let v308 : BitVec 32 := Scalar.subi v305 v307
  let c4_i32 : BitVec 32 := 4#32
  let c0_i32_116 : BitVec 32 := 0#32
  let v309 : BitVec 1 := Scalar.cmpi .sgt c4_i32 c0_i32_116
  let v310 : BitVec 32 := Scalar.extui v309
  let c0_i32_117 : BitVec 32 := 0#32
  let v311 : BitVec 1 := Scalar.cmpi .slt c4_i32 c0_i32_117
  let v312 : BitVec 32 := Scalar.extui v311
  let v313 : BitVec 32 := Scalar.subi v310 v312
  let v314 : BitVec 1 := Scalar.cmpi .ne v308 v313
  let v315 : BitVec 32 := Scalar.remsi v24 c4_i32
  let c0_i32_118 : BitVec 32 := 0#32
  let v316 : BitVec 1 := Scalar.cmpi .ne v315 c0_i32_118
  let v317 : BitVec 1 := Scalar.andi v314 v316
  let v303 : BitVec 32 := Scalar.divsi v24 c4_i32
  let c1_i32_119 : BitVec 32 := 1#32
  let v318 : BitVec 32 := Scalar.subi v303 c1_i32_119
  let v319 : BitVec 32 := Scalar.select v317 v318 v303
  let v320 : BitVec 32 := Scalar.subi v319 c0_i32_121
  let c1_i32_122 : BitVec 32 := 1#32
  let v322 : BitVec 32 := Scalar.divsi v320 c1_i32_122
  let v323 : BitVec 32 := Scalar.muli v322 c1_i32_122
  let v324 : BitVec 32 := Scalar.addi c0_i32_121 v323
  let c1_i32_124 : BitVec 32 := 1#32
  let arg15 : BitVec 32 := Scf.iv v324 c1_i32_124 k0_t3
  let v1661 : BitVec 32 := Scalar.muli c4_i32_951 arg15
  let c2_i32_952 : BitVec 32 := 2#32
  let v1662 : BitVec 32 := Scalar.addi v1661 c2_i32_952
  let c256_i32_953 : BitVec 32 := 256#32
  let v1663 : BitVec 32 := Scalar.muli v1662 c256_i32_953
  v1663
def k0_mult9 (i : grid0.Coords) (k0_t3 : Fin (k0_t3_loop i).trips) : BitVec 32 :=
  let c4_i32_1190 : BitVec 32 := 4#32
  let c0_i32_121 : BitVec 32 := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_114 : BitVec 32 := 0#32
  let v304 : BitVec 1 := Scalar.cmpi .sgt v24 c0_i32_114
  let v305 : BitVec 32 := Scalar.extui v304
  let c0_i32_115 : BitVec 32 := 0#32
  let v306 : BitVec 1 := Scalar.cmpi .slt v24 c0_i32_115
  let v307 : BitVec 32 := Scalar.extui v306
  let v308 : BitVec 32 := Scalar.subi v305 v307
  let c4_i32 : BitVec 32 := 4#32
  let c0_i32_116 : BitVec 32 := 0#32
  let v309 : BitVec 1 := Scalar.cmpi .sgt c4_i32 c0_i32_116
  let v310 : BitVec 32 := Scalar.extui v309
  let c0_i32_117 : BitVec 32 := 0#32
  let v311 : BitVec 1 := Scalar.cmpi .slt c4_i32 c0_i32_117
  let v312 : BitVec 32 := Scalar.extui v311
  let v313 : BitVec 32 := Scalar.subi v310 v312
  let v314 : BitVec 1 := Scalar.cmpi .ne v308 v313
  let v315 : BitVec 32 := Scalar.remsi v24 c4_i32
  let c0_i32_118 : BitVec 32 := 0#32
  let v316 : BitVec 1 := Scalar.cmpi .ne v315 c0_i32_118
  let v317 : BitVec 1 := Scalar.andi v314 v316
  let v303 : BitVec 32 := Scalar.divsi v24 c4_i32
  let c1_i32_119 : BitVec 32 := 1#32
  let v318 : BitVec 32 := Scalar.subi v303 c1_i32_119
  let v319 : BitVec 32 := Scalar.select v317 v318 v303
  let v320 : BitVec 32 := Scalar.subi v319 c0_i32_121
  let c1_i32_122 : BitVec 32 := 1#32
  let v322 : BitVec 32 := Scalar.divsi v320 c1_i32_122
  let v323 : BitVec 32 := Scalar.muli v322 c1_i32_122
  let v324 : BitVec 32 := Scalar.addi c0_i32_121 v323
  let c1_i32_124 : BitVec 32 := 1#32
  let arg15 : BitVec 32 := Scf.iv v324 c1_i32_124 k0_t3
  let v2039 : BitVec 32 := Scalar.muli c4_i32_1190 arg15
  let c3_i32 : BitVec 32 := 3#32
  let v2040 : BitVec 32 := Scalar.addi v2039 c3_i32
  let c256_i32_1191 : BitVec 32 := 256#32
  let v2041 : BitVec 32 := Scalar.muli v2040 c256_i32_1191
  v2041
def k0_cond2 (i : grid0.Coords) : BitVec 1 :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c4_i32_133 : BitVec 32 := 4#32
  let c0_i32_134 : BitVec 32 := 0#32
  let v343 : BitVec 1 := Scalar.cmpi .eq c4_i32_133 c0_i32_134
  let c1_i32_135 : BitVec 32 := 1#32
  let v344 : BitVec 32 := Scalar.select v343 c1_i32_135 c4_i32_133
  let v345 : BitVec 32 := Scalar.remsi v24 v344
  let c0_i32_137 : BitVec 32 := 0#32
  let v347 : BitVec 1 := Scalar.cmpi .slt v345 c0_i32_137
  let c0_i32_138 : BitVec 32 := 0#32
  let v348 : BitVec 1 := Scalar.cmpi .slt v344 c0_i32_138
  let v349 : BitVec 1 := Scalar.xori v347 v348
  let c0_i32_136 : BitVec 32 := 0#32
  let v346 : BitVec 1 := Scalar.cmpi .ne v345 c0_i32_136
  let v350 : BitVec 1 := Scalar.andi v349 v346
  let v351 : BitVec 32 := Scalar.addi v345 v344
  let v352 : BitVec 32 := Scalar.select v350 v351 v345
  let c2_i32 : BitVec 32 := 2#32
  let v353 : BitVec 1 := Scalar.cmpi .sge v352 c2_i32
  let v354 : BitVec 32 := Scalar.extui v353
  let c0_i32_139 : BitVec 32 := 0#32
  let v355 : BitVec 1 := Scalar.cmpi .ne v354 c0_i32_139
  v355

def k0_mult10 (i : grid0.Coords) : BitVec 32 :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c256_i32_473 : BitVec 32 := 256#32
  let v905 : BitVec 32 := Scalar.muli v342 c256_i32_473
  v905
def k0_off51 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c256_i32_473 : BitVec 32 := 256#32
  let v905 : BitVec 32 := Scalar.muli v342 c256_i32_473
  let v906 : BitVec 32 := v905
  let v907 : Index := Scalar.indexCast v906
  let c0_474 : Index := 0#32
  ![v907.toNat, 0]
def k0_off52 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c256_i32_473 : BitVec 32 := 256#32
  let v905 : BitVec 32 := Scalar.muli v342 c256_i32_473
  let v906 : BitVec 32 := v905
  let v913 : Index := Scalar.indexCast v906
  let c0_478 : Index := 0#32
  ![v913.toNat, 0]
def k0_off53 (i : grid0.Coords) : Fin 4 → Nat :=
  let c0_482 : Index := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let v921 : Index := Scalar.indexCast v342
  let c0_483 : Index := 0#32
  let c0_484 : Index := 0#32
  ![0, v921.toNat, 0, 0]
def k0_off54 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c256_i32_473 : BitVec 32 := 256#32
  let v905 : BitVec 32 := Scalar.muli v342 c256_i32_473
  let v906 : BitVec 32 := v905
  let v959 : Index := Scalar.indexCast v906
  let c128_507 : Index := 128#32
  ![v959.toNat, 128]
def k0_off55 (i : grid0.Coords) : Fin 4 → Nat :=
  let c1_511 : Index := 1#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let v967 : Index := Scalar.indexCast v342
  let c0_512 : Index := 0#32
  let c0_513 : Index := 0#32
  ![1, v967.toNat, 0, 0]
def k0_off56 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c256_i32_473 : BitVec 32 := 256#32
  let v905 : BitVec 32 := Scalar.muli v342 c256_i32_473
  let v906 : BitVec 32 := v905
  let v1005 : Index := Scalar.indexCast v906
  let c256_536 : Index := 256#32
  ![v1005.toNat, 256]
def k0_off57 (i : grid0.Coords) : Fin 4 → Nat :=
  let c2_540 : Index := 2#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let v1013 : Index := Scalar.indexCast v342
  let c0_541 : Index := 0#32
  let c0_542 : Index := 0#32
  ![2, v1013.toNat, 0, 0]
def k0_off58 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c256_i32_473 : BitVec 32 := 256#32
  let v905 : BitVec 32 := Scalar.muli v342 c256_i32_473
  let v906 : BitVec 32 := v905
  let v1051 : Index := Scalar.indexCast v906
  let c384_565 : Index := 384#32
  ![v1051.toNat, 384]
def k0_off59 (i : grid0.Coords) : Fin 4 → Nat :=
  let c3_569 : Index := 3#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let v1059 : Index := Scalar.indexCast v342
  let c0_570 : Index := 0#32
  let c0_571 : Index := 0#32
  ![3, v1059.toNat, 0, 0]
def k0_off60 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c256_i32_473 : BitVec 32 := 256#32
  let v905 : BitVec 32 := Scalar.muli v342 c256_i32_473
  let v906 : BitVec 32 := v905
  let v1097 : Index := Scalar.indexCast v906
  let c512_594 : Index := 512#32
  ![v1097.toNat, 512]
def k0_off61 (i : grid0.Coords) : Fin 4 → Nat :=
  let c4_598 : Index := 4#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let v1105 : Index := Scalar.indexCast v342
  let c0_599 : Index := 0#32
  let c0_600 : Index := 0#32
  ![4, v1105.toNat, 0, 0]
def k0_off62 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c256_i32_473 : BitVec 32 := 256#32
  let v905 : BitVec 32 := Scalar.muli v342 c256_i32_473
  let v906 : BitVec 32 := v905
  let v1143 : Index := Scalar.indexCast v906
  let c640_623 : Index := 640#32
  ![v1143.toNat, 640]
def k0_off63 (i : grid0.Coords) : Fin 4 → Nat :=
  let c5_627 : Index := 5#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let v1151 : Index := Scalar.indexCast v342
  let c0_628 : Index := 0#32
  let c0_629 : Index := 0#32
  ![5, v1151.toNat, 0, 0]
def k0_off64 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c256_i32_473 : BitVec 32 := 256#32
  let v905 : BitVec 32 := Scalar.muli v342 c256_i32_473
  let v906 : BitVec 32 := v905
  let v1189 : Index := Scalar.indexCast v906
  let c768_652 : Index := 768#32
  ![v1189.toNat, 768]
def k0_off65 (i : grid0.Coords) : Fin 4 → Nat :=
  let c6_656 : Index := 6#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let v1197 : Index := Scalar.indexCast v342
  let c0_657 : Index := 0#32
  let c0_658 : Index := 0#32
  ![6, v1197.toNat, 0, 0]
def k0_off66 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c256_i32_473 : BitVec 32 := 256#32
  let v905 : BitVec 32 := Scalar.muli v342 c256_i32_473
  let v906 : BitVec 32 := v905
  let v1235 : Index := Scalar.indexCast v906
  let c896_681 : Index := 896#32
  ![v1235.toNat, 896]
def k0_off67 (i : grid0.Coords) : Fin 4 → Nat :=
  let c7_685 : Index := 7#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let v1243 : Index := Scalar.indexCast v342
  let c0_686 : Index := 0#32
  let c0_687 : Index := 0#32
  ![7, v1243.toNat, 0, 0]
def k0_mult11 (i : grid0.Coords) : BitVec 32 :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c1_i32_710 : BitVec 32 := 1#32
  let v1281 : BitVec 32 := Scalar.addi v342 c1_i32_710
  let c256_i32_711 : BitVec 32 := 256#32
  let v1282 : BitVec 32 := Scalar.muli v1281 c256_i32_711
  v1282
def k0_off68 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c1_i32_710 : BitVec 32 := 1#32
  let v1281 : BitVec 32 := Scalar.addi v342 c1_i32_710
  let c256_i32_711 : BitVec 32 := 256#32
  let v1282 : BitVec 32 := Scalar.muli v1281 c256_i32_711
  let v1283 : BitVec 32 := v1282
  let v1284 : Index := Scalar.indexCast v1283
  let c0_712 : Index := 0#32
  ![v1284.toNat, 0]
def k0_off69 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c1_i32_710 : BitVec 32 := 1#32
  let v1281 : BitVec 32 := Scalar.addi v342 c1_i32_710
  let c256_i32_711 : BitVec 32 := 256#32
  let v1282 : BitVec 32 := Scalar.muli v1281 c256_i32_711
  let v1283 : BitVec 32 := v1282
  let v1290 : Index := Scalar.indexCast v1283
  let c0_716 : Index := 0#32
  ![v1290.toNat, 0]
def k0_off70 (i : grid0.Coords) : Fin 4 → Nat :=
  let c0_720 : Index := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c1_i32_710 : BitVec 32 := 1#32
  let v1281 : BitVec 32 := Scalar.addi v342 c1_i32_710
  let v1298 : Index := Scalar.indexCast v1281
  let c0_721 : Index := 0#32
  let c0_722 : Index := 0#32
  ![0, v1298.toNat, 0, 0]
def k0_off71 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c1_i32_710 : BitVec 32 := 1#32
  let v1281 : BitVec 32 := Scalar.addi v342 c1_i32_710
  let c256_i32_711 : BitVec 32 := 256#32
  let v1282 : BitVec 32 := Scalar.muli v1281 c256_i32_711
  let v1283 : BitVec 32 := v1282
  let v1336 : Index := Scalar.indexCast v1283
  let c128_745 : Index := 128#32
  ![v1336.toNat, 128]
def k0_off72 (i : grid0.Coords) : Fin 4 → Nat :=
  let c1_749 : Index := 1#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c1_i32_710 : BitVec 32 := 1#32
  let v1281 : BitVec 32 := Scalar.addi v342 c1_i32_710
  let v1344 : Index := Scalar.indexCast v1281
  let c0_750 : Index := 0#32
  let c0_751 : Index := 0#32
  ![1, v1344.toNat, 0, 0]
def k0_off73 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c1_i32_710 : BitVec 32 := 1#32
  let v1281 : BitVec 32 := Scalar.addi v342 c1_i32_710
  let c256_i32_711 : BitVec 32 := 256#32
  let v1282 : BitVec 32 := Scalar.muli v1281 c256_i32_711
  let v1283 : BitVec 32 := v1282
  let v1382 : Index := Scalar.indexCast v1283
  let c256_774 : Index := 256#32
  ![v1382.toNat, 256]
def k0_off74 (i : grid0.Coords) : Fin 4 → Nat :=
  let c2_778 : Index := 2#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c1_i32_710 : BitVec 32 := 1#32
  let v1281 : BitVec 32 := Scalar.addi v342 c1_i32_710
  let v1390 : Index := Scalar.indexCast v1281
  let c0_779 : Index := 0#32
  let c0_780 : Index := 0#32
  ![2, v1390.toNat, 0, 0]
def k0_off75 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c1_i32_710 : BitVec 32 := 1#32
  let v1281 : BitVec 32 := Scalar.addi v342 c1_i32_710
  let c256_i32_711 : BitVec 32 := 256#32
  let v1282 : BitVec 32 := Scalar.muli v1281 c256_i32_711
  let v1283 : BitVec 32 := v1282
  let v1428 : Index := Scalar.indexCast v1283
  let c384_803 : Index := 384#32
  ![v1428.toNat, 384]
def k0_off76 (i : grid0.Coords) : Fin 4 → Nat :=
  let c3_807 : Index := 3#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c1_i32_710 : BitVec 32 := 1#32
  let v1281 : BitVec 32 := Scalar.addi v342 c1_i32_710
  let v1436 : Index := Scalar.indexCast v1281
  let c0_808 : Index := 0#32
  let c0_809 : Index := 0#32
  ![3, v1436.toNat, 0, 0]
def k0_off77 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c1_i32_710 : BitVec 32 := 1#32
  let v1281 : BitVec 32 := Scalar.addi v342 c1_i32_710
  let c256_i32_711 : BitVec 32 := 256#32
  let v1282 : BitVec 32 := Scalar.muli v1281 c256_i32_711
  let v1283 : BitVec 32 := v1282
  let v1474 : Index := Scalar.indexCast v1283
  let c512_832 : Index := 512#32
  ![v1474.toNat, 512]
def k0_off78 (i : grid0.Coords) : Fin 4 → Nat :=
  let c4_836 : Index := 4#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c1_i32_710 : BitVec 32 := 1#32
  let v1281 : BitVec 32 := Scalar.addi v342 c1_i32_710
  let v1482 : Index := Scalar.indexCast v1281
  let c0_837 : Index := 0#32
  let c0_838 : Index := 0#32
  ![4, v1482.toNat, 0, 0]
def k0_off79 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c1_i32_710 : BitVec 32 := 1#32
  let v1281 : BitVec 32 := Scalar.addi v342 c1_i32_710
  let c256_i32_711 : BitVec 32 := 256#32
  let v1282 : BitVec 32 := Scalar.muli v1281 c256_i32_711
  let v1283 : BitVec 32 := v1282
  let v1520 : Index := Scalar.indexCast v1283
  let c640_861 : Index := 640#32
  ![v1520.toNat, 640]
def k0_off80 (i : grid0.Coords) : Fin 4 → Nat :=
  let c5_865 : Index := 5#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c1_i32_710 : BitVec 32 := 1#32
  let v1281 : BitVec 32 := Scalar.addi v342 c1_i32_710
  let v1528 : Index := Scalar.indexCast v1281
  let c0_866 : Index := 0#32
  let c0_867 : Index := 0#32
  ![5, v1528.toNat, 0, 0]
def k0_off81 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c1_i32_710 : BitVec 32 := 1#32
  let v1281 : BitVec 32 := Scalar.addi v342 c1_i32_710
  let c256_i32_711 : BitVec 32 := 256#32
  let v1282 : BitVec 32 := Scalar.muli v1281 c256_i32_711
  let v1283 : BitVec 32 := v1282
  let v1566 : Index := Scalar.indexCast v1283
  let c768_890 : Index := 768#32
  ![v1566.toNat, 768]
def k0_off82 (i : grid0.Coords) : Fin 4 → Nat :=
  let c6_894 : Index := 6#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c1_i32_710 : BitVec 32 := 1#32
  let v1281 : BitVec 32 := Scalar.addi v342 c1_i32_710
  let v1574 : Index := Scalar.indexCast v1281
  let c0_895 : Index := 0#32
  let c0_896 : Index := 0#32
  ![6, v1574.toNat, 0, 0]
def k0_off83 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c1_i32_710 : BitVec 32 := 1#32
  let v1281 : BitVec 32 := Scalar.addi v342 c1_i32_710
  let c256_i32_711 : BitVec 32 := 256#32
  let v1282 : BitVec 32 := Scalar.muli v1281 c256_i32_711
  let v1283 : BitVec 32 := v1282
  let v1612 : Index := Scalar.indexCast v1283
  let c896_919 : Index := 896#32
  ![v1612.toNat, 896]
def k0_off84 (i : grid0.Coords) : Fin 4 → Nat :=
  let c7_923 : Index := 7#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c0_i32_126 : BitVec 32 := 0#32
  let v326 : BitVec 1 := Scalar.cmpi .sgt v24 c0_i32_126
  let v327 : BitVec 32 := Scalar.extui v326
  let c0_i32_127 : BitVec 32 := 0#32
  let v328 : BitVec 1 := Scalar.cmpi .slt v24 c0_i32_127
  let v329 : BitVec 32 := Scalar.extui v328
  let v330 : BitVec 32 := Scalar.subi v327 v329
  let c4_i32_125 : BitVec 32 := 4#32
  let c0_i32_128 : BitVec 32 := 0#32
  let v331 : BitVec 1 := Scalar.cmpi .sgt c4_i32_125 c0_i32_128
  let v332 : BitVec 32 := Scalar.extui v331
  let c0_i32_129 : BitVec 32 := 0#32
  let v333 : BitVec 1 := Scalar.cmpi .slt c4_i32_125 c0_i32_129
  let v334 : BitVec 32 := Scalar.extui v333
  let v335 : BitVec 32 := Scalar.subi v332 v334
  let v336 : BitVec 1 := Scalar.cmpi .ne v330 v335
  let v337 : BitVec 32 := Scalar.remsi v24 c4_i32_125
  let c0_i32_130 : BitVec 32 := 0#32
  let v338 : BitVec 1 := Scalar.cmpi .ne v337 c0_i32_130
  let v339 : BitVec 1 := Scalar.andi v336 v338
  let v325 : BitVec 32 := Scalar.divsi v24 c4_i32_125
  let c1_i32_131 : BitVec 32 := 1#32
  let v340 : BitVec 32 := Scalar.subi v325 c1_i32_131
  let v341 : BitVec 32 := Scalar.select v339 v340 v325
  let c4_i32_132 : BitVec 32 := 4#32
  let v342 : BitVec 32 := Scalar.muli v341 c4_i32_132
  let c1_i32_710 : BitVec 32 := 1#32
  let v1281 : BitVec 32 := Scalar.addi v342 c1_i32_710
  let v1620 : Index := Scalar.indexCast v1281
  let c0_924 : Index := 0#32
  let c0_925 : Index := 0#32
  ![7, v1620.toNat, 0, 0]
def k0_cond3 (i : grid0.Coords) : BitVec 1 :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c2_i32_140 : BitVec 32 := 2#32
  let c0_i32_141 : BitVec 32 := 0#32
  let v356 : BitVec 1 := Scalar.cmpi .eq c2_i32_140 c0_i32_141
  let c1_i32_142 : BitVec 32 := 1#32
  let v357 : BitVec 32 := Scalar.select v356 c1_i32_142 c2_i32_140
  let v358 : BitVec 32 := Scalar.remsi v24 v357
  let c0_i32_144 : BitVec 32 := 0#32
  let v360 : BitVec 1 := Scalar.cmpi .slt v358 c0_i32_144
  let c0_i32_145 : BitVec 32 := 0#32
  let v361 : BitVec 1 := Scalar.cmpi .slt v357 c0_i32_145
  let v362 : BitVec 1 := Scalar.xori v360 v361
  let c0_i32_143 : BitVec 32 := 0#32
  let v359 : BitVec 1 := Scalar.cmpi .ne v358 c0_i32_143
  let v363 : BitVec 1 := Scalar.andi v362 v359
  let v364 : BitVec 32 := Scalar.addi v358 v357
  let v365 : BitVec 32 := Scalar.select v363 v364 v358
  let c1_i32_146 : BitVec 32 := 1#32
  let v366 : BitVec 1 := Scalar.cmpi .eq v365 c1_i32_146
  let v367 : BitVec 32 := Scalar.extui v366
  let c0_i32_147 : BitVec 32 := 0#32
  let v368 : BitVec 1 := Scalar.cmpi .ne v367 c0_i32_147
  v368

def k0_mult12 (i : grid0.Coords) : BitVec 32 :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c1_i32_473 : BitVec 32 := 1#32
  let v905 : BitVec 32 := Scalar.subi v24 c1_i32_473
  let c256_i32_474 : BitVec 32 := 256#32
  let v906 : BitVec 32 := Scalar.muli v905 c256_i32_474
  v906
def k0_off85 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c1_i32_473 : BitVec 32 := 1#32
  let v905 : BitVec 32 := Scalar.subi v24 c1_i32_473
  let c256_i32_474 : BitVec 32 := 256#32
  let v906 : BitVec 32 := Scalar.muli v905 c256_i32_474
  let v907 : BitVec 32 := v906
  let v908 : Index := Scalar.indexCast v907
  let c0_475 : Index := 0#32
  ![v908.toNat, 0]
def k0_off86 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c1_i32_473 : BitVec 32 := 1#32
  let v905 : BitVec 32 := Scalar.subi v24 c1_i32_473
  let c256_i32_474 : BitVec 32 := 256#32
  let v906 : BitVec 32 := Scalar.muli v905 c256_i32_474
  let v907 : BitVec 32 := v906
  let v914 : Index := Scalar.indexCast v907
  let c0_479 : Index := 0#32
  ![v914.toNat, 0]
def k0_off87 (i : grid0.Coords) : Fin 4 → Nat :=
  let c0_483 : Index := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c1_i32_473 : BitVec 32 := 1#32
  let v905 : BitVec 32 := Scalar.subi v24 c1_i32_473
  let v922 : Index := Scalar.indexCast v905
  let c0_484 : Index := 0#32
  let c0_485 : Index := 0#32
  ![0, v922.toNat, 0, 0]
def k0_off88 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c1_i32_473 : BitVec 32 := 1#32
  let v905 : BitVec 32 := Scalar.subi v24 c1_i32_473
  let c256_i32_474 : BitVec 32 := 256#32
  let v906 : BitVec 32 := Scalar.muli v905 c256_i32_474
  let v907 : BitVec 32 := v906
  let v960 : Index := Scalar.indexCast v907
  let c128_508 : Index := 128#32
  ![v960.toNat, 128]
def k0_off89 (i : grid0.Coords) : Fin 4 → Nat :=
  let c1_512 : Index := 1#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c1_i32_473 : BitVec 32 := 1#32
  let v905 : BitVec 32 := Scalar.subi v24 c1_i32_473
  let v968 : Index := Scalar.indexCast v905
  let c0_513 : Index := 0#32
  let c0_514 : Index := 0#32
  ![1, v968.toNat, 0, 0]
def k0_off90 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c1_i32_473 : BitVec 32 := 1#32
  let v905 : BitVec 32 := Scalar.subi v24 c1_i32_473
  let c256_i32_474 : BitVec 32 := 256#32
  let v906 : BitVec 32 := Scalar.muli v905 c256_i32_474
  let v907 : BitVec 32 := v906
  let v1006 : Index := Scalar.indexCast v907
  let c256_537 : Index := 256#32
  ![v1006.toNat, 256]
def k0_off91 (i : grid0.Coords) : Fin 4 → Nat :=
  let c2_541 : Index := 2#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c1_i32_473 : BitVec 32 := 1#32
  let v905 : BitVec 32 := Scalar.subi v24 c1_i32_473
  let v1014 : Index := Scalar.indexCast v905
  let c0_542 : Index := 0#32
  let c0_543 : Index := 0#32
  ![2, v1014.toNat, 0, 0]
def k0_off92 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c1_i32_473 : BitVec 32 := 1#32
  let v905 : BitVec 32 := Scalar.subi v24 c1_i32_473
  let c256_i32_474 : BitVec 32 := 256#32
  let v906 : BitVec 32 := Scalar.muli v905 c256_i32_474
  let v907 : BitVec 32 := v906
  let v1052 : Index := Scalar.indexCast v907
  let c384_566 : Index := 384#32
  ![v1052.toNat, 384]
def k0_off93 (i : grid0.Coords) : Fin 4 → Nat :=
  let c3_570 : Index := 3#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c1_i32_473 : BitVec 32 := 1#32
  let v905 : BitVec 32 := Scalar.subi v24 c1_i32_473
  let v1060 : Index := Scalar.indexCast v905
  let c0_571 : Index := 0#32
  let c0_572 : Index := 0#32
  ![3, v1060.toNat, 0, 0]
def k0_off94 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c1_i32_473 : BitVec 32 := 1#32
  let v905 : BitVec 32 := Scalar.subi v24 c1_i32_473
  let c256_i32_474 : BitVec 32 := 256#32
  let v906 : BitVec 32 := Scalar.muli v905 c256_i32_474
  let v907 : BitVec 32 := v906
  let v1098 : Index := Scalar.indexCast v907
  let c512_595 : Index := 512#32
  ![v1098.toNat, 512]
def k0_off95 (i : grid0.Coords) : Fin 4 → Nat :=
  let c4_599 : Index := 4#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c1_i32_473 : BitVec 32 := 1#32
  let v905 : BitVec 32 := Scalar.subi v24 c1_i32_473
  let v1106 : Index := Scalar.indexCast v905
  let c0_600 : Index := 0#32
  let c0_601 : Index := 0#32
  ![4, v1106.toNat, 0, 0]
def k0_off96 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c1_i32_473 : BitVec 32 := 1#32
  let v905 : BitVec 32 := Scalar.subi v24 c1_i32_473
  let c256_i32_474 : BitVec 32 := 256#32
  let v906 : BitVec 32 := Scalar.muli v905 c256_i32_474
  let v907 : BitVec 32 := v906
  let v1144 : Index := Scalar.indexCast v907
  let c640_624 : Index := 640#32
  ![v1144.toNat, 640]
def k0_off97 (i : grid0.Coords) : Fin 4 → Nat :=
  let c5_628 : Index := 5#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c1_i32_473 : BitVec 32 := 1#32
  let v905 : BitVec 32 := Scalar.subi v24 c1_i32_473
  let v1152 : Index := Scalar.indexCast v905
  let c0_629 : Index := 0#32
  let c0_630 : Index := 0#32
  ![5, v1152.toNat, 0, 0]
def k0_off98 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c1_i32_473 : BitVec 32 := 1#32
  let v905 : BitVec 32 := Scalar.subi v24 c1_i32_473
  let c256_i32_474 : BitVec 32 := 256#32
  let v906 : BitVec 32 := Scalar.muli v905 c256_i32_474
  let v907 : BitVec 32 := v906
  let v1190 : Index := Scalar.indexCast v907
  let c768_653 : Index := 768#32
  ![v1190.toNat, 768]
def k0_off99 (i : grid0.Coords) : Fin 4 → Nat :=
  let c6_657 : Index := 6#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c1_i32_473 : BitVec 32 := 1#32
  let v905 : BitVec 32 := Scalar.subi v24 c1_i32_473
  let v1198 : Index := Scalar.indexCast v905
  let c0_658 : Index := 0#32
  let c0_659 : Index := 0#32
  ![6, v1198.toNat, 0, 0]
def k0_off100 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c1_i32_473 : BitVec 32 := 1#32
  let v905 : BitVec 32 := Scalar.subi v24 c1_i32_473
  let c256_i32_474 : BitVec 32 := 256#32
  let v906 : BitVec 32 := Scalar.muli v905 c256_i32_474
  let v907 : BitVec 32 := v906
  let v1236 : Index := Scalar.indexCast v907
  let c896_682 : Index := 896#32
  ![v1236.toNat, 896]
def k0_off101 (i : grid0.Coords) : Fin 4 → Nat :=
  let c7_686 : Index := 7#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c1_i32_473 : BitVec 32 := 1#32
  let v905 : BitVec 32 := Scalar.subi v24 c1_i32_473
  let v1244 : Index := Scalar.indexCast v905
  let c0_687 : Index := 0#32
  let c0_688 : Index := 0#32
  ![7, v1244.toNat, 0, 0]
def k0_mult13 (i : grid0.Coords) : BitVec 32 :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c256_i32_148 : BitVec 32 := 256#32
  let v369 : BitVec 32 := Scalar.muli v24 c256_i32_148
  v369
def k0_off102 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c256_i32_148 : BitVec 32 := 256#32
  let v369 : BitVec 32 := Scalar.muli v24 c256_i32_148
  let v370 : BitVec 32 := v369
  let v371 : Index := Scalar.indexCast v370
  let c0_149 : Index := 0#32
  ![v371.toNat, 0]
def k0_off103 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c256_i32_148 : BitVec 32 := 256#32
  let v369 : BitVec 32 := Scalar.muli v24 c256_i32_148
  let v370 : BitVec 32 := v369
  let v377 : Index := Scalar.indexCast v370
  let c0_153 : Index := 0#32
  ![v377.toNat, 0]
def k0_off104 (i : grid0.Coords) : Fin 4 → Nat :=
  let c0_159 : Index := 0#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let v394 : Index := Scalar.indexCast v24
  let c0_160 : Index := 0#32
  let c0_161 : Index := 0#32
  ![0, v394.toNat, 0, 0]
def k0_off105 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c256_i32_148 : BitVec 32 := 256#32
  let v369 : BitVec 32 := Scalar.muli v24 c256_i32_148
  let v370 : BitVec 32 := v369
  let v432 : Index := Scalar.indexCast v370
  let c128_184 : Index := 128#32
  ![v432.toNat, 128]
def k0_off106 (i : grid0.Coords) : Fin 4 → Nat :=
  let c1 : Index := 1#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let v449 : Index := Scalar.indexCast v24
  let c0_191 : Index := 0#32
  let c0_192 : Index := 0#32
  ![1, v449.toNat, 0, 0]
def k0_off107 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c256_i32_148 : BitVec 32 := 256#32
  let v369 : BitVec 32 := Scalar.muli v24 c256_i32_148
  let v370 : BitVec 32 := v369
  let v487 : Index := Scalar.indexCast v370
  let c256_215 : Index := 256#32
  ![v487.toNat, 256]
def k0_off108 (i : grid0.Coords) : Fin 4 → Nat :=
  let c2 : Index := 2#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let v504 : Index := Scalar.indexCast v24
  let c0_222 : Index := 0#32
  let c0_223 : Index := 0#32
  ![2, v504.toNat, 0, 0]
def k0_off109 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c256_i32_148 : BitVec 32 := 256#32
  let v369 : BitVec 32 := Scalar.muli v24 c256_i32_148
  let v370 : BitVec 32 := v369
  let v542 : Index := Scalar.indexCast v370
  let c384_246 : Index := 384#32
  ![v542.toNat, 384]
def k0_off110 (i : grid0.Coords) : Fin 4 → Nat :=
  let c3 : Index := 3#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let v559 : Index := Scalar.indexCast v24
  let c0_253 : Index := 0#32
  let c0_254 : Index := 0#32
  ![3, v559.toNat, 0, 0]
def k0_off111 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c256_i32_148 : BitVec 32 := 256#32
  let v369 : BitVec 32 := Scalar.muli v24 c256_i32_148
  let v370 : BitVec 32 := v369
  let v597 : Index := Scalar.indexCast v370
  let c512_277 : Index := 512#32
  ![v597.toNat, 512]
def k0_off112 (i : grid0.Coords) : Fin 4 → Nat :=
  let c4 : Index := 4#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let v614 : Index := Scalar.indexCast v24
  let c0_284 : Index := 0#32
  let c0_285 : Index := 0#32
  ![4, v614.toNat, 0, 0]
def k0_off113 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c256_i32_148 : BitVec 32 := 256#32
  let v369 : BitVec 32 := Scalar.muli v24 c256_i32_148
  let v370 : BitVec 32 := v369
  let v652 : Index := Scalar.indexCast v370
  let c640_308 : Index := 640#32
  ![v652.toNat, 640]
def k0_off114 (i : grid0.Coords) : Fin 4 → Nat :=
  let c5 : Index := 5#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let v669 : Index := Scalar.indexCast v24
  let c0_315 : Index := 0#32
  let c0_316 : Index := 0#32
  ![5, v669.toNat, 0, 0]
def k0_off115 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c256_i32_148 : BitVec 32 := 256#32
  let v369 : BitVec 32 := Scalar.muli v24 c256_i32_148
  let v370 : BitVec 32 := v369
  let v707 : Index := Scalar.indexCast v370
  let c768_339 : Index := 768#32
  ![v707.toNat, 768]
def k0_off116 (i : grid0.Coords) : Fin 4 → Nat :=
  let c6 : Index := 6#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let v724 : Index := Scalar.indexCast v24
  let c0_346 : Index := 0#32
  let c0_347 : Index := 0#32
  ![6, v724.toNat, 0, 0]
def k0_off117 (i : grid0.Coords) : Fin 2 → Nat :=
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let c256_i32_148 : BitVec 32 := 256#32
  let v369 : BitVec 32 := Scalar.muli v24 c256_i32_148
  let v370 : BitVec 32 := v369
  let v762 : Index := Scalar.indexCast v370
  let c896_370 : Index := 896#32
  ![v762.toNat, 896]
def k0_off118 (i : grid0.Coords) : Fin 4 → Nat :=
  let c7 : Index := 7#32
  let arg2 : BitVec 32 := BitVec.ofNat 32 (i 2).val
  let c128_i32 : BitVec 32 := 128#32
  let v7 : BitVec 32 := Scalar.muli arg2 c128_i32
  let c0_i32_5 : BitVec 32 := 0#32
  let v9 : BitVec 1 := Scalar.cmpi .sgt v7 c0_i32_5
  let v10 : BitVec 32 := Scalar.extui v9
  let c0_i32_6 : BitVec 32 := 0#32
  let v11 : BitVec 1 := Scalar.cmpi .slt v7 c0_i32_6
  let v12 : BitVec 32 := Scalar.extui v11
  let v13 : BitVec 32 := Scalar.subi v10 v12
  let c256_i32 : BitVec 32 := 256#32
  let c0_i32_7 : BitVec 32 := 0#32
  let v14 : BitVec 1 := Scalar.cmpi .sgt c256_i32 c0_i32_7
  let v15 : BitVec 32 := Scalar.extui v14
  let c0_i32_8 : BitVec 32 := 0#32
  let v16 : BitVec 1 := Scalar.cmpi .slt c256_i32 c0_i32_8
  let v17 : BitVec 32 := Scalar.extui v16
  let v18 : BitVec 32 := Scalar.subi v15 v17
  let v19 : BitVec 1 := Scalar.cmpi .ne v13 v18
  let v20 : BitVec 32 := Scalar.remsi v7 c256_i32
  let c0_i32_9 : BitVec 32 := 0#32
  let v21 : BitVec 1 := Scalar.cmpi .ne v20 c0_i32_9
  let v22 : BitVec 1 := Scalar.andi v19 v21
  let v8 : BitVec 32 := Scalar.divsi v7 c256_i32
  let c1_i32 : BitVec 32 := 1#32
  let v23 : BitVec 32 := Scalar.subi v8 c1_i32
  let v24 : BitVec 32 := Scalar.select v22 v23 v8
  let v779 : Index := Scalar.indexCast v24
  let c0_377 : Index := 0#32
  let c0_378 : Index := 0#32
  ![7, v779.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c32_i32 : BitVec 32 := 32#32
  let v2 : BitVec 32 := Scalar.muli v1 c32_i32
  let v3 : BitVec 32 := Scalar.addi v2 arg2
  let c1_i32 : BitVec 32 := 1#32
  let c0_i32 : BitVec 32 := 0#32
  let c0_i32_0 : BitVec 32 := 0#32
  ![c1_i32.toNat, v3.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c32_i32 : BitVec 32 := 32#32
  let v2 : BitVec 32 := Scalar.muli v1 c32_i32
  let v3 : BitVec 32 := Scalar.addi v2 arg2
  let c0_i32 : BitVec 32 := 0#32
  let c0_i32_0 : BitVec 32 := 0#32
  ![v3.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]

abbrev stage0_5 : Fin 2 → Memref sig .tc .vmem S1x32x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S32x16384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S2x4096x16x192 : Shape := ⟨4, ![2, 4096, 16, 192]⟩
abbrev S2x4096x16x256 : Shape := ⟨4, ![2, 4096, 16, 256]⟩
abbrev S2x4096x64 : Shape := ⟨3, ![2, 4096, 64]⟩
abbrev S2x4096x16384 : Shape := ⟨3, ![2, 4096, 16384]⟩
abbrev S2x4096x16x128 : Shape := ⟨4, ![2, 4096, 16, 128]⟩
abbrev S2x4096x1x64 : Shape := ⟨4, ![2, 4096, 1, 64]⟩
abbrev S2x4096x16x64 : Shape := ⟨4, ![2, 4096, 16, 64]⟩
abbrev S4096 : Shape := ⟨1, ![4096]⟩
abbrev S2x16x4096x4096 : Shape := ⟨4, ![2, 16, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S2x16x4096 : Shape := ⟨3, ![2, 16, 4096]⟩
abbrev S2x16x4096x1 : Shape := ⟨4, ![2, 16, 4096, 1]⟩
abbrev S2x16x128x4096 : Shape := ⟨4, ![2, 16, 128, 4096]⟩
abbrev S8192x2048 : Shape := ⟨2, ![8192, 2048]⟩
abbrev S1x4096x16384 : Shape := ⟨3, ![1, 4096, 16384]⟩
abbrev S4096x16384 : Shape := ⟨2, ![4096, 16384]⟩

abbrev nBuf : Space → Nat
  | .hbm => 82
  | .vmem => 0
  | .smem => 0
  | _ => 0

abbrev bufTy : (tb : Table) → Fin (tcTables nBuf tb) → BufTy
  | .hbm, ⟨0, _⟩ => ⟨S2x4096x16x192, .f32⟩
  | .hbm, ⟨1, _⟩ => ⟨S2x4096x16x256, .f32⟩
  | .hbm, ⟨2, _⟩ => ⟨S2x4096x64, .f32⟩
  | .hbm, ⟨3, _⟩ => ⟨S2x4096x16384, .f32⟩
  | .hbm, ⟨4, _⟩ => ⟨S2x4096x16x128, .f32⟩
  | .hbm, ⟨5, _⟩ => ⟨S2x4096x1x64, .f32⟩
  | .hbm, ⟨6, _⟩ => ⟨S2x4096x16x64, .f32⟩
  | .hbm, ⟨7, _⟩ => ⟨S2x4096x16x192, .f32⟩
  | .hbm, ⟨8, _⟩ => ⟨S4096, .i32⟩
  | .hbm, ⟨9, _⟩ => ⟨S2x16x4096x4096, .f32⟩
  | .hbm, ⟨10, _⟩ => ⟨S_, .f32⟩
  | .hbm, ⟨11, _⟩ => ⟨S_, .f32⟩
  | .hbm, ⟨12, _⟩ => ⟨S2x16x4096x4096, .f32⟩
  | .hbm, ⟨13, _⟩ => ⟨S2x16x4096x4096, .f32⟩
  | .hbm, ⟨14, _⟩ => ⟨S_, .i32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S1x4096, .i32⟩
  | .hbm, ⟨33, _⟩ => ⟨S_, .i32⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S4096x1, .i32⟩
  | .hbm, ⟨52, _⟩ => ⟨S4096x4096, .i32⟩
  | .hbm, ⟨53, _⟩ => ⟨S4096x4096, .i32⟩
  | .hbm, ⟨54, _⟩ => ⟨S4096x4096, .i1⟩
  | .hbm, ⟨55, _⟩ => ⟨S_, .f32⟩
  | .hbm, ⟨56, _⟩ => ⟨S_, .f32⟩
  | .hbm, ⟨57, _⟩ => ⟨S2x16x4096x4096, .i1⟩
  | .hbm, ⟨58, _⟩ => ⟨S2x16x4096x4096, .f32⟩
  | .hbm, ⟨59, _⟩ => ⟨S2x16x4096x4096, .f32⟩
  | .hbm, ⟨60, _⟩ => ⟨S_, .f32⟩
  | .hbm, ⟨61, _⟩ => ⟨S2x16x4096, .f32⟩
  | .hbm, ⟨62, _⟩ => ⟨S_, .f32⟩
  | .hbm, ⟨63, _⟩ => ⟨S2x16x4096, .f32⟩
  | .hbm, ⟨64, _⟩ => ⟨S2x16x4096, .f32⟩
  | .hbm, ⟨65, _⟩ => ⟨S2x16x4096x1, .f32⟩
  | .hbm, ⟨66, _⟩ => ⟨S2x16x4096x4096, .f32⟩
  | .hbm, ⟨67, _⟩ => ⟨S2x16x4096x4096, .f32⟩
  | .hbm, ⟨68, _⟩ => ⟨S2x16x4096x4096, .f32⟩
  | .hbm, ⟨69, _⟩ => ⟨S_, .f32⟩
  | .hbm, ⟨70, _⟩ => ⟨S2x16x4096, .f32⟩
  | .hbm, ⟨71, _⟩ => ⟨S2x16x4096x1, .f32⟩
  | .hbm, ⟨72, _⟩ => ⟨S2x16x4096x4096, .f32⟩
  | .hbm, ⟨73, _⟩ => ⟨S2x16x4096x4096, .f32⟩
  | .hbm, ⟨74, _⟩ => ⟨S2x4096x16x128, .f32⟩
  | .hbm, ⟨75, _⟩ => ⟨S2x16x128x4096, .f32⟩
  | .hbm, ⟨76, _⟩ => ⟨S2x4096x16x128, .f32⟩
  | .hbm, ⟨77, _⟩ => ⟨S8192x2048, .f32⟩
  | .hbm, ⟨78, _⟩ => ⟨S8192x2048, .bf16⟩
  | .hbm, ⟨79, _⟩ => ⟨S1x4096x16384, .f32⟩
  | .hbm, ⟨80, _⟩ => ⟨S4096x16384, .f32⟩
  | .hbm, ⟨81, _⟩ => ⟨S4096x16384, .bf16⟩
  | _, _ => ⟨S2x4096x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v16 : Ref sig .tc := ⟨.hbm, 59, rfl⟩
abbrev main_cst_2 : Ref sig .tc := ⟨.hbm, 60, rfl⟩
abbrev main_v17 : Ref sig .tc := ⟨.hbm, 61, rfl⟩
abbrev main_cst_3 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_cst_4 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩

abbrev nD : Nat := 1
abbrev τ : Topo := Topo.v7x

variable {F : FTy → Type} [FloatOps F]
-- ==== Kernel2.lean ====
abbrev S2x4096x4096 : Shape := ⟨3, ![2, 4096, 4096]⟩
abbrev S2x4096x16384 : Shape := ⟨3, ![2, 4096, 16384]⟩
abbrev S8192x4096 : Shape := ⟨2, ![8192, 4096]⟩
abbrev S1x4096x16384 : Shape := ⟨3, ![1, 4096, 16384]⟩
abbrev S4096x16384 : Shape := ⟨2, ![4096, 16384]⟩
abbrev S8192x16384 : Shape := ⟨2, ![8192, 16384]⟩
abbrev S2048x4096 : Shape := ⟨2, ![2048, 4096]⟩
abbrev S4096x512 : Shape := ⟨2, ![4096, 512]⟩
abbrev S2048x512 : Shape := ⟨2, ![2048, 512]⟩

abbrev nBuf : Space → Nat
  | .hbm => 8
  | .vmem => 6
  | .smem => 0
  | _ => 0

abbrev bufTy : (tb : Table) → Fin (tcTables nBuf tb) → BufTy
  | .hbm, ⟨0, _⟩ => ⟨S2x4096x4096, .f32⟩
  | .hbm, ⟨1, _⟩ => ⟨S2x4096x16384, .f32⟩
  | .hbm, ⟨2, _⟩ => ⟨S8192x4096, .f32⟩
  | .hbm, ⟨3, _⟩ => ⟨S8192x4096, .bf16⟩
  | .hbm, ⟨4, _⟩ => ⟨S1x4096x16384, .f32⟩
  | .hbm, ⟨5, _⟩ => ⟨S4096x16384, .f32⟩
  | .hbm, ⟨6, _⟩ => ⟨S4096x16384, .bf16⟩
  | .hbm, ⟨7, _⟩ => ⟨S8192x16384, .bf16⟩
  | .local _ .vmem, ⟨0, _⟩ => ⟨S2048x4096, .bf16⟩
  | .local _ .vmem, ⟨1, _⟩ => ⟨S2048x4096, .bf16⟩
  | .local _ .vmem, ⟨2, _⟩ => ⟨S4096x512, .bf16⟩
  | .local _ .vmem, ⟨3, _⟩ => ⟨S4096x512, .bf16⟩
  | .local _ .vmem, ⟨4, _⟩ => ⟨S2048x512, .bf16⟩
  | .local _ .vmem, ⟨5, _⟩ => ⟨S2048x512, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2x4096x4096 : Shape := ⟨3, ![2, 4096, 4096]⟩
abbrev S2x4096x16384 : Shape := ⟨3, ![2, 4096, 16384]⟩
abbrev S8192x4096 : Shape := ⟨2, ![8192, 4096]⟩
abbrev S1x4096x16384 : Shape := ⟨3, ![1, 4096, 16384]⟩
abbrev S4096x16384 : Shape := ⟨2, ![4096, 16384]⟩
abbrev S8192x16384 : Shape := ⟨2, ![8192, 16384]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x16384, .f32⟩
  | .hbm, ⟨2, _⟩ => ⟨S8192x4096, .f32⟩
  | .hbm, ⟨3, _⟩ => ⟨S1x4096x16384, .f32⟩
  | .hbm, ⟨4, _⟩ => ⟨S4096x16384, .f32⟩
  | .hbm, ⟨5, _⟩ => ⟨S8192x16384, .f32⟩
  | .hbm, ⟨6, _⟩ => ⟨S_, .f32⟩
  | .hbm, ⟨7, _⟩ => ⟨S8192x16384, .f32⟩
  | .hbm, ⟨8, _⟩ => ⟨S8192x16384, .f32⟩
  | .hbm, ⟨9, _⟩ => ⟨S8192x16384, .f32⟩
  | .hbm, ⟨10, _⟩ => ⟨S8192x16384, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel3.lean ====
abbrev S2x4096x16384 : Shape := ⟨3, ![2, 4096, 16384]⟩
abbrev S2x16384x4096 : Shape := ⟨3, ![2, 16384, 4096]⟩
abbrev S2x4096x4096 : Shape := ⟨3, ![2, 4096, 4096]⟩
abbrev S2x4096 : Shape := ⟨2, ![2, 4096]⟩
abbrev S8192x16384 : Shape := ⟨2, ![8192, 16384]⟩
abbrev S1x16384x4096 : Shape := ⟨3, ![1, 16384, 4096]⟩
abbrev S16384x4096 : Shape := ⟨2, ![16384, 4096]⟩
abbrev S8192x4096 : Shape := ⟨2, ![8192, 4096]⟩
abbrev S2x1x4096 : Shape := ⟨3, ![2, 1, 4096]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 12
  | .vmem => 11
  | .smem => 0
  | _ => 0

abbrev bufTy : (tb : Table) → Fin (tcTables nBuf tb) → BufTy
  | .hbm, ⟨0, _⟩ => ⟨S2x4096x16384, .f32⟩
  | .hbm, ⟨1, _⟩ => ⟨S2x16384x4096, .f32⟩
  | .hbm, ⟨2, _⟩ => ⟨S2x4096x4096, .f32⟩
  | .hbm, ⟨3, _⟩ => ⟨S2x4096, .f32⟩
  | .hbm, ⟨4, _⟩ => ⟨S8192x16384, .f32⟩
  | .hbm, ⟨5, _⟩ => ⟨S8192x16384, .bf16⟩
  | .hbm, ⟨6, _⟩ => ⟨S1x16384x4096, .f32⟩
  | .hbm, ⟨7, _⟩ => ⟨S16384x4096, .f32⟩
  | .hbm, ⟨8, _⟩ => ⟨S16384x4096, .bf16⟩
  | .hbm, ⟨9, _⟩ => ⟨S8192x4096, .f32⟩
  | .hbm, ⟨10, _⟩ => ⟨S2x1x4096, .f32⟩
  | .hbm, ⟨11, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2x4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S2x4096x16384 : Shape := ⟨3, ![2, 4096, 16384]⟩
abbrev S2x16384x4096 : Shape := ⟨3, ![2, 16384, 4096]⟩
abbrev S2x4096x4096 : Shape := ⟨3, ![2, 4096, 4096]⟩
abbrev S2x4096 : Shape := ⟨2, ![2, 4096]⟩
abbrev S2x1x4096 : Shape := ⟨3, ![2, 1, 4096]⟩
abbrev S1x16384x4096 : Shape := ⟨3, ![1, 16384, 4096]⟩
abbrev S16384x4096 : Shape := ⟨2, ![16384, 4096]⟩
abbrev S8192x4096 : Shape := ⟨2, ![8192, 4096]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x16384, .f32⟩
  | .hbm, ⟨1, _⟩ => ⟨S2x16384x4096, .f32⟩
  | .hbm, ⟨2, _⟩ => ⟨S2x4096x4096, .f32⟩
  | .hbm, ⟨3, _⟩ => ⟨S2x4096, .f32⟩
  | .hbm, ⟨4, _⟩ => ⟨S2x1x4096, .f32⟩
  | .hbm, ⟨5, _⟩ => ⟨S1x16384x4096, .f32⟩
  | .hbm, ⟨6, _⟩ => ⟨S16384x4096, .f32⟩
  | .hbm, ⟨7, _⟩ => ⟨S2x4096x4096, .f32⟩
  | .hbm, ⟨8, _⟩ => ⟨S2x4096x4096, .f32⟩
  | .hbm, ⟨9, _⟩ => ⟨S2x4096x4096, .f32⟩
  | .hbm, ⟨10, _⟩ => ⟨S2x4096x4096, .f32⟩
  | .hbm, ⟨11, _⟩ => ⟨S8192x4096, .f32⟩
  | _, _ => ⟨S2x4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel4.lean ====
abbrev S2x4096x4096 : Shape := ⟨3, ![2, 4096, 4096]⟩
abbrev S2x4096 : Shape := ⟨2, ![2, 4096]⟩
abbrev S8192x4096 : Shape := ⟨2, ![8192, 4096]⟩
abbrev S1x4096x4096 : Shape := ⟨3, ![1, 4096, 4096]⟩
abbrev S4096x4096 : Shape := ⟨2, ![4096, 4096]⟩
abbrev S2x1x4096 : Shape := ⟨3, ![2, 1, 4096]⟩
abbrev S1024x4096 : Shape := ⟨2, ![1024, 4096]⟩
abbrev S4096x1024 : Shape := ⟨2, ![4096, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 12
  | .vmem => 10
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S2x4096x4096, .f32⟩
  | .hbm, ⟨3, _⟩ => ⟨S2x4096, .f32⟩
  | .hbm, ⟨4, _⟩ => ⟨S8192x4096, .f32⟩
  | .hbm, ⟨5, _⟩ => ⟨S8192x4096, .bf16⟩
  | .hbm, ⟨6, _⟩ => ⟨S1x4096x4096, .f32⟩
  | .hbm, ⟨7, _⟩ => ⟨S4096x4096, .f32⟩
  | .hbm, ⟨8, _⟩ => ⟨S4096x4096, .bf16⟩
  | .hbm, ⟨9, _⟩ => ⟨S8192x4096, .f32⟩
  | .hbm, ⟨10, _⟩ => ⟨S2x1x4096, .f32⟩
  | .hbm, ⟨11, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S2x4096x4096 : Shape := ⟨3, ![2, 4096, 4096]⟩
abbrev S2x4096 : Shape := ⟨2, ![2, 4096]⟩
abbrev S2x1x4096 : Shape := ⟨3, ![2, 1, 4096]⟩
abbrev S1x4096x4096 : Shape := ⟨3, ![1, 4096, 4096]⟩
abbrev S4096x4096 : Shape := ⟨2, ![4096, 4096]⟩
abbrev S8192x4096 : Shape := ⟨2, ![8192, 4096]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S2x4096x4096, .f32⟩
  | .hbm, ⟨3, _⟩ => ⟨S2x4096, .f32⟩
  | .hbm, ⟨4, _⟩ => ⟨S2x1x4096, .f32⟩
  | .hbm, ⟨5, _⟩ => ⟨S1x4096x4096, .f32⟩
  | .hbm, ⟨6, _⟩ => ⟨S4096x4096, .f32⟩
  | .hbm, ⟨7, _⟩ => ⟨S2x4096x4096, .f32⟩
  | .hbm, ⟨8, _⟩ => ⟨S2x4096x4096, .f32⟩
  | .hbm, ⟨9, _⟩ => ⟨S2x4096x4096, .f32⟩
  | .hbm, ⟨10, _⟩ => ⟨S2x4096x4096, .f32⟩
  | .hbm, ⟨11, _⟩ => ⟨S8192x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel5.lean ====
abbrev S2x4096x4096 : Shape := ⟨3, ![2, 4096, 4096]⟩
abbrev S4096 : Shape := ⟨1, ![4096]⟩
abbrev S8192x4096 : Shape := ⟨2, ![8192, 4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x4096x4096, .f32⟩
  | .hbm, ⟨1, _⟩ => ⟨S4096, .f32⟩
  | .hbm, ⟨2, _⟩ => ⟨S8192x4096, .f32⟩
  | .hbm, ⟨3, _⟩ => ⟨S1x4096, .f32⟩
  | .hbm, ⟨4, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S2x4096x4096 : Shape := ⟨3, ![2, 4096, 4096]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S8192x4096 : Shape := ⟨2, ![8192, 4096]⟩

abbrev nBuf : Space → Nat
  | .hbm => 19
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096, .f32⟩
  | .hbm, ⟨2, _⟩ => ⟨S2x4096x4096, .f32⟩
  | .hbm, ⟨3, _⟩ => ⟨S_, .f32⟩
  | .hbm, ⟨4, _⟩ => ⟨S2x4096, .f32⟩
  | .hbm, ⟨5, _⟩ => ⟨S2x4096x1, .f32⟩
  | .hbm, ⟨6, _⟩ => ⟨S_, .f32⟩
  | .hbm, ⟨7, _⟩ => ⟨S2x4096x1, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S2x4096x1, .f32⟩
  | .hbm, ⟨13, _⟩ => ⟨S2x4096x4096, .f32⟩
  | .hbm, ⟨14, _⟩ => ⟨S2x4096x4096, .f32⟩
  | .hbm, ⟨15, _⟩ => ⟨S1x1x4096, .f32⟩
  | .hbm, ⟨16, _⟩ => ⟨S2x4096x4096, .f32⟩
  | .hbm, ⟨17, _⟩ => ⟨S2x4096x4096, .f32⟩
  | .hbm, ⟨18, _⟩ => ⟨S8192x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S2x4096x4096 : Shape := ⟨3, ![2, 4096, 4096]⟩
abbrev S2x4096x9896 : Shape := ⟨3, ![2, 4096, 9896]⟩
abbrev S8192x4096 : Shape := ⟨2, ![8192, 4096]⟩
abbrev S2x4096x1024 : Shape := ⟨3, ![2, 4096, 1024]⟩
abbrev S2x4096x2048 : Shape := ⟨3, ![2, 4096, 2048]⟩
abbrev S2x4096x512 : Shape := ⟨3, ![2, 4096, 512]⟩
abbrev S2x4096x64 : Shape := ⟨3, ![2, 4096, 64]⟩
abbrev S2x4096x32 : Shape := ⟨3, ![2, 4096, 32]⟩
abbrev S2x4096x8 : Shape := ⟨3, ![2, 4096, 8]⟩
abbrev S_ : Shape := ⟨0, ![]⟩
abbrev S2x4096x216 : Shape := ⟨3, ![2, 4096, 216]⟩
abbrev S2x4096x10240 : Shape := ⟨3, ![2, 4096, 10240]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 24
  | .vmem => 6
  | .smem => 0
  | _ => 0

abbrev bufTy : (tb : Table) → Fin (tcTables nBuf tb) → BufTy
  | .hbm, ⟨0, _⟩ => ⟨S2x4096x4096, .f32⟩
  | .hbm, ⟨1, _⟩ => ⟨S2x4096x9896, .f32⟩
  | .hbm, ⟨2, _⟩ => ⟨S8192x4096, .f32⟩
  | .hbm, ⟨3, _⟩ => ⟨S8192x4096, .bf16⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S2x4096x2048, .f32⟩
  | .hbm, ⟨11, _⟩ => ⟨S2x4096x1024, .f32⟩
  | .hbm, ⟨12, _⟩ => ⟨S2x4096x512, .f32⟩
  | .hbm, ⟨13, _⟩ => ⟨S2x4096x64, .f32⟩
  | .hbm, ⟨14, _⟩ => ⟨S2x4096x64, .f32⟩
  | .hbm, ⟨15, _⟩ => ⟨S2x4096x64, .f32⟩
  | .hbm, ⟨16, _⟩ => ⟨S2x4096x64, .f32⟩
  | .hbm, ⟨17, _⟩ => ⟨S2x4096x32, .f32⟩
  | .hbm, ⟨18, _⟩ => ⟨S2x4096x8, .f32⟩
  | .hbm, ⟨19, _⟩ => ⟨S_, .f32⟩
  | .hbm, ⟨20, _⟩ => ⟨S2x4096x216, .f32⟩
  | .hbm, ⟨21, _⟩ => ⟨S2x4096x10240, .f32⟩
  | .hbm, ⟨22, _⟩ => ⟨S2x4096x10240, .bf16⟩
  | .hbm, ⟨23, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c1_i32 : BitVec 32 := 1#32
  let c0_i32 : BitVec 32 := 0#32
  ![c1_i32.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2x4096x4096 : Shape := ⟨3, ![2, 4096, 4096]⟩
abbrev S2x4096x9896 : Shape := ⟨3, ![2, 4096, 9896]⟩
abbrev S1x4096x9896 : Shape := ⟨3, ![1, 4096, 9896]⟩
abbrev S4096x9896 : Shape := ⟨2, ![4096, 9896]⟩
abbrev S2x4096x1024 : Shape := ⟨3, ![2, 4096, 1024]⟩
abbrev S2x4096x2048 : Shape := ⟨3, ![2, 4096, 2048]⟩
abbrev S2x4096x64 : Shape := ⟨3, ![2, 4096, 64]⟩
abbrev S2x4096x32 : Shape := ⟨3, ![2, 4096, 32]⟩
abbrev S2x4096x512 : Shape := ⟨3, ![2, 4096, 512]⟩
abbrev S2x4096x8 : Shape := ⟨3, ![2, 4096, 8]⟩
abbrev S8192x4096 : Shape := ⟨2, ![8192, 4096]⟩

abbrev nBuf : Space → Nat
  | .hbm => 21
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x9896, .f32⟩
  | .hbm, ⟨2, _⟩ => ⟨S1x4096x9896, .f32⟩
  | .hbm, ⟨3, _⟩ => ⟨S4096x9896, .f32⟩
  | .hbm, ⟨4, _⟩ => ⟨S2x4096x9896, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S2x4096x2048, .f32⟩
  | .hbm, ⟨9, _⟩ => ⟨S2x4096x64, .f32⟩
  | .hbm, ⟨10, _⟩ => ⟨S2x4096x32, .f32⟩
  | .hbm, ⟨11, _⟩ => ⟨S2x4096x1024, .f32⟩
  | .hbm, ⟨12, _⟩ => ⟨S2x4096x512, .f32⟩
  | .hbm, ⟨13, _⟩ => ⟨S2x4096x64, .f32⟩
  | .hbm, ⟨14, _⟩ => ⟨S2x4096x1024, .f32⟩
  | .hbm, ⟨15, _⟩ => ⟨S2x4096x1024, .f32⟩
  | .hbm, ⟨16, _⟩ => ⟨S2x4096x1024, .f32⟩
  | .hbm, ⟨17, _⟩ => ⟨S2x4096x8, .f32⟩
  | .hbm, ⟨18, _⟩ => ⟨S2x4096x4096, .f32⟩
  | .hbm, ⟨19, _⟩ => ⟨S8192x4096, .f32⟩
  | .hbm, ⟨20, _⟩ => ⟨S8192x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩

abbrev nD : Nat := 1
abbrev τ : Topo := Topo.v7x

variable {F : FTy → Type} [FloatOps F]
-- ==== Kernel7.lean ====
abbrev S2x4096x4096 : Shape := ⟨3, ![2, 4096, 4096]⟩
abbrev S2x4096x9896 : Shape := ⟨3, ![2, 4096, 9896]⟩
abbrev S2x1024 : Shape := ⟨2, ![2, 1024]⟩
abbrev S8192x4096 : Shape := ⟨2, ![8192, 4096]⟩
abbrev S2x4096x1024 : Shape := ⟨3, ![2, 4096, 1024]⟩
abbrev S2x4096x2048 : Shape := ⟨3, ![2, 4096, 2048]⟩
abbrev S2x4096x512 : Shape := ⟨3, ![2, 4096, 512]⟩
abbrev S2x4096x64 : Shape := ⟨3, ![2, 4096, 64]⟩
abbrev S2x4096x32 : Shape := ⟨3, ![2, 4096, 32]⟩
abbrev S2x4096x8 : Shape := ⟨3, ![2, 4096, 8]⟩
abbrev S_ : Shape := ⟨0, ![]⟩
abbrev S2x4096x216 : Shape := ⟨3, ![2, 4096, 216]⟩
abbrev S2x4096x10240 : Shape := ⟨3, ![2, 4096, 10240]⟩
abbrev S1x1024 : Shape := ⟨2, ![1, 1024]⟩
abbrev S1024 : Shape := ⟨1, ![1024]⟩
abbrev S8192x1024 : Shape := ⟨2, ![8192, 1024]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩
abbrev S1024x1 : Shape := ⟨2, ![1024, 1]⟩

abbrev nBuf : Space → Nat
  | .hbm => 28
  | .vmem => 6
  | .smem => 0
  | _ => 0

abbrev bufTy : (tb : Table) → Fin (tcTables nBuf tb) → BufTy
  | .hbm, ⟨0, _⟩ => ⟨S2x4096x4096, .f32⟩
  | .hbm, ⟨1, _⟩ => ⟨S2x4096x9896, .f32⟩
  | .hbm, ⟨2, _⟩ => ⟨S2x1024, .f32⟩
  | .hbm, ⟨3, _⟩ => ⟨S8192x4096, .f32⟩
  | .hbm, ⟨4, _⟩ => ⟨S8192x4096, .bf16⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S2x4096x1024, .f32⟩
  | .hbm, ⟨11, _⟩ => ⟨S2x4096x2048, .f32⟩
  | .hbm, ⟨12, _⟩ => ⟨S2x4096x1024, .f32⟩
  | .hbm, ⟨13, _⟩ => ⟨S2x4096x512, .f32⟩
  | .hbm, ⟨14, _⟩ => ⟨S2x4096x64, .f32⟩
  | .hbm, ⟨15, _⟩ => ⟨S2x4096x64, .f32⟩
  | .hbm, ⟨16, _⟩ => ⟨S2x4096x64, .f32⟩
  | .hbm, ⟨17, _⟩ => ⟨S2x4096x64, .f32⟩
  | .hbm, ⟨18, _⟩ => ⟨S2x4096x32, .f32⟩
  | .hbm, ⟨19, _⟩ => ⟨S2x4096x8, .f32⟩
  | .hbm, ⟨20, _⟩ => ⟨S_, .f32⟩
  | .hbm, ⟨21, _⟩ => ⟨S2x4096x216, .f32⟩
  | .hbm, ⟨22, _⟩ => ⟨S2x4096x10240, .f32⟩
  | .hbm, ⟨23, _⟩ => ⟨S2x4096x10240, .bf16⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S8192x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg1 c8_i32
  let c1_i32 : BitVec 32 := 1#32
  let c0_i32 : BitVec 32 := 0#32
  ![c1_i32.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S2x4096x4096 : Shape := ⟨3, ![2, 4096, 4096]⟩
abbrev S2x4096x9896 : Shape := ⟨3, ![2, 4096, 9896]⟩
abbrev S2x1024 : Shape := ⟨2, ![2, 1024]⟩
abbrev S1x4096x9896 : Shape := ⟨3, ![1, 4096, 9896]⟩
abbrev S4096x9896 : Shape := ⟨2, ![4096, 9896]⟩
abbrev S2x4096x1024 : Shape := ⟨3, ![2, 4096, 1024]⟩
abbrev S2x4096x2048 : Shape := ⟨3, ![2, 4096, 2048]⟩
abbrev S2x4096x64 : Shape := ⟨3, ![2, 4096, 64]⟩
abbrev S2x4096x32 : Shape := ⟨3, ![2, 4096, 32]⟩
abbrev S2x4096x512 : Shape := ⟨3, ![2, 4096, 512]⟩
abbrev S2x4096x8 : Shape := ⟨3, ![2, 4096, 8]⟩
abbrev S1x1024 : Shape := ⟨2, ![1, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x9896, .f32⟩
  | .hbm, ⟨2, _⟩ => ⟨S2x1024, .f32⟩
  | .hbm, ⟨3, _⟩ => ⟨S1x4096x9896, .f32⟩
  | .hbm, ⟨4, _⟩ => ⟨S4096x9896, .f32⟩
  | .hbm, ⟨5, _⟩ => ⟨S2x4096x9896, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S2x4096x2048, .f32⟩
  | .hbm, ⟨10, _⟩ => ⟨S2x4096x64, .f32⟩
  | .hbm, ⟨11, _⟩ => ⟨S2x4096x32, .f32⟩
  | .hbm, ⟨12, _⟩ => ⟨S2x4096x1024, .f32⟩
  | .hbm, ⟨13, _⟩ => ⟨S2x4096x512, .f32⟩
  | .hbm, ⟨14, _⟩ => ⟨S2x4096x64, .f32⟩
  | .hbm, ⟨15, _⟩ => ⟨S2x4096x1024, .f32⟩
  | .hbm, ⟨16, _⟩ => ⟨S2x4096x1024, .f32⟩
  | .hbm, ⟨17, _⟩ => ⟨S2x4096x1024, .f32⟩
  | .hbm, ⟨18, _⟩ => ⟨S2x4096x8, .f32⟩
  | .hbm, ⟨19, _⟩ => ⟨S1x1024, .f32⟩
  | .hbm, ⟨20, _⟩ => ⟨S1024, .f32⟩
  | .hbm, ⟨21, _⟩ => ⟨S2x4096x1024, .f32⟩
  | .hbm, ⟨22, _⟩ => ⟨S_, .f32⟩
  | .hbm, ⟨23, _⟩ => ⟨S2x4096, .f32⟩
  | .hbm, ⟨24, _⟩ => ⟨S2x4096x1, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S_, .f32⟩
  | .hbm, ⟨29, _⟩ => ⟨S2x4096x1, .f32⟩
  | .hbm, ⟨30, _⟩ => ⟨S2x4096x1, .f32⟩
  | .hbm, ⟨31, _⟩ => ⟨S2x4096x1, .f32⟩
  | .hbm, ⟨32, _⟩ => ⟨S2x4096x1024, .f32⟩
  | .hbm, ⟨33, _⟩ => ⟨S2x4096x1024, .f32⟩
  | .hbm, ⟨34, _⟩ => ⟨S1x1x1024, .f32⟩
  | .hbm, ⟨35, _⟩ => ⟨S2x4096x1024, .f32⟩
  | .hbm, ⟨36, _⟩ => ⟨S2x4096x1024, .f32⟩
  | .hbm, ⟨37, _⟩ => ⟨S8192x1024, .f32⟩
  | .hbm, ⟨38, _⟩ => ⟨S8192x1024, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== Kernel8.lean ====
abbrev S2x4096x4096 : Shape := ⟨3, ![2, 4096, 4096]⟩
abbrev S2x4096x9896 : Shape := ⟨3, ![2, 4096, 9896]⟩
abbrev S2x512 : Shape := ⟨2, ![2, 512]⟩
abbrev S8192x4096 : Shape := ⟨2, ![8192, 4096]⟩
abbrev S2x4096x1024 : Shape := ⟨3, ![2, 4096, 1024]⟩
abbrev S2x4096x2048 : Shape := ⟨3, ![2, 4096, 2048]⟩
abbrev S2x4096x512 : Shape := ⟨3, ![2, 4096, 512]⟩
abbrev S2x4096x64 : Shape := ⟨3, ![2, 4096, 64]⟩
abbrev S2x4096x32 : Shape := ⟨3, ![2, 4096, 32]⟩
abbrev S2x4096x8 : Shape := ⟨3, ![2, 4096, 8]⟩
abbrev S_ : Shape := ⟨0, ![]⟩
abbrev S2x4096x216 : Shape := ⟨3, ![2, 4096, 216]⟩
abbrev S2x4096x10240 : Shape := ⟨3, ![2, 4096, 10240]⟩
abbrev S1x512 : Shape := ⟨2, ![1, 512]⟩
abbrev S512 : Shape := ⟨1, ![512]⟩
abbrev S8192x512 : Shape := ⟨2, ![8192, 512]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩
abbrev S1024 : Shape := ⟨1, ![1024]⟩
abbrev S1024x1 : Shape := ⟨2, ![1024, 1]⟩

abbrev nBuf : Space → Nat
  | .hbm => 28
  | .vmem => 6
  | .smem => 0
  | _ => 0

abbrev bufTy : (tb : Table) → Fin (tcTables nBuf tb) → BufTy
  | .hbm, ⟨0, _⟩ => ⟨S2x4096x4096, .f32⟩
  | .hbm, ⟨1, _⟩ => ⟨S2x4096x9896, .f32⟩
  | .hbm, ⟨2, _⟩ => ⟨S2x512, .f32⟩
  | .hbm, ⟨3, _⟩ => ⟨S8192x4096, .f32⟩
  | .hbm, ⟨4, _⟩ => ⟨S8192x4096, .bf16⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S2x4096x1024, .f32⟩
  | .hbm, ⟨11, _⟩ => ⟨S2x4096x2048, .f32⟩
  | .hbm, ⟨12, _⟩ => ⟨S2x4096x1024, .f32⟩
  | .hbm, ⟨13, _⟩ => ⟨S2x4096x512, .f32⟩
  | .hbm, ⟨14, _⟩ => ⟨S2x4096x64, .f32⟩
  | .hbm, ⟨15, _⟩ => ⟨S2x4096x64, .f32⟩
  | .hbm, ⟨16, _⟩ => ⟨S2x4096x64, .f32⟩
  | .hbm, ⟨17, _⟩ => ⟨S2x4096x64, .f32⟩
  | .hbm, ⟨18, _⟩ => ⟨S2x4096x32, .f32⟩
  | .hbm, ⟨19, _⟩ => ⟨S2x4096x8, .f32⟩
  | .hbm, ⟨20, _⟩ => ⟨S_, .f32⟩
  | .hbm, ⟨21, _⟩ => ⟨S2x4096x216, .f32⟩
  | .hbm, ⟨22, _⟩ => ⟨S2x4096x10240, .f32⟩
  | .hbm, ⟨23, _⟩ => ⟨S2x4096x10240, .bf16⟩
  | .hbm, ⟨24, _⟩ => ⟨S1x512, .f32⟩
  | .hbm, ⟨25, _⟩ => ⟨S512, .f32⟩
  | .hbm, ⟨26, _⟩ => ⟨S1x512, .f32⟩
  | .hbm, ⟨27, _⟩ => ⟨S8192x512, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi arg1 c18_i32
  let c1_i32 : BitVec 32 := 1#32
  let c0_i32 : BitVec 32 := 0#32
  ![c1_i32.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S2x4096x4096 : Shape := ⟨3, ![2, 4096, 4096]⟩
abbrev S2x4096x9896 : Shape := ⟨3, ![2, 4096, 9896]⟩
abbrev S2x512 : Shape := ⟨2, ![2, 512]⟩
abbrev S1x4096x9896 : Shape := ⟨3, ![1, 4096, 9896]⟩
abbrev S4096x9896 : Shape := ⟨2, ![4096, 9896]⟩
abbrev S2x4096x1024 : Shape := ⟨3, ![2, 4096, 1024]⟩
abbrev S2x4096x2048 : Shape := ⟨3, ![2, 4096, 2048]⟩
abbrev S2x4096x64 : Shape := ⟨3, ![2, 4096, 64]⟩
abbrev S2x4096x32 : Shape := ⟨3, ![2, 4096, 32]⟩
abbrev S2x4096x512 : Shape := ⟨3, ![2, 4096, 512]⟩
abbrev S2x4096x8 : Shape := ⟨3, ![2, 4096, 8]⟩
abbrev S1x512 : Shape := ⟨2, ![1, 512]⟩
abbrev S512 : Shape := ⟨1, ![512]⟩
abbrev S_ : Shape := ⟨0, ![]⟩
abbrev S2x4096 : Shape := ⟨2, ![2, 4096]⟩
abbrev S2x4096x1 : Shape := ⟨3, ![2, 4096, 1]⟩
abbrev S1x1x512 : Shape := ⟨3, ![1, 1, 512]⟩
abbrev S8192x512 : Shape := ⟨2, ![8192, 512]⟩

abbrev nBuf : Space → Nat
  | .hbm => 39
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x9896, .f32⟩
  | .hbm, ⟨2, _⟩ => ⟨S2x512, .f32⟩
  | .hbm, ⟨3, _⟩ => ⟨S1x4096x9896, .f32⟩
  | .hbm, ⟨4, _⟩ => ⟨S4096x9896, .f32⟩
  | .hbm, ⟨5, _⟩ => ⟨S2x4096x9896, .f32⟩
  | .hbm, ⟨6, _⟩ => ⟨S2x4096x1024, .f32⟩
  | .hbm, ⟨7, _⟩ => ⟨S2x4096x1024, .f32⟩
  | .hbm, ⟨8, _⟩ => ⟨S2x4096x1024, .f32⟩
  | .hbm, ⟨9, _⟩ => ⟨S2x4096x2048, .f32⟩
  | .hbm, ⟨10, _⟩ => ⟨S2x4096x64, .f32⟩
  | .hbm, ⟨11, _⟩ => ⟨S2x4096x32, .f32⟩
  | .hbm, ⟨12, _⟩ => ⟨S2x4096x1024, .f32⟩
  | .hbm, ⟨13, _⟩ => ⟨S2x4096x512, .f32⟩
  | .hbm, ⟨14, _⟩ => ⟨S2x4096x64, .f32⟩
  | .hbm, ⟨15, _⟩ => ⟨S2x4096x1024, .f32⟩
  | .hbm, ⟨16, _⟩ => ⟨S2x4096x1024, .f32⟩
  | .hbm, ⟨17, _⟩ => ⟨S2x4096x1024, .f32⟩
  | .hbm, ⟨18, _⟩ => ⟨S2x4096x8, .f32⟩
  | .hbm, ⟨19, _⟩ => ⟨S1x512, .f32⟩
  | .hbm, ⟨20, _⟩ => ⟨S512, .f32⟩
  | .hbm, ⟨21, _⟩ => ⟨S2x4096x512, .f32⟩
  | .hbm, ⟨22, _⟩ => ⟨S_, .f32⟩
  | .hbm, ⟨23, _⟩ => ⟨S2x4096, .f32⟩
  | .hbm, ⟨24, _⟩ => ⟨S2x4096x1, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S_, .f32⟩
  | .hbm, ⟨29, _⟩ => ⟨S2x4096x1, .f32⟩
  | .hbm, ⟨30, _⟩ => ⟨S2x4096x1, .f32⟩
  | .hbm, ⟨31, _⟩ => ⟨S2x4096x1, .f32⟩
  | .hbm, ⟨32, _⟩ => ⟨S2x4096x512, .f32⟩
  | .hbm, ⟨33, _⟩ => ⟨S2x4096x512, .f32⟩
  | .hbm, ⟨34, _⟩ => ⟨S1x1x512, .f32⟩
  | .hbm, ⟨35, _⟩ => ⟨S2x4096x512, .f32⟩
  | .hbm, ⟨36, _⟩ => ⟨S2x4096x512, .f32⟩
  | .hbm, ⟨37, _⟩ => ⟨S8192x512, .f32⟩
  | .hbm, ⟨38, _⟩ => ⟨S8192x512, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== Kernel9.lean ====
abbrev S2x4096x512 : Shape := ⟨3, ![2, 4096, 512]⟩
abbrev S2x512x4096 : Shape := ⟨3, ![2, 512, 4096]⟩
abbrev S2x512x16x256 : Shape := ⟨4, ![2, 512, 16, 256]⟩
abbrev S2x512x16x128 : Shape := ⟨4, ![2, 512, 16, 128]⟩
abbrev S2x512x2048 : Shape := ⟨3, ![2, 512, 2048]⟩
abbrev S8192x512 : Shape := ⟨2, ![8192, 512]⟩
abbrev S8192x4096 : Shape := ⟨2, ![8192, 4096]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 12
  | .vmem => 6
  | .smem => 0
  | _ => 0

abbrev bufTy : (tb : Table) → Fin (tcTables nBuf tb) → BufTy
  | .hbm, ⟨0, _⟩ => ⟨S2x4096x512, .f32⟩
  | .hbm, ⟨1, _⟩ => ⟨S2x512x4096, .f32⟩
  | .hbm, ⟨2, _⟩ => ⟨S2x512x16x256, .f32⟩
  | .hbm, ⟨3, _⟩ => ⟨S2x512x16x128, .f32⟩
  | .hbm, ⟨4, _⟩ => ⟨S2x512x2048, .f32⟩
  | .hbm, ⟨5, _⟩ => ⟨S2x512x16x128, .f32⟩
  | .hbm, ⟨6, _⟩ => ⟨S2x512x2048, .f32⟩
  | .hbm, ⟨7, _⟩ => ⟨S2x512x4096, .f32⟩
  | .hbm, ⟨8, _⟩ => ⟨S2x512x4096, .bf16⟩
  | .hbm, ⟨9, _⟩ => ⟨S8192x512, .f32⟩
  | .hbm, ⟨10, _⟩ => ⟨S8192x512, .bf16⟩
  | .hbm, ⟨11, _⟩ => ⟨S8192x4096, .bf16⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1024x1024, .bf16⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let c0_i32_0 : BitVec 32 := 0#32
  ![c1_i32.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2x4096x512 : Shape := ⟨3, ![2, 4096, 512]⟩
abbrev S2x512x4096 : Shape := ⟨3, ![2, 512, 4096]⟩
abbrev S1x512x4096 : Shape := ⟨3, ![1, 512, 4096]⟩
abbrev S512x4096 : Shape := ⟨2, ![512, 4096]⟩
abbrev S2x4096x4096 : Shape := ⟨3, ![2, 4096, 4096]⟩
abbrev S8192x16x256 : Shape := ⟨3, ![8192, 16, 256]⟩
abbrev S8192x16x128 : Shape := ⟨3, ![8192, 16, 128]⟩
abbrev S8192x2048 : Shape := ⟨2, ![8192, 2048]⟩
abbrev S8192x4096 : Shape := ⟨2, ![8192, 4096]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S2x512x4096, .f32⟩
  | .hbm, ⟨2, _⟩ => ⟨S1x512x4096, .f32⟩
  | .hbm, ⟨3, _⟩ => ⟨S512x4096, .f32⟩
  | .hbm, ⟨4, _⟩ => ⟨S2x4096x4096, .f32⟩
  | .hbm, ⟨5, _⟩ => ⟨S8192x16x256, .f32⟩
  | .hbm, ⟨6, _⟩ => ⟨S8192x16x128, .f32⟩
  | .hbm, ⟨7, _⟩ => ⟨S8192x2048, .f32⟩
  | .hbm, ⟨8, _⟩ => ⟨S8192x16x128, .f32⟩
  | .hbm, ⟨9, _⟩ => ⟨S8192x2048, .f32⟩
  | .hbm, ⟨10, _⟩ => ⟨S8192x4096, .f32⟩
  | .hbm, ⟨11, _⟩ => ⟨S8192x4096, .bf16⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel10.lean ====
abbrev S2x4096x9896 : Shape := ⟨3, ![2, 4096, 9896]⟩
abbrev S2x9896x4096 : Shape := ⟨3, ![2, 9896, 4096]⟩
abbrev S2x4096x10240 : Shape := ⟨3, ![2, 4096, 10240]⟩
abbrev S1x9896x256 : Shape := ⟨3, ![1, 9896, 256]⟩
abbrev S1x256x10240 : Shape := ⟨3, ![1, 256, 10240]⟩
abbrev S1x128x256 : Shape := ⟨3, ![1, 128, 256]⟩
abbrev S128x256 : Shape := ⟨2, ![128, 256]⟩
abbrev S256x128 : Shape := ⟨2, ![256, 128]⟩
abbrev S1x256x128 : Shape := ⟨3, ![1, 256, 128]⟩
abbrev S1x64x256 : Shape := ⟨3, ![1, 64, 256]⟩
abbrev S64x256 : Shape := ⟨2, ![64, 256]⟩
abbrev S1x32x256 : Shape := ⟨3, ![1, 32, 256]⟩
abbrev S32x256 : Shape := ⟨2, ![32, 256]⟩
abbrev S1x8x256 : Shape := ⟨3, ![1, 8, 256]⟩
abbrev S8x256 : Shape := ⟨2, ![8, 256]⟩
abbrev S216x256 : Shape := ⟨2, ![216, 256]⟩
abbrev S512x256 : Shape := ⟨2, ![512, 256]⟩

abbrev nBuf : Space → Nat
  | .hbm => 3
  | .vmem => 4
  | .smem => 0
  | _ => 0

abbrev bufTy : (tb : Table) → Fin (tcTables nBuf tb) → BufTy
  | .hbm, ⟨0, _⟩ => ⟨S2x4096x9896, .f32⟩
  | .hbm, ⟨1, _⟩ => ⟨S2x9896x4096, .f32⟩
  | .hbm, ⟨2, _⟩ => ⟨S2x4096x10240, .bf16⟩
  | .local _ .vmem, ⟨0, _⟩ => ⟨S1x9896x256, .f32⟩
  | .local _ .vmem, ⟨1, _⟩ => ⟨S1x9896x256, .f32⟩
  | .local _ .vmem, ⟨2, _⟩ => ⟨S1x256x10240, .bf16⟩
  | .local _ .vmem, ⟨3, _⟩ => ⟨S1x256x10240, .bf16⟩
  | _, _ => ⟨S2x4096x9896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x9896x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x10240 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference10Ideal.lean ====
abbrev S2x4096x9896 : Shape := ⟨3, ![2, 4096, 9896]⟩
abbrev S2x4096x1024 : Shape := ⟨3, ![2, 4096, 1024]⟩
abbrev S2x4096x2048 : Shape := ⟨3, ![2, 4096, 2048]⟩
abbrev S2x4096x64 : Shape := ⟨3, ![2, 4096, 64]⟩
abbrev S2x4096x32 : Shape := ⟨3, ![2, 4096, 32]⟩
abbrev S2x4096x512 : Shape := ⟨3, ![2, 4096, 512]⟩
abbrev S2x4096x8 : Shape := ⟨3, ![2, 4096, 8]⟩
abbrev S_ : Shape := ⟨0, ![]⟩
abbrev S2x4096x216 : Shape := ⟨3, ![2, 4096, 216]⟩
abbrev S2x4096x10240 : Shape := ⟨3, ![2, 4096, 10240]⟩

abbrev nBuf : Space → Nat
  | .hbm => 18
  | .vmem => 0
  | .smem => 0
  | _ => 0

abbrev bufTy : (tb : Table) → Fin (tcTables nBuf tb) → BufTy
  | .hbm, ⟨0, _⟩ => ⟨S2x4096x9896, .f32⟩
  | .hbm, ⟨1, _⟩ => ⟨S2x4096x1024, .f32⟩
  | .hbm, ⟨2, _⟩ => ⟨S2x4096x1024, .f32⟩
  | .hbm, ⟨3, _⟩ => ⟨S2x4096x1024, .f32⟩
  | .hbm, ⟨4, _⟩ => ⟨S2x4096x2048, .f32⟩
  | .hbm, ⟨5, _⟩ => ⟨S2x4096x64, .f32⟩
  | .hbm, ⟨6, _⟩ => ⟨S2x4096x32, .f32⟩
  | .hbm, ⟨7, _⟩ => ⟨S2x4096x1024, .f32⟩
  | .hbm, ⟨8, _⟩ => ⟨S2x4096x512, .f32⟩
  | .hbm, ⟨9, _⟩ => ⟨S2x4096x64, .f32⟩
  | .hbm, ⟨10, _⟩ => ⟨S2x4096x1024, .f32⟩
  | .hbm, ⟨11, _⟩ => ⟨S2x4096x1024, .f32⟩
  | .hbm, ⟨12, _⟩ => ⟨S2x4096x1024, .f32⟩
  | .hbm, ⟨13, _⟩ => ⟨S2x4096x8, .f32⟩
  | .hbm, ⟨14, _⟩ => ⟨S_, .f32⟩
  | .hbm, ⟨15, _⟩ => ⟨S2x4096x216, .f32⟩
  | .hbm, ⟨16, _⟩ => ⟨S2x4096x10240, .f32⟩
  | .hbm, ⟨17, _⟩ => ⟨S2x4096x10240, .bf16⟩
  | _, _ => ⟨S2x4096x9896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== Proof.UpProjection.lean ====
/- The up projection of the squared-ReLU MLP: what the kernel's blocks hold, what the whole result array holds after the
   run, and that the reference's single product is the same array over the extended reals. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.Tactic

@[expose] public section

noncomputable section

namespace Cert.Proof.Up

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The squared ReLU of the product of the two operand arrays, one element. -/
def prod (A : S8192x4096.Idx → EReal) (W : S4096x16384.Idx → EReal) (i : S8192x16384.Idx) : EReal :=
  let r := max (∑ k : Fin 4096, A (ix2 (i 0) k) * W (ix2 k (i 1))) 0
  r * r

/-- One block's payload at an index. -/
theorem block_apply (A : Vec Ideal S2048x4096 .bf16) (W : Vec Ideal S4096x512 .bf16) (y : S2048x512.Idx) :
    k0_pay1 A W y
      = (let r := max (∑ k : Fin 4096, (A (ix2 (y 0) k) : EReal) * W (ix2 k (y 1))) 0; r * r) := by
  pointwise [k0_pay1]

theorem idx_facts : ∀ t : Fin cfg0.N, win0_0.index t (0 : Fin 2) = win0_2.index t (0 : Fin 2)
    ∧ win0_0.index t (1 : Fin 2) = 0 ∧ win0_1.index t (0 : Fin 2) = 0
    ∧ win0_1.index t (1 : Fin 2) = win0_2.index t (1 : Fin 2) :=
  (by decide +kernel : ∀ t : Fin grid0.N, _)

theorem idx_onto : ∀ (a : Fin 4) (b : Fin 32), ∃ t : Fin cfg0.N, win0_2.flush t = true
    ∧ win0_2.index t (0 : Fin 2) = a.val ∧ win0_2.index t (1 : Fin 2) = b.val :=
  (by decide +kernel : ∀ (a : Fin 4) (b : Fin 32), ∃ t : Fin grid0.N, win0_2.flush t = true
    ∧ win0_2.index t (0 : Fin 2) = a.val ∧ win0_2.index t (1 : Fin 2) = b.val)

theorem hz : (![0, 0] : Fin 2 → Nat) = fun _ => 0 := funext fun a => by fin_cases a <;> rfl

/-- Row `r` of point `t`'s block of the left operand is the result block's row `r` of the whole operand. -/
theorem emb_a (t : Fin cfg0.N) (y : S2048x512.Idx) (k : Fin 4096) :
    (win0_0.blk t).view.emb (ix2 (y 0) k) = ix2 ((win0_2.blk t).view.emb y 0) k := by
  obtain ⟨e0, e1, _, _⟩ := idx_facts t
  refine funext fun a => Fin.ext ?_
  match a with
  | ⟨0, _⟩ => show win0_0.index t 0 * 2048 + 1 * (y 0).val = win0_2.index t 0 * 2048 + 1 * (y 0).val
              rw [e0]
  | ⟨1, _⟩ => show win0_0.index t 1 * 4096 + 1 * k.val = k.val
              rw [e1]; omega

/-- Column `j` of point `t`'s block of the weight is the result block's column `j` of the whole weight. -/
theorem emb_w (t : Fin cfg0.N) (y : S2048x512.Idx) (k : Fin 4096) :
    (win0_1.blk t).view.emb (ix2 k (y 1)) = ix2 k ((win0_2.blk t).view.emb y 1) := by
  obtain ⟨_, _, e2, e3⟩ := idx_facts t
  refine funext fun a => Fin.ext ?_
  match a with
  | ⟨0, _⟩ => show win0_1.index t 0 * 4096 + 1 * k.val = k.val
              rw [e2]; omega
  | ⟨1, _⟩ => show win0_1.index t 1 * 512 + 1 * (y 1).val = win0_2.index t 1 * 512 + 1 * (y 1).val
              rw [e3]

/-- What a point writes back is its block of the whole product. -/
theorem flushed_eq (c : Dev nD) (t : Fin cfg0.N) :
    (dats (F := Ideal) m 0 c).flushed 2 t
      = ((cfg0.win 2).blk t).view.read (Elt Ideal) (prod (V m c main_v1) (V m c main_v4)) := by
  rw [Value.flushed2]
  funext y
  show out0_2 (iblk m c 0 t) (iblk m c 1 t) y = prod (V m c main_v1) (V m c main_v4) ((win0_2.blk t).view.emb y)
  unfold out0_2
  rw [View.canon_unit_zero hz, View.ld_unit_zero hz, View.ld_unit_zero hz, block_apply]
  have h : ∀ k : Fin 4096,
      (show EReal from iblk m c 0 t (ix2 (y 0) k)) * (show EReal from iblk m c 1 t (ix2 k (y 1)))
      = (show EReal from V m c main_v1 (ix2 ((win0_2.blk t).view.emb y 0) k))
        * (show EReal from V m c main_v4 (ix2 k ((win0_2.blk t).view.emb y 1))) := fun k =>
    congrArg₂ (fun a b : EReal => a * b) (congrArg (V m c main_v1) (emb_a t y k)) (congrArg (V m c main_v4) (emb_w t y k))
  have hs := Finset.sum_congr (rfl : (Finset.univ : Finset (Fin 4096)) = Finset.univ) fun k _ => h k
  exact congrArg (fun s : EReal => max s 0 * max s 0) hs

theorem mem_blk (t : Fin cfg0.N) (i : S8192x16384.Idx) :
    i ∈ ((cfg0.win 2).blk t).view.set ↔ ∀ a : Fin 2, win0_2.index t a * win0_2.size a ≤ (i a : Nat)
      ∧ (i a : Nat) < win0_2.index t a * win0_2.size a + win0_2.xsize (grid0.coords t) a := by
  show i ∈ ((View.whole main_v5).slice (win0_2.rect t)).set ↔ _
  rw [View.set_slice_whole, Rect.mem_set_unit]
  exact Iff.rfl

/-- The blocks written back tile the result. -/
theorem cover (i : S8192x16384.Idx) :
    ∃ t : Fin cfg0.N, (cfg0.win 2).flush t = true ∧ i ∈ ((cfg0.win 2).blk t).view.set := by
  have h0 : (i 0 : Nat) < 8192 := (i 0).isLt
  have h1 : (i 1 : Nat) < 16384 := (i 1).isLt
  obtain ⟨t, hf, e0, e1⟩ := idx_onto ⟨(i 0 : Nat) / 2048, by omega⟩ ⟨(i 1 : Nat) / 512, by omega⟩
  refine ⟨t, hf, ?_⟩
  rw [mem_blk]
  intro a
  match a with
  | ⟨0, _⟩ => show win0_2.index t 0 * 2048 ≤ (i 0 : Nat) ∧ (i 0 : Nat) < win0_2.index t 0 * 2048 + 2048
              rw [e0]; dsimp only; omega
  | ⟨1, _⟩ => show win0_2.index t 1 * 512 ≤ (i 1 : Nat) ∧ (i 1 : Nat) < win0_2.index t 1 * 512 + 512
              rw [e1]; dsimp only; omega

/-- So the result array ends holding the whole product. -/
theorem final (c : Dev nD) : (dats (F := Ideal) m 0 c).arrAt 2 cfg0.N = prod (V m c main_v1) (V m c main_v4) :=
  (dats m 0 c).arrAt_eq_of_cover 2 (prod (V m c main_v1) (V m c main_v4)) (fun t _ => flushed_eq m c t) cover

/-- The left operand as the launch finds it: the rows of the argument, flattened. -/
theorem V_a (c : Dev nD) : (V (F := Ideal) m c main_v1 : S8192x4096.Idx → EReal)
    = Cert.Reference2Ideal.Read.val_main_v0 (F := Ideal) (m ((c : Thread nD τ).loc main_arg0)) := by
  dsimp only [V, hostOps0]; after_results <;> rfl

/-- The weight as the launch finds it: the second layer's slice. -/
theorem V_w (c : Dev nD) : (V (F := Ideal) m c main_v4 : S4096x16384.Idx → EReal)
    = Cert.Reference2Ideal.Read.val_main_v2 (F := Ideal) (m ((c : Thread nD τ).loc main_arg1)) := by
  dsimp only [V, hostOps0]; after_results <;> rfl

open Cert.Reference2Ideal.Read in
/-- The reference's result is the same product of the same operands. -/
theorem ref_eq (x0 : (⟨Cert.Reference2Ideal.S2x4096x4096, .f32⟩ : BufTy).Contents (Elt Ideal))
    (x1 : (⟨Cert.Reference2Ideal.S2x4096x16384, .f32⟩ : BufTy).Contents (Elt Ideal)) :
    val_main_v6 x0 x1 = prod (val_main_v0 x0) (val_main_v2 x1) := by
  funext i
  pointwise! [val_main_v6, val_main_v5, val_main_v4, val_main_v3, val_main_call0_v0, val_main_call0_cst, prod]

/-- Over the extended reals the kernel and the reference give one array, and both leave their arguments alone. -/
theorem algebraic : Cert.algebraic_Kernel2Ideal_Reference2Ideal := fun m g m' g' _ agree =>
  ⟨fun c => prod (V m c main_v1) (V m c main_v4),
    (θ_run Cert.Kernel2Ideal.defs _ _).mono (fun _ h c => ⟨(h c).1.trans (final m c), (h c).2⟩) (Value.run_blocks m g),
    (θ_run Cert.Reference2Ideal.defs _ _).mono (fun _ h c => ⟨by
        have e0 := (agree c).1
        have e1 := (agree c).2
        refine (h c).1.trans ((Cert.Reference2Ideal.Read.val_main_v6_eq (F := Ideal) _ _).trans ((ref_eq _ _).trans ?_))
        show _ = prod (V m c main_v1) (V m c main_v4)
        rw [V_a, V_w]
        exact congrArg₂ (fun a b => prod (Cert.Reference2Ideal.Read.val_main_v0 (F := Ideal) a) (Cert.Reference2Ideal.Read.val_main_v2 (F := Ideal) b)) e0 e1,
      (h c).2⟩) (Cert.Reference2Ideal.Value.run m' g')⟩

end Cert.Proof.Up

end
-- ==== Proof.DownProjection.lean ====
/- The down projection with its gated residual: the accumulator the kernel carries over the blocks of the contracted axis,
   what the whole result array holds after the run, and that the reference's lines give the same array over the extended
   reals. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Tactic

@[expose] public section

set_option maxRecDepth 16384

noncomputable section

namespace Cert.Proof.Down

open Cert.Kernel3Ideal Cert.Kernel3Ideal.Gen Idealize.ShloMosaic Idealize.ShloMosaic.TcCoe Idealize.SL.Sem
open Idealize.ShloMosaic.Pipeline (Dat)

section Terms

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- The first point of a run leaves the product of its blocks, added to zeros. -/
theorem sout_A (c : Dev nD) (i : grid0.Coords) (a3 : Memref sig .tc .vmem S1024x2048 .bf16) (h3 : a3.IsWhole)
    (a4 : Memref sig .tc .vmem S2048x1024 .bf16) (h4 : a4.IsWhole) (a5 : Memref sig .tc .vmem S1024x1024 .f32) (h5 : a5.IsWhole)
    (a6 : Memref sig .tc .vmem S1x1x1024 .f32) (h6 : a6.IsWhole) (a7 : Memref sig .tc .vmem S1024x1024 .f32) (h7 : a7.IsWhole)
    (a8 : Memref sig .tc .vmem S1024x1024 .f32) (h8 : a8.IsWhole) (hc0 : cond0_0 i) (hc1 : ¬cond0_1 i)
    (x0 : Vec F S1024x2048 .bf16) (x1 : Vec F S2048x1024 .bf16) (x2 : Vec F S1024x1024 .f32) (x3 : Vec F S1x1x1024 .f32) :
    sout0_A_0 c i a3 h3 a4 h4 a5 h5 a6 h6 a7 h7 a8 h8 hc0 hc1 x0 x1 x2 x3 = k0_pay2 (k0_pay1 (F := F)) x0 x1 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x2048) hz, View.ld_unit_zero (S := S2048x1024) hz]

/-- A later point adds the product of its blocks to what the point before left. -/
theorem sout_B (c : Dev nD) (i : grid0.Coords) (a3 : Memref sig .tc .vmem S1024x2048 .bf16) (h3 : a3.IsWhole)
    (a4 : Memref sig .tc .vmem S2048x1024 .bf16) (h4 : a4.IsWhole) (a5 : Memref sig .tc .vmem S1024x1024 .f32) (h5 : a5.IsWhole)
    (a6 : Memref sig .tc .vmem S1x1x1024 .f32) (h6 : a6.IsWhole) (a7 : Memref sig .tc .vmem S1024x1024 .f32) (h7 : a7.IsWhole)
    (a8 : Memref sig .tc .vmem S1024x1024 .f32) (h8 : a8.IsWhole) (hc0 : ¬cond0_0 i) (hc1 : ¬cond0_1 i)
    (x0 : Vec F S1024x2048 .bf16) (x1 : Vec F S2048x1024 .bf16) (x2 : Vec F S1024x1024 .f32) (x3 : Vec F S1x1x1024 .f32) (xs : Vec F S1024x1024 .f32) :
    sout0_B_0 c i a3 h3 a4 h4 a5 h5 a6 h6 a7 h7 a8 h8 hc0 hc1 x0 x1 x2 x3 xs = k0_pay2 xs x0 x1 := by
  unfold sout0_B_0
  rw [View.read_writes_eq_canon _ _ _ (scover0_B_0 c i a3 h3 a4 h4 a5 h5 a6 h6 a7 h7 a8 h8 hc0 hc1 x0 x1 x2 x3 xs)]
  unfold kernelRun0_B
  dsimp only
  sl_unfold_words
  rw [View.canon_unit_zero hz]
  simp only [View.readAt_eq_ld, h3.read_unread, h4.read_unread, h8.read_unread, View.ld_unit_zero (S := S1024x2048) hz,
    View.ld_unit_zero (S := S2048x1024) hz, View.ld_unit_zero (S := S1024x1024) hz]

/-- The last point of a run writes the gated residual of the finished sum. -/
theorem out_C (c : Dev nD) (i : grid0.Coords) (a3 : Memref sig .tc .vmem S1024x2048 .bf16) (h3 : a3.IsWhole)
    (a4 : Memref sig .tc .vmem S2048x1024 .bf16) (h4 : a4.IsWhole) (a5 : Memref sig .tc .vmem S1024x1024 .f32) (h5 : a5.IsWhole)
    (a6 : Memref sig .tc .vmem S1x1x1024 .f32) (h6 : a6.IsWhole) (a7 : Memref sig .tc .vmem S1024x1024 .f32) (h7 : a7.IsWhole)
    (a8 : Memref sig .tc .vmem S1024x1024 .f32) (h8 : a8.IsWhole) (hc0 : ¬cond0_0 i) (hc1 : cond0_1 i)
    (x0 : Vec F S1024x2048 .bf16) (x1 : Vec F S2048x1024 .bf16) (x2 : Vec F S1024x1024 .f32) (x3 : Vec F S1x1x1024 .f32) (xs : Vec F S1024x1024 .f32) :
    out0_C_4 c i a3 h3 a4 h4 a5 h5 a6 h6 a7 h7 a8 h8 hc0 hc1 x0 x1 x2 x3 xs = k0_pay3 (k0_pay2 xs x0 x1) x2 x3 := by
  unfold out0_C_4
  rw [View.read_writes_eq_canon _ _ _ (cover0_C_4 c i a3 h3 a4 h4 a5 h5 a6 h6 a7 h7 a8 h8 hc0 hc1 x0 x1 x2 x3 xs)]
  unfold kernelRun0_C
  dsimp only
  sl_unfold_words
  rw [View.canon_unit_zero hz, View.readCov_unit_zero (S := S1024x1024) _ hz]
  simp only [View.readAt_eq_ld, h3.read_unread, h4.read_unread, h5.read_unread, h6.read_unread, h8.read_unread,
    View.ld_unit_zero (S := S1024x2048) hz, View.ld_unit_zero (S := S2048x1024) hz, View.ld_unit_zero (S := S1024x1024) hz,
    View.ld_unit_zero (S := S1x1x1024) hz3]

end Terms

variable (m : (ℓ : Loc nD τ sig) → Buf (Elt Ideal) ℓ)

theorem pay1_apply (y : S1024x1024.Idx) : (k0_pay1 (F := Ideal)) y = (0 : EReal) := by
  pointwise! [k0_pay1]

theorem pay2_apply (xs : Vec Ideal S1024x1024 .f32) (A : Vec Ideal S1024x2048 .bf16) (W : Vec Ideal S2048x1024 .bf16) (y : S1024x1024.Idx) :
    k0_pay2 xs A W y = (xs y : EReal) + ∑ k : Fin 2048, (A (ix2 (y 0) k) : EReal) * W (ix2 k (y 1)) := by
  pointwise! [k0_pay2]

theorem pay3_apply (s X : Vec Ideal S1024x1024 .f32) (G : Vec Ideal S1x1x1024 .f32) (y : S1024x1024.Idx) :
    k0_pay3 s X G y = (X (ix2 (y 0) (y 1)) : EReal) + G (ix3 0 0 (y 1)) * s y := by
  pointwise! [k0_pay3]

/-- The product of point `n`'s blocks, one element. -/
def part (c : Dev nD) (n : ℕ) (h : n < cfg0.N) (y : S1024x1024.Idx) : EReal :=
  ∑ k : Fin 2048, (show EReal from iblk m c 0 ⟨n, h⟩ (ix2 (y 0) k)) * (show EReal from iblk m c 1 ⟨n, h⟩ (ix2 k (y 1)))

/-- The products of the points of `n`'s run up to the `j`-th. -/
def upTo (c : Dev nD) (y : S1024x1024.Idx) (b : ℕ) : (j : ℕ) → b + j < cfg0.N → EReal
  | 0, h => part m c b h y
  | j + 1, h => upTo c y b j (by omega) + part m c (b + (j + 1)) h y

/-- What the accumulator holds after a point that is not the last of its run. -/
theorem acc_eq (c : Dev nD) (y : S1024x1024.Idx) (q : ℕ) : ∀ (j : ℕ) (hj : j < 7) (h : 8 * q + j < cfg0.N),
    (show EReal from (outsAt0 m c (8 * q + j) h).2 y) = upTo m c y (8 * q) j h
  | 0, _, h => by
    have hA := outsAt0_A m c ⟨8 * q + 0, h⟩ (by dsimp only; omega) (by dsimp only; omega)
    show (show EReal from (outsAt0 m c (8 * q + 0) h).2 y) = _
    dsimp only at hA
    rw [hA]
    dsimp only
    rw [sout_A, pay2_apply, pay1_apply, zero_add]
    rfl
  | j + 1, hj, h => by
    have hB := outsAt0_B m c ⟨8 * q + (j + 1), h⟩ (by dsimp only; omega) (by dsimp only; omega)
    dsimp only at hB
    rw [hB]
    dsimp only
    rw [sout_B, pay2_apply]
    exact congrArg (fun s : EReal => s + part m c (8 * q + (j + 1)) h y) (acc_eq c y q j (by omega) (by omega))

/-- What the last point of a run writes into the result's block. -/
theorem out_eq (c : Dev nD) (y : S1024x1024.Idx) (q : ℕ) (h : 8 * q + 7 < cfg0.N) :
    (show EReal from (outsAt0 m c (8 * q + 7) h).1 y)
      = (show EReal from iblk m c 2 ⟨8 * q + 7, h⟩ (ix2 (y 0) (y 1)))
        + (show EReal from iblk m c 3 ⟨8 * q + 7, h⟩ (ix3 0 0 (y 1))) * upTo m c y (8 * q) 7 h := by
  have hC := outsAt0_C m c ⟨8 * q + 7, h⟩ (by dsimp only; omega) (by dsimp only; omega)
  dsimp only at hC
  rw [hC]
  dsimp only
  rw [out_C, pay3_apply, pay2_apply]
  exact congrArg (fun s : EReal => (show EReal from iblk m c 2 ⟨8 * q + 7, h⟩ (ix2 (y 0) (y 1)))
        + (show EReal from iblk m c 3 ⟨8 * q + 7, h⟩ (ix3 0 0 (y 1))) * (s + part m c (8 * q + 7) h y)) (acc_eq m c y q 6 (by omega) (by omega))

theorem idx_facts : ∀ t : Fin cfg0.N, win0_0.index t (0 : Fin 2) = t.val / 32
    ∧ win0_0.index t (1 : Fin 2) = t.val % 8 ∧ win0_1.index t (0 : Fin 2) = t.val % 8
    ∧ win0_1.index t (1 : Fin 2) = t.val / 8 % 4
    ∧ win0_2.index t (0 : Fin 2) = t.val / 32 ∧ win0_2.index t (1 : Fin 2) = t.val / 8 % 4
    ∧ win0_3.index t (0 : Fin 3) = t.val / 128 ∧ win0_3.index t (1 : Fin 3) = 0
    ∧ win0_3.index t (2 : Fin 3) = t.val / 8 % 4
    ∧ win0_4.index t (0 : Fin 2) = t.val / 32 ∧ win0_4.index t (1 : Fin 2) = t.val / 8 % 4 :=
  (by decide +kernel : ∀ t : Fin grid0.N, _)

/-- The batch a row of the flattened array belongs to. -/
def batchOf (r : Fin 8192) : Fin 2 := ⟨r.val / 4096, by omega⟩

/-- Column `k` of block `j` of the contracted axis. -/
def col (j : Fin 8) (k : Fin 2048) : Fin 16384 := ⟨2048 * j.val + k.val, by omega⟩

/-- The gated residual: the stream plus the gate of the row's batch times the product, one element. -/
def res (A : S8192x16384.Idx → EReal) (W : S16384x4096.Idx → EReal) (X : S8192x4096.Idx → EReal) (G : S2x1x4096.Idx → EReal)
    (i : S8192x4096.Idx) : EReal :=
  X i + G (ix3 (batchOf (i 0)) 0 (i 1)) * ∑ k : Fin 16384, A (ix2 (i 0) k) * W (ix2 k (i 1))

/-- A sum over the contracted axis, by blocks. -/
theorem sum_blocks (f : Fin 16384 → EReal) : ∑ k, f k = ∑ j : Fin 8, ∑ k : Fin 2048, f (col j k) := by
  rw [← Finset.sum_product', Finset.univ_product_univ]
  refine (Fintype.sum_equiv (finProdFinEquiv (m := 8) (n := 2048)) (fun p => f (col p.1 p.2)) f fun p => ?_).symm
  refine congrArg f (Fin.ext ?_)
  show 2048 * p.1.val + p.2.val = p.2.val + 2048 * p.1.val
  omega

theorem emb_a (t : Fin cfg0.N) (y : S1024x1024.Idx) (i : S8192x4096.Idx) (hi : (i 0).val = t.val / 32 * 1024 + (y 0).val) (k : Fin 2048) :
    (win0_0.blk t).view.emb (ix2 (y 0) k) = ix2 (i 0) (col ⟨t.val % 8, Nat.mod_lt _ (by omega)⟩ k) := by
  obtain ⟨e0, e1, _⟩ := idx_facts t
  refine funext fun a => Fin.ext ?_
  match a with
  | ⟨0, _⟩ => show win0_0.index t 0 * 1024 + 1 * (y 0).val = (i 0).val
              rw [e0, hi]; omega
  | ⟨1, _⟩ => show win0_0.index t 1 * 2048 + 1 * k.val = 2048 * (t.val % 8) + k.val
              rw [e1]; omega

theorem emb_w (t : Fin cfg0.N) (y : S1024x1024.Idx) (i : S8192x4096.Idx) (hi : (i 1).val = t.val / 8 % 4 * 1024 + (y 1).val) (k : Fin 2048) :
    (win0_1.blk t).view.emb (ix2 k (y 1)) = ix2 (col ⟨t.val % 8, Nat.mod_lt _ (by omega)⟩ k) (i 1) := by
  obtain ⟨_, _, e2, e3, _⟩ := idx_facts t
  refine funext fun a => Fin.ext ?_
  match a with
  | ⟨0, _⟩ => show win0_1.index t 0 * 2048 + 1 * k.val = 2048 * (t.val % 8) + k.val
              rw [e2]; omega
  | ⟨1, _⟩ => show win0_1.index t 1 * 1024 + 1 * (y 1).val = (i 1).val
              rw [e3, hi]; omega

theorem emb_x (t : Fin cfg0.N) (y : S1024x1024.Idx) :
    (win0_2.blk t).view.emb (ix2 (y 0) (y 1)) = (win0_4.blk t).view.emb y := by
  obtain ⟨_, _, _, _, e4, e5, _, _, _, e9, e10⟩ := idx_facts t
  refine funext fun a => Fin.ext ?_
  match a with
  | ⟨0, _⟩ => show win0_2.index t 0 * 1024 + 1 * (y 0).val = win0_4.index t 0 * 1024 + 1 * (y 0).val
              rw [e4, e9]
  | ⟨1, _⟩ => show win0_2.index t 1 * 1024 + 1 * (y 1).val = win0_4.index t 1 * 1024 + 1 * (y 1).val
              rw [e5, e10]

theorem emb_g (t : Fin cfg0.N) (y : S1024x1024.Idx) :
    (win0_3.blk t).view.emb (ix3 0 0 (y 1)) = ix3 (batchOf ((win0_4.blk t).view.emb y 0)) 0 ((win0_4.blk t).view.emb y 1) := by
  obtain ⟨_, _, _, _, _, _, e6, e7, e8, e9, e10⟩ := idx_facts t
  have hy : (y 0).val < 1024 := (y 0).isLt
  refine funext fun a => Fin.ext ?_
  match a with
  | ⟨0, _⟩ => show win0_3.index t 0 * 1 + 1 * 0 = (win0_4.index t 0 * 1024 + 1 * (y 0).val) / 4096
              rw [e6, e9]; omega
  | ⟨1, _⟩ => show win0_3.index t 1 * 1 + 1 * 0 = 0
              rw [e7]
  | ⟨2, _⟩ => show win0_3.index t 2 * 1024 + 1 * (y 1).val = win0_4.index t 1 * 1024 + 1 * (y 1).val
              rw [e8, e10]

/-- A point's part of the product, in the whole operands. -/
theorem part_eq (c : Dev nD) (n : ℕ) (h : n < cfg0.N) (y : S1024x1024.Idx) (i : S8192x4096.Idx)
    (h0 : (i 0).val = n / 32 * 1024 + (y 0).val) (h1 : (i 1).val = n / 8 % 4 * 1024 + (y 1).val) (j : Fin 8) (hj : n % 8 = j.val) :
    part m c n h y = ∑ k : Fin 2048, (show EReal from V m c main_v1 (ix2 (i 0) (col j k))) * (show EReal from V m c main_v4 (ix2 (col j k) (i 1))) := by
  obtain ⟨j, hjl⟩ := j
  dsimp only at hj
  subst hj
  exact Finset.sum_congr rfl fun k _ =>
    congrArg₂ (fun a b : EReal => a * b) (congrArg (V m c main_v1) (emb_a ⟨n, h⟩ y i h0 k)) (congrArg (V m c main_v4) (emb_w ⟨n, h⟩ y i h1 k))

/-- The parts of a whole run make the product over the whole contracted axis. -/
theorem upTo_eq (c : Dev nD) (q : ℕ) (h : 8 * q + 7 < cfg0.N) (y : S1024x1024.Idx) (i : S8192x4096.Idx)
    (h0 : (i 0).val = q / 4 * 1024 + (y 0).val) (h1 : (i 1).val = q % 4 * 1024 + (y 1).val) :
    upTo m c y (8 * q) 7 h
      = ∑ k : Fin 16384, (show EReal from V m c main_v1 (ix2 (i 0) k)) * (show EReal from V m c main_v4 (ix2 k (i 1))) := by
  rw [sum_blocks, Fin.sum_univ_eight]
  have e : ∀ (j : Fin 8), part m c (8 * q + j.val) (by omega) y
      = ∑ k : Fin 2048, (show EReal from V m c main_v1 (ix2 (i 0) (col j k))) * (show EReal from V m c main_v4 (ix2 (col j k) (i 1))) := fun j =>
    part_eq m c _ _ y i (by rw [h0]; congr 2; omega) (by rw [h1]; congr 2; omega) j (by omega)
  rw [← e 0, ← e 1, ← e 2, ← e 3, ← e 4, ← e 5, ← e 6, ← e 7]
  rfl

/-- What a run's last point writes back is its block of the whole gated residual. -/
theorem flushed_eq (c : Dev nD) (t : Fin cfg0.N) (hf : (cfg0.win 4).flush t = true) :
    (dats (F := Ideal) m 0 c).flushed 4 t
      = ((cfg0.win 4).blk t).view.read (Elt Ideal) (res (V m c main_v1) (V m c main_v4) (V m c main_v5) (V m c main_v6)) := by
  have hm : t.val % 8 = 7 := (flush0_4 t).mp hf
  obtain ⟨q, hq⟩ : ∃ q, t.val = 8 * q + 7 := ⟨t.val / 8, by omega⟩
  obtain ⟨n, hn⟩ := t
  dsimp only at hq
  subst hq
  funext y
  obtain ⟨_, _, _, _, _, _, _, _, _, e9, e10⟩ := idx_facts ⟨8 * q + 7, hn⟩
  have hlhs : (dats (F := Ideal) m 0 c).flushed 4 ⟨8 * q + 7, hn⟩ y = (outsAt0 m c (8 * q + 7) hn).1 y := by
    show (dats (F := Ideal) m 0 c).after 4 ⟨8 * q + 7, hn⟩ _ = _
    rw [after0_4]
  rw [hlhs]
  refine (out_eq m c y q hn).trans ?_
  show _ = res (V m c main_v1) (V m c main_v4) (V m c main_v5) (V m c main_v6) ((win0_4.blk ⟨8 * q + 7, hn⟩).view.emb y)
  refine congrArg₂ (fun a b : EReal => a + b) (congrArg (V m c main_v5) (emb_x ⟨8 * q + 7, hn⟩ y))
    (congrArg₂ (fun a b : EReal => a * b) (congrArg (V m c main_v6) (emb_g ⟨8 * q + 7, hn⟩ y)) ?_)
  refine upTo_eq m c q hn y _ ?_ ?_
  · show win0_4.index ⟨8 * q + 7, hn⟩ 0 * 1024 + 1 * (y 0).val = _
    rw [e9]; dsimp only; omega
  · show win0_4.index ⟨8 * q + 7, hn⟩ 1 * 1024 + 1 * (y 1).val = _
    rw [e10]; dsimp only; omega

/-- So the result array ends holding the whole gated residual. -/
theorem final (c : Dev nD) : (dats (F := Ideal) m 0 c).arrAt 4 cfg0.N
    = res (V m c main_v1) (V m c main_v4) (V m c main_v5) (V m c main_v6) :=
  (dats m 0 c).arrAt_eq_of_cover 4 (res (V m c main_v1) (V m c main_v4) (V m c main_v5) (V m c main_v6))
    (fun t hf => flushed_eq m c t hf) (fun i => (Value.covered_iff4 i).2 (by
      have h0 : (i 0).val < 8192 := (i 0).isLt; have h1 : (i 1).val < 4096 := (i 1).isLt; omega))

/-- The left operand as the launch finds it: the rows of the argument, flattened. -/
theorem V_a (c : Dev nD) : (V (F := Ideal) m c main_v1 : S8192x16384.Idx → EReal)
    = shapeCast (α := EReal) S8192x16384 (m ((c : Thread nD τ).loc main_arg0)) shapeCasts_S2x4096x16384_S8192x16384 := by
  dsimp only [V, hostOps0]; after_results <;> rfl

/-- The weight as the launch finds it: the second layer's slice. -/
theorem V_w (c : Dev nD) : (V (F := Ideal) m c main_v4 : S16384x4096.Idx → EReal)
    = Cert.Reference3Ideal.Read.val_main_v2 (F := Ideal) (m ((c : Thread nD τ).loc main_arg1)) := by
  dsimp only [V, hostOps0]; after_results <;> rfl

/-- The stream as the launch finds it. -/
theorem V_x (c : Dev nD) : (V (F := Ideal) m c main_v5 : S8192x4096.Idx → EReal)
    = shapeCast (α := EReal) S8192x4096 (m ((c : Thread nD τ).loc main_arg2)) shapeCasts_S2x4096x4096_S8192x4096 := by
  dsimp only [V, hostOps0]; after_results <;> rfl

/-- The gate as the launch finds it. -/
theorem V_g (c : Dev nD) : (V (F := Ideal) m c main_v6 : S2x1x4096.Idx → EReal)
    = shapeCast (α := EReal) S2x1x4096 (m ((c : Thread nD τ).loc main_arg3)) shapeCasts_S2x4096_S2x1x4096 := by
  dsimp only [V, hostOps0]; after_results <;> rfl

open Cert.Reference3Ideal.Read in
/-- The reference's result is the same gated residual of the same operands. -/
theorem ref_eq (x0 : (⟨Cert.Reference3Ideal.S2x4096x16384, .f32⟩ : BufTy).Contents (Elt Ideal))
    (x1 : (⟨Cert.Reference3Ideal.S2x16384x4096, .f32⟩ : BufTy).Contents (Elt Ideal))
    (x2 : (⟨Cert.Reference3Ideal.S2x4096x4096, .f32⟩ : BufTy).Contents (Elt Ideal))
    (x3 : (⟨Cert.Reference3Ideal.S2x4096, .f32⟩ : BufTy).Contents (Elt Ideal)) :
    val_main_v7 x0 x1 x2 x3 = res (shapeCast (α := EReal) S8192x16384 x0 shapeCasts_S2x4096x16384_S8192x16384)
      (val_main_v2 x1)
      (shapeCast (α := EReal) S8192x4096 x2 shapeCasts_S2x4096x4096_S8192x4096)
      (shapeCast (α := EReal) S2x1x4096 x3 shapeCasts_S2x4096_S2x1x4096) := by
  funext i
  pointwise! [val_main_v7, val_main_v6, val_main_v5, val_main_v4, val_main_v3, val_main_v0, res, batchOf]

/-- Over the extended reals the kernel and the reference give one array, and both leave their arguments alone. -/
theorem algebraic : Cert.algebraic_Kernel3Ideal_Reference3Ideal := fun m g m' g' _ agree =>
  ⟨fun c => res (V m c main_v1) (V m c main_v4) (V m c main_v5) (V m c main_v6),
    (θ_run Cert.Kernel3Ideal.defs _ _).mono (fun _ h c => ⟨(h c).1.trans (final m c), (h c).2⟩) (Value.run_blocks m g),
    (θ_run Cert.Reference3Ideal.defs _ _).mono (fun _ h c => ⟨by
        obtain ⟨e0, e1, e2, e3⟩ := agree c
        refine (h c).1.trans ((Cert.Reference3Ideal.Read.val_main_v7_eq (F := Ideal) _ _ _ _).trans ((ref_eq _ _ _ _).trans ?_))
        show _ = res (V m c main_v1) (V m c main_v4) (V m c main_v5) (V m c main_v6)
        rw [V_a, V_w, V_x, V_g]
        rw [e0, e1, e2, e3],
      (h c).2⟩) (Cert.Reference3Ideal.Value.run m' g')⟩

end Cert.Proof.Down

end

end
-- ==== Proof.OutProjection.lean ====
/- The output projection with its gated residual: what the kernel's blocks hold, what the whole result array holds after
   the run, and that the reference's lines give the same array over the extended reals. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Tactic

@[expose] public section

set_option maxRecDepth 16384

noncomputable section

namespace Cert.Proof.OutProj

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The batch a row of the flattened array belongs to. -/
def batchOf (r : Fin 8192) : Fin 2 := ⟨r.val / 4096, by omega⟩

/-- The gated residual: the stream plus the gate of the row's batch times the product, one element. -/
def res (A : S8192x4096.Idx → EReal) (W : S4096x4096.Idx → EReal) (X : S8192x4096.Idx → EReal) (G : S2x1x4096.Idx → EReal)
    (i : S8192x4096.Idx) : EReal :=
  X i + G (ix3 (batchOf (i 0)) 0 (i 1)) * ∑ k : Fin 4096, A (ix2 (i 0) k) * W (ix2 k (i 1))

/-- One block's payload at an index. -/
theorem block_apply (A : Vec Ideal S1024x4096 .bf16) (W : Vec Ideal S4096x1024 .bf16) (X : Vec Ideal S1024x1024 .f32)
    (G : Vec Ideal S1x1x1024 .f32) (y : S1024x1024.Idx) :
    k0_pay1 A W X G y
      = (X (ix2 (y 0) (y 1)) : EReal) + G (ix3 0 0 (y 1)) * ∑ k : Fin 4096, (A (ix2 (y 0) k) : EReal) * W (ix2 k (y 1)) := by
  pointwise! [k0_pay1]

theorem idx_facts : ∀ t : Fin cfg0.N, win0_0.index t (0 : Fin 2) = win0_4.index t (0 : Fin 2)
    ∧ win0_0.index t (1 : Fin 2) = 0 ∧ win0_1.index t (0 : Fin 2) = 0
    ∧ win0_1.index t (1 : Fin 2) = win0_4.index t (1 : Fin 2)
    ∧ win0_2.index t (0 : Fin 2) = win0_4.index t (0 : Fin 2) ∧ win0_2.index t (1 : Fin 2) = win0_4.index t (1 : Fin 2)
    ∧ win0_3.index t (0 : Fin 3) = win0_4.index t (0 : Fin 2) / 4 ∧ win0_3.index t (1 : Fin 3) = 0
    ∧ win0_3.index t (2 : Fin 3) = win0_4.index t (1 : Fin 2) :=
  (by decide +kernel : ∀ t : Fin grid0.N, _)

theorem idx_onto : ∀ (a : Fin 8) (b : Fin 4), ∃ t : Fin cfg0.N, win0_4.flush t = true
    ∧ win0_4.index t (0 : Fin 2) = a.val ∧ win0_4.index t (1 : Fin 2) = b.val :=
  (by decide +kernel : ∀ (a : Fin 8) (b : Fin 4), ∃ t : Fin grid0.N, win0_4.flush t = true
    ∧ win0_4.index t (0 : Fin 2) = a.val ∧ win0_4.index t (1 : Fin 2) = b.val)

theorem hz : (![0, 0] : Fin 2 → Nat) = fun _ => 0 := funext fun a => by fin_cases a <;> rfl
theorem hz3 : (![0, 0, 0] : Fin 3 → Nat) = fun _ => 0 := funext fun a => by fin_cases a <;> rfl

/-- Row `r` of point `t`'s block of the left operand is the result block's row `r` of the whole operand. -/
theorem emb_a (t : Fin cfg0.N) (y : S1024x1024.Idx) (k : Fin 4096) :
    (win0_0.blk t).view.emb (ix2 (y 0) k) = ix2 ((win0_4.blk t).view.emb y 0) k := by
  obtain ⟨e0, e1, _⟩ := idx_facts t
  refine funext fun a => Fin.ext ?_
  match a with
  | ⟨0, _⟩ => show win0_0.index t 0 * 1024 + 1 * (y 0).val = win0_4.index t 0 * 1024 + 1 * (y 0).val
              rw [e0]
  | ⟨1, _⟩ => show win0_0.index t 1 * 4096 + 1 * k.val = k.val
              rw [e1]; omega

/-- Column `j` of point `t`'s block of the weight is the result block's column `j` of the whole weight. -/
theorem emb_w (t : Fin cfg0.N) (y : S1024x1024.Idx) (k : Fin 4096) :
    (win0_1.blk t).view.emb (ix2 k (y 1)) = ix2 k ((win0_4.blk t).view.emb y 1) := by
  obtain ⟨_, _, e2, e3, _⟩ := idx_facts t
  refine funext fun a => Fin.ext ?_
  match a with
  | ⟨0, _⟩ => show win0_1.index t 0 * 4096 + 1 * k.val = k.val
              rw [e2]; omega
  | ⟨1, _⟩ => show win0_1.index t 1 * 1024 + 1 * (y 1).val = win0_4.index t 1 * 1024 + 1 * (y 1).val
              rw [e3]

/-- The stream's block moves with the result's. -/
theorem emb_x (t : Fin cfg0.N) (y : S1024x1024.Idx) :
    (win0_2.blk t).view.emb (ix2 (y 0) (y 1)) = (win0_4.blk t).view.emb y := by
  obtain ⟨_, _, _, _, e4, e5, _⟩ := idx_facts t
  refine funext fun a => Fin.ext ?_
  match a with
  | ⟨0, _⟩ => show win0_2.index t 0 * 1024 + 1 * (y 0).val = win0_4.index t 0 * 1024 + 1 * (y 0).val
              rw [e4]
  | ⟨1, _⟩ => show win0_2.index t 1 * 1024 + 1 * (y 1).val = win0_4.index t 1 * 1024 + 1 * (y 1).val
              rw [e5]

/-- The gate's block is the one of the row's batch. -/
theorem emb_g (t : Fin cfg0.N) (y : S1024x1024.Idx) :
    (win0_3.blk t).view.emb (ix3 0 0 (y 1)) = ix3 (batchOf ((win0_4.blk t).view.emb y 0)) 0 ((win0_4.blk t).view.emb y 1) := by
  obtain ⟨_, _, _, _, _, _, e6, e7, e8⟩ := idx_facts t
  have hy : (y 0).val < 1024 := (y 0).isLt
  refine funext fun a => Fin.ext ?_
  match a with
  | ⟨0, _⟩ => show win0_3.index t 0 * 1 + 1 * 0 = (win0_4.index t 0 * 1024 + 1 * (y 0).val) / 4096
              rw [e6]; omega
  | ⟨1, _⟩ => show win0_3.index t 1 * 1 + 1 * 0 = 0
              rw [e7]
  | ⟨2, _⟩ => show win0_3.index t 2 * 1024 + 1 * (y 1).val = win0_4.index t 1 * 1024 + 1 * (y 1).val
              rw [e8]

/-- What a point writes back is its block of the whole gated residual. -/
theorem flushed_eq (c : Dev nD) (t : Fin cfg0.N) :
    (dats (F := Ideal) m 0 c).flushed 4 t
      = ((cfg0.win 4).blk t).view.read (Elt Ideal) (res (V m c main_v1) (V m c main_v4) (V m c main_v5) (V m c main_v6)) := by
  rw [Value.flushed4]
  funext y
  show out0_4 (iblk m c 0 t) (iblk m c 1 t) (iblk m c 2 t) (iblk m c 3 t) y
    = res (V m c main_v1) (V m c main_v4) (V m c main_v5) (V m c main_v6) ((win0_4.blk t).view.emb y)
  unfold out0_4
  rw [View.canon_unit_zero hz, View.ld_unit_zero hz, View.ld_unit_zero hz, View.ld_unit_zero hz, View.ld_unit_zero hz3, block_apply]
  have h : ∀ k : Fin 4096,
      (show EReal from iblk m c 0 t (ix2 (y 0) k)) * (show EReal from iblk m c 1 t (ix2 k (y 1)))
      = (show EReal from V m c main_v1 (ix2 ((win0_4.blk t).view.emb y 0) k))
        * (show EReal from V m c main_v4 (ix2 k ((win0_4.blk t).view.emb y 1))) := fun k =>
    congrArg₂ (fun a b : EReal => a * b) (congrArg (V m c main_v1) (emb_a t y k)) (congrArg (V m c main_v4) (emb_w t y k))
  have hs := Finset.sum_congr (rfl : (Finset.univ : Finset (Fin 4096)) = Finset.univ) fun k _ => h k
  exact congrArg₂ (fun a b : EReal => a + b) (congrArg (V m c main_v5) (emb_x t y))
    (congrArg₂ (fun a b : EReal => a * b) (congrArg (V m c main_v6) (emb_g t y)) hs)

theorem mem_blk (t : Fin cfg0.N) (i : S8192x4096.Idx) :
    i ∈ ((cfg0.win 4).blk t).view.set ↔ ∀ a : Fin 2, win0_4.index t a * win0_4.size a ≤ (i a : Nat)
      ∧ (i a : Nat) < win0_4.index t a * win0_4.size a + win0_4.xsize (grid0.coords t) a := by
  show i ∈ ((View.whole main_v7).slice (win0_4.rect t)).set ↔ _
  rw [View.set_slice_whole, Rect.mem_set_unit]
  exact Iff.rfl

/-- The blocks written back tile the result. -/
theorem cover (i : S8192x4096.Idx) :
    ∃ t : Fin cfg0.N, (cfg0.win 4).flush t = true ∧ i ∈ ((cfg0.win 4).blk t).view.set := by
  have h0 : (i 0 : Nat) < 8192 := (i 0).isLt
  have h1 : (i 1 : Nat) < 4096 := (i 1).isLt
  obtain ⟨t, hf, e0, e1⟩ := idx_onto ⟨(i 0 : Nat) / 1024, by omega⟩ ⟨(i 1 : Nat) / 1024, by omega⟩
  refine ⟨t, hf, ?_⟩
  rw [mem_blk]
  intro a
  match a with
  | ⟨0, _⟩ => show win0_4.index t 0 * 1024 ≤ (i 0 : Nat) ∧ (i 0 : Nat) < win0_4.index t 0 * 1024 + 1024
              rw [e0]; dsimp only; omega
  | ⟨1, _⟩ => show win0_4.index t 1 * 1024 ≤ (i 1 : Nat) ∧ (i 1 : Nat) < win0_4.index t 1 * 1024 + 1024
              rw [e1]; dsimp only; omega

/-- So the result array ends holding the whole gated residual. -/
theorem final (c : Dev nD) : (dats (F := Ideal) m 0 c).arrAt 4 cfg0.N
    = res (V m c main_v1) (V m c main_v4) (V m c main_v5) (V m c main_v6) :=
  (dats m 0 c).arrAt_eq_of_cover 4 (res (V m c main_v1) (V m c main_v4) (V m c main_v5) (V m c main_v6))
    (fun t _ => flushed_eq m c t) cover

/-- The left operand as the launch finds it: the rows of the argument, flattened. -/
theorem V_a (c : Dev nD) : (V (F := Ideal) m c main_v1 : S8192x4096.Idx → EReal)
    = shapeCast (α := EReal) S8192x4096 (m ((c : Thread nD τ).loc main_arg0)) shapeCasts_S2x4096x4096_S8192x4096 := by
  dsimp only [V, hostOps0]; after_results <;> rfl

/-- The weight as the launch finds it: the second layer's slice. -/
theorem V_w (c : Dev nD) : (V (F := Ideal) m c main_v4 : S4096x4096.Idx → EReal)
    = Cert.Reference4Ideal.Read.val_main_v2 (F := Ideal) (m ((c : Thread nD τ).loc main_arg1)) := by
  dsimp only [V, hostOps0]; after_results <;> rfl

/-- The stream as the launch finds it. -/
theorem V_x (c : Dev nD) : (V (F := Ideal) m c main_v5 : S8192x4096.Idx → EReal)
    = shapeCast (α := EReal) S8192x4096 (m ((c : Thread nD τ).loc main_arg2)) shapeCasts_S2x4096x4096_S8192x4096 := by
  dsimp only [V, hostOps0]; after_results <;> rfl

/-- The gate as the launch finds it. -/
theorem V_g (c : Dev nD) : (V (F := Ideal) m c main_v6 : S2x1x4096.Idx → EReal)
    = shapeCast (α := EReal) S2x1x4096 (m ((c : Thread nD τ).loc main_arg3)) shapeCasts_S2x4096_S2x1x4096 := by
  dsimp only [V, hostOps0]; after_results <;> rfl

open Cert.Reference4Ideal.Read in
/-- The reference's result is the same gated residual of the same operands. -/
theorem ref_eq (x0 x1 x2 : (⟨Cert.Reference4Ideal.S2x4096x4096, .f32⟩ : BufTy).Contents (Elt Ideal))
    (x3 : (⟨Cert.Reference4Ideal.S2x4096, .f32⟩ : BufTy).Contents (Elt Ideal)) :
    val_main_v7 x0 x1 x2 x3 = res (shapeCast (α := EReal) S8192x4096 x0 shapeCasts_S2x4096x4096_S8192x4096)
      (val_main_v2 x1)
      (shapeCast (α := EReal) S8192x4096 x2 shapeCasts_S2x4096x4096_S8192x4096)
      (shapeCast (α := EReal) S2x1x4096 x3 shapeCasts_S2x4096_S2x1x4096) := by
  funext i
  pointwise! [val_main_v7, val_main_v6, val_main_v5, val_main_v4, val_main_v3, val_main_v0, res, batchOf]

/-- Over the extended reals the kernel and the reference give one array, and both leave their arguments alone. -/
theorem algebraic : Cert.algebraic_Kernel4Ideal_Reference4Ideal := fun m g m' g' _ agree =>
  ⟨fun c => res (V m c main_v1) (V m c main_v4) (V m c main_v5) (V m c main_v6),
    (θ_run Cert.Kernel4Ideal.defs _ _).mono (fun _ h c => ⟨(h c).1.trans (final m c), (h c).2⟩) (Value.run_blocks m g),
    (θ_run Cert.Reference4Ideal.defs _ _).mono (fun _ h c => ⟨by
        obtain ⟨e0, e1, e2, e3⟩ := agree c
        refine (h c).1.trans ((Cert.Reference4Ideal.Read.val_main_v7_eq (F := Ideal) _ _ _ _).trans ((ref_eq _ _ _ _).trans ?_))
        show _ = res (V m c main_v1) (V m c main_v4) (V m c main_v5) (V m c main_v6)
        rw [V_a, V_w, V_x, V_g]
        rw [e0, e1, e2, e3],
      (h c).2⟩) (Cert.Reference4Ideal.Value.run m' g')⟩

end Cert.Proof.OutProj

end
-- ==== Proof.FinalNorm.lean ====
/- The final RMS norm, the layer's result: what the kernel's blocks hold, what the whole result array holds after the run,
   and that the reference's lines give the same array over the extended reals. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Lib.Tactic

@[expose] public section

set_option maxRecDepth 16384

noncomputable section

namespace Cert.Proof.Norm

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- The reciprocal root of the mean square (plus the small constant) of a row whose squares sum to `s`. -/
def scale (s : EReal) : EReal :=
  Ideal.rsqrt (Ideal.div s (Ideal.ofBits FTy.f32 0x45800000#32) + Ideal.ofBits FTy.f32 0x358637BD#32)

/-- The normalised row times the gain, one element. -/
def norm (X : S8192x4096.Idx → EReal) (G : S1x4096.Idx → EReal) (i : S8192x4096.Idx) : EReal :=
  X i * scale (∑ k : Fin 4096, X (ix2 (i 0) k) * X (ix2 (i 0) k)) * G (ix2 0 (i 1))

/-- One block's payload at an index. -/
theorem block_apply (X : Vec Ideal S512x4096 .f32) (G : Vec Ideal S1x4096 .f32) (y : S512x4096.Idx) :
    k0_pay1 X G y = (X y : EReal) * scale (∑ k : Fin 4096, (X (ix2 (y 0) k) : EReal) * X (ix2 (y 0) k)) * G (ix2 0 (y 1)) := by
  pointwise! [k0_pay1, scale]

theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

theorem idx_onto : ∀ (a : Fin 16), ∃ t : Fin cfg0.N, win0_2.flush t = true
    ∧ win0_2.index t (0 : Fin 2) = a.val ∧ win0_2.index t (1 : Fin 2) = 0 :=
  (by decide +kernel : ∀ (a : Fin 16), ∃ t : Fin grid0.N, win0_2.flush t = true
    ∧ win0_2.index t (0 : Fin 2) = a.val ∧ win0_2.index t (1 : Fin 2) = 0)

theorem hz : (![0, 0] : Fin 2 → Nat) = fun _ => 0 := funext fun a => by fin_cases a <;> rfl

/-- Row `r` of point `t`'s block of the stream is the result block's row `r` of the whole stream. -/
theorem emb_row (t : Fin cfg0.N) (y : S512x4096.Idx) (k : Fin 4096) :
    (win0_0.blk t).view.emb (ix2 (y 0) k) = ix2 ((win0_2.blk t).view.emb y 0) k := by
  obtain ⟨e0, e1, _⟩ := idx_facts t
  refine funext fun a => Fin.ext ?_
  match a with
  | ⟨0, _⟩ => show win0_0.index t 0 * 512 + 1 * (y 0).val = win0_2.index t 0 * 512 + 1 * (y 0).val
              rw [e0]
  | ⟨1, _⟩ => show win0_0.index t 1 * 4096 + 1 * k.val = k.val
              rw [e1]; omega

/-- The stream's block moves with the result's. -/
theorem emb_x (t : Fin cfg0.N) (y : S512x4096.Idx) :
    (win0_0.blk t).view.emb y = (win0_2.blk t).view.emb y := by
  obtain ⟨e0, e1, _, _, e4⟩ := idx_facts t
  refine funext fun a => Fin.ext ?_
  match a with
  | ⟨0, _⟩ => show win0_0.index t 0 * 512 + 1 * (y 0).val = win0_2.index t 0 * 512 + 1 * (y 0).val
              rw [e0]
  | ⟨1, _⟩ => show win0_0.index t 1 * 4096 + 1 * (y 1).val = win0_2.index t 1 * 4096 + 1 * (y 1).val
              rw [e1, e4]

/-- The gain's block is the whole gain. -/
theorem emb_g (t : Fin cfg0.N) (y : S512x4096.Idx) :
    (win0_1.blk t).view.emb (ix2 0 (y 1)) = ix2 0 ((win0_2.blk t).view.emb y 1) := by
  obtain ⟨_, _, e2, e3, e4⟩ := idx_facts t
  refine funext fun a => Fin.ext ?_
  match a with
  | ⟨0, _⟩ => show win0_1.index t 0 * 1 + 1 * 0 = 0
              rw [e2]
  | ⟨1, _⟩ => show win0_1.index t 1 * 4096 + 1 * (y 1).val = win0_2.index t 1 * 4096 + 1 * (y 1).val
              rw [e3, e4]

/-- What a point writes back is its block of the whole normalised array. -/
theorem flushed_eq (c : Dev nD) (t : Fin cfg0.N) :
    (dats (F := Ideal) m 0 c).flushed 2 t
      = ((cfg0.win 2).blk t).view.read (Elt Ideal) (norm (V m c main_v0) (V m c main_v1)) := by
  rw [Value.flushed2]
  funext y
  show out0_2 (iblk m c 0 t) (iblk m c 1 t) y = norm (V m c main_v0) (V m c main_v1) ((win0_2.blk t).view.emb y)
  unfold out0_2
  rw [View.canon_unit_zero hz, View.ld_unit_zero hz, View.ld_unit_zero hz, block_apply]
  have h : ∀ k : Fin 4096,
      (show EReal from iblk m c 0 t (ix2 (y 0) k)) * (show EReal from iblk m c 0 t (ix2 (y 0) k))
      = (show EReal from V m c main_v0 (ix2 ((win0_2.blk t).view.emb y 0) k))
        * (show EReal from V m c main_v0 (ix2 ((win0_2.blk t).view.emb y 0) k)) := fun k =>
    congrArg (fun a : EReal => a * a) (congrArg (V m c main_v0) (emb_row t y k))
  have hs := Finset.sum_congr (rfl : (Finset.univ : Finset (Fin 4096)) = Finset.univ) fun k _ => h k
  exact congrArg₂ (fun a b : EReal => a * b)
    (congrArg₂ (fun a b : EReal => a * scale b) (congrArg (V m c main_v0) (emb_x t y)) hs) (congrArg (V m c main_v1) (emb_g t y))

theorem mem_blk (t : Fin cfg0.N) (i : S8192x4096.Idx) :
    i ∈ ((cfg0.win 2).blk t).view.set ↔ ∀ a : Fin 2, win0_2.index t a * win0_2.size a ≤ (i a : Nat)
      ∧ (i a : Nat) < win0_2.index t a * win0_2.size a + win0_2.xsize (grid0.coords t) a := by
  show i ∈ ((View.whole main_v2).slice (win0_2.rect t)).set ↔ _
  rw [View.set_slice_whole, Rect.mem_set_unit]
  exact Iff.rfl

/-- The blocks written back tile the result. -/
theorem cover (i : S8192x4096.Idx) :
    ∃ t : Fin cfg0.N, (cfg0.win 2).flush t = true ∧ i ∈ ((cfg0.win 2).blk t).view.set := by
  have h0 : (i 0 : Nat) < 8192 := (i 0).isLt
  have h1 : (i 1 : Nat) < 4096 := (i 1).isLt
  obtain ⟨t, hf, e0, e1⟩ := idx_onto ⟨(i 0 : Nat) / 512, by omega⟩
  refine ⟨t, hf, ?_⟩
  rw [mem_blk]
  intro a
  match a with
  | ⟨0, _⟩ => show win0_2.index t 0 * 512 ≤ (i 0 : Nat) ∧ (i 0 : Nat) < win0_2.index t 0 * 512 + 512
              rw [e0]; dsimp only; omega
  | ⟨1, _⟩ => show win0_2.index t 1 * 4096 ≤ (i 1 : Nat) ∧ (i 1 : Nat) < win0_2.index t 1 * 4096 + 4096
              rw [e1]; dsimp only; omega

/-- So the result array ends holding the whole normalised array. -/
theorem final (c : Dev nD) : (dats (F := Ideal) m 0 c).arrAt 2 cfg0.N = norm (V m c main_v0) (V m c main_v1) :=
  (dats m 0 c).arrAt_eq_of_cover 2 (norm (V m c main_v0) (V m c main_v1)) (fun t _ => flushed_eq m c t) cover

/-- The stream as the launch finds it: the argument's rows, flattened. -/
theorem V_x (c : Dev nD) : (V (F := Ideal) m c main_v0 : S8192x4096.Idx → EReal)
    = shapeCast (α := EReal) S8192x4096 (m ((c : Thread nD τ).loc main_arg0)) shapeCasts_S2x4096x4096_S8192x4096 := by
  dsimp only [V, hostOps0]; after_results <;> rfl

/-- The gain as the launch finds it. -/
theorem V_g (c : Dev nD) : (V (F := Ideal) m c main_v1 : S1x4096.Idx → EReal)
    = shapeCast (α := EReal) S1x4096 (m ((c : Thread nD τ).loc main_arg1)) shapeCasts_S4096_S1x4096 := by
  dsimp only [V, hostOps0]; after_results <;> rfl

open Cert.Reference5Ideal.Read in
/-- The reference's result is the same normalised array of the same operands. -/
theorem ref_eq (x0 : (⟨Cert.Reference5Ideal.S2x4096x4096, .f32⟩ : BufTy).Contents (Elt Ideal))
    (x1 : (⟨Cert.Reference5Ideal.S4096, .f32⟩ : BufTy).Contents (Elt Ideal)) :
    val_main_v13 x0 x1 = norm (shapeCast (α := EReal) S8192x4096 x0 shapeCasts_S2x4096x4096_S8192x4096)
      (shapeCast (α := EReal) S1x4096 x1 shapeCasts_S4096_S1x4096) := by
  funext i
  pointwise! [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    norm, scale]

/-- Over the extended reals the kernel and the reference give one array, and both leave their arguments alone. -/
theorem algebraic : Cert.algebraic_Kernel5Ideal_Reference5Ideal := fun m g m' g' _ agree =>
  ⟨fun c => norm (V m c main_v0) (V m c main_v1),
    (θ_run Cert.Kernel5Ideal.defs _ _).mono (fun _ h c => ⟨(h c).1.trans (final m c), (h c).2⟩) (Value.run_blocks m g),
    (θ_run Cert.Reference5Ideal.defs _ _).mono (fun _ h c => ⟨by
        obtain ⟨e0, e1⟩ := agree c
        refine (h c).1.trans ((Cert.Reference5Ideal.Read.val_main_v13_eq (F := Ideal) _ _).trans ((ref_eq _ _).trans ?_))
        show _ = norm (V m c main_v0) (V m c main_v1)
        rw [V_x, V_g]
        rw [e0, e1],
      (h c).2⟩) (Cert.Reference5Ideal.Value.run m' g')⟩

end Cert.Proof.Norm

end
-- ==== Proof.Packed.lean ====
/- The columns of the two layers' projection weight in the order the kernel's packed weight holds them, and where each group
   of packed columns that a projection reads comes from. -/
module

public import proofs.«01_k».proof.Proof.Gen.Kernel6Ideal.Launch
public import Idealize.ShloMosaic.Lib.Pointwise
public import Idealize.ShloMosaic.Lib.Tactic

@[expose] public section

set_option maxRecDepth 16384

noncomputable section

namespace Cert.Proof.Packed

open Cert.Kernel6Ideal Cert.Kernel6Ideal.Gen Idealize.ShloMosaic Idealize.ShloMosaic.TcCoe Idealize.SL.Sem

/-- The groups of columns the packed weight holds side by side, the last of them zeros. -/
def groups (W : S2x4096x9896.Idx → EReal) : List ((s : Shape) × (s.Idx → EReal)) := [
    ⟨S2x4096x1024, extractStridedSlice (α := EReal) S2x4096x1024 ![0, 0, 0] W slices_S2x4096x9896_S2x4096x1024_0_0_0⟩,
    ⟨S2x4096x1024, extractStridedSlice (α := EReal) S2x4096x1024 ![0, 0, 1024] W slices_S2x4096x9896_S2x4096x1024_0_0_1024⟩,
    ⟨S2x4096x1024, extractStridedSlice (α := EReal) S2x4096x1024 ![0, 0, 2048] W slices_S2x4096x9896_S2x4096x1024_0_0_2048⟩,
    ⟨S2x4096x1024, extractStridedSlice (α := EReal) S2x4096x1024 ![0, 0, 6816] W slices_S2x4096x9896_S2x4096x1024_0_0_6816⟩,
    ⟨S2x4096x1024, extractStridedSlice (α := EReal) S2x4096x1024 ![0, 0, 7840] W slices_S2x4096x9896_S2x4096x1024_0_0_7840⟩,
    ⟨S2x4096x1024, extractStridedSlice (α := EReal) S2x4096x1024 ![0, 0, 8864] W slices_S2x4096x9896_S2x4096x1024_0_0_8864⟩,
    ⟨S2x4096x2048, extractStridedSlice (α := EReal) S2x4096x2048 ![0, 0, 3072] W slices_S2x4096x9896_S2x4096x2048_0_0_3072⟩,
    ⟨S2x4096x1024, extractStridedSlice (α := EReal) S2x4096x1024 ![0, 0, 5216] W slices_S2x4096x9896_S2x4096x1024_0_0_5216⟩,
    ⟨S2x4096x512, extractStridedSlice (α := EReal) S2x4096x512 ![0, 0, 6240] W slices_S2x4096x9896_S2x4096x512_0_0_6240⟩,
    ⟨S2x4096x64, extractStridedSlice (α := EReal) S2x4096x64 ![0, 0, 6752] W slices_S2x4096x9896_S2x4096x64_0_0_6752⟩,
    ⟨S2x4096x64, extractStridedSlice (α := EReal) S2x4096x64 ![0, 0, 6752] W slices_S2x4096x9896_S2x4096x64_0_0_6752⟩,
    ⟨S2x4096x64, extractStridedSlice (α := EReal) S2x4096x64 ![0, 0, 5120] W slices_S2x4096x9896_S2x4096x64_0_0_5120⟩,
    ⟨S2x4096x64, extractStridedSlice (α := EReal) S2x4096x64 ![0, 0, 5120] W slices_S2x4096x9896_S2x4096x64_0_0_5120⟩,
    ⟨S2x4096x32, extractStridedSlice (α := EReal) S2x4096x32 ![0, 0, 5184] W slices_S2x4096x9896_S2x4096x32_0_0_5184⟩,
    ⟨S2x4096x8, extractStridedSlice (α := EReal) S2x4096x8 ![0, 0, 9888] W slices_S2x4096x9896_S2x4096x8_0_0_9888⟩,
    ⟨S2x4096x216, broadcastInDim S2x4096x216 ![] bcast_S_S2x4096x216 (constant (F := Ideal) S_ .f32 0x00000000#32)⟩]

theorem groups_fit (W : S2x4096x9896.Idx → EReal) : Shape.Concatenates ((groups W).map (·.1)) S2x4096x10240 2 :=
  concatenates_S2x4096x1024_S2x4096x1024_S2x4096x1024_S2x4096x1024_S2x4096x1024_S2x4096x1024_S2x4096x2048_S2x4096x1024_S2x4096x512_S2x4096x64_S2x4096x64_S2x4096x64_S2x4096x64_S2x4096x32_S2x4096x8_S2x4096x216_S2x4096x10240_d2

/-- The packed weight. -/
def weight (W : S2x4096x9896.Idx → EReal) : S2x4096x10240.Idx → EReal :=
  truncf (F := Ideal) .bf16 (concatenate S2x4096x10240 2 (groups W) (groups_fit W)) bitsLt_bf16_f32

/-- Column `n` of group `p`, which the packed weight holds from column `pre` on, is column `o + n` of the weight when the
    group is the slice of the weight from column `o` on. -/
theorem weight_group (W : S2x4096x9896.Idx → EReal) (p : Nat) (hp : p < (groups W).length) (w o pre : Nat)
    (hs : S2x4096x9896.Slices ![0, 0, o] ⟨3, ![2, 4096, w]⟩)
    (hx : (groups W)[p] = ⟨⟨3, ![2, 4096, w]⟩, extractStridedSlice (α := EReal) ⟨3, ![2, 4096, w]⟩ ![0, 0, o] W hs⟩)
    (hpre : ((((groups W).take p).map (·.1)).map fun s =>
      if h : s.rank = S2x4096x10240.rank then s.size ((2 : Fin S2x4096x10240.rank).cast h.symm) else 0).sum = pre)
    (l : Fin 2) (k : Fin 4096) (n : Fin w) (c : Fin 10240) (d : Fin 9896) (hc : pre + n.val = c.val) (hd : d.val = o + n.val) :
    weight W (ix3 l k c) = W (ix3 l k d) := by
  show concatenate S2x4096x10240 2 (groups W) (groups_fit W) (ix3 l k c) = _
  rw [concatenate_apply_piece (2 : Fin S2x4096x10240.rank) (groups W) (groups_fit W) (ix3 l k c) p hp
    ⟨3, ![2, 4096, w]⟩ _ hx rfl pre hpre (ix3 l k n) (fun b hb => by
      match b with
      | ⟨0, _⟩ => rfl
      | ⟨1, _⟩ => rfl
      | ⟨2, _⟩ => exact absurd rfl hb) hc]
  refine congrArg W (funext fun b => Fin.ext ?_)
  match b with
  | ⟨0, _⟩ => show 0 + l.val = l.val; omega
  | ⟨1, _⟩ => show 0 + k.val = k.val; omega
  | ⟨2, _⟩ => exact hd.symm

/-- The second layer's unpacked column that packed column `2048 + n` holds: the windowed values, then the windowed queries,
    keys and values of the compressed branch. -/
def plainCol (n : Fin 4096) : Fin 9896 :=
  if n.val < 1024 then ⟨2048 + n.val, by omega⟩ else ⟨5792 + n.val, by omega⟩

theorem plainCol_low (n : Fin 4096) (h : n.val < 1024) : (plainCol n).val = 2048 + n.val := by
  unfold plainCol; rw [if_pos h]

theorem plainCol_high (n : Fin 4096) (h : ¬ n.val < 1024) : (plainCol n).val = 5792 + n.val := by
  unfold plainCol; rw [if_neg h]

theorem weight_plain (W : S2x4096x9896.Idx → EReal) (k : Fin 4096) (n : Fin 4096) (c : Fin 10240) (hc : c.val = 2048 + n.val) :
    weight W (ix3 (1 : Fin 2) k c) = W (ix3 (1 : Fin 2) k (plainCol n)) := by
  have hn := n.isLt
  by_cases c1 : n.val < 1024
  · exact weight_group W 2 (show 2 < 16 by decide) 1024 2048 2048 slices_S2x4096x9896_S2x4096x1024_0_0_2048 rfl rfl 1 k ⟨n.val, c1⟩ c _
      hc.symm (plainCol_low n c1)
  have e := plainCol_high n c1
  by_cases c2 : n.val < 2048
  · exact weight_group W 3 (show 3 < 16 by decide) 1024 6816 3072 slices_S2x4096x9896_S2x4096x1024_0_0_6816 rfl rfl 1 k
      ⟨n.val - 1024, by omega⟩ c _ (by dsimp only; omega) (by dsimp only; omega)
  by_cases c3 : n.val < 3072
  · exact weight_group W 4 (show 4 < 16 by decide) 1024 7840 4096 slices_S2x4096x9896_S2x4096x1024_0_0_7840 rfl rfl 1 k
      ⟨n.val - 2048, by omega⟩ c _ (by dsimp only; omega) (by dsimp only; omega)
  · exact weight_group W 5 (show 5 < 16 by decide) 1024 8864 5120 slices_S2x4096x9896_S2x4096x1024_0_0_8864 rfl rfl 1 k
      ⟨n.val - 3072, by omega⟩ c _ (by dsimp only; omega) (by dsimp only; omega)

theorem weight_cq (W : S2x4096x9896.Idx → EReal) (k : Fin 4096) (n : Fin 1024) (c : Fin 10240) (hc : c.val = 8192 + n.val) :
    weight W (ix3 (1 : Fin 2) k c) = W (ix3 (1 : Fin 2) k (⟨5216 + n.val, by omega⟩ : Fin 9896)) :=
  weight_group W 7 (show 7 < 16 by decide) 1024 5216 8192 slices_S2x4096x9896_S2x4096x1024_0_0_5216 rfl rfl 1 k n c _ hc.symm rfl

theorem weight_ckv (W : S2x4096x9896.Idx → EReal) (k : Fin 4096) (n : Fin 512) (c : Fin 10240) (hc : c.val = 9216 + n.val) :
    weight W (ix3 (1 : Fin 2) k c) = W (ix3 (1 : Fin 2) k (⟨6240 + n.val, by omega⟩ : Fin 9896)) :=
  weight_group W 8 (show 8 < 16 by decide) 512 6240 9216 slices_S2x4096x9896_S2x4096x512_0_0_6240 rfl rfl 1 k n c _ hc.symm rfl

end Cert.Proof.Packed

end
-- ==== Proof.InPlain.lean ====
/- The input projection's groups that are plain products (the windowed values, and the queries, keys and values of the
   compressed branch): what the kernel's blocks hold, what the whole result array holds after the run, and that the
   reference's split product is the same array over the extended reals. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Packed
public import Idealize.ShloMosaic.Lib.Pointwise
public import Idealize.ShloMosaic.Lib.Tactic

@[expose] public section

set_option maxRecDepth 16384

noncomputable section

namespace Cert.Proof.Plain

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- The product of the rows with the second layer's packed columns from 2048 on, one element. -/
def prod (A : S8192x4096.Idx → EReal) (W : S2x4096x10240.Idx → EReal) (i : S8192x4096.Idx) : EReal :=
  ∑ k : Fin 4096, A (ix2 (i 0) k) * W (ix3 (1 : Fin 2) k (⟨2048 + (i 1).val, by have := (i 1).isLt; change _ < 4096 at this; omega⟩ : Fin 10240))

/-- One block's payload at an index. -/
theorem block_apply (A : Vec Ideal S1024x4096 .bf16) (W : Vec Ideal S1x4096x1024 .bf16) (y : S1024x1024.Idx) :
    k0_pay1 A W y = ∑ k : Fin 4096, (A (ix2 (y 0) k) : EReal) * W (ix3 (0 : Fin 1) k (y 1)) := by
  pointwise [k0_pay1]

theorem idx_facts : ∀ t : Fin cfg0.N, win0_0.index t (0 : Fin 2) = win0_2.index t (0 : Fin 2)
    ∧ win0_0.index t (1 : Fin 2) = 0 ∧ win0_1.index t (0 : Fin 3) = 1 ∧ win0_1.index t (1 : Fin 3) = 0
    ∧ win0_1.index t (2 : Fin 3) = win0_2.index t (1 : Fin 2) + 2 :=
  (by decide +kernel : ∀ t : Fin grid0.N, _)

theorem idx_onto : ∀ (a : Fin 8) (b : Fin 4), ∃ t : Fin cfg0.N, win0_2.flush t = true
    ∧ win0_2.index t (0 : Fin 2) = a.val ∧ win0_2.index t (1 : Fin 2) = b.val :=
  (by decide +kernel : ∀ (a : Fin 8) (b : Fin 4), ∃ t : Fin grid0.N, win0_2.flush t = true
    ∧ win0_2.index t (0 : Fin 2) = a.val ∧ win0_2.index t (1 : Fin 2) = b.val)

theorem hz : (![0, 0] : Fin 2 → Nat) = fun _ => 0 := funext fun a => by fin_cases a <;> rfl

theorem hz3 : (![0, 0, 0] : Fin 3 → Nat) = fun _ => 0 := funext fun a => by fin_cases a <;> rfl

/-- Row `r` of point `t`'s block of the left operand is the result block's row `r` of the whole operand. -/
theorem emb_a (t : Fin cfg0.N) (y : S1024x1024.Idx) (k : Fin 4096) :
    (win0_0.blk t).view.emb (ix2 (y 0) k) = ix2 ((win0_2.blk t).view.emb y 0) k := by
  obtain ⟨e0, e1, _⟩ := idx_facts t
  refine funext fun a => Fin.ext ?_
  match a with
  | ⟨0, _⟩ => show win0_0.index t 0 * 1024 + 1 * (y 0).val = win0_2.index t 0 * 1024 + 1 * (y 0).val
              rw [e0]
  | ⟨1, _⟩ => show win0_0.index t 1 * 4096 + 1 * k.val = k.val
              rw [e1]; omega

/-- Column `j` of point `t`'s block of the weight is the result block's column `j`, 2048 packed columns further on. -/
theorem emb_w (t : Fin cfg0.N) (y : S1024x1024.Idx) (k : Fin 4096) :
    (win0_1.blk t).view.emb (ix3 (0 : Fin 1) k (y 1)) = ix3 (1 : Fin 2) k (⟨2048 + ((win0_2.blk t).view.emb y 1).val,
      by have := ((win0_2.blk t).view.emb y 1).isLt; change _ < 4096 at this; omega⟩ : Fin 10240) := by
  obtain ⟨_, _, e2, e3, e4⟩ := idx_facts t
  refine funext fun a => Fin.ext ?_
  match a with
  | ⟨0, _⟩ => show win0_1.index t 0 * 1 + 1 * 0 = 1
              rw [e2]
  | ⟨1, _⟩ => show win0_1.index t 1 * 4096 + 1 * k.val = k.val
              rw [e3]; omega
  | ⟨2, _⟩ => show win0_1.index t 2 * 1024 + 1 * (y 1).val = 2048 + (win0_2.index t 1 * 1024 + 1 * (y 1).val)
              rw [e4]; omega

/-- What a point writes back is its block of the whole product. -/
theorem flushed_eq (c : Dev nD) (t : Fin cfg0.N) :
    (dats (F := Ideal) m 0 c).flushed 2 t
      = ((cfg0.win 2).blk t).view.read (Elt Ideal) (prod (V m c main_v1) (V m c main_v19)) := by
  rw [Value.flushed2]
  funext y
  show out0_2 (iblk m c 0 t) (iblk m c 1 t) y = prod (V m c main_v1) (V m c main_v19) ((win0_2.blk t).view.emb y)
  unfold out0_2
  rw [View.canon_unit_zero hz, View.ld_unit_zero hz, View.ld_unit_zero hz3, block_apply]
  exact Finset.sum_congr rfl fun k _ =>
    congrArg₂ (fun a b : EReal => a * b) (congrArg (V m c main_v1) (emb_a t y k)) (congrArg (V m c main_v19) (emb_w t y k))

theorem mem_blk (t : Fin cfg0.N) (i : S8192x4096.Idx) :
    i ∈ ((cfg0.win 2).blk t).view.set ↔ ∀ a : Fin 2, win0_2.index t a * win0_2.size a ≤ (i a : Nat)
      ∧ (i a : Nat) < win0_2.index t a * win0_2.size a + win0_2.xsize (grid0.coords t) a := by
  show i ∈ ((View.whole main_v20).slice (win0_2.rect t)).set ↔ _
  rw [View.set_slice_whole, Rect.mem_set_unit]
  exact Iff.rfl

/-- The blocks written back tile the result. -/
theorem cover (i : S8192x4096.Idx) :
    ∃ t : Fin cfg0.N, (cfg0.win 2).flush t = true ∧ i ∈ ((cfg0.win 2).blk t).view.set := by
  have h0 : (i 0 : Nat) < 8192 := (i 0).isLt
  have h1 : (i 1 : Nat) < 4096 := (i 1).isLt
  obtain ⟨t, hf, e0, e1⟩ := idx_onto ⟨(i 0 : Nat) / 1024, by omega⟩ ⟨(i 1 : Nat) / 1024, by omega⟩
  refine ⟨t, hf, ?_⟩
  rw [mem_blk]
  intro a
  match a with
  | ⟨0, _⟩ => show win0_2.index t 0 * 1024 ≤ (i 0 : Nat) ∧ (i 0 : Nat) < win0_2.index t 0 * 1024 + 1024
              rw [e0]; dsimp only; omega
  | ⟨1, _⟩ => show win0_2.index t 1 * 1024 ≤ (i 1 : Nat) ∧ (i 1 : Nat) < win0_2.index t 1 * 1024 + 1024
              rw [e1]; dsimp only; omega

/-- So the result array ends holding the whole product. -/
theorem final (c : Dev nD) : (dats (F := Ideal) m 0 c).arrAt 2 cfg0.N = prod (V m c main_v1) (V m c main_v19) :=
  (dats m 0 c).arrAt_eq_of_cover 2 (prod (V m c main_v1) (V m c main_v19)) (fun t _ => flushed_eq m c t) cover

/-- The left operand as the launch finds it: the rows of the argument, flattened. -/
theorem V_a (c : Dev nD) : (V (F := Ideal) m c main_v1 : S8192x4096.Idx → EReal)
    = shapeCast (α := EReal) S8192x4096 (m ((c : Thread nD τ).loc main_arg0)) shapeCasts_S2x4096x4096_S8192x4096 := by
  dsimp only [V, hostOps0]; after_results <;> rfl

/-- The weight as the launch finds it: packed. -/
theorem V_w (c : Dev nD) : (V (F := Ideal) m c main_v19 : S2x4096x10240.Idx → EReal)
    = Packed.weight (m ((c : Thread nD τ).loc main_arg1)) := by
  dsimp only [V, hostOps0]; after_results <;> rfl

open Cert.Reference6Ideal.Read in
/-- The reference's result at an index: the row times the unpacked column. -/
theorem ref_apply (x0 : (⟨Cert.Reference6Ideal.S2x4096x4096, .f32⟩ : BufTy).Contents (Elt Ideal))
    (x1 : (⟨Cert.Reference6Ideal.S2x4096x9896, .f32⟩ : BufTy).Contents (Elt Ideal)) (i : S8192x4096.Idx) :
    (val_main_v18 x0 x1 i : EReal) = ∑ k : Fin 4096, shapeCast (α := EReal) S8192x4096 x0 shapeCasts_S2x4096x4096_S8192x4096 (ix2 (i 0) k)
      * x1 (ix3 (1 : Fin 2) k (Packed.plainCol (i 1))) := by
  have h1 : (i 1 : Nat) < 4096 := (i 1).isLt
  pointwise! [val_main_v18, val_main_v17, val_main_v16, val_main_v14, val_main_v13, val_main_v12, val_main_v5, val_main_v2,
    val_main_v1, val_main_v0]
  unfold Packed.plainCol
  split_ifs <;> first | omega | (
    refine Finset.sum_congr rfl fun k _ => congrArg₂ (fun a b : EReal => a * b) rfl
      (congrArg x1 (congrArg (ix3 (1 : Fin 2) k) (Fin.ext ?_)))
    first | rfl | (dsimp only; omega))

/-- So the reference's result is the same product with the packed weight. -/
theorem ref_eq (x0 : (⟨Cert.Reference6Ideal.S2x4096x4096, .f32⟩ : BufTy).Contents (Elt Ideal))
    (x1 : (⟨Cert.Reference6Ideal.S2x4096x9896, .f32⟩ : BufTy).Contents (Elt Ideal)) :
    Cert.Reference6Ideal.Read.val_main_v18 x0 x1
      = prod (shapeCast (α := EReal) S8192x4096 x0 shapeCasts_S2x4096x4096_S8192x4096) (Packed.weight x1) :=
  funext fun i => (ref_apply x0 x1 i).trans (Finset.sum_congr rfl fun k _ =>
    congrArg (fun w : EReal => shapeCast (α := EReal) S8192x4096 x0 shapeCasts_S2x4096x4096_S8192x4096 (ix2 (i 0) k) * w)
      (Packed.weight_plain x1 k (i 1) _ rfl).symm)

/-- Over the extended reals the kernel and the reference give one array, and both leave their arguments alone. -/
theorem algebraic : Cert.algebraic_Kernel6Ideal_Reference6Ideal := fun m g m' g' _ agree =>
  ⟨fun c => prod (V m c main_v1) (V m c main_v19),
    (θ_run Cert.Kernel6Ideal.defs _ _).mono (fun _ h c => ⟨(h c).1.trans (final m c), (h c).2⟩) (Value.run_blocks m g),
    (θ_run Cert.Reference6Ideal.defs _ _).mono (fun _ h c => ⟨by
        obtain ⟨e0, e1⟩ := agree c
        refine (h c).1.trans ((Cert.Reference6Ideal.Read.val_main_v18_eq (F := Ideal) _ _).trans ((ref_eq _ _).trans ?_))
        show _ = prod (V m c main_v1) (V m c main_v19)
        rw [V_a, V_w]
        rw [e0, e1],
      (h c).2⟩) (Cert.Reference6Ideal.Value.run m' g')⟩

end Cert.Proof.Plain

end
-- ==== Proof.Latent.lean ====
/- What the two latent projections share: the row scaling, the product with a run of packed columns, and the operand's rows. -/
module

public import proofs.«01_k».proof.Proof.Packed
public import Idealize.ShloMosaic.Lib.Pointwise
public import Idealize.ShloMosaic.Lib.Tactic

@[expose] public section

noncomputable section

namespace Cert.Proof.Latent

open Cert.Kernel6Ideal Cert.Kernel6Ideal.Gen Idealize.ShloMosaic Idealize.ShloMosaic.TcCoe Idealize.SL.Sem

/-- A row scaled by the reciprocal root of its mean square (plus the small constant), times the gain, one element; `word`
    is the row's length as a float. -/
def scaled {w : Nat} (word : BitVec 32) (r g : Fin w → EReal) (n : Fin w) : EReal :=
  r n * Ideal.rsqrt (Ideal.div (∑ j : Fin w, r j * r j) (Ideal.ofBits FTy.f32 word) + Ideal.ofBits FTy.f32 0x358637BD#32) * g n

/-- Row `r` of the operand times packed column `off + n` of the second layer. -/
def columns {w : Nat} (off : Nat) (h : off + w ≤ 10240) (A : S8192x4096.Idx → EReal) (W : S2x4096x10240.Idx → EReal)
    (r : Fin 8192) (n : Fin w) : EReal :=
  ∑ k : Fin 4096, A (ix2 r k) * W (ix3 (1 : Fin 2) k (⟨off + n.val, by omega⟩ : Fin 10240))

theorem hz : (![0, 0] : Fin 2 → Nat) = fun _ => 0 := funext fun a => by fin_cases a <;> rfl

theorem hz3 : (![0, 0, 0] : Fin 3 → Nat) = fun _ => 0 := funext fun a => by fin_cases a <;> rfl

/-- Row `4096 b + s` of the flattened operand is row `s` of batch `b`. -/
theorem rows_apply (x : S2x4096x4096.Idx → EReal) (b : Fin 2) (s : Fin 4096) (r : Fin 8192) (hr : r.val = 4096 * b.val + s.val)
    (k : Fin 4096) :
    shapeCast (α := EReal) S8192x4096 x shapeCasts_S2x4096x4096_S8192x4096 (ix2 r k) = x (ix3 b s k) := by
  have hs := s.isLt
  have e : shapeCast (α := EReal) S8192x4096 x shapeCasts_S2x4096x4096_S8192x4096 (ix2 r k)
      = x (ix3 (⟨r.val / 4096, by omega⟩ : Fin 2) (⟨r.val % 4096, by omega⟩ : Fin 4096) k) := by
    pointwise!
  rw [e]
  exact congrArg₂ (fun a b => x (ix3 a b k)) (Fin.ext (by dsimp only; omega)) (Fin.ext (by dsimp only; omega))

end Cert.Proof.Latent

end
-- ==== Proof.LatentQueries.lean ====
/- The latent queries, normalised: the rows times their columns of the projection, each row
   then scaled to unit mean square and multiplied by the gain. What the kernel's blocks hold, what the whole result array
   holds after the run, and that the reference's lines give the same array over the extended reals. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Latent
public import Idealize.ShloMosaic.Lib.Pointwise
public import Idealize.ShloMosaic.Lib.Tactic

@[expose] public section

set_option maxRecDepth 16384

noncomputable section

namespace Cert.Proof.Cqn

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- The whole result, one element. -/
def prod (A : S8192x4096.Idx → EReal) (W : S2x4096x10240.Idx → EReal) (G : S1x1024.Idx → EReal) (i : S8192x1024.Idx) : EReal :=
  Latent.scaled 0x44800000#32 (Latent.columns 8192 (by decide) A W (i 0)) (fun n => G (ix2 (0 : Fin 1) n)) (i 1)

/-- One block's payload at an index. -/
theorem block_apply (A : Vec Ideal S1024x4096 .bf16) (W : Vec Ideal S1x4096x1024 .bf16) (G : Vec Ideal S1x1024 .f32) (y : S1024x1024.Idx) :
    k0_pay1 A W G y = Latent.scaled 0x44800000#32 (fun n => ∑ k : Fin 4096, (A (ix2 (y 0) k) : EReal) * W (ix3 (0 : Fin 1) k n))
      (fun n => G (ix2 (0 : Fin 1) n)) (y 1) := by
  pointwise! [k0_pay1, Latent.scaled]

theorem idx_facts : ∀ t : Fin cfg0.N, win0_0.index t (0 : Fin 2) = win0_3.index t (0 : Fin 2)
    ∧ win0_0.index t (1 : Fin 2) = 0 ∧ win0_1.index t (0 : Fin 3) = 1 ∧ win0_1.index t (1 : Fin 3) = 0
    ∧ win0_1.index t (2 : Fin 3) = 8 ∧ win0_2.index t (0 : Fin 2) = 0 ∧ win0_2.index t (1 : Fin 2) = 0
    ∧ win0_3.index t (1 : Fin 2) = 0 :=
  (by decide +kernel : ∀ t : Fin grid0.N, _)

theorem idx_onto : ∀ (a : Fin 8), ∃ t : Fin cfg0.N, win0_3.flush t = true
    ∧ win0_3.index t (0 : Fin 2) = a.val ∧ win0_3.index t (1 : Fin 2) = 0 :=
  (by decide +kernel : ∀ (a : Fin 8), ∃ t : Fin grid0.N, win0_3.flush t = true
    ∧ win0_3.index t (0 : Fin 2) = a.val ∧ win0_3.index t (1 : Fin 2) = 0)

/-- Row `r` of point `t`'s block of the left operand is the result block's row `r` of the whole operand. -/
theorem emb_a (t : Fin cfg0.N) (y : S1024x1024.Idx) (k : Fin 4096) :
    (win0_0.blk t).view.emb (ix2 (y 0) k) = ix2 ((win0_3.blk t).view.emb y 0) k := by
  obtain ⟨e0, e1, _⟩ := idx_facts t
  refine funext fun a => Fin.ext ?_
  match a with
  | ⟨0, _⟩ => show win0_0.index t 0 * 1024 + 1 * (y 0).val = win0_3.index t 0 * 1024 + 1 * (y 0).val
              rw [e0]
  | ⟨1, _⟩ => show win0_0.index t 1 * 4096 + 1 * k.val = k.val
              rw [e1]; omega

/-- Column `n` of the weight's block is packed column `8192 + n`. -/
theorem emb_w (t : Fin cfg0.N) (n : Fin 1024) (k : Fin 4096) :
    (win0_1.blk t).view.emb (ix3 (0 : Fin 1) k n)
      = ix3 (1 : Fin 2) k (⟨8192 + n.val, by omega⟩ : Fin 10240) := by
  obtain ⟨_, _, e2, e3, e4, _⟩ := idx_facts t
  refine funext fun a => Fin.ext ?_
  match a with
  | ⟨0, _⟩ => show win0_1.index t 0 * 1 + 1 * 0 = 1
              rw [e2]
  | ⟨1, _⟩ => show win0_1.index t 1 * 4096 + 1 * k.val = k.val
              rw [e3]; omega
  | ⟨2, _⟩ => show win0_1.index t 2 * 1024 + 1 * n.val = 8192 + n.val
              rw [e4]; omega

/-- The gain's block is the whole gain. -/
theorem emb_g (t : Fin cfg0.N) (n : Fin 1024) : (win0_2.blk t).view.emb (ix2 (0 : Fin 1) n) = ix2 (0 : Fin 1) n := by
  obtain ⟨_, _, _, _, _, e5, e6, _⟩ := idx_facts t
  refine funext fun a => Fin.ext ?_
  match a with
  | ⟨0, _⟩ => show win0_2.index t 0 * 1 + 1 * 0 = 0
              rw [e5]
  | ⟨1, _⟩ => show win0_2.index t 1 * 1024 + 1 * n.val = n.val
              rw [e6]; omega

/-- The result's block holds whole rows. -/
theorem emb_col (t : Fin cfg0.N) (y : S1024x1024.Idx) : (win0_3.blk t).view.emb y 1 = y 1 := by
  obtain ⟨_, _, _, _, _, _, _, e7⟩ := idx_facts t
  refine Fin.ext ?_
  show win0_3.index t 1 * 1024 + 1 * (y 1).val = (y 1).val
  rw [e7]; omega

/-- What a point writes back is its block of the whole result. -/
theorem flushed_eq (c : Dev nD) (t : Fin cfg0.N) :
    (dats (F := Ideal) m 0 c).flushed 3 t
      = ((cfg0.win 3).blk t).view.read (Elt Ideal) (prod (V m c main_v1) (V m c main_v19) (V m c main_v22)) := by
  rw [Value.flushed3]
  funext y
  show out0_3 (iblk m c 0 t) (iblk m c 1 t) (iblk m c 2 t) y
    = Latent.scaled 0x44800000#32 (Latent.columns 8192 (by decide) (V m c main_v1) (V m c main_v19) ((win0_3.blk t).view.emb y 0)) (fun n => V m c main_v22 (ix2 (0 : Fin 1) n))
      ((win0_3.blk t).view.emb y 1)
  unfold out0_3
  rw [View.canon_unit_zero Latent.hz, View.ld_unit_zero Latent.hz, View.ld_unit_zero Latent.hz3, View.ld_unit_zero Latent.hz, block_apply, emb_col]
  refine congrArg₂ (fun r g => Latent.scaled 0x44800000#32 r g (y 1)) (funext fun n => ?_) (funext fun n => congrArg (V m c main_v22) (emb_g t n))
  exact Finset.sum_congr rfl fun k _ =>
    congrArg₂ (fun a b : EReal => a * b) (congrArg (V m c main_v1) (emb_a t y k)) (congrArg (V m c main_v19) (emb_w t n k))

theorem mem_blk (t : Fin cfg0.N) (i : S8192x1024.Idx) :
    i ∈ ((cfg0.win 3).blk t).view.set ↔ ∀ a : Fin 2, win0_3.index t a * win0_3.size a ≤ (i a : Nat)
      ∧ (i a : Nat) < win0_3.index t a * win0_3.size a + win0_3.xsize (grid0.coords t) a := by
  show i ∈ ((View.whole main_v23).slice (win0_3.rect t)).set ↔ _
  rw [View.set_slice_whole, Rect.mem_set_unit]
  exact Iff.rfl

/-- The blocks written back tile the result. -/
theorem cover (i : S8192x1024.Idx) :
    ∃ t : Fin cfg0.N, (cfg0.win 3).flush t = true ∧ i ∈ ((cfg0.win 3).blk t).view.set := by
  have h0 : (i 0 : Nat) < 8192 := (i 0).isLt
  have h1 : (i 1 : Nat) < 1024 := (i 1).isLt
  obtain ⟨t, hf, e0, e1⟩ := idx_onto ⟨(i 0 : Nat) / 1024, by omega⟩
  refine ⟨t, hf, ?_⟩
  rw [mem_blk]
  intro a
  match a with
  | ⟨0, _⟩ => show win0_3.index t 0 * 1024 ≤ (i 0 : Nat) ∧ (i 0 : Nat) < win0_3.index t 0 * 1024 + 1024
              rw [e0]; dsimp only; omega
  | ⟨1, _⟩ => show win0_3.index t 1 * 1024 ≤ (i 1 : Nat) ∧ (i 1 : Nat) < win0_3.index t 1 * 1024 + 1024
              rw [e1]; omega

/-- So the result array ends holding the whole result. -/
theorem final (c : Dev nD) : (dats (F := Ideal) m 0 c).arrAt 3 cfg0.N = prod (V m c main_v1) (V m c main_v19) (V m c main_v22) :=
  (dats m 0 c).arrAt_eq_of_cover 3 (prod (V m c main_v1) (V m c main_v19) (V m c main_v22)) (fun t _ => flushed_eq m c t) cover

/-- The left operand as the launch finds it: the rows of the argument, flattened. -/
theorem V_a (c : Dev nD) : (V (F := Ideal) m c main_v1 : S8192x4096.Idx → EReal)
    = shapeCast (α := EReal) S8192x4096 (m ((c : Thread nD τ).loc main_arg0)) shapeCasts_S2x4096x4096_S8192x4096 := by
  dsimp only [V, hostOps0]; after_results <;> rfl

/-- The weight as the launch finds it: packed. -/
theorem V_w (c : Dev nD) : (V (F := Ideal) m c main_v19 : S2x4096x10240.Idx → EReal)
    = Packed.weight (m ((c : Thread nD τ).loc main_arg1)) := by
  dsimp only [V, hostOps0]; after_results <;> rfl

/-- The gain as the launch finds it: the second layer's. -/
theorem V_g (c : Dev nD) : (V (F := Ideal) m c main_v22 : S1x1024.Idx → EReal)
    = shapeCast (α := EReal) S1x1024 (shapeCast (α := EReal) S1024 (extractStridedSlice (α := EReal) S1x1024 ![1, 0]
        (m ((c : Thread nD τ).loc main_arg2)) slices_S2x1024_S1x1024_1_0) shapeCasts_S1x1024_S1024) shapeCasts_S1024_S1x1024 := by
  dsimp only [V, hostOps0]; after_results <;> rfl

/-- The gain at a column. -/
theorem gain_apply (g : S2x1024.Idx → EReal) (n : Fin 1024) :
    shapeCast (α := EReal) S1x1024 (shapeCast (α := EReal) S1024 (extractStridedSlice (α := EReal) S1x1024 ![1, 0]
        g slices_S2x1024_S1x1024_1_0) shapeCasts_S1x1024_S1024) shapeCasts_S1024_S1x1024 (ix2 (0 : Fin 1) n) = g (ix2 (1 : Fin 2) n) := by
  pointwise!

open Cert.Reference7Ideal.Read in
/-- The reference's columns of the projection at an index. -/
theorem ref_latent (x0 : (⟨Cert.Reference7Ideal.S2x4096x4096, .f32⟩ : BufTy).Contents (Elt Ideal))
    (x1 : (⟨Cert.Reference7Ideal.S2x4096x9896, .f32⟩ : BufTy).Contents (Elt Ideal)) (b : Fin 2) (s : Fin 4096) (r : Fin 8192)
    (hr : r.val = 4096 * b.val + s.val) (n : Fin 1024) :
    (val_main_v9 x0 x1 (ix3 b s n) : EReal)
      = Latent.columns 8192 (by decide) (shapeCast (α := EReal) S8192x4096 x0 shapeCasts_S2x4096x4096_S8192x4096) (Packed.weight x1) r n := by
  have h : (val_main_v9 x0 x1 (ix3 b s n) : EReal)
      = ∑ k : Fin 4096, x0 (ix3 b s k) * x1 (ix3 (1 : Fin 2) k (⟨5216 + n.val, by omega⟩ : Fin 9896)) := by
    pointwise! [val_main_v9, val_main_v2, val_main_v1, val_main_v0]
  refine h.trans (Finset.sum_congr rfl fun k _ => congrArg₂ (fun a b : EReal => a * b) ?_ (Packed.weight_cq x1 k n _ rfl).symm)
  exact (Latent.rows_apply x0 b s r hr k).symm

open Cert.Reference7Ideal.Read in
/-- The reference's result at an index, over its columns of the projection. -/
theorem ref_apply (x0 : (⟨Cert.Reference7Ideal.S2x4096x4096, .f32⟩ : BufTy).Contents (Elt Ideal))
    (x1 : (⟨Cert.Reference7Ideal.S2x4096x9896, .f32⟩ : BufTy).Contents (Elt Ideal))
    (x2 : (⟨Cert.Reference7Ideal.S2x1024, .f32⟩ : BufTy).Contents (Elt Ideal)) (i : S8192x1024.Idx) :
    (val_main_v32 x0 x1 x2 i : EReal)
      = Latent.scaled 0x44800000#32 (fun n => val_main_v9 x0 x1 (ix3 (⟨(i 0).val / 4096, by have := (i 0).isLt; change _ < 8192 at this; omega⟩ : Fin 2)
          (⟨(i 0).val % 4096, by omega⟩ : Fin 4096) n)) (fun n => x2 (ix2 (1 : Fin 2) n)) (i 1) := by
  pointwise! [val_main_v32, val_main_v31, val_main_v30, val_main_v29, val_main_v28, val_main_v27, val_main_v26, val_main_v25,
    val_main_v24, val_main_v23, val_main_v22, val_main_v21, val_main_v20, val_main_v19, val_main_v18, val_main_v17, val_main_v16,
    val_main_cst, val_main_cst_0, val_main_cst_1, Latent.scaled]

/-- So the reference's result is the same array of the same operands. -/
theorem ref_eq (x0 : (⟨Cert.Reference7Ideal.S2x4096x4096, .f32⟩ : BufTy).Contents (Elt Ideal))
    (x1 : (⟨Cert.Reference7Ideal.S2x4096x9896, .f32⟩ : BufTy).Contents (Elt Ideal))
    (x2 : (⟨Cert.Reference7Ideal.S2x1024, .f32⟩ : BufTy).Contents (Elt Ideal)) :
    Cert.Reference7Ideal.Read.val_main_v32 x0 x1 x2
      = prod (shapeCast (α := EReal) S8192x4096 x0 shapeCasts_S2x4096x4096_S8192x4096) (Packed.weight x1)
        (shapeCast (α := EReal) S1x1024 (shapeCast (α := EReal) S1024 (extractStridedSlice (α := EReal) S1x1024 ![1, 0]
          x2 slices_S2x1024_S1x1024_1_0) shapeCasts_S1x1024_S1024) shapeCasts_S1024_S1x1024) :=
  funext fun i => (ref_apply x0 x1 x2 i).trans (congrArg₂ (fun r g => Latent.scaled 0x44800000#32 r g (i 1))
    (funext fun n => ref_latent x0 x1 _ _ (i 0) (by dsimp only; omega) n) (funext fun n => (gain_apply x2 n).symm))

/-- Over the extended reals the kernel and the reference give one array, and both leave their arguments alone. -/
theorem algebraic : Cert.algebraic_Kernel7Ideal_Reference7Ideal := fun m g m' g' _ agree =>
  ⟨fun c => prod (V m c main_v1) (V m c main_v19) (V m c main_v22),
    (θ_run Cert.Kernel7Ideal.defs _ _).mono (fun _ h c => ⟨(h c).1.trans (final m c), (h c).2⟩) (Value.run_blocks m g),
    (θ_run Cert.Reference7Ideal.defs _ _).mono (fun _ h c => ⟨by
        obtain ⟨e0, e1, e2⟩ := agree c
        refine (h c).1.trans ((Cert.Reference7Ideal.Read.val_main_v32_eq (F := Ideal) _ _ _).trans ((ref_eq _ _ _).trans ?_))
        show _ = prod (V m c main_v1) (V m c main_v19) (V m c main_v22)
        rw [V_a, V_w, V_g]
        rw [e0, e1, e2],
      (h c).2⟩) (Cert.Reference7Ideal.Value.run m' g')⟩

end Cert.Proof.Cqn

end
-- ==== Proof.LatentKeys.lean ====
/- The latent keys and values, normalised: the rows times their columns of the projection, each row
   then scaled to unit mean square and multiplied by the gain. What the kernel's blocks hold, what the whole result array
   holds after the run, and that the reference's lines give the same array over the extended reals. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.Latent
public import Idealize.ShloMosaic.Lib.Pointwise
public import Idealize.ShloMosaic.Lib.Tactic

@[expose] public section

set_option maxRecDepth 16384

noncomputable section

namespace Cert.Proof.Ckvn

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- The whole result, one element. -/
def prod (A : S8192x4096.Idx → EReal) (W : S2x4096x10240.Idx → EReal) (G : S1x512.Idx → EReal) (i : S8192x512.Idx) : EReal :=
  Latent.scaled 0x44000000#32 (Latent.columns 9216 (by decide) A W (i 0)) (fun n => G (ix2 (0 : Fin 1) n)) (i 1)

/-- One block's payload at an index. -/
theorem block_apply (A : Vec Ideal S1024x4096 .bf16) (W : Vec Ideal S1x4096x512 .bf16) (G : Vec Ideal S1x512 .f32) (y : S1024x512.Idx) :
    k0_pay1 A W G y = Latent.scaled 0x44000000#32 (fun n => ∑ k : Fin 4096, (A (ix2 (y 0) k) : EReal) * W (ix3 (0 : Fin 1) k n))
      (fun n => G (ix2 (0 : Fin 1) n)) (y 1) := by
  pointwise! [k0_pay1, Latent.scaled]

theorem idx_facts : ∀ t : Fin cfg0.N, win0_0.index t (0 : Fin 2) = win0_3.index t (0 : Fin 2)
    ∧ win0_0.index t (1 : Fin 2) = 0 ∧ win0_1.index t (0 : Fin 3) = 1 ∧ win0_1.index t (1 : Fin 3) = 0
    ∧ win0_1.index t (2 : Fin 3) = 18 ∧ win0_2.index t (0 : Fin 2) = 0 ∧ win0_2.index t (1 : Fin 2) = 0
    ∧ win0_3.index t (1 : Fin 2) = 0 :=
  (by decide +kernel : ∀ t : Fin grid0.N, _)

theorem idx_onto : ∀ (a : Fin 8), ∃ t : Fin cfg0.N, win0_3.flush t = true
    ∧ win0_3.index t (0 : Fin 2) = a.val ∧ win0_3.index t (1 : Fin 2) = 0 :=
  (by decide +kernel : ∀ (a : Fin 8), ∃ t : Fin grid0.N, win0_3.flush t = true
    ∧ win0_3.index t (0 : Fin 2) = a.val ∧ win0_3.index t (1 : Fin 2) = 0)

/-- Row `r` of point `t`'s block of the left operand is the result block's row `r` of the whole operand. -/
theorem emb_a (t : Fin cfg0.N) (y : S1024x512.Idx) (k : Fin 4096) :
    (win0_0.blk t).view.emb (ix2 (y 0) k) = ix2 ((win0_3.blk t).view.emb y 0) k := by
  obtain ⟨e0, e1, _⟩ := idx_facts t
  refine funext fun a => Fin.ext ?_
  match a with
  | ⟨0, _⟩ => show win0_0.index t 0 * 1024 + 1 * (y 0).val = win0_3.index t 0 * 1024 + 1 * (y 0).val
              rw [e0]
  | ⟨1, _⟩ => show win0_0.index t 1 * 4096 + 1 * k.val = k.val
              rw [e1]; omega

/-- Column `n` of the weight's block is packed column `9216 + n`. -/
theorem emb_w (t : Fin cfg0.N) (n : Fin 512) (k : Fin 4096) :
    (win0_1.blk t).view.emb (ix3 (0 : Fin 1) k n)
      = ix3 (1 : Fin 2) k (⟨9216 + n.val, by omega⟩ : Fin 10240) := by
  obtain ⟨_, _, e2, e3, e4, _⟩ := idx_facts t
  refine funext fun a => Fin.ext ?_
  match a with
  | ⟨0, _⟩ => show win0_1.index t 0 * 1 + 1 * 0 = 1
              rw [e2]
  | ⟨1, _⟩ => show win0_1.index t 1 * 4096 + 1 * k.val = k.val
              rw [e3]; omega
  | ⟨2, _⟩ => show win0_1.index t 2 * 512 + 1 * n.val = 9216 + n.val
              rw [e4]; omega

/-- The gain's block is the whole gain. -/
theorem emb_g (t : Fin cfg0.N) (n : Fin 512) : (win0_2.blk t).view.emb (ix2 (0 : Fin 1) n) = ix2 (0 : Fin 1) n := by
  obtain ⟨_, _, _, _, _, e5, e6, _⟩ := idx_facts t
  refine funext fun a => Fin.ext ?_
  match a with
  | ⟨0, _⟩ => show win0_2.index t 0 * 1 + 1 * 0 = 0
              rw [e5]
  | ⟨1, _⟩ => show win0_2.index t 1 * 512 + 1 * n.val = n.val
              rw [e6]; omega

/-- The result's block holds whole rows. -/
theorem emb_col (t : Fin cfg0.N) (y : S1024x512.Idx) : (win0_3.blk t).view.emb y 1 = y 1 := by
  obtain ⟨_, _, _, _, _, _, _, e7⟩ := idx_facts t
  refine Fin.ext ?_
  show win0_3.index t 1 * 512 + 1 * (y 1).val = (y 1).val
  rw [e7]; omega

/-- What a point writes back is its block of the whole result. -/
theorem flushed_eq (c : Dev nD) (t : Fin cfg0.N) :
    (dats (F := Ideal) m 0 c).flushed 3 t
      = ((cfg0.win 3).blk t).view.read (Elt Ideal) (prod (V m c main_v1) (V m c main_v19) (V m c main_v22)) := by
  rw [Value.flushed3]
  funext y
  show out0_3 (iblk m c 0 t) (iblk m c 1 t) (iblk m c 2 t) y
    = Latent.scaled 0x44000000#32 (Latent.columns 9216 (by decide) (V m c main_v1) (V m c main_v19) ((win0_3.blk t).view.emb y 0)) (fun n => V m c main_v22 (ix2 (0 : Fin 1) n))
      ((win0_3.blk t).view.emb y 1)
  unfold out0_3
  rw [View.canon_unit_zero Latent.hz, View.ld_unit_zero Latent.hz, View.ld_unit_zero Latent.hz3, View.ld_unit_zero Latent.hz, block_apply, emb_col]
  refine congrArg₂ (fun r g => Latent.scaled 0x44000000#32 r g (y 1)) (funext fun n => ?_) (funext fun n => congrArg (V m c main_v22) (emb_g t n))
  exact Finset.sum_congr rfl fun k _ =>
    congrArg₂ (fun a b : EReal => a * b) (congrArg (V m c main_v1) (emb_a t y k)) (congrArg (V m c main_v19) (emb_w t n k))

theorem mem_blk (t : Fin cfg0.N) (i : S8192x512.Idx) :
    i ∈ ((cfg0.win 3).blk t).view.set ↔ ∀ a : Fin 2, win0_3.index t a * win0_3.size a ≤ (i a : Nat)
      ∧ (i a : Nat) < win0_3.index t a * win0_3.size a + win0_3.xsize (grid0.coords t) a := by
  show i ∈ ((View.whole main_v23).slice (win0_3.rect t)).set ↔ _
  rw [View.set_slice_whole, Rect.mem_set_unit]
  exact Iff.rfl

/-- The blocks written back tile the result. -/
theorem cover (i : S8192x512.Idx) :
    ∃ t : Fin cfg0.N, (cfg0.win 3).flush t = true ∧ i ∈ ((cfg0.win 3).blk t).view.set := by
  have h0 : (i 0 : Nat) < 8192 := (i 0).isLt
  have h1 : (i 1 : Nat) < 512 := (i 1).isLt
  obtain ⟨t, hf, e0, e1⟩ := idx_onto ⟨(i 0 : Nat) / 1024, by omega⟩
  refine ⟨t, hf, ?_⟩
  rw [mem_blk]
  intro a
  match a with
  | ⟨0, _⟩ => show win0_3.index t 0 * 1024 ≤ (i 0 : Nat) ∧ (i 0 : Nat) < win0_3.index t 0 * 1024 + 1024
              rw [e0]; dsimp only; omega
  | ⟨1, _⟩ => show win0_3.index t 1 * 512 ≤ (i 1 : Nat) ∧ (i 1 : Nat) < win0_3.index t 1 * 512 + 512
              rw [e1]; omega

/-- So the result array ends holding the whole result. -/
theorem final (c : Dev nD) : (dats (F := Ideal) m 0 c).arrAt 3 cfg0.N = prod (V m c main_v1) (V m c main_v19) (V m c main_v22) :=
  (dats m 0 c).arrAt_eq_of_cover 3 (prod (V m c main_v1) (V m c main_v19) (V m c main_v22)) (fun t _ => flushed_eq m c t) cover

/-- The left operand as the launch finds it: the rows of the argument, flattened. -/
theorem V_a (c : Dev nD) : (V (F := Ideal) m c main_v1 : S8192x4096.Idx → EReal)
    = shapeCast (α := EReal) S8192x4096 (m ((c : Thread nD τ).loc main_arg0)) shapeCasts_S2x4096x4096_S8192x4096 := by
  dsimp only [V, hostOps0]; after_results <;> rfl

/-- The weight as the launch finds it: packed. -/
theorem V_w (c : Dev nD) : (V (F := Ideal) m c main_v19 : S2x4096x10240.Idx → EReal)
    = Packed.weight (m ((c : Thread nD τ).loc main_arg1)) := by
  dsimp only [V, hostOps0]; after_results <;> rfl

/-- The gain as the launch finds it: the second layer's. -/
theorem V_g (c : Dev nD) : (V (F := Ideal) m c main_v22 : S1x512.Idx → EReal)
    = shapeCast (α := EReal) S1x512 (shapeCast (α := EReal) S512 (extractStridedSlice (α := EReal) S1x512 ![1, 0]
        (m ((c : Thread nD τ).loc main_arg2)) slices_S2x512_S1x512_1_0) shapeCasts_S1x512_S512) shapeCasts_S512_S1x512 := by
  dsimp only [V, hostOps0]; after_results <;> rfl

/-- The gain at a column. -/
theorem gain_apply (g : S2x512.Idx → EReal) (n : Fin 512) :
    shapeCast (α := EReal) S1x512 (shapeCast (α := EReal) S512 (extractStridedSlice (α := EReal) S1x512 ![1, 0]
        g slices_S2x512_S1x512_1_0) shapeCasts_S1x512_S512) shapeCasts_S512_S1x512 (ix2 (0 : Fin 1) n) = g (ix2 (1 : Fin 2) n) := by
  pointwise!

open Cert.Reference8Ideal.Read in
/-- The reference's columns of the projection at an index. -/
theorem ref_latent (x0 : (⟨Cert.Reference8Ideal.S2x4096x4096, .f32⟩ : BufTy).Contents (Elt Ideal))
    (x1 : (⟨Cert.Reference8Ideal.S2x4096x9896, .f32⟩ : BufTy).Contents (Elt Ideal)) (b : Fin 2) (s : Fin 4096) (r : Fin 8192)
    (hr : r.val = 4096 * b.val + s.val) (n : Fin 512) :
    (val_main_v10 x0 x1 (ix3 b s n) : EReal)
      = Latent.columns 9216 (by decide) (shapeCast (α := EReal) S8192x4096 x0 shapeCasts_S2x4096x4096_S8192x4096) (Packed.weight x1) r n := by
  have h : (val_main_v10 x0 x1 (ix3 b s n) : EReal)
      = ∑ k : Fin 4096, x0 (ix3 b s k) * x1 (ix3 (1 : Fin 2) k (⟨6240 + n.val, by omega⟩ : Fin 9896)) := by
    pointwise! [val_main_v10, val_main_v2, val_main_v1, val_main_v0]
  refine h.trans (Finset.sum_congr rfl fun k _ => congrArg₂ (fun a b : EReal => a * b) ?_ (Packed.weight_ckv x1 k n _ rfl).symm)
  exact (Latent.rows_apply x0 b s r hr k).symm

open Cert.Reference8Ideal.Read in
/-- The reference's result at an index, over its columns of the projection. -/
theorem ref_apply (x0 : (⟨Cert.Reference8Ideal.S2x4096x4096, .f32⟩ : BufTy).Contents (Elt Ideal))
    (x1 : (⟨Cert.Reference8Ideal.S2x4096x9896, .f32⟩ : BufTy).Contents (Elt Ideal))
    (x2 : (⟨Cert.Reference8Ideal.S2x512, .f32⟩ : BufTy).Contents (Elt Ideal)) (i : S8192x512.Idx) :
    (val_main_v32 x0 x1 x2 i : EReal)
      = Latent.scaled 0x44000000#32 (fun n => val_main_v10 x0 x1 (ix3 (⟨(i 0).val / 4096, by have := (i 0).isLt; change _ < 8192 at this; omega⟩ : Fin 2)
          (⟨(i 0).val % 4096, by omega⟩ : Fin 4096) n)) (fun n => x2 (ix2 (1 : Fin 2) n)) (i 1) := by
  pointwise! [val_main_v32, val_main_v31, val_main_v30, val_main_v29, val_main_v28, val_main_v27, val_main_v26, val_main_v25,
    val_main_v24, val_main_v23, val_main_v22, val_main_v21, val_main_v20, val_main_v19, val_main_v18, val_main_v17, val_main_v16,
    val_main_cst, val_main_cst_0, val_main_cst_1, Latent.scaled]

/-- So the reference's result is the same array of the same operands. -/
theorem ref_eq (x0 : (⟨Cert.Reference8Ideal.S2x4096x4096, .f32⟩ : BufTy).Contents (Elt Ideal))
    (x1 : (⟨Cert.Reference8Ideal.S2x4096x9896, .f32⟩ : BufTy).Contents (Elt Ideal))
    (x2 : (⟨Cert.Reference8Ideal.S2x512, .f32⟩ : BufTy).Contents (Elt Ideal)) :
    Cert.Reference8Ideal.Read.val_main_v32 x0 x1 x2
      = prod (shapeCast (α := EReal) S8192x4096 x0 shapeCasts_S2x4096x4096_S8192x4096) (Packed.weight x1)
        (shapeCast (α := EReal) S1x512 (shapeCast (α := EReal) S512 (extractStridedSlice (α := EReal) S1x512 ![1, 0]
          x2 slices_S2x512_S1x512_1_0) shapeCasts_S1x512_S512) shapeCasts_S512_S1x512) :=
  funext fun i => (ref_apply x0 x1 x2 i).trans (congrArg₂ (fun r g => Latent.scaled 0x44000000#32 r g (i 1))
    (funext fun n => ref_latent x0 x1 _ _ (i 0) (by dsimp only; omega) n) (funext fun n => (gain_apply x2 n).symm))

/-- Over the extended reals the kernel and the reference give one array, and both leave their arguments alone. -/
theorem algebraic : Cert.algebraic_Kernel8Ideal_Reference8Ideal := fun m g m' g' _ agree =>
  ⟨fun c => prod (V m c main_v1) (V m c main_v19) (V m c main_v22),
    (θ_run Cert.Kernel8Ideal.defs _ _).mono (fun _ h c => ⟨(h c).1.trans (final m c), (h c).2⟩) (Value.run_blocks m g),
    (θ_run Cert.Reference8Ideal.defs _ _).mono (fun _ h c => ⟨by
        obtain ⟨e0, e1, e2⟩ := agree c
        refine (h c).1.trans ((Cert.Reference8Ideal.Read.val_main_v32_eq (F := Ideal) _ _ _).trans ((ref_eq _ _ _).trans ?_))
        show _ = prod (V m c main_v1) (V m c main_v19) (V m c main_v22)
        rw [V_a, V_w, V_g]
        rw [e0, e1, e2],
      (h c).2⟩) (Cert.Reference8Ideal.Value.run m' g')⟩

end Cert.Proof.Ckvn

end
-- ==== Proof.KeyValues.lean ====
/- The keys and values of every head from the latent ones: what the kernel's blocks hold, what the whole result array holds
   after the run, and that the reference's product, its heads' keys and values set apart, is the same array over the
   extended reals. -/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise
public import Idealize.ShloMosaic.Lib.Tactic

@[expose] public section

set_option maxRecDepth 2048

noncomputable section

namespace Cert.Proof.Kv

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

/-- The product of the rows with the second layer's rearranged columns, one element. -/
def prod (A : S8192x512.Idx → EReal) (W : S2x512x4096.Idx → EReal) (i : S8192x4096.Idx) : EReal :=
  ∑ k : Fin 512, A (ix2 (i 0) k) * W (ix3 (1 : Fin 2) k (i 1))

/-- One block's payload at an index. -/
theorem block_apply (A : Vec Ideal S1024x512 .bf16) (W : Vec Ideal S1x512x1024 .bf16) (y : S1024x1024.Idx) :
    k0_pay1 A W y = ∑ k : Fin 512, (A (ix2 (y 0) k) : EReal) * W (ix3 (0 : Fin 1) k (y 1)) := by
  pointwise [k0_pay1]

theorem idx_facts : ∀ t : Fin cfg0.N, win0_0.index t (0 : Fin 2) = win0_2.index t (0 : Fin 2)
    ∧ win0_0.index t (1 : Fin 2) = 0 ∧ win0_1.index t (0 : Fin 3) = 1 ∧ win0_1.index t (1 : Fin 3) = 0
    ∧ win0_1.index t (2 : Fin 3) = win0_2.index t (1 : Fin 2) :=
  (by decide +kernel : ∀ t : Fin grid0.N, _)

theorem idx_onto : ∀ (a : Fin 8) (b : Fin 4), ∃ t : Fin cfg0.N, win0_2.flush t = true
    ∧ win0_2.index t (0 : Fin 2) = a.val ∧ win0_2.index t (1 : Fin 2) = b.val :=
  (by decide +kernel : ∀ (a : Fin 8) (b : Fin 4), ∃ t : Fin grid0.N, win0_2.flush t = true
    ∧ win0_2.index t (0 : Fin 2) = a.val ∧ win0_2.index t (1 : Fin 2) = b.val)

theorem hz : (![0, 0] : Fin 2 → Nat) = fun _ => 0 := funext fun a => by fin_cases a <;> rfl

theorem hz3 : (![0, 0, 0] : Fin 3 → Nat) = fun _ => 0 := funext fun a => by fin_cases a <;> rfl

/-- Row `r` of point `t`'s block of the left operand is the result block's row `r` of the whole operand. -/
theorem emb_a (t : Fin cfg0.N) (y : S1024x1024.Idx) (k : Fin 512) :
    (win0_0.blk t).view.emb (ix2 (y 0) k) = ix2 ((win0_2.blk t).view.emb y 0) k := by
  obtain ⟨e0, e1, _⟩ := idx_facts t
  refine funext fun a => Fin.ext ?_
  match a with
  | ⟨0, _⟩ => show win0_0.index t 0 * 1024 + 1 * (y 0).val = win0_2.index t 0 * 1024 + 1 * (y 0).val
              rw [e0]
  | ⟨1, _⟩ => show win0_0.index t 1 * 512 + 1 * k.val = k.val
              rw [e1]; omega

/-- Column `j` of point `t`'s block of the weight is the result block's column `j` of the whole weight. -/
theorem emb_w (t : Fin cfg0.N) (y : S1024x1024.Idx) (k : Fin 512) :
    (win0_1.blk t).view.emb (ix3 (0 : Fin 1) k (y 1)) = ix3 (1 : Fin 2) k ((win0_2.blk t).view.emb y 1) := by
  obtain ⟨_, _, e2, e3, e4⟩ := idx_facts t
  refine funext fun a => Fin.ext ?_
  match a with
  | ⟨0, _⟩ => show win0_1.index t 0 * 1 + 1 * 0 = 1
              rw [e2]
  | ⟨1, _⟩ => show win0_1.index t 1 * 512 + 1 * k.val = k.val
              rw [e3]; omega
  | ⟨2, _⟩ => show win0_1.index t 2 * 1024 + 1 * (y 1).val = win0_2.index t 1 * 1024 + 1 * (y 1).val
              rw [e4]

/-- What a point writes back is its block of the whole product. -/
theorem flushed_eq (c : Dev nD) (t : Fin cfg0.N) :
    (dats (F := Ideal) m 0 c).flushed 2 t
      = ((cfg0.win 2).blk t).view.read (Elt Ideal) (prod (V m c main_v8) (V m c main_v6)) := by
  rw [Value.flushed2]
  funext y
  show out0_2 (iblk m c 0 t) (iblk m c 1 t) y = prod (V m c main_v8) (V m c main_v6) ((win0_2.blk t).view.emb y)
  unfold out0_2
  rw [View.canon_unit_zero hz, View.ld_unit_zero hz, View.ld_unit_zero hz3, block_apply]
  exact Finset.sum_congr rfl fun k _ =>
    congrArg₂ (fun a b : EReal => a * b) (congrArg (V m c main_v8) (emb_a t y k)) (congrArg (V m c main_v6) (emb_w t y k))

theorem mem_blk (t : Fin cfg0.N) (i : S8192x4096.Idx) :
    i ∈ ((cfg0.win 2).blk t).view.set ↔ ∀ a : Fin 2, win0_2.index t a * win0_2.size a ≤ (i a : Nat)
      ∧ (i a : Nat) < win0_2.index t a * win0_2.size a + win0_2.xsize (grid0.coords t) a := by
  show i ∈ ((View.whole main_v9).slice (win0_2.rect t)).set ↔ _
  rw [View.set_slice_whole, Rect.mem_set_unit]
  exact Iff.rfl

/-- The blocks written back tile the result. -/
theorem cover (i : S8192x4096.Idx) :
    ∃ t : Fin cfg0.N, (cfg0.win 2).flush t = true ∧ i ∈ ((cfg0.win 2).blk t).view.set := by
  have h0 : (i 0 : Nat) < 8192 := (i 0).isLt
  have h1 : (i 1 : Nat) < 4096 := (i 1).isLt
  obtain ⟨t, hf, e0, e1⟩ := idx_onto ⟨(i 0 : Nat) / 1024, by omega⟩ ⟨(i 1 : Nat) / 1024, by omega⟩
  refine ⟨t, hf, ?_⟩
  rw [mem_blk]
  intro a
  match a with
  | ⟨0, _⟩ => show win0_2.index t 0 * 1024 ≤ (i 0 : Nat) ∧ (i 0 : Nat) < win0_2.index t 0 * 1024 + 1024
              rw [e0]; dsimp only; omega
  | ⟨1, _⟩ => show win0_2.index t 1 * 1024 ≤ (i 1 : Nat) ∧ (i 1 : Nat) < win0_2.index t 1 * 1024 + 1024
              rw [e1]; dsimp only; omega

/-- So the result array ends holding the whole product. -/
theorem final (c : Dev nD) : (dats (F := Ideal) m 0 c).arrAt 2 cfg0.N = prod (V m c main_v8) (V m c main_v6) :=
  (dats m 0 c).arrAt_eq_of_cover 2 (prod (V m c main_v8) (V m c main_v6)) (fun t _ => flushed_eq m c t) cover

/-- The left operand's rows, flattened. -/
def rows (x : S2x4096x512.Idx → EReal) : S8192x512.Idx → EReal :=
  shapeCast (α := EReal) S8192x512 x shapeCasts_S2x4096x512_S8192x512

/-- One half of the rearranged columns: of every head's 256 columns the 128 from column `o` on. -/
def half (o : Nat) (hs : S2x512x16x256.Slices ![0, 0, 0, o] S2x512x16x128) (W : S2x512x4096.Idx → EReal) : S2x512x2048.Idx → EReal :=
  shapeCast (α := EReal) S2x512x2048 (extractStridedSlice (α := EReal) S2x512x16x128 ![0, 0, 0, o]
    (shapeCast (α := EReal) S2x512x16x256 W shapeCasts_S2x512x4096_S2x512x16x256) hs) shapeCasts_S2x512x16x128_S2x512x2048

/-- The weight's columns rearranged: the keys of all heads, then the values of all heads. -/
def weight (W : S2x512x4096.Idx → EReal) : S2x512x4096.Idx → EReal :=
  truncf (F := Ideal) .bf16 (concatenate S2x512x4096 2 [
    ⟨S2x512x2048, half 0 slices_S2x512x16x256_S2x512x16x128_0_0_0_0 W⟩,
    ⟨S2x512x2048, half 128 slices_S2x512x16x256_S2x512x16x128_0_0_0_128 W⟩]
    concatenates_S2x512x2048_S2x512x2048_S2x512x4096_d2) bitsLt_bf16_f32

theorem V_a (c : Dev nD) : (V (F := Ideal) m c main_v8 : S8192x512.Idx → EReal) = rows (m ((c : Thread nD τ).loc main_arg0)) := by
  dsimp only [V, hostOps0]; after_results <;> rfl

theorem V_w (c : Dev nD) : (V (F := Ideal) m c main_v6 : S2x512x4096.Idx → EReal) = weight (m ((c : Thread nD τ).loc main_arg1)) := by
  dsimp only [V, hostOps0]; after_results <;> rfl

/-- The weight's column that column `n` of the keys' half holds; the values' is 128 further on. -/
def col (n : Fin 2048) : Nat := n.val / 128 * 256 + n.val % 128

theorem col_lt (n : Fin 2048) : 128 + col n < 4096 := by have := n.isLt; unfold col; omega

theorem keys_apply (W : S2x512x4096.Idx → EReal) (k : Fin 512) (n : Fin 2048) :
    half 0 slices_S2x512x16x256_S2x512x16x128_0_0_0_0 W (ix3 (1 : Fin 2) k n)
      = W (ix3 (1 : Fin 2) k (⟨col n, by have := col_lt n; omega⟩ : Fin 4096)) := by
  pointwise! [half, col]

theorem values_apply (W : S2x512x4096.Idx → EReal) (k : Fin 512) (n : Fin 2048) :
    half 128 slices_S2x512x16x256_S2x512x16x128_0_0_0_128 W (ix3 (1 : Fin 2) k n)
      = W (ix3 (1 : Fin 2) k (⟨128 + col n, col_lt n⟩ : Fin 4096)) := by
  unfold half
  pointwise!
  refine congrArg W (congrArg (ix3 (1 : Fin 2) k) (Fin.ext ?_))
  unfold col; dsimp only; omega

/-- Two halves of columns side by side, read at a column of the one or the other. -/
theorem side_apply (a b : S2x512x2048.Idx → EReal) (k : Fin 512) (n : Fin 4096) :
    concatenate S2x512x4096 2 [⟨S2x512x2048, a⟩, ⟨S2x512x2048, b⟩] concatenates_S2x512x2048_S2x512x2048_S2x512x4096_d2
        (ix3 (1 : Fin 2) k n)
      = if h : n.val < 2048 then a (ix3 (1 : Fin 2) k (⟨n.val, h⟩ : Fin 2048))
        else b (ix3 (1 : Fin 2) k (⟨n.val - 2048, by omega⟩ : Fin 2048)) := by
  pointwise!

theorem weight_apply (W : S2x512x4096.Idx → EReal) (k : Fin 512) (n : Fin 4096) :
    weight W (ix3 (1 : Fin 2) k n)
      = if h : n.val < 2048 then W (ix3 (1 : Fin 2) k (⟨col ⟨n.val, h⟩, by have := col_lt ⟨n.val, h⟩; omega⟩ : Fin 4096))
        else W (ix3 (1 : Fin 2) k (⟨128 + col ⟨n.val - 2048, by omega⟩, col_lt _⟩ : Fin 4096)) := by
  refine (side_apply _ _ k n).trans ?_
  by_cases h : n.val < 2048
  · rw [dif_pos h, dif_pos h, keys_apply]
  · rw [dif_neg h, dif_neg h, values_apply]

section Reference

open Cert.Reference9Ideal.Read

variable (x0 : (⟨Cert.Reference9Ideal.S2x4096x512, .f32⟩ : BufTy).Contents (Elt Ideal))
  (x1 : (⟨Cert.Reference9Ideal.S2x512x4096, .f32⟩ : BufTy).Contents (Elt Ideal))

/-- The reference's keys at an index: the row times the column. -/
theorem ref_keys (r : Fin 8192) (n : Fin 2048) : (val_main_v5 x0 x1 (ix2 r n) : EReal)
    = ∑ k : Fin 512, rows x0 (ix2 r k) * x1 (ix3 (1 : Fin 2) k (⟨col n, by have := col_lt n; omega⟩ : Fin 4096)) := by
  pointwise! [val_main_v5, val_main_v4, val_main_v3, val_main_v2, val_main_v1, val_main_v0, rows, col]

/-- The reference's values at an index: the row times the column. -/
theorem ref_values (r : Fin 8192) (n : Fin 2048) : (val_main_v7 x0 x1 (ix2 r n) : EReal)
    = ∑ k : Fin 512, rows x0 (ix2 r k) * x1 (ix3 (1 : Fin 2) k (⟨128 + col n, col_lt n⟩ : Fin 4096)) := by
  pointwise! [val_main_v7, val_main_v6, val_main_v3, val_main_v2, val_main_v1, val_main_v0, rows, col]

/-- The reference's result at an index: the row times the rearranged column. -/
theorem ref_apply (i : S8192x4096.Idx) :
    (val_main_v9 x0 x1 i : EReal) = ∑ k : Fin 512, rows x0 (ix2 (i 0) k) * weight x1 (ix3 (1 : Fin 2) k (i 1)) := by
  have e : (val_main_v9 x0 x1 i : EReal)
      = if h : (i 1).val < 2048 then val_main_v5 x0 x1 (ix2 (i 0) (⟨(i 1).val, h⟩ : Fin 2048))
        else val_main_v7 x0 x1 (ix2 (i 0) (⟨(i 1).val - 2048, by have := (i 1).isLt; change _ < 4096 at this; omega⟩ : Fin 2048)) := by
    unfold val_main_v9 val_main_v8
    generalize val_main_v5 x0 x1 = a
    generalize val_main_v7 x0 x1 = b
    pointwise!
  rw [e]
  by_cases h : (i 1).val < 2048
  · rw [dif_pos h]
    refine (ref_keys x0 x1 (i 0) ⟨(i 1).val, h⟩).trans ?_
    exact Finset.sum_congr rfl fun k _ => congrArg (fun w : EReal => rows x0 (ix2 (i 0) k) * w)
      ((weight_apply x1 k (i 1)).trans (dif_pos h)).symm
  · rw [dif_neg h]
    refine (ref_values x0 x1 (i 0) ⟨(i 1).val - 2048, by have := (i 1).isLt; change _ < 4096 at this; omega⟩).trans ?_
    exact Finset.sum_congr rfl fun k _ => congrArg (fun w : EReal => rows x0 (ix2 (i 0) k) * w)
      ((weight_apply x1 k (i 1)).trans (dif_neg h)).symm

/-- So the reference's result is the same product with the rearranged weight. -/
theorem ref_eq : val_main_v9 x0 x1 = prod (rows x0) (weight x1) := funext fun i => ref_apply x0 x1 i

end Reference

/-- Over the extended reals the kernel and the reference give one array, and both leave their arguments alone. -/
theorem algebraic : Cert.algebraic_Kernel9Ideal_Reference9Ideal := fun m g m' g' _ agree =>
  ⟨fun c => prod (V m c main_v8) (V m c main_v6),
    (θ_run Cert.Kernel9Ideal.defs _ _).mono (fun _ h c => ⟨(h c).1.trans (final m c), (h c).2⟩) (Value.run_blocks m g),
    (θ_run Cert.Reference9Ideal.defs _ _).mono (fun _ h c => ⟨by
        obtain ⟨e0, e1⟩ := agree c
        refine (h c).1.trans ((Cert.Reference9Ideal.Read.val_main_v9_eq (F := Ideal) _ _).trans ((ref_eq _ _).trans ?_))
        show _ = prod (V m c main_v8) (V m c main_v6)
        rw [V_a, V_w]
        rw [e0, e1],
      (h c).2⟩) (Cert.Reference9Ideal.Value.run m' g')⟩

end Cert.Proof.Kv

end
-- ==== Proof.InPrep.lean ====
/- The call that lays the projection weight out: it reads the weight with its columns as rows, turns runs of 128 of them back
   and stores each run where the packed weight holds it. What one block holds, what the whole result array holds after the
   run, and that this is the array of the slices set side by side. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.Packed
public import Idealize.ShloMosaic.Lib.Pointwise
public import Idealize.ShloMosaic.Lib.Tactic

@[expose] public section

set_option maxRecDepth 16384

noncomputable section

namespace Cert.Proof.InPrep

open Cert.Kernel10Ideal Cert.Kernel10Ideal.Gen Idealize.ShloMosaic Idealize.ShloMosaic.TcCoe Idealize.SL.Sem
open Idealize.ShloMosaic.Pipeline (Dat)
open Cert.Proof.Packed (weight weight_group groups)

/-- Packed column `c` is column `d` of the weight. -/
def Source (c d : Nat) : Prop :=
  (c < 1024 ∧ d = c) ∨ (1024 ≤ c ∧ c < 2048 ∧ d = c) ∨ (2048 ≤ c ∧ c < 3072 ∧ d = c)
  ∨ (3072 ≤ c ∧ c < 4096 ∧ d = c + 3744) ∨ (4096 ≤ c ∧ c < 5120 ∧ d = c + 3744) ∨ (5120 ≤ c ∧ c < 6144 ∧ d = c + 3744)
  ∨ (6144 ≤ c ∧ c < 8192 ∧ d + 3072 = c) ∨ (8192 ≤ c ∧ c < 9216 ∧ d + 2976 = c) ∨ (9216 ≤ c ∧ c < 9728 ∧ d + 2976 = c)
  ∨ (9728 ≤ c ∧ c < 9792 ∧ d + 2976 = c) ∨ (9792 ≤ c ∧ c < 9856 ∧ d + 3040 = c)
  ∨ (9856 ≤ c ∧ c < 9920 ∧ d + 4736 = c) ∨ (9920 ≤ c ∧ c < 9984 ∧ d + 4800 = c)
  ∨ (9984 ≤ c ∧ c < 10016 ∧ d + 4800 = c) ∨ (10016 ≤ c ∧ c < 10024 ∧ d + 128 = c)

set_option maxHeartbeats 4000000 in
theorem weight_of_source (W : S2x4096x9896.Idx → EReal) (l : Fin 2) (k : Fin 4096) (c : Fin 10240) (d : Fin 9896)
    (h : Source c.val d.val) : weight W (ix3 l k c) = W (ix3 l k d) := by
  rcases h with h | h | h | h | h | h | h | h | h | h | h | h | h | h | h
  · exact weight_group W 0 (show 0 < 16 by decide) 1024 0 0 _ rfl (by simp [groups]) l k ⟨c.val, by omega⟩ c d (by dsimp only; omega) (by dsimp only; omega)
  · exact weight_group W 1 (show 1 < 16 by decide) 1024 1024 1024 _ rfl (by simp [groups]) l k ⟨c.val - 1024, by omega⟩ c d (by dsimp only; omega) (by dsimp only; omega)
  · exact weight_group W 2 (show 2 < 16 by decide) 1024 2048 2048 _ rfl (by simp [groups]) l k ⟨c.val - 2048, by omega⟩ c d (by dsimp only; omega) (by dsimp only; omega)
  · exact weight_group W 3 (show 3 < 16 by decide) 1024 6816 3072 _ rfl (by simp [groups]) l k ⟨c.val - 3072, by omega⟩ c d (by dsimp only; omega) (by dsimp only; omega)
  · exact weight_group W 4 (show 4 < 16 by decide) 1024 7840 4096 _ rfl (by simp [groups]) l k ⟨c.val - 4096, by omega⟩ c d (by dsimp only; omega) (by dsimp only; omega)
  · exact weight_group W 5 (show 5 < 16 by decide) 1024 8864 5120 _ rfl (by simp [groups]) l k ⟨c.val - 5120, by omega⟩ c d (by dsimp only; omega) (by dsimp only; omega)
  · exact weight_group W 6 (show 6 < 16 by decide) 2048 3072 6144 _ rfl (by simp [groups]) l k ⟨c.val - 6144, by omega⟩ c d (by dsimp only; omega) (by dsimp only; omega)
  · exact weight_group W 7 (show 7 < 16 by decide) 1024 5216 8192 _ rfl (by simp [groups]) l k ⟨c.val - 8192, by omega⟩ c d (by dsimp only; omega) (by dsimp only; omega)
  · exact weight_group W 8 (show 8 < 16 by decide) 512 6240 9216 _ rfl (by simp [groups]) l k ⟨c.val - 9216, by omega⟩ c d (by dsimp only; omega) (by dsimp only; omega)
  · exact weight_group W 9 (show 9 < 16 by decide) 64 6752 9728 _ rfl (by simp [groups]) l k ⟨c.val - 9728, by omega⟩ c d (by dsimp only; omega) (by dsimp only; omega)
  · exact weight_group W 10 (show 10 < 16 by decide) 64 6752 9792 _ rfl (by simp [groups]) l k ⟨c.val - 9792, by omega⟩ c d (by dsimp only; omega) (by dsimp only; omega)
  · exact weight_group W 11 (show 11 < 16 by decide) 64 5120 9856 _ rfl (by simp [groups]) l k ⟨c.val - 9856, by omega⟩ c d (by dsimp only; omega) (by dsimp only; omega)
  · exact weight_group W 12 (show 12 < 16 by decide) 64 5120 9920 _ rfl (by simp [groups]) l k ⟨c.val - 9920, by omega⟩ c d (by dsimp only; omega) (by dsimp only; omega)
  · exact weight_group W 13 (show 13 < 16 by decide) 32 5184 9984 _ rfl (by simp [groups]) l k ⟨c.val - 9984, by omega⟩ c d (by dsimp only; omega) (by dsimp only; omega)
  · exact weight_group W 14 (show 14 < 16 by decide) 8 9888 10016 _ rfl (by simp [groups]) l k ⟨c.val - 10016, by omega⟩ c d (by dsimp only; omega) (by dsimp only; omega)

set_option maxHeartbeats 1000000 in
/-- The last packed columns are zeros. -/
theorem weight_zero (W : S2x4096x9896.Idx → EReal) (l : Fin 2) (k : Fin 4096) (c : Fin 10240) (h : 10024 ≤ c.val) :
    weight W (ix3 l k c) = Ideal.ofBits .f32 0x00000000#32 := by
  have hc := c.isLt
  show concatenate S2x4096x10240 2 (groups W) (Packed.groups_fit W) (ix3 l k c) = _
  rw [concatenate_apply_piece (2 : Fin S2x4096x10240.rank) (groups W) (Packed.groups_fit W) (ix3 l k c) 15 (show 15 < 16 by decide)
    ⟨3, ![2, 4096, 216]⟩ _ rfl rfl 10024 (by simp [groups]) (ix3 l k (⟨c.val - 10024, by omega⟩ : Fin 216)) (fun b hb => by
      match b with
      | ⟨0, _⟩ => rfl
      | ⟨1, _⟩ => rfl
      | ⟨2, _⟩ => exact absurd rfl hb) (by show 10024 + (c.val - 10024) = c.val; omega)]
  rfl

section Block

variable (W : S2x4096x9896.Idx → EReal) (l : Fin 2) (kk : Fin 256 → Fin 4096) (x0 : Vec Ideal S1x9896x256 .f32)
  (hx : ∀ (n : Fin 9896) (r : Fin 256), (x0 (ix3 (0 : Fin 1) n r) : EReal) = W (ix3 l (kk r) n))

/-- A run of 128 rows turned to columns. -/
theorem turned_apply (v : Vec Ideal S1x128x256 .f32) (x : S1x256x128.Idx) :
    (k0_pay3 (F := Ideal) v x : EReal) = v (ix3 (0 : Fin 1) (x 2) (x 1)) := by
  pointwise [k0_pay3]

/-- What the block holds. -/
def packed (y : S1x256x10240.Idx) : EReal := weight W (ix3 l (kk (y 1)) (y 2))

include hx in
/-- A stored run of 128 columns. -/
theorem run_eq (so d : Nat) (inbs : ∀ a, ![0, so, 0] a + S1x128x256.size a ≤ S1x9896x256.size a)
    (inbd : ∀ a, ![0, 0, d] a + S1x256x128.size a ≤ S1x256x10240.size a)
    (h : ∀ n, n < 128 → Source (d + n) (so + n)) (x : S1x256x128.Idx) :
    (k0_pay3 (F := Ideal) (View.ld x0 (Rect.unit (s := S1x9896x256) ![0, so, 0] S1x128x256.size inbs)) x : EReal)
      = packed W l kk ((Rect.unit (s := S1x256x10240) ![0, 0, d] S1x256x128.size inbd).emb x) := by
  have hb : so + 128 ≤ 9896 := inbs 1
  have hd : d + 128 ≤ 10240 := inbd 2
  have h2 : (x 2 : Nat) < 128 := (x 2).isLt
  rw [turned_apply]
  have e1 : (Rect.unit (s := S1x256x10240) ![0, 0, d] S1x256x128.size inbd).emb x 1 = x 1 := Fin.ext (by
    show 0 + 1 * (x 1).val = (x 1).val; omega)
  have e2 : (Rect.unit (s := S1x256x10240) ![0, 0, d] S1x256x128.size inbd).emb x 2 = (⟨d + (x 2).val, by omega⟩ : Fin 10240) :=
    Fin.ext (by show d + 1 * (x 2).val = d + (x 2).val; omega)
  have e3 : (Rect.unit (s := S1x9896x256) ![0, so, 0] S1x128x256.size inbs).emb (ix3 (0 : Fin 1) (x 2) (x 1))
      = ix3 (0 : Fin 1) (⟨so + (x 2).val, by omega⟩ : Fin 9896) (x 1) := funext fun a => Fin.ext (by
    match a with
    | ⟨0, _⟩ => rfl
    | ⟨1, _⟩ => show so + 1 * (x 2).val = so + (x 2).val; omega
    | ⟨2, _⟩ => show 0 + 1 * (x 1).val = (x 1).val; omega)
  unfold packed
  rw [e1, e2]
  refine Eq.trans ?_ (weight_of_source W l (kk (x 1)) _ (⟨so + (x 2).val, by omega⟩ : Fin 9896) (h _ h2)).symm
  refine Eq.trans ?_ (hx _ (x 1))
  exact congrArg x0 e3

/-- Six runs of rows and a run of zeros, set one below the other, at an index. -/
theorem strip_apply (a b : FVec Ideal S64x256 .f32) (c d : Vec Ideal S1x64x256 .f32) (e : Vec Ideal S1x32x256 .f32)
    (f : Vec Ideal S1x8x256 .f32) (n : Fin 512) (r : Fin 256) : (k0_pay91 (F := Ideal) a b c d e f (ix2 n r) : EReal)
      = if h : n.val < 64 then a (ix2 (⟨n.val, h⟩ : Fin 64) r)
        else if h : n.val - 64 < 64 then b (ix2 (⟨n.val - 64, h⟩ : Fin 64) r)
        else if h : n.val - 64 - 64 < 64 then c (ix3 (0 : Fin 1) (⟨n.val - 64 - 64, h⟩ : Fin 64) r)
        else if h : n.val - 64 - 64 - 64 < 64 then d (ix3 (0 : Fin 1) (⟨n.val - 64 - 64 - 64, h⟩ : Fin 64) r)
        else if h : n.val - 64 - 64 - 64 - 64 < 32 then e (ix3 (0 : Fin 1) (⟨n.val - 64 - 64 - 64 - 64, h⟩ : Fin 32) r)
        else if h : n.val - 64 - 64 - 64 - 64 - 32 < 8 then f (ix3 (0 : Fin 1) (⟨n.val - 64 - 64 - 64 - 64 - 32, h⟩ : Fin 8) r)
        else 0 := by
  have hn := n.isLt
  pointwise! [k0_pay91]

/-- Rows of the block, read through a run of them. -/
theorem rows_apply (so w : Nat) (inbs : ∀ a, ![0, so, 0] a + ![1, w, 256] a ≤ S1x9896x256.size a) (n : Fin w) (r : Fin 256)
    (d : Fin 9896) (hd : d.val = so + n.val) :
    View.ld x0 (Rect.unit (s := S1x9896x256) ![0, so, 0] ![1, w, 256] inbs) (ix3 (0 : Fin 1) n r) = x0 (ix3 (0 : Fin 1) d r) := by
  refine congrArg x0 (funext fun a => Fin.ext ?_)
  match a with
  | ⟨0, _⟩ => rfl
  | ⟨1, _⟩ => show so + 1 * n.val = d.val; omega
  | ⟨2, _⟩ => show 0 + 1 * r.val = r.val; omega

theorem rope_apply (y : Fin 64) (r : Fin 256) : (k0_pay95 x0 (ix2 y r) : EReal)
    = View.ld x0 r0_152 (ix3 (0 : Fin 1) y r) := by
  unfold k0_pay95
  generalize View.ld x0 r0_152 = v
  pointwise [k0_pay89]

theorem rope_apply' (y : Fin 64) (r : Fin 256) : (k0_pay96 x0 (ix2 y r) : EReal)
    = View.ld x0 r0_152 (ix3 (0 : Fin 1) y r) := by
  unfold k0_pay96
  generalize View.ld x0 r0_152 = v
  pointwise [k0_pay90]

/-- The strip the last four runs are cut from. -/
abbrev strip : FVec Ideal S512x256 .f32 :=
  k0_pay91 (F := Ideal) (k0_pay95 x0) (k0_pay96 x0) (View.ld x0 r0_153) (View.ld x0 r0_153) (View.ld x0 r0_154) (View.ld x0 r0_155)

theorem ld_key (y : Fin 64) (r : Fin 256) (d : Fin 9896) (hd : d.val = 5120 + y.val) :
    View.ld x0 r0_153 (ix3 (0 : Fin 1) y r) = x0 (ix3 (0 : Fin 1) d r) :=
  rows_apply x0 5120 64 inb_S1x9896x256_S1x64x256_0_5120_0 y r d hd

theorem ld_weight (y : Fin 32) (r : Fin 256) (d : Fin 9896) (hd : d.val = 5184 + y.val) :
    View.ld x0 r0_154 (ix3 (0 : Fin 1) y r) = x0 (ix3 (0 : Fin 1) d r) :=
  rows_apply x0 5184 32 inb_S1x9896x256_S1x32x256_0_5184_0 y r d hd

theorem ld_forget (y : Fin 8) (r : Fin 256) (d : Fin 9896) (hd : d.val = 9888 + y.val) :
    View.ld x0 r0_155 (ix3 (0 : Fin 1) y r) = x0 (ix3 (0 : Fin 1) d r) :=
  rows_apply x0 9888 8 inb_S1x9896x256_S1x8x256_0_9888_0 y r d hd

include hx in
/-- Row `d` of the block is the packed column it is the source of. -/
theorem row_eq (d : Fin 9896) (r : Fin 256) (c : Fin 10240) (h : Source c.val d.val) :
    (x0 (ix3 (0 : Fin 1) d r) : EReal) = weight W (ix3 l (kk r) c) :=
  (hx d r).trans (weight_of_source W l (kk r) c d h).symm

include hx in
/-- The strip holds the last 512 packed columns. -/
theorem strip_eq (n : Fin 512) (r : Fin 256) (c : Fin 10240) (hc : c.val = 9728 + n.val) :
    (strip x0 (ix2 n r) : EReal) = weight W (ix3 l (kk r) c) := by
  have hn := n.isLt
  refine (strip_apply _ _ _ _ _ _ n r).trans ?_
  by_cases h1 : n.val < 64
  · exact (dif_pos h1).trans ((rope_apply x0 ⟨n.val, h1⟩ r).trans
      ((rows_apply x0 6752 64 inb_S1x9896x256_S1x64x256_0_6752_0 ⟨n.val, h1⟩ r (⟨6752 + n.val, by omega⟩ : Fin 9896) rfl).trans
        (row_eq W l kk x0 hx _ r c (by unfold Source; dsimp only; (repeat first | (refine Or.inl ?_; omega) | refine Or.inr ?_); all_goals omega))))
  refine (dif_neg h1).trans ?_
  by_cases h2 : n.val - 64 < 64
  · exact (dif_pos h2).trans ((rope_apply' x0 ⟨n.val - 64, h2⟩ r).trans
      ((rows_apply x0 6752 64 inb_S1x9896x256_S1x64x256_0_6752_0 ⟨n.val - 64, h2⟩ r (⟨6688 + n.val, by omega⟩ : Fin 9896)
        (by dsimp only; omega)).trans (row_eq W l kk x0 hx _ r c (by unfold Source; dsimp only; (repeat first | (refine Or.inl ?_; omega) | refine Or.inr ?_); all_goals omega))))
  refine (dif_neg h2).trans ?_
  by_cases h3 : n.val - 64 - 64 < 64
  · exact (dif_pos h3).trans ((ld_key x0 ⟨n.val - 64 - 64, h3⟩ r (⟨4992 + n.val, by omega⟩ : Fin 9896) (by dsimp only; omega)).trans
      (row_eq W l kk x0 hx _ r c (by unfold Source; dsimp only; (repeat first | (refine Or.inl ?_; omega) | refine Or.inr ?_); all_goals omega)))
  refine (dif_neg h3).trans ?_
  by_cases h4 : n.val - 64 - 64 - 64 < 64
  · exact (dif_pos h4).trans ((ld_key x0 ⟨n.val - 64 - 64 - 64, h4⟩ r (⟨4928 + n.val, by omega⟩ : Fin 9896) (by dsimp only; omega)).trans
      (row_eq W l kk x0 hx _ r c (by unfold Source; dsimp only; (repeat first | (refine Or.inl ?_; omega) | refine Or.inr ?_); all_goals omega)))
  refine (dif_neg h4).trans ?_
  by_cases h5 : n.val - 64 - 64 - 64 - 64 < 32
  · exact (dif_pos h5).trans ((ld_weight x0 ⟨n.val - 64 - 64 - 64 - 64, h5⟩ r (⟨4928 + n.val, by omega⟩ : Fin 9896)
      (by dsimp only; omega)).trans (row_eq W l kk x0 hx _ r c (by unfold Source; dsimp only; (repeat first | (refine Or.inl ?_; omega) | refine Or.inr ?_); all_goals omega)))
  refine (dif_neg h5).trans ?_
  by_cases h6 : n.val - 64 - 64 - 64 - 64 - 32 < 8
  · exact (dif_pos h6).trans ((ld_forget x0 ⟨n.val - 64 - 64 - 64 - 64 - 32, h6⟩ r (⟨9600 + n.val, by omega⟩ : Fin 9896)
      (by dsimp only; omega)).trans (row_eq W l kk x0 hx _ r c (by unfold Source; dsimp only; (repeat first | (refine Or.inl ?_; omega) | refine Or.inr ?_); all_goals omega)))
  exact (dif_neg h6).trans (Ideal.ofBits_zero_f32.symm.trans (weight_zero W l (kk r) c (by omega)).symm)

/-- A run of 128 of the strip's rows, turned to columns, at an index: the four runs the strip is cut into. -/
theorem cut0_apply (a b : FVec Ideal S64x256 .f32) (c d : Vec Ideal S1x64x256 .f32) (e : Vec Ideal S1x32x256 .f32)
    (f : Vec Ideal S1x8x256 .f32) (x : S1x256x128.Idx) : (k0_pay92 (F := Ideal) a b c d e f x : EReal)
      = k0_pay91 (F := Ideal) a b c d e f (ix2 (⟨(x 2).val, by have : (x 2).val < 128 := (x 2).isLt; omega⟩ : Fin 512) (x 1)) := by
  unfold k0_pay92
  generalize k0_pay91 (F := Ideal) a b c d e f = v
  pointwise!
theorem cut1_apply (a b : FVec Ideal S64x256 .f32) (c d : Vec Ideal S1x64x256 .f32) (e : Vec Ideal S1x32x256 .f32)
    (f : Vec Ideal S1x8x256 .f32) (x : S1x256x128.Idx) : (k0_pay93 (F := Ideal) a b c d e f x : EReal)
      = k0_pay91 (F := Ideal) a b c d e f (ix2 (⟨128 + (x 2).val, by have : (x 2).val < 128 := (x 2).isLt; omega⟩ : Fin 512) (x 1)) := by
  unfold k0_pay93
  generalize k0_pay91 (F := Ideal) a b c d e f = v
  pointwise!
theorem cut2_apply (a b : FVec Ideal S64x256 .f32) (c d : Vec Ideal S1x64x256 .f32) (e : Vec Ideal S1x32x256 .f32)
    (f : Vec Ideal S1x8x256 .f32) (x : S1x256x128.Idx) : (k0_pay1 (F := Ideal) (k0_pay94 (F := Ideal) a b c d e f) x : EReal)
      = k0_pay91 (F := Ideal) a b c d e f (ix2 (⟨256 + (x 2).val, by have : (x 2).val < 128 := (x 2).isLt; omega⟩ : Fin 512) (x 1)) := by
  unfold k0_pay1 k0_pay94
  generalize k0_pay91 (F := Ideal) a b c d e f = v
  pointwise!
theorem cut3_apply (v : FVec Ideal S512x256 .f32) (x : S1x256x128.Idx) : (k0_pay2 (F := Ideal) v x : EReal)
      = v (ix2 (⟨384 + (x 2).val, by have : (x 2).val < 128 := (x 2).isLt; omega⟩ : Fin 512) (x 1)) := by
  pointwise! [k0_pay2]

include hx in
/-- A run cut from the strip holds its 128 packed columns. -/
theorem cut_eq (P : S1x256x128.Idx → EReal) (o d : Nat) (ho : o + 128 ≤ 512) (hd : d = 9728 + o)
    (hP : ∀ x : S1x256x128.Idx, P x = strip x0 (ix2 (⟨o + (x 2).val, by have : (x 2).val < 128 := (x 2).isLt; omega⟩ : Fin 512) (x 1)))
    (inbd : ∀ a, ![0, 0, d] a + S1x256x128.size a ≤ S1x256x10240.size a) (x : S1x256x128.Idx) :
    P x = packed W l kk ((Rect.unit (s := S1x256x10240) ![0, 0, d] S1x256x128.size inbd).emb x) := by
  have e1 : (Rect.unit (s := S1x256x10240) ![0, 0, d] S1x256x128.size inbd).emb x 1 = x 1 := Fin.ext (by
    show 0 + 1 * (x 1).val = (x 1).val; omega)
  unfold packed
  rw [e1, hP]
  refine strip_eq W l kk x0 hx _ (x 1) _ ?_
  show d + 1 * (x 2).val = 9728 + (o + (x 2).val)
  omega

end Block

end Cert.Proof.InPrep

end
-- ==== Proof.InPrepRun.lean ====
/- The packing call's whole block, the array it leaves after the run, and the claim about it. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.InPrep
public import Idealize.ShloMosaic.Lib.Pointwise
public import Idealize.ShloMosaic.Lib.Tactic

@[expose] public section

set_option maxRecDepth 16384

noncomputable section

namespace Cert.Proof.InPrep

open Cert.Kernel10Ideal Cert.Kernel10Ideal.Gen Idealize.ShloMosaic Idealize.ShloMosaic.TcCoe Idealize.SL.Sem
open Idealize.ShloMosaic.Pipeline (Dat)
open Cert.Proof.Packed (weight weight_group groups)

section Block

variable (W : S2x4096x9896.Idx → EReal) (l : Fin 2) (kk : Fin 256 → Fin 4096) (x0 : Vec Ideal S1x9896x256 .f32)
  (hx : ∀ (n : Fin 9896) (r : Fin 256), (x0 (ix3 (0 : Fin 1) n r) : EReal) = W (ix3 l (kk r) n))

set_option maxHeartbeats 8000000 in
include hx in
/-- The whole block: every stored run is the packed weight's. -/
theorem block_eq (y : S1x256x10240.Idx) : (out0_1 (F := Ideal) x0 y : EReal) = packed W l kk y := by
  unfold out0_1
  dsimp only
  refine View.canon_apply_of_pieces (Val := Elt Ideal) (e := .bf16) (packed W l kk) _ ?_ y (cover0_1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  refine List.forall_mem_cons.2 ⟨cut_eq W l kk x0 hx _ 384 10112 (by decide) rfl (cut3_apply _) inb_S1x256x10240_S1x256x128_0_0_10112, ?_⟩
  refine List.forall_mem_cons.2 ⟨cut_eq W l kk x0 hx _ 256 9984 (by decide) rfl (cut2_apply _ _ _ _ _ _) inb_S1x256x10240_S1x256x128_0_0_9984, ?_⟩
  refine List.forall_mem_cons.2 ⟨cut_eq W l kk x0 hx _ 128 9856 (by decide) rfl (cut1_apply _ _ _ _ _ _) inb_S1x256x10240_S1x256x128_0_0_9856, ?_⟩
  refine List.forall_mem_cons.2 ⟨cut_eq W l kk x0 hx _ 0 9728 (by decide) rfl (fun x => (cut0_apply _ _ _ _ _ _ x).trans
    (congrArg (strip x0) (congrArg (fun n : Fin 512 => ix2 n (x 1)) (Fin.ext (Nat.zero_add _).symm)))) inb_S1x256x10240_S1x256x128_0_0_9728, ?_⟩
  repeat' refine List.forall_mem_cons.2 ⟨run_eq W l kk x0 hx _ _ (by decide) (by decide) (fun n hn => by
    unfold Source
    repeat first | (refine Or.inl ?_; omega) | refine Or.inr ?_
    all_goals omega), ?_⟩
  exact fun p hp => absurd hp List.not_mem_nil

end Block

variable (m : (ℓ : Loc nD τ sig) → Buf (Elt Ideal) ℓ)

theorem idx_facts : ∀ t : Fin cfg0.N, win0_0.index t (0 : Fin 3) = win0_1.index t (0 : Fin 3)
    ∧ win0_0.index t (1 : Fin 3) = 0 ∧ win0_0.index t (2 : Fin 3) = win0_1.index t (1 : Fin 3)
    ∧ win0_1.index t (2 : Fin 3) = 0 ∧ win0_1.index t (0 : Fin 3) < 2 ∧ win0_1.index t (1 : Fin 3) < 16 :=
  (by decide +kernel : ∀ t : Fin grid0.N, _)

theorem idx_onto : ∀ (a : Fin 2) (b : Fin 16), ∃ t : Fin cfg0.N, win0_1.flush t = true
    ∧ win0_1.index t (0 : Fin 3) = a.val ∧ win0_1.index t (1 : Fin 3) = b.val :=
  (by decide +kernel : ∀ (a : Fin 2) (b : Fin 16), ∃ t : Fin grid0.N, win0_1.flush t = true
    ∧ win0_1.index t (0 : Fin 3) = a.val ∧ win0_1.index t (1 : Fin 3) = b.val)

/-- The weight as the launch finds it: each layer's columns as rows. -/
theorem V_w (c : Dev nD) (l : Fin 2) (n : Fin 9896) (k : Fin 4096) : (V (F := Ideal) m c main_v0 (ix3 l n k) : EReal)
    = m ((c : Thread nD τ).loc main_arg0) (ix3 l k n) := by
  have e : (V (F := Ideal) m c main_v0 : S2x9896x4096.Idx → EReal)
      = transpose (α := EReal) S2x9896x4096 [0, 2, 1] (m ((c : Thread nD τ).loc main_arg0)) transposes_S2x4096x9896_S2x9896x4096_0_2_1 := by
    dsimp only [V, hostOps0]; after_results <;> rfl
  rw [e]
  generalize m ((c : Thread nD τ).loc main_arg0) = w
  pointwise!

/-- What a point writes back is its block of the packed weight. -/
theorem flushed_eq (c : Dev nD) (t : Fin cfg0.N) :
    (dats (F := Ideal) m 0 c).flushed 1 t
      = ((cfg0.win 1).blk t).view.read (Elt Ideal) (weight (m ((c : Thread nD τ).loc main_arg0))) := by
  obtain ⟨e0, e1, e2, e3, e4, e5⟩ := idx_facts t
  rw [Value.flushed1]
  funext y
  show out0_1 (iblk m c 0 t) y = weight (m ((c : Thread nD τ).loc main_arg0)) ((win0_1.blk t).view.emb y)
  refine (block_eq (m ((c : Thread nD τ).loc main_arg0)) ⟨win0_1.index t (0 : Fin 3), e4⟩
    (fun r => ⟨win0_1.index t (1 : Fin 3) * 256 + r.val, by omega⟩) (iblk m c 0 t) (fun n r => ?_) y).trans ?_
  · refine Eq.trans ?_ (V_w m c _ n _)
    refine congrArg (V m c main_v0) (funext fun a => Fin.ext ?_)
    match a with
    | ⟨0, _⟩ => show win0_0.index t 0 * 1 + 1 * 0 = win0_1.index t 0
                rw [e0]; omega
    | ⟨1, _⟩ => show win0_0.index t 1 * 9896 + 1 * n.val = n.val
                rw [e1]; omega
    | ⟨2, _⟩ => show win0_0.index t 2 * 256 + 1 * r.val = win0_1.index t 1 * 256 + r.val
                rw [e2]; omega
  · unfold packed
    refine congrArg (weight (m ((c : Thread nD τ).loc main_arg0))) (funext fun a => Fin.ext ?_)
    have h0 : (y 0).val < 1 := (y 0).isLt
    match a with
    | ⟨0, _⟩ => show win0_1.index t 0 = win0_1.index t 0 * 1 + 1 * (y 0).val
                omega
    | ⟨1, _⟩ => show win0_1.index t 1 * 256 + (y 1).val = win0_1.index t 1 * 256 + 1 * (y 1).val
                omega
    | ⟨2, _⟩ => show (y 2).val = win0_1.index t 2 * 10240 + 1 * (y 2).val
                rw [e3]; omega

theorem mem_blk (t : Fin cfg0.N) (i : S2x4096x10240.Idx) :
    i ∈ ((cfg0.win 1).blk t).view.set ↔ ∀ a : Fin 3, win0_1.index t a * win0_1.size a ≤ (i a : Nat)
      ∧ (i a : Nat) < win0_1.index t a * win0_1.size a + win0_1.xsize (grid0.coords t) a := by
  show i ∈ ((View.whole main_v1).slice (win0_1.rect t)).set ↔ _
  rw [View.set_slice_whole, Rect.mem_set_unit]
  exact Iff.rfl

/-- The blocks written back tile the result. -/
theorem cover (i : S2x4096x10240.Idx) :
    ∃ t : Fin cfg0.N, (cfg0.win 1).flush t = true ∧ i ∈ ((cfg0.win 1).blk t).view.set := by
  have h0 : (i 0 : Nat) < 2 := (i 0).isLt
  have h1 : (i 1 : Nat) < 4096 := (i 1).isLt
  have h2 : (i 2 : Nat) < 10240 := (i 2).isLt
  obtain ⟨t, hf, e0, e1⟩ := idx_onto ⟨(i 0 : Nat), h0⟩ ⟨(i 1 : Nat) / 256, by omega⟩
  refine ⟨t, hf, ?_⟩
  rw [mem_blk]
  intro a
  match a with
  | ⟨0, _⟩ => show win0_1.index t 0 * 1 ≤ (i 0 : Nat) ∧ (i 0 : Nat) < win0_1.index t 0 * 1 + 1
              rw [e0]; dsimp only; omega
  | ⟨1, _⟩ => show win0_1.index t 1 * 256 ≤ (i 1 : Nat) ∧ (i 1 : Nat) < win0_1.index t 1 * 256 + 256
              rw [e1]; dsimp only; omega
  | ⟨2, _⟩ => show win0_1.index t 2 * 10240 ≤ (i 2 : Nat) ∧ (i 2 : Nat) < win0_1.index t 2 * 10240 + 10240
              rw [(idx_facts t).2.2.2.1]; omega

/-- So the result array ends holding the packed weight. -/
theorem final (c : Dev nD) : (dats (F := Ideal) m 0 c).arrAt 1 cfg0.N = weight (m ((c : Thread nD τ).loc main_arg0)) :=
  (dats m 0 c).arrAt_eq_of_cover 1 (weight (m ((c : Thread nD τ).loc main_arg0))) (fun t _ => flushed_eq m c t) cover

/-- Over the extended reals the kernel and the reference give one array, and both leave their arguments alone. -/
theorem algebraic : Cert.algebraic_Kernel10Ideal_Reference10Ideal := fun m g m' g' _ agree =>
  ⟨fun c => weight (m ((c : Thread nD τ).loc main_arg0)),
    (θ_run Cert.Kernel10Ideal.defs _ _).mono (fun _ h c => ⟨(h c).1.trans (final m c), (h c).2⟩) (Value.run_blocks m g),
    (θ_run Cert.Reference10Ideal.defs _ _).mono (fun _ h c => ⟨by
        refine (h c).1.trans ?_
        rw [agree c]
        rfl,
      (h c).2⟩) (Cert.Reference10Ideal.Value.run m' g')⟩

end Cert.Proof.InPrep

end
-- ==== Proof.Mla.Step.lean ====
/- One key tile of the attention call, as a program: the rope logits of the eight heads at once, then for each head
   the logits of the tile, the running maximum, the row sums and the weighted values. -/
module

public import proofs.«01_k».proof.KernelIdeal
public import Idealize.ShloMosaic.Lib.Tactic

@[expose] public section

noncomputable section

namespace Cert.KernelIdeal.Mla

open Idealize.ShloMosaic Idealize.SL.Sem Facts₀ Facts

variable {F : FTy → Type} [FloatOps F] [Facts]

/-- The tile's logits of one head: the keys times the queries, and the rope part added. -/
abbrev logits (k : FVec F S256x128 .bf16) (q : FVec F S128x128 .bf16) (r : FVec F S256x128 .f32) : FVec F S256x128 .f32 :=
  addf (matmul dot_S256x128_S128x128_S256x128_1_0_0_1_n_n none (shapeCast S256x128 k shapeCasts_S256x128_S256x128)
    (shapeCast S128x128 q shapeCasts_S128x128_S128x128) (constant S256x128 .f32 0x00000000#32)) r

/-- The running maximum after the tile. -/
abbrev newMax (m : FVec F S1x1x128 .f32) (l : FVec F S256x128 .f32) : FVec F S1x128 .f32 :=
  maximumf (shapeCast S1x128 m shapeCasts_S1x1x128_S1x128)
    (shapeCast S1x128 (multiReduction .maximumf [0] S128 (multiReduction .maximumf [0] S8x128
      (shapeCast S32x8x128 l shapeCasts_S256x128_S32x8x128) 0xFF800000#32 reduces_S32x8x128_S8x128 (.inl rfl) rfl)
      0xFF800000#32 reduces_S8x128_S128 (.inl rfl) rfl) shapeCasts_S128_S1x128)

/-- The factor that takes the old sums to the new maximum. -/
abbrev scaleOld (m : FVec F S1x1x128 .f32) (m' : FVec F S1x128 .f32) : FVec F S1x128 .f32 :=
  exp2 (subf (shapeCast S1x128 m shapeCasts_S1x1x128_S1x128) m')

/-- The tile's weights. -/
abbrev weights (l : FVec F S256x128 .f32) (m' : FVec F S1x128 .f32) : FVec F S256x128 .f32 :=
  exp2 (subf l (broadcastTo S256x128 m' broadcasts_S1x128_S256x128))

/-- The eight rows of partial sums after the tile. -/
abbrev newDen (d : FVec F S1x8x128 .f32) (a : FVec F S1x128 .f32) (p : FVec F S256x128 .f32) : FVec F S1x8x128 .f32 :=
  shapeCast S1x8x128 (addf (mulf (broadcastTo S8x128 a broadcasts_S1x128_S8x128) (shapeCast S8x128 d shapeCasts_S1x8x128_S8x128))
    (multiReduction .add [0] S8x128 (shapeCast S32x8x128 p shapeCasts_S256x128_S32x8x128) 0x00000000#32
      reduces_S32x8x128_S8x128 (.inl rfl) rfl)) shapeCasts_S8x128_S1x8x128

/-- The weighted values after the tile. -/
abbrev newNum (n : FVec F S1x128x128 .f32) (a : FVec F S1x128 .f32) (p : FVec F S256x128 .f32) (v : FVec F S1x1x128x256 .bf16) :
    FVec F S1x128x128 .f32 :=
  shapeCast S1x128x128 (addf (mulf (broadcastTo S128x128 a broadcasts_S1x128_S128x128)
    (shapeCast S128x128 n shapeCasts_S1x128x128_S128x128))
    (matmul dot_S128x256_S256x128_S128x128_1_0_0_1_n_n none (shapeCast S128x256 v shapeCasts_S1x1x128x256_S128x256)
      (truncf .bf16 p bitsLt_bf16_f32) (constant S128x128 .f32 0x00000000#32))) shapeCasts_S128x128_S1x128x128

theorem inb_q : ∀ h : Fin 8, ∀ a, (![128 * h.val, 0] : Fin 2 → Nat) a + S128x128.size a ≤ S1024x128.size a := by decide
theorem inb_m : ∀ h : Fin 8, ∀ a, (![h.val, 0, 0] : Fin 3 → Nat) a + S1x1x128.size a ≤ S8x1x128.size a := by decide
theorem inb_d : ∀ h : Fin 8, ∀ a, (![h.val, 128, 0] : Fin 3 → Nat) a + S1x8x128.size a ≤ S8x136x128.size a := by decide
theorem inb_n : ∀ h : Fin 8, ∀ a, (![h.val, 0, 0] : Fin 3 → Nat) a + S1x128x128.size a ≤ S8x136x128.size a := by decide

/-- One head's update by a key tile. -/
def headStep (arg3 : Memref sig .tc .vmem S1024x128 .bf16) (arg6 : Memref sig .tc .vmem S4096x1024 .bf16)
    (arg12 : Memref sig .tc .vmem S8x16x128x256 .bf16) (arg13 : Memref sig .tc .vmem S8x1x128 .f32)
    (arg14 : Memref sig .tc .vmem S8x136x128 .f32) (h : Fin 8)
    (ok : Fin 2 → Nat) (hok : ∀ a, ok a + S256x128.size a ≤ S4096x1024.size a)
    (ov : Fin 4 → Nat) (hov : ∀ a, ov a + S1x1x128x256.size a ≤ S8x16x128x256.size a)
    (mask : FVec F S256x128 .f32 → FVec F S256x128 .f32) (r : FVec F S256x128 .f32) :
    Prog (TpuEff nD τ sig (Elt F) Λ₀ .tc) Unit := do
  let k : Vec F S256x128 .bf16 ← Prog.lift (.load arg6 (Rect.unit (s := S4096x1024) ok S256x128.size hok).toLoadRect (View.loadsAt_vmem h_S256x128))
  let q : Vec F S128x128 .bf16 ← Prog.lift (.load arg3 (Rect.unit (s := S1024x128) ![128 * h.val, 0] S128x128.size (inb_q h)).toLoadRect (View.loadsAt_vmem h_S128x128))
  let v : Vec F S1x1x128x256 .bf16 ← Prog.lift (.load arg12 (Rect.unit (s := S8x16x128x256) ov S1x1x128x256.size hov).toLoadRect (View.loadsAt_vmem h_S1x1x128x256))
  let m : Vec F S1x1x128 .f32 ← Prog.lift (.load arg13 (Rect.unit (s := S8x1x128) ![h.val, 0, 0] S1x1x128.size (inb_m h)).toLoadRect (View.loadsAt_vmem h_S1x1x128))
  let d : Vec F S1x8x128 .f32 ← Prog.lift (.load arg14 (Rect.unit (s := S8x136x128) ![h.val, 128, 0] S1x8x128.size (inb_d h)).toLoadRect (View.loadsAt_vmem h_S1x8x128))
  let _ : Vec F S1x8x128 .f32 ← Prog.lift (.load arg14 (Rect.unit (s := S8x136x128) ![h.val, 128, 0] S1x8x128.size (inb_d h)).toLoadRect (View.loadsAt_vmem h_S1x8x128))
  Prog.lift (.store arg14 (Rect.unit (s := S8x136x128) ![h.val, 128, 0] S1x8x128.size (inb_d h))
    (newDen d (scaleOld m (newMax m (mask (logits k q r)))) (weights (mask (logits k q r)) (newMax m (mask (logits k q r)))))
    Finset.univ (View.stores_vmem_bits_univ h_S1x8x128 rfl) (.inl rfl))
  let n : Vec F S1x128x128 .f32 ← Prog.lift (.load arg14 (Rect.unit (s := S8x136x128) ![h.val, 0, 0] S1x128x128.size (inb_n h)).toLoadRect (View.loadsAt_vmem h_S1x128x128))
  let _ : Vec F S1x128x128 .f32 ← Prog.lift (.load arg14 (Rect.unit (s := S8x136x128) ![h.val, 0, 0] S1x128x128.size (inb_n h)).toLoadRect (View.loadsAt_vmem h_S1x128x128))
  Prog.lift (.store arg14 (Rect.unit (s := S8x136x128) ![h.val, 0, 0] S1x128x128.size (inb_n h))
    (newNum n (scaleOld m (newMax m (mask (logits k q r)))) (weights (mask (logits k q r)) (newMax m (mask (logits k q r)))) v)
    Finset.univ (View.stores_vmem_bits_univ h_S1x128x128 rfl) (.inl rfl))
  let _ : Vec F S1x1x128 .f32 ← Prog.lift (.load arg13 (Rect.unit (s := S8x1x128) ![h.val, 0, 0] S1x1x128.size (inb_m h)).toLoadRect (View.loadsAt_vmem h_S1x1x128))
  Prog.lift (.store arg13 (Rect.unit (s := S8x1x128) ![h.val, 0, 0] S1x1x128.size (inb_m h))
    (shapeCast S1x1x128 (newMax m (mask (logits k q r))) shapeCasts_S1x128_S1x1x128)
    Finset.univ (View.stores_vmem_bits_univ h_S1x1x128 rfl) (.inl rfl))

/-- The rope logits of the eight heads. -/
abbrev ropeLogits (kr : FVec F S256x128 .f32) (q : FVec F S128x1024 .bf16) : FVec F S256x1024 .f32 :=
  matmul dot_S256x128_S128x1024_S256x1024_1_0_0_1_n_n none
    (truncf .bf16 (shapeCast S256x128 kr shapeCasts_S256x128_S256x128) bitsLt_bf16_f32) q (constant S256x1024 .f32 0x00000000#32)

/-- One key tile: the rope logits, then the eight heads. -/
def tile (arg3 : Memref sig .tc .vmem S1024x128 .bf16) (arg5 : Memref sig .tc .vmem S4096x128 .f32) (arg6 : Memref sig .tc .vmem S4096x1024 .bf16)
    (arg11 : Memref sig .tc .vmem S128x1024 .bf16)
    (arg12 : Memref sig .tc .vmem S8x16x128x256 .bf16) (arg13 : Memref sig .tc .vmem S8x1x128 .f32)
    (arg14 : Memref sig .tc .vmem S8x136x128 .f32)
    (or : Fin 2 → Nat) (hor : ∀ a, or a + S256x128.size a ≤ S4096x128.size a)
    (k0 : Fin 2 → Nat) (hk0 : ∀ a, k0 a + S256x128.size a ≤ S4096x1024.size a)
    (v0 : Fin 4 → Nat) (hv0 : ∀ a, v0 a + S1x1x128x256.size a ≤ S8x16x128x256.size a)
    (k1 : Fin 2 → Nat) (hk1 : ∀ a, k1 a + S256x128.size a ≤ S4096x1024.size a)
    (v1 : Fin 4 → Nat) (hv1 : ∀ a, v1 a + S1x1x128x256.size a ≤ S8x16x128x256.size a)
    (k2 : Fin 2 → Nat) (hk2 : ∀ a, k2 a + S256x128.size a ≤ S4096x1024.size a)
    (v2 : Fin 4 → Nat) (hv2 : ∀ a, v2 a + S1x1x128x256.size a ≤ S8x16x128x256.size a)
    (k3 : Fin 2 → Nat) (hk3 : ∀ a, k3 a + S256x128.size a ≤ S4096x1024.size a)
    (v3 : Fin 4 → Nat) (hv3 : ∀ a, v3 a + S1x1x128x256.size a ≤ S8x16x128x256.size a)
    (k4 : Fin 2 → Nat) (hk4 : ∀ a, k4 a + S256x128.size a ≤ S4096x1024.size a)
    (v4 : Fin 4 → Nat) (hv4 : ∀ a, v4 a + S1x1x128x256.size a ≤ S8x16x128x256.size a)
    (k5 : Fin 2 → Nat) (hk5 : ∀ a, k5 a + S256x128.size a ≤ S4096x1024.size a)
    (v5 : Fin 4 → Nat) (hv5 : ∀ a, v5 a + S1x1x128x256.size a ≤ S8x16x128x256.size a)
    (k6 : Fin 2 → Nat) (hk6 : ∀ a, k6 a + S256x128.size a ≤ S4096x1024.size a)
    (v6 : Fin 4 → Nat) (hv6 : ∀ a, v6 a + S1x1x128x256.size a ≤ S8x16x128x256.size a)
    (k7 : Fin 2 → Nat) (hk7 : ∀ a, k7 a + S256x128.size a ≤ S4096x1024.size a)
    (v7 : Fin 4 → Nat) (hv7 : ∀ a, v7 a + S1x1x128x256.size a ≤ S8x16x128x256.size a)
    (mask : FVec F S256x128 .f32 → FVec F S256x128 .f32) :
    Prog (TpuEff nD τ sig (Elt F) Λ₀ .tc) Unit := do
  let kr : Vec F S256x128 .f32 ← Prog.lift (.load arg5 (Rect.unit (s := S4096x128) or S256x128.size hor).toLoadRect (View.loadsAt_vmem h_S256x128))
  let qr : Vec F S128x1024 .bf16 ← Prog.lift (.load arg11 (Rect.unit (s := S128x1024) ![0, 0] S128x1024.size inb_S128x1024_S128x1024_0_0).toLoadRect (View.loadsAt_vmem h_S128x1024))
  headStep arg3 arg6 arg12 arg13 arg14 0 k0 hk0 v0 hv0 mask (extractStridedSlice S256x128 ![0, 0] (ropeLogits kr qr) slices_S256x1024_o0_0_S256x128)
  headStep arg3 arg6 arg12 arg13 arg14 1 k1 hk1 v1 hv1 mask (extractStridedSlice S256x128 ![0, 128] (ropeLogits kr qr) slices_S256x1024_o0_128_S256x128)
  headStep arg3 arg6 arg12 arg13 arg14 2 k2 hk2 v2 hv2 mask (extractStridedSlice S256x128 ![0, 256] (ropeLogits kr qr) slices_S256x1024_o0_256_S256x128)
  headStep arg3 arg6 arg12 arg13 arg14 3 k3 hk3 v3 hv3 mask (extractStridedSlice S256x128 ![0, 384] (ropeLogits kr qr) slices_S256x1024_o0_384_S256x128)
  headStep arg3 arg6 arg12 arg13 arg14 4 k4 hk4 v4 hv4 mask (extractStridedSlice S256x128 ![0, 512] (ropeLogits kr qr) slices_S256x1024_o0_512_S256x128)
  headStep arg3 arg6 arg12 arg13 arg14 5 k5 hk5 v5 hv5 mask (extractStridedSlice S256x128 ![0, 640] (ropeLogits kr qr) slices_S256x1024_o0_640_S256x128)
  headStep arg3 arg6 arg12 arg13 arg14 6 k6 hk6 v6 hv6 mask (extractStridedSlice S256x128 ![0, 768] (ropeLogits kr qr) slices_S256x1024_o0_768_S256x128)
  headStep arg3 arg6 arg12 arg13 arg14 7 k7 hk7 v7 hv7 mask (extractStridedSlice S256x128 ![0, 896] (ropeLogits kr qr) slices_S256x1024_o0_896_S256x128)

end Cert.KernelIdeal.Mla
-- ==== Proof.Mla.Pieces.lean ====
/- The attention call's body, piece by piece: the weight cast, the values' transpose, the rope queries, the cleared sums, the key tiles and the outputs. -/
module

public import proofs.«01_k».proof.Proof.Mla.Step
public import proofs.«01_k».proof.Proof.Gen.KernelIdeal.Skeleton

@[expose] public section

set_option maxRecDepth 65536
set_option maxHeartbeats 0

noncomputable section

namespace Cert.KernelIdeal.Mla

open Idealize.ShloMosaic Idealize.SL.Sem Facts₀ Facts

variable {F : FTy → Type} [FloatOps F] [Facts]

/-- The feature number divided by 64, as the body computes it. -/
abbrev featHalf : IVec S128x128 32 :=
  let x : IVec S128x128 32 := iota .tc S128x128 32 [0] iota_S128x128_d0_w32
  let c : BitVec 32 := 64#32
  select (andi (cmpi .ne (subi (extui 32 (cmpi .sgt x (broadcast S128x128 0#32)) natLt_1_32) (extui 32 (cmpi .slt x (broadcast S128x128 0#32)) natLt_1_32))
      (broadcast S128x128 (Scalar.subi (Scalar.extui (Scalar.cmpi .sgt c 0#32)) (Scalar.extui (Scalar.cmpi .slt c 0#32)))))
    (cmpi .ne (remsi x (broadcast S128x128 c)) (broadcast S128x128 0#32)))
    (subi (divsi x (broadcast S128x128 c)) (broadcast S128x128 1#32)) (divsi x (broadcast S128x128 c))

/-- The cast of the weight block. -/
def castBlock (arg8 : Memref sig .tc .vmem S1x32x16384 .f32) (arg10 : Memref sig .tc .vmem S32x16384 .bf16) (harg10 : arg10.IsWhole) :
    Prog (TpuEff nD τ sig (Elt F) Λ₀ .tc) Unit := do
  let w : Vec F S1x32x16384 .f32 ← Prog.lift (.load arg8 (Rect.unit (s := S1x32x16384) ![0, 0, 0] S1x32x16384.size inb_S1x32x16384_S1x32x16384_0_0_0).toLoadRect (View.loadsAt_vmem h_S1x32x16384))
  let _ : Vec F S32x16384 .bf16 ← Prog.lift (.load arg10 (Rect.unit (s := S32x16384) ![0, 0] S32x16384.size inb_S32x16384_S32x16384_0_0).toLoadRect (View.loadsAt_vmem h_S32x16384))
  Prog.lift (.store arg10 (Rect.unit (s := S32x16384) ![0, 0] S32x16384.size inb_S32x16384_S32x16384_0_0)
    (truncf .bf16 (shapeCast S32x16384 w shapeCasts_S1x32x16384_S32x16384) bitsLt_bf16_f32)
    Finset.univ (View.stores_vmem h_S32x16384 (harg10.storeExact_slice rfl _ packedbf16_S32x16384_S32x16384_0_0) (fun _ => rfl)) (.inl rfl))

/-- One head's rope queries: its pair's block where the feature belongs to the head, zero elsewhere. -/
def ropeHead (arg4 : Memref sig .tc .vmem S512x128 .bf16) (arg11 : Memref sig .tc .vmem S128x1024 .bf16) (harg11 : arg11.IsWhole)
    (oq : Fin 2 → Nat) (hoq : ∀ a, oq a + S128x128.size a ≤ S512x128.size a)
    (o : Fin 2 → Nat) (ho : ∀ a, o a + S128x128.size a ≤ S128x1024.size a)
    (hp : (Rect.unit (s := S128x1024) o S128x128.size ho).PackedRows (EltTy.packing .bf16)) (half : BitVec 32) :
    Prog (TpuEff nD τ sig (Elt F) Λ₀ .tc) Unit := do
  let q : Vec F S128x128 .bf16 ← Prog.lift (.load arg4 (Rect.unit (s := S512x128) oq S128x128.size hoq).toLoadRect (View.loadsAt_vmem h_S128x128))
  let _ : Vec F S128x128 .bf16 ← Prog.lift (.load arg11 (Rect.unit (s := S128x1024) o S128x128.size ho).toLoadRect (View.loadsAt_vmem h_S128x128))
  Prog.lift (.store arg11 (Rect.unit (s := S128x1024) o S128x128.size ho)
    (shapeCast S128x128 (select (cmpi .eq featHalf (broadcast S128x128 half)) (shapeCast S128x128 q shapeCasts_S128x128_S128x128 : FVec F S128x128 .bf16)
      (broadcast S128x128 (Scalar.ofBits .bf16 0x0000#16 : F .bf16))) shapeCasts_S128x128_S128x128)
    Finset.univ (View.stores_vmem h_S128x128 (harg11.storeExact_slice rfl _ hp) (fun _ => rfl)) (.inl rfl))

/-- The rope queries of the eight heads. -/
def ropeFill (arg4 : Memref sig .tc .vmem S512x128 .bf16) (arg11 : Memref sig .tc .vmem S128x1024 .bf16) (harg11 : arg11.IsWhole) :
    Prog (TpuEff nD τ sig (Elt F) Λ₀ .tc) Unit := do
  ropeHead arg4 arg11 harg11 ![0, 0] inb_S512x128_S128x128_0_0 ![0, 0] inb_S128x1024_S128x128_0_0 packedbf16_S128x1024_S128x128_0_0 0#32
  ropeHead arg4 arg11 harg11 ![0, 0] inb_S512x128_S128x128_0_0 ![0, 128] inb_S128x1024_S128x128_0_128 packedbf16_S128x1024_S128x128_0_128 1#32
  ropeHead arg4 arg11 harg11 ![128, 0] inb_S512x128_S128x128_128_0 ![0, 256] inb_S128x1024_S128x128_0_256 packedbf16_S128x1024_S128x128_0_256 0#32
  ropeHead arg4 arg11 harg11 ![128, 0] inb_S512x128_S128x128_128_0 ![0, 384] inb_S128x1024_S128x128_0_384 packedbf16_S128x1024_S128x128_0_384 1#32
  ropeHead arg4 arg11 harg11 ![256, 0] inb_S512x128_S128x128_256_0 ![0, 512] inb_S128x1024_S128x128_0_512 packedbf16_S128x1024_S128x128_0_512 0#32
  ropeHead arg4 arg11 harg11 ![256, 0] inb_S512x128_S128x128_256_0 ![0, 640] inb_S128x1024_S128x128_0_640 packedbf16_S128x1024_S128x128_0_640 1#32
  ropeHead arg4 arg11 harg11 ![384, 0] inb_S512x128_S128x128_384_0 ![0, 768] inb_S128x1024_S128x128_0_768 packedbf16_S128x1024_S128x128_0_768 0#32
  ropeHead arg4 arg11 harg11 ![384, 0] inb_S512x128_S128x128_384_0 ![0, 896] inb_S128x1024_S128x128_0_896 packedbf16_S128x1024_S128x128_0_896 1#32

/-- The running maxima and the sums before the first tile. -/
def clearSums (arg13 : Memref sig .tc .vmem S8x1x128 .f32) (arg14 : Memref sig .tc .vmem S8x136x128 .f32) :
    Prog (TpuEff nD τ sig (Elt F) Λ₀ .tc) Unit := do
  let _ : Vec F S8x1x128 .f32 ← Prog.lift (.load arg13 (Rect.unit (s := S8x1x128) ![0, 0, 0] S8x1x128.size inb_S8x1x128_S8x1x128_0_0_0).toLoadRect (View.loadsAt_vmem h_S8x1x128))
  Prog.lift (.store arg13 (Rect.unit (s := S8x1x128) ![0, 0, 0] S8x1x128.size inb_S8x1x128_S8x1x128_0_0_0)
    (shapeCast S8x1x128 (broadcast S8x1x128 (Scalar.ofBits .f32 0xF149F2CA#32 : F .f32)) shapeCasts_S8x1x128_S8x1x128)
    Finset.univ (View.stores_vmem_bits_univ h_S8x1x128 rfl) (.inl rfl))
  let _ : Vec F S8x136x128 .f32 ← Prog.lift (.load arg14 (Rect.unit (s := S8x136x128) ![0, 0, 0] S8x136x128.size inb_S8x136x128_S8x136x128_0_0_0).toLoadRect (View.loadsAt_vmem h_S8x136x128))
  Prog.lift (.store arg14 (Rect.unit (s := S8x136x128) ![0, 0, 0] S8x136x128.size inb_S8x136x128_S8x136x128_0_0_0)
    (shapeCast S8x136x128 (broadcast S8x136x128 (Scalar.ofBits .f32 0x00000000#32 : F .f32)) shapeCasts_S8x136x128_S8x136x128)
    Finset.univ (View.stores_vmem_bits_univ h_S8x136x128 rfl) (.inl rfl))

/-- The number of key tiles that every query of the block sees, as the body computes it. -/
abbrev nFull (i : grid0.Coords) : BitVec 32 :=
  let p : BitVec 32 := Scalar.muli (BitVec.ofNat 32 (i 2).val) 128#32
  let c : BitVec 32 := 256#32
  Scalar.select (Scalar.andi (Scalar.cmpi .ne
      (Scalar.subi (Scalar.extui (Scalar.cmpi .sgt p 0#32)) (Scalar.extui (Scalar.cmpi .slt p 0#32)))
      (Scalar.subi (Scalar.extui (Scalar.cmpi .sgt c 0#32)) (Scalar.extui (Scalar.cmpi .slt c 0#32))))
    (Scalar.cmpi .ne (Scalar.remsi p c) 0#32)) (Scalar.subi (Scalar.divsi p c) 1#32) (Scalar.divsi p c)

/-- The positions of the queries, along the lanes. -/
abbrev qPos (i : grid0.Coords) : IVec S256x128 32 :=
  addi (broadcast S256x128 (Scalar.muli (BitVec.ofNat 32 (i 2).val) 128#32)) (iota .tc S256x128 32 [1] iota_S256x128_d1_w32)

/-- The mask of the last tile: a key's chunk must not come after the query's. -/
abbrev chunkMask (i : grid0.Coords) (l : FVec F S256x128 .f32) : FVec F S256x128 .f32 :=
  select (cmpi .sle (shrsi (addi (iota .tc S256x128 32 [0] iota_S256x128_d0_w32) (broadcast S256x128 (Scalar.muli (nFull i) 256#32)))
      (broadcast S256x128 6#32)) (shrsi (qPos i) (broadcast S256x128 6#32))) l (broadcast S256x128 (Scalar.ofBits .f32 0xFF800000#32 : F .f32))

/-- One head's result: the weighted values over the sum of the weights, turned to rows of queries. -/
def outHead (arg9 : Memref sig .tc .vmem S128x1024 .bf16) (harg9 : arg9.IsWhole) (arg14 : Memref sig .tc .vmem S8x136x128 .f32) (h : Fin 8)
    (o : Fin 2 → Nat) (ho : ∀ a, o a + S128x128.size a ≤ S128x1024.size a)
    (hp : (Rect.unit (s := S128x1024) o S128x128.size ho).PackedRows (EltTy.packing .bf16)) :
    Prog (TpuEff nD τ sig (Elt F) Λ₀ .tc) Unit := do
  let d : Vec F S1x8x128 .f32 ← Prog.lift (.load arg14 (Rect.unit (s := S8x136x128) ![h.val, 128, 0] S1x8x128.size (inb_d h)).toLoadRect (View.loadsAt_vmem h_S1x8x128))
  let n : Vec F S1x128x128 .f32 ← Prog.lift (.load arg14 (Rect.unit (s := S8x136x128) ![h.val, 0, 0] S1x128x128.size (inb_n h)).toLoadRect (View.loadsAt_vmem h_S1x128x128))
  let _ : Vec F S128x128 .bf16 ← Prog.lift (.load arg9 (Rect.unit (s := S128x1024) o S128x128.size ho).toLoadRect (View.loadsAt_vmem h_S128x128))
  Prog.lift (.store arg9 (Rect.unit (s := S128x1024) o S128x128.size ho)
    (truncf .bf16 (transpose S128x128 [1, 0] (divf (shapeCast S128x128 n shapeCasts_S1x128x128_S128x128 : FVec F S128x128 .f32)
      (broadcastTo S128x128 (shapeCast S1x128 (multiReduction .add [0] S128 (shapeCast S8x128 d shapeCasts_S1x8x128_S8x128 : FVec F S8x128 .f32)
        0x00000000#32 reduces_S8x128_S128 (.inl rfl) rfl) shapeCasts_S128_S1x128) broadcasts_S1x128_S128x128))
      transposes_S128x128_p1_0_S128x128) bitsLt_bf16_f32)
    Finset.univ (View.stores_vmem h_S128x128 (harg9.storeExact_slice rfl _ hp) (fun _ => rfl)) (.inl rfl))

/-- The results of the eight heads. -/
def outs (arg9 : Memref sig .tc .vmem S128x1024 .bf16) (harg9 : arg9.IsWhole) (arg14 : Memref sig .tc .vmem S8x136x128 .f32) :
    Prog (TpuEff nD τ sig (Elt F) Λ₀ .tc) Unit := do
  outHead arg9 harg9 arg14 0 ![0, 0] inb_S128x1024_S128x128_0_0 packedbf16_S128x1024_S128x128_0_0
  outHead arg9 harg9 arg14 1 ![0, 128] inb_S128x1024_S128x128_0_128 packedbf16_S128x1024_S128x128_0_128
  outHead arg9 harg9 arg14 2 ![0, 256] inb_S128x1024_S128x128_0_256 packedbf16_S128x1024_S128x128_0_256
  outHead arg9 harg9 arg14 3 ![0, 384] inb_S128x1024_S128x128_0_384 packedbf16_S128x1024_S128x128_0_384
  outHead arg9 harg9 arg14 4 ![0, 512] inb_S128x1024_S128x128_0_512 packedbf16_S128x1024_S128x128_0_512
  outHead arg9 harg9 arg14 5 ![0, 640] inb_S128x1024_S128x128_0_640 packedbf16_S128x1024_S128x128_0_640
  outHead arg9 harg9 arg14 6 ![0, 768] inb_S128x1024_S128x128_0_768 packedbf16_S128x1024_S128x128_0_768
  outHead arg9 harg9 arg14 7 ![0, 896] inb_S128x1024_S128x128_0_896 packedbf16_S128x1024_S128x128_0_896

/-- The values' transpose, once for each group of heads. -/
def fillValues (i : grid0.Coords) (arg3 : Memref sig .tc .vmem S1024x128 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x1024 .bf16) (harg6 : arg6.IsWhole) (arg7 : Memref sig .tc .vmem S4096x1024 .bf16) (harg7 : arg7.IsWhole) (arg8 : Memref sig .tc .vmem S1x32x16384 .f32) (harg8 : arg8.IsWhole) (arg9 : Memref sig .tc .vmem S128x1024 .bf16) (harg9 : arg9.IsWhole) (arg10 : Memref sig .tc .vmem S32x16384 .bf16) (harg10 : arg10.IsWhole) (arg11 : Memref sig .tc .vmem S128x1024 .bf16) (harg11 : arg11.IsWhole) (arg12 : Memref sig .tc .vmem S8x16x128x256 .bf16) (harg12 : arg12.IsWhole) (arg13 : Memref sig .tc .vmem S8x1x128 .f32) (harg13 : arg13.IsWhole) (arg14 : Memref sig .tc .vmem S8x136x128 .f32) (harg14 : arg14.IsWhole) :
    Prog (TpuEff nD τ sig (Elt F) Λ₀ .tc) Unit :=
  if h : k0_cond1 i = 1#1 then Scf.Loop.for k0_t1_loop (k0_t1_ok i h) ⟨⟩ (Gen.k0_t1_body i arg3 harg3 arg4 harg4 arg5 harg5 arg6 harg6 arg7 harg7 arg8 harg8 arg9 harg9 arg10 harg10 arg11 harg11 arg12 harg12 arg13 harg13 arg14 harg14 h)
  else pure ⟨⟩

/-- Four key tiles. -/
def quad (i : grid0.Coords) (arg3 : Memref sig .tc .vmem S1024x128 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x1024 .bf16) (harg6 : arg6.IsWhole) (arg7 : Memref sig .tc .vmem S4096x1024 .bf16) (harg7 : arg7.IsWhole) (arg8 : Memref sig .tc .vmem S1x32x16384 .f32) (harg8 : arg8.IsWhole) (arg9 : Memref sig .tc .vmem S128x1024 .bf16) (harg9 : arg9.IsWhole) (arg10 : Memref sig .tc .vmem S32x16384 .bf16) (harg10 : arg10.IsWhole) (arg11 : Memref sig .tc .vmem S128x1024 .bf16) (harg11 : arg11.IsWhole) (arg12 : Memref sig .tc .vmem S8x16x128x256 .bf16) (harg12 : arg12.IsWhole) (arg13 : Memref sig .tc .vmem S8x1x128 .f32) (harg13 : arg13.IsWhole) (arg14 : Memref sig .tc .vmem S8x136x128 .f32) (harg14 : arg14.IsWhole) (t : Fin (k0_t2_loop i).trips) :
    Prog (TpuEff nD τ sig (Elt F) Λ₀ .tc) Unit := do
  tile arg3 arg5 arg6 arg11 arg12 arg13 arg14 (k0_off17 i t 0#32) (k0_off17_inb i t 0)
      (k0_off18 i t 0#32) (k0_off18_inb i t 0) (k0_off19 i t 0#32) (k0_off19_inb i t 0)
      (k0_off20 i t 0#32) (k0_off20_inb i t 0) (k0_off21 i t 0#32) (k0_off21_inb i t 0)
      (k0_off22 i t 0#32) (k0_off22_inb i t 0) (k0_off23 i t 0#32) (k0_off23_inb i t 0)
      (k0_off24 i t 0#32) (k0_off24_inb i t 0) (k0_off25 i t 0#32) (k0_off25_inb i t 0)
      (k0_off26 i t 0#32) (k0_off26_inb i t 0) (k0_off27 i t 0#32) (k0_off27_inb i t 0)
      (k0_off28 i t 0#32) (k0_off28_inb i t 0) (k0_off29 i t 0#32) (k0_off29_inb i t 0)
      (k0_off30 i t 0#32) (k0_off30_inb i t 0) (k0_off31 i t 0#32) (k0_off31_inb i t 0)
      (k0_off32 i t 0#32) (k0_off32_inb i t 0) (k0_off33 i t 0#32) (k0_off33_inb i t 0) (fun l => l)
  tile arg3 arg5 arg6 arg11 arg12 arg13 arg14 (k0_off17 i t 1#32) (k0_off17_inb i t 1)
      (k0_off18 i t 1#32) (k0_off18_inb i t 1) (k0_off19 i t 1#32) (k0_off19_inb i t 1)
      (k0_off20 i t 1#32) (k0_off20_inb i t 1) (k0_off21 i t 1#32) (k0_off21_inb i t 1)
      (k0_off22 i t 1#32) (k0_off22_inb i t 1) (k0_off23 i t 1#32) (k0_off23_inb i t 1)
      (k0_off24 i t 1#32) (k0_off24_inb i t 1) (k0_off25 i t 1#32) (k0_off25_inb i t 1)
      (k0_off26 i t 1#32) (k0_off26_inb i t 1) (k0_off27 i t 1#32) (k0_off27_inb i t 1)
      (k0_off28 i t 1#32) (k0_off28_inb i t 1) (k0_off29 i t 1#32) (k0_off29_inb i t 1)
      (k0_off30 i t 1#32) (k0_off30_inb i t 1) (k0_off31 i t 1#32) (k0_off31_inb i t 1)
      (k0_off32 i t 1#32) (k0_off32_inb i t 1) (k0_off33 i t 1#32) (k0_off33_inb i t 1) (fun l => l)
  tile arg3 arg5 arg6 arg11 arg12 arg13 arg14 (k0_off17 i t 2#32) (k0_off17_inb i t 2)
      (k0_off18 i t 2#32) (k0_off18_inb i t 2) (k0_off19 i t 2#32) (k0_off19_inb i t 2)
      (k0_off20 i t 2#32) (k0_off20_inb i t 2) (k0_off21 i t 2#32) (k0_off21_inb i t 2)
      (k0_off22 i t 2#32) (k0_off22_inb i t 2) (k0_off23 i t 2#32) (k0_off23_inb i t 2)
      (k0_off24 i t 2#32) (k0_off24_inb i t 2) (k0_off25 i t 2#32) (k0_off25_inb i t 2)
      (k0_off26 i t 2#32) (k0_off26_inb i t 2) (k0_off27 i t 2#32) (k0_off27_inb i t 2)
      (k0_off28 i t 2#32) (k0_off28_inb i t 2) (k0_off29 i t 2#32) (k0_off29_inb i t 2)
      (k0_off30 i t 2#32) (k0_off30_inb i t 2) (k0_off31 i t 2#32) (k0_off31_inb i t 2)
      (k0_off32 i t 2#32) (k0_off32_inb i t 2) (k0_off33 i t 2#32) (k0_off33_inb i t 2) (fun l => l)
  tile arg3 arg5 arg6 arg11 arg12 arg13 arg14 (k0_off17 i t 3#32) (k0_off17_inb i t 3)
      (k0_off18 i t 3#32) (k0_off18_inb i t 3) (k0_off19 i t 3#32) (k0_off19_inb i t 3)
      (k0_off20 i t 3#32) (k0_off20_inb i t 3) (k0_off21 i t 3#32) (k0_off21_inb i t 3)
      (k0_off22 i t 3#32) (k0_off22_inb i t 3) (k0_off23 i t 3#32) (k0_off23_inb i t 3)
      (k0_off24 i t 3#32) (k0_off24_inb i t 3) (k0_off25 i t 3#32) (k0_off25_inb i t 3)
      (k0_off26 i t 3#32) (k0_off26_inb i t 3) (k0_off27 i t 3#32) (k0_off27_inb i t 3)
      (k0_off28 i t 3#32) (k0_off28_inb i t 3) (k0_off29 i t 3#32) (k0_off29_inb i t 3)
      (k0_off30 i t 3#32) (k0_off30_inb i t 3) (k0_off31 i t 3#32) (k0_off31_inb i t 3)
      (k0_off32 i t 3#32) (k0_off32_inb i t 3) (k0_off33 i t 3#32) (k0_off33_inb i t 3) (fun l => l)

/-- Two more key tiles, where they are left. -/
def two (i : grid0.Coords) (arg3 : Memref sig .tc .vmem S1024x128 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x1024 .bf16) (harg6 : arg6.IsWhole) (arg7 : Memref sig .tc .vmem S4096x1024 .bf16) (harg7 : arg7.IsWhole) (arg8 : Memref sig .tc .vmem S1x32x16384 .f32) (harg8 : arg8.IsWhole) (arg9 : Memref sig .tc .vmem S128x1024 .bf16) (harg9 : arg9.IsWhole) (arg10 : Memref sig .tc .vmem S32x16384 .bf16) (harg10 : arg10.IsWhole) (arg11 : Memref sig .tc .vmem S128x1024 .bf16) (harg11 : arg11.IsWhole) (arg12 : Memref sig .tc .vmem S8x16x128x256 .bf16) (harg12 : arg12.IsWhole) (arg13 : Memref sig .tc .vmem S8x1x128 .f32) (harg13 : arg13.IsWhole) (arg14 : Memref sig .tc .vmem S8x136x128 .f32) (harg14 : arg14.IsWhole) :
    Prog (TpuEff nD τ sig (Elt F) Λ₀ .tc) Unit :=
  if h : k0_cond2 i = 1#1 then do
    tile arg3 arg5 arg6 arg11 arg12 arg13 arg14 (k0_off51 i) (k0_off51_inb i h)
      (k0_off52 i) (k0_off52_inb i h) (k0_off53 i) (k0_off53_inb i h)
      (k0_off54 i) (k0_off54_inb i h) (k0_off55 i) (k0_off55_inb i h)
      (k0_off56 i) (k0_off56_inb i h) (k0_off57 i) (k0_off57_inb i h)
      (k0_off58 i) (k0_off58_inb i h) (k0_off59 i) (k0_off59_inb i h)
      (k0_off60 i) (k0_off60_inb i h) (k0_off61 i) (k0_off61_inb i h)
      (k0_off62 i) (k0_off62_inb i h) (k0_off63 i) (k0_off63_inb i h)
      (k0_off64 i) (k0_off64_inb i h) (k0_off65 i) (k0_off65_inb i h)
      (k0_off66 i) (k0_off66_inb i h) (k0_off67 i) (k0_off67_inb i h) (fun l => l)
    tile arg3 arg5 arg6 arg11 arg12 arg13 arg14 (k0_off68 i) (k0_off68_inb i h)
      (k0_off69 i) (k0_off69_inb i h) (k0_off70 i) (k0_off70_inb i h)
      (k0_off71 i) (k0_off71_inb i h) (k0_off72 i) (k0_off72_inb i h)
      (k0_off73 i) (k0_off73_inb i h) (k0_off74 i) (k0_off74_inb i h)
      (k0_off75 i) (k0_off75_inb i h) (k0_off76 i) (k0_off76_inb i h)
      (k0_off77 i) (k0_off77_inb i h) (k0_off78 i) (k0_off78_inb i h)
      (k0_off79 i) (k0_off79_inb i h) (k0_off80 i) (k0_off80_inb i h)
      (k0_off81 i) (k0_off81_inb i h) (k0_off82 i) (k0_off82_inb i h)
      (k0_off83 i) (k0_off83_inb i h) (k0_off84 i) (k0_off84_inb i h) (fun l => l)
  else pure ⟨⟩

/-- One more key tile, where it is left. -/
def one (i : grid0.Coords) (arg3 : Memref sig .tc .vmem S1024x128 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x1024 .bf16) (harg6 : arg6.IsWhole) (arg7 : Memref sig .tc .vmem S4096x1024 .bf16) (harg7 : arg7.IsWhole) (arg8 : Memref sig .tc .vmem S1x32x16384 .f32) (harg8 : arg8.IsWhole) (arg9 : Memref sig .tc .vmem S128x1024 .bf16) (harg9 : arg9.IsWhole) (arg10 : Memref sig .tc .vmem S32x16384 .bf16) (harg10 : arg10.IsWhole) (arg11 : Memref sig .tc .vmem S128x1024 .bf16) (harg11 : arg11.IsWhole) (arg12 : Memref sig .tc .vmem S8x16x128x256 .bf16) (harg12 : arg12.IsWhole) (arg13 : Memref sig .tc .vmem S8x1x128 .f32) (harg13 : arg13.IsWhole) (arg14 : Memref sig .tc .vmem S8x136x128 .f32) (harg14 : arg14.IsWhole) :
    Prog (TpuEff nD τ sig (Elt F) Λ₀ .tc) Unit :=
  if h : k0_cond3 i = 1#1 then
    tile arg3 arg5 arg6 arg11 arg12 arg13 arg14 (k0_off85 i) (k0_off85_inb i h)
      (k0_off86 i) (k0_off86_inb i h) (k0_off87 i) (k0_off87_inb i h)
      (k0_off88 i) (k0_off88_inb i h) (k0_off89 i) (k0_off89_inb i h)
      (k0_off90 i) (k0_off90_inb i h) (k0_off91 i) (k0_off91_inb i h)
      (k0_off92 i) (k0_off92_inb i h) (k0_off93 i) (k0_off93_inb i h)
      (k0_off94 i) (k0_off94_inb i h) (k0_off95 i) (k0_off95_inb i h)
      (k0_off96 i) (k0_off96_inb i h) (k0_off97 i) (k0_off97_inb i h)
      (k0_off98 i) (k0_off98_inb i h) (k0_off99 i) (k0_off99_inb i h)
      (k0_off100 i) (k0_off100_inb i h) (k0_off101 i) (k0_off101_inb i h) (fun l => l)
  else pure ⟨⟩

/-- The masked key tile. -/
def last (i : grid0.Coords) (arg3 : Memref sig .tc .vmem S1024x128 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x1024 .bf16) (harg6 : arg6.IsWhole) (arg7 : Memref sig .tc .vmem S4096x1024 .bf16) (harg7 : arg7.IsWhole) (arg8 : Memref sig .tc .vmem S1x32x16384 .f32) (harg8 : arg8.IsWhole) (arg9 : Memref sig .tc .vmem S128x1024 .bf16) (harg9 : arg9.IsWhole) (arg10 : Memref sig .tc .vmem S32x16384 .bf16) (harg10 : arg10.IsWhole) (arg11 : Memref sig .tc .vmem S128x1024 .bf16) (harg11 : arg11.IsWhole) (arg12 : Memref sig .tc .vmem S8x16x128x256 .bf16) (harg12 : arg12.IsWhole) (arg13 : Memref sig .tc .vmem S8x1x128 .f32) (harg13 : arg13.IsWhole) (arg14 : Memref sig .tc .vmem S8x136x128 .f32) (harg14 : arg14.IsWhole) :
    Prog (TpuEff nD τ sig (Elt F) Λ₀ .tc) Unit :=
    tile arg3 arg5 arg6 arg11 arg12 arg13 arg14 (k0_off102 i) (k0_off102_inb i)
      (k0_off103 i) (k0_off103_inb i) (k0_off104 i) (k0_off104_inb i)
      (k0_off105 i) (k0_off105_inb i) (k0_off106 i) (k0_off106_inb i)
      (k0_off107 i) (k0_off107_inb i) (k0_off108 i) (k0_off108_inb i)
      (k0_off109 i) (k0_off109_inb i) (k0_off110 i) (k0_off110_inb i)
      (k0_off111 i) (k0_off111_inb i) (k0_off112 i) (k0_off112_inb i)
      (k0_off113 i) (k0_off113_inb i) (k0_off114 i) (k0_off114_inb i)
      (k0_off115 i) (k0_off115_inb i) (k0_off116 i) (k0_off116_inb i)
      (k0_off117 i) (k0_off117_inb i) (k0_off118 i) (k0_off118_inb i) (chunkMask i)

/-- The key tiles after the loop over four. -/
def rest (i : grid0.Coords) (arg3 : Memref sig .tc .vmem S1024x128 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x1024 .bf16) (harg6 : arg6.IsWhole) (arg7 : Memref sig .tc .vmem S4096x1024 .bf16) (harg7 : arg7.IsWhole) (arg8 : Memref sig .tc .vmem S1x32x16384 .f32) (harg8 : arg8.IsWhole) (arg9 : Memref sig .tc .vmem S128x1024 .bf16) (harg9 : arg9.IsWhole) (arg10 : Memref sig .tc .vmem S32x16384 .bf16) (harg10 : arg10.IsWhole) (arg11 : Memref sig .tc .vmem S128x1024 .bf16) (harg11 : arg11.IsWhole) (arg12 : Memref sig .tc .vmem S8x16x128x256 .bf16) (harg12 : arg12.IsWhole) (arg13 : Memref sig .tc .vmem S8x1x128 .f32) (harg13 : arg13.IsWhole) (arg14 : Memref sig .tc .vmem S8x136x128 .f32) (harg14 : arg14.IsWhole) : Prog (TpuEff nD τ sig (Elt F) Λ₀ .tc) Unit := do
  one i arg3 harg3 arg4 harg4 arg5 harg5 arg6 harg6 arg7 harg7 arg8 harg8 arg9 harg9 arg10 harg10 arg11 harg11 arg12 harg12 arg13 harg13 arg14 harg14
  last i arg3 harg3 arg4 harg4 arg5 harg5 arg6 harg6 arg7 harg7 arg8 harg8 arg9 harg9 arg10 harg10 arg11 harg11 arg12 harg12 arg13 harg13 arg14 harg14
  outs arg9 harg9 arg14

end Cert.KernelIdeal.Mla
-- ==== Proof.Mla.Root1.lean ====
/- The first part of the body: the weight cast and the values' transpose. -/
module

public import proofs.«01_k».proof.Proof.Mla.Pieces

@[expose] public section

set_option maxRecDepth 65536
set_option maxHeartbeats 0

noncomputable section

namespace Cert.KernelIdeal.Mla

open Idealize.ShloMosaic Idealize.SL.Sem Facts₀ Facts

variable {F : FTy → Type} [FloatOps F] [Facts]

theorem part120_eq (i : grid0.Coords) (arg3 : Memref sig .tc .vmem S1024x128 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x1024 .bf16) (harg6 : arg6.IsWhole) (arg7 : Memref sig .tc .vmem S4096x1024 .bf16) (harg7 : arg7.IsWhole) (arg8 : Memref sig .tc .vmem S1x32x16384 .f32) (harg8 : arg8.IsWhole) (arg9 : Memref sig .tc .vmem S128x1024 .bf16) (harg9 : arg9.IsWhole) (arg10 : Memref sig .tc .vmem S32x16384 .bf16) (harg10 : arg10.IsWhole) (arg11 : Memref sig .tc .vmem S128x1024 .bf16) (harg11 : arg11.IsWhole) (arg12 : Memref sig .tc .vmem S8x16x128x256 .bf16) (harg12 : arg12.IsWhole) (arg13 : Memref sig .tc .vmem S8x1x128 .f32) (harg13 : arg13.IsWhole) (arg14 : Memref sig .tc .vmem S8x136x128 .f32) (harg14 : arg14.IsWhole) :
    k0_part120 (F := F) i arg3 harg3 arg4 harg4 arg5 harg5 arg6 harg6 arg7 harg7 arg8 harg8 arg9 harg9 arg10 harg10 arg11 harg11 arg12 harg12 arg13 harg13 arg14 harg14 = (castBlock arg8 arg10 harg10 >>= fun _ => fillValues i arg3 harg3 arg4 harg4 arg5 harg5 arg6 harg6 arg7 harg7 arg8 harg8 arg9 harg9 arg10 harg10 arg11 harg11 arg12 harg12 arg13 harg13 arg14 harg14 >>= fun _ =>
      (do let q : Vec F S128x128 .bf16 ← Prog.lift (.load arg4 (Rect.unit (s := S512x128) ![0, 0] S128x128.size inb_S512x128_S128x128_0_0).toLoadRect (View.loadsAt_vmem h_S128x128))
          pure ⟨BitVec.ofNat 32 (i 2).val, nFull i, iota .tc S128x128 32 [0] iota_S128x128_d0_w32, shapeCast S128x128 q shapeCasts_S128x128_S128x128, 64#32,
            divsi (iota .tc S128x128 32 [0] iota_S128x128_d0_w32) (broadcast S128x128 64#32),
            extui 32 (cmpi .sgt (iota .tc S128x128 32 [0] iota_S128x128_d0_w32) (broadcast S128x128 0#32)) natLt_1_32,
            cmpi .slt (iota .tc S128x128 32 [0] iota_S128x128_d0_w32) (broadcast S128x128 0#32)⟩)) := by
  unfold k0_part120 fillValues
  by_cases h : k0_cond1 i = 1#1
  · simp only [dif_pos h]
    rfl
  · simp only [dif_neg h]
    rfl

end Cert.KernelIdeal.Mla
-- ==== Proof.Mla.Quad.lean ====
/- The loop over four key tiles at a time does four key tiles. -/
module

public import proofs.«01_k».proof.Proof.Mla.Step
public import proofs.«01_k».proof.Proof.Gen.KernelIdeal.Skeleton

@[expose] public section

set_option maxRecDepth 65536
set_option maxHeartbeats 0

noncomputable section

namespace Cert.KernelIdeal.Mla

open Idealize.ShloMosaic Idealize.SL.Sem Facts₀ Facts

variable {F : FTy → Type} [FloatOps F]

theorem quad_eq (i : grid0.Coords) (arg3 : Memref sig .tc .vmem S1024x128 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x1024 .bf16) (harg6 : arg6.IsWhole) (arg7 : Memref sig .tc .vmem S4096x1024 .bf16) (harg7 : arg7.IsWhole) (arg8 : Memref sig .tc .vmem S1x32x16384 .f32) (harg8 : arg8.IsWhole) (arg9 : Memref sig .tc .vmem S128x1024 .bf16) (harg9 : arg9.IsWhole) (arg10 : Memref sig .tc .vmem S32x16384 .bf16) (harg10 : arg10.IsWhole) (arg11 : Memref sig .tc .vmem S128x1024 .bf16) (harg11 : arg11.IsWhole) (arg12 : Memref sig .tc .vmem S8x16x128x256 .bf16) (harg12 : arg12.IsWhole) (arg13 : Memref sig .tc .vmem S8x1x128 .f32) (harg13 : arg13.IsWhole) (arg14 : Memref sig .tc .vmem S8x136x128 .f32) (harg14 : arg14.IsWhole) (arg2 : BitVec 32) (v24 : BitVec 32) (v286 : FVec F S128x128 .bf16) (t : Fin (k0_t2_loop i).trips) :
    Gen.k0_t2_body i arg3 harg3 arg4 harg4 arg5 harg5 arg6 harg6 arg7 harg7 arg8 harg8 arg9 harg9 arg10 harg10 arg11 harg11 arg12 harg12 arg13 harg13 arg14 harg14 arg2 v24 v286 t () = (do
      tile arg3 arg5 arg6 arg11 arg12 arg13 arg14 (k0_off17 i t 0#32) (k0_off17_inb i t 0)
          (k0_off18 i t 0#32) (k0_off18_inb i t 0) (k0_off19 i t 0#32) (k0_off19_inb i t 0)
          (k0_off20 i t 0#32) (k0_off20_inb i t 0) (k0_off21 i t 0#32) (k0_off21_inb i t 0)
          (k0_off22 i t 0#32) (k0_off22_inb i t 0) (k0_off23 i t 0#32) (k0_off23_inb i t 0)
          (k0_off24 i t 0#32) (k0_off24_inb i t 0) (k0_off25 i t 0#32) (k0_off25_inb i t 0)
          (k0_off26 i t 0#32) (k0_off26_inb i t 0) (k0_off27 i t 0#32) (k0_off27_inb i t 0)
          (k0_off28 i t 0#32) (k0_off28_inb i t 0) (k0_off29 i t 0#32) (k0_off29_inb i t 0)
          (k0_off30 i t 0#32) (k0_off30_inb i t 0) (k0_off31 i t 0#32) (k0_off31_inb i t 0)
          (k0_off32 i t 0#32) (k0_off32_inb i t 0) (k0_off33 i t 0#32) (k0_off33_inb i t 0) (fun l => l)
      tile arg3 arg5 arg6 arg11 arg12 arg13 arg14 (k0_off17 i t 1#32) (k0_off17_inb i t 1)
          (k0_off18 i t 1#32) (k0_off18_inb i t 1) (k0_off19 i t 1#32) (k0_off19_inb i t 1)
          (k0_off20 i t 1#32) (k0_off20_inb i t 1) (k0_off21 i t 1#32) (k0_off21_inb i t 1)
          (k0_off22 i t 1#32) (k0_off22_inb i t 1) (k0_off23 i t 1#32) (k0_off23_inb i t 1)
          (k0_off24 i t 1#32) (k0_off24_inb i t 1) (k0_off25 i t 1#32) (k0_off25_inb i t 1)
          (k0_off26 i t 1#32) (k0_off26_inb i t 1) (k0_off27 i t 1#32) (k0_off27_inb i t 1)
          (k0_off28 i t 1#32) (k0_off28_inb i t 1) (k0_off29 i t 1#32) (k0_off29_inb i t 1)
          (k0_off30 i t 1#32) (k0_off30_inb i t 1) (k0_off31 i t 1#32) (k0_off31_inb i t 1)
          (k0_off32 i t 1#32) (k0_off32_inb i t 1) (k0_off33 i t 1#32) (k0_off33_inb i t 1) (fun l => l)
      tile arg3 arg5 arg6 arg11 arg12 arg13 arg14 (k0_off17 i t 2#32) (k0_off17_inb i t 2)
          (k0_off18 i t 2#32) (k0_off18_inb i t 2) (k0_off19 i t 2#32) (k0_off19_inb i t 2)
          (k0_off20 i t 2#32) (k0_off20_inb i t 2) (k0_off21 i t 2#32) (k0_off21_inb i t 2)
          (k0_off22 i t 2#32) (k0_off22_inb i t 2) (k0_off23 i t 2#32) (k0_off23_inb i t 2)
          (k0_off24 i t 2#32) (k0_off24_inb i t 2) (k0_off25 i t 2#32) (k0_off25_inb i t 2)
          (k0_off26 i t 2#32) (k0_off26_inb i t 2) (k0_off27 i t 2#32) (k0_off27_inb i t 2)
          (k0_off28 i t 2#32) (k0_off28_inb i t 2) (k0_off29 i t 2#32) (k0_off29_inb i t 2)
          (k0_off30 i t 2#32) (k0_off30_inb i t 2) (k0_off31 i t 2#32) (k0_off31_inb i t 2)
          (k0_off32 i t 2#32) (k0_off32_inb i t 2) (k0_off33 i t 2#32) (k0_off33_inb i t 2) (fun l => l)
      tile arg3 arg5 arg6 arg11 arg12 arg13 arg14 (k0_off17 i t 3#32) (k0_off17_inb i t 3)
          (k0_off18 i t 3#32) (k0_off18_inb i t 3) (k0_off19 i t 3#32) (k0_off19_inb i t 3)
          (k0_off20 i t 3#32) (k0_off20_inb i t 3) (k0_off21 i t 3#32) (k0_off21_inb i t 3)
          (k0_off22 i t 3#32) (k0_off22_inb i t 3) (k0_off23 i t 3#32) (k0_off23_inb i t 3)
          (k0_off24 i t 3#32) (k0_off24_inb i t 3) (k0_off25 i t 3#32) (k0_off25_inb i t 3)
          (k0_off26 i t 3#32) (k0_off26_inb i t 3) (k0_off27 i t 3#32) (k0_off27_inb i t 3)
          (k0_off28 i t 3#32) (k0_off28_inb i t 3) (k0_off29 i t 3#32) (k0_off29_inb i t 3)
          (k0_off30 i t 3#32) (k0_off30_inb i t 3) (k0_off31 i t 3#32) (k0_off31_inb i t 3)
          (k0_off32 i t 3#32) (k0_off32_inb i t 3) (k0_off33 i t 3#32) (k0_off33_inb i t 3) (fun l => l)) := by
  rfl

end Cert.KernelIdeal.Mla
-- ==== Proof.Mla.Root2.lean ====
/- The middle of the body: the rope queries, the cleared sums, and the loop over four tiles. -/
module

public import proofs.«01_k».proof.Proof.Mla.Pieces
public import proofs.«01_k».proof.Proof.Mla.Quad

@[expose] public section

set_option maxRecDepth 65536
set_option maxHeartbeats 0

noncomputable section

namespace Cert.KernelIdeal.Mla

open Idealize.ShloMosaic Idealize.SL.Sem Facts₀ Facts

variable {F : FTy → Type} [FloatOps F] [Facts]

/-- The loop over four key tiles at a time. -/
def quads (i : grid0.Coords) (arg3 : Memref sig .tc .vmem S1024x128 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x1024 .bf16) (harg6 : arg6.IsWhole) (arg7 : Memref sig .tc .vmem S4096x1024 .bf16) (harg7 : arg7.IsWhole) (arg8 : Memref sig .tc .vmem S1x32x16384 .f32) (harg8 : arg8.IsWhole) (arg9 : Memref sig .tc .vmem S128x1024 .bf16) (harg9 : arg9.IsWhole) (arg10 : Memref sig .tc .vmem S32x16384 .bf16) (harg10 : arg10.IsWhole) (arg11 : Memref sig .tc .vmem S128x1024 .bf16) (harg11 : arg11.IsWhole) (arg12 : Memref sig .tc .vmem S8x16x128x256 .bf16) (harg12 : arg12.IsWhole) (arg13 : Memref sig .tc .vmem S8x1x128 .f32) (harg13 : arg13.IsWhole) (arg14 : Memref sig .tc .vmem S8x136x128 .f32) (harg14 : arg14.IsWhole) : Prog (TpuEff nD τ sig (Elt F) Λ₀ .tc) Unit :=
  Scf.Loop.for (k0_t2_loop i) (k0_t2_ok i) ⟨⟩ (fun t _ => quad i arg3 harg3 arg4 harg4 arg5 harg5 arg6 harg6 arg7 harg7 arg8 harg8 arg9 harg9 arg10 harg10 arg11 harg11 arg12 harg12 arg13 harg13 arg14 harg14 t)

/-- A count divided by four, as the body computes it. -/
abbrev perFour (v24 : BitVec 32) : BitVec 32 :=
  let c : BitVec 32 := 4#32
  Scalar.select (Scalar.andi (Scalar.cmpi .ne
      (Scalar.subi (Scalar.extui (Scalar.cmpi .sgt v24 0#32)) (Scalar.extui (Scalar.cmpi .slt v24 0#32)))
      (Scalar.subi (Scalar.extui (Scalar.cmpi .sgt c 0#32)) (Scalar.extui (Scalar.cmpi .slt c 0#32))))
    (Scalar.cmpi .ne (Scalar.remsi v24 c) 0#32)) (Scalar.subi (Scalar.divsi v24 c) 1#32) (Scalar.divsi v24 c)

theorem quads_eq (i : grid0.Coords) (arg3 : Memref sig .tc .vmem S1024x128 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x1024 .bf16) (harg6 : arg6.IsWhole) (arg7 : Memref sig .tc .vmem S4096x1024 .bf16) (harg7 : arg7.IsWhole) (arg8 : Memref sig .tc .vmem S1x32x16384 .f32) (harg8 : arg8.IsWhole) (arg9 : Memref sig .tc .vmem S128x1024 .bf16) (harg9 : arg9.IsWhole) (arg10 : Memref sig .tc .vmem S32x16384 .bf16) (harg10 : arg10.IsWhole) (arg11 : Memref sig .tc .vmem S128x1024 .bf16) (harg11 : arg11.IsWhole) (arg12 : Memref sig .tc .vmem S8x16x128x256 .bf16) (harg12 : arg12.IsWhole) (arg13 : Memref sig .tc .vmem S8x1x128 .f32) (harg13 : arg13.IsWhole) (arg14 : Memref sig .tc .vmem S8x136x128 .f32) (harg14 : arg14.IsWhole) (arg2 v24 : BitVec 32) (v286 : FVec F S128x128 .bf16) :
    Scf.Loop.for (k0_t2_loop i) (k0_t2_ok i) ⟨⟩ (Gen.k0_t2_body i arg3 harg3 arg4 harg4 arg5 harg5 arg6 harg6 arg7 harg7 arg8 harg8 arg9 harg9 arg10 harg10 arg11 harg11 arg12 harg12 arg13 harg13 arg14 harg14 arg2 v24 v286) = quads i arg3 harg3 arg4 harg4 arg5 harg5 arg6 harg6 arg7 harg7 arg8 harg8 arg9 harg9 arg10 harg10 arg11 harg11 arg12 harg12 arg13 harg13 arg14 harg14 :=
  congrArg _ (funext fun t => funext fun _ => quad_eq i arg3 harg3 arg4 harg4 arg5 harg5 arg6 harg6 arg7 harg7 arg8 harg8 arg9 harg9 arg10 harg10 arg11 harg11 arg12 harg12 arg13 harg13 arg14 harg14 arg2 v24 v286 t)

theorem middle_eq (i : grid0.Coords) (arg3 : Memref sig .tc .vmem S1024x128 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x1024 .bf16) (harg6 : arg6.IsWhole) (arg7 : Memref sig .tc .vmem S4096x1024 .bf16) (harg7 : arg7.IsWhole) (arg8 : Memref sig .tc .vmem S1x32x16384 .f32) (harg8 : arg8.IsWhole) (arg9 : Memref sig .tc .vmem S128x1024 .bf16) (harg9 : arg9.IsWhole) (arg10 : Memref sig .tc .vmem S32x16384 .bf16) (harg10 : arg10.IsWhole) (arg11 : Memref sig .tc .vmem S128x1024 .bf16) (harg11 : arg11.IsWhole) (arg12 : Memref sig .tc .vmem S8x16x128x256 .bf16) (harg12 : arg12.IsWhole) (arg13 : Memref sig .tc .vmem S8x1x128 .f32) (harg13 : arg13.IsWhole) (arg14 : Memref sig .tc .vmem S8x136x128 .f32) (harg14 : arg14.IsWhole) (arg2 v24 : BitVec 32) : ∃ x : BitVec 32, ∀ (K : IVec S256x128 32 → IVec S256x128 32 → BitVec 32 → Prog (TpuEff nD τ sig (Elt F) Λ₀ .tc) Unit),
    (do
      let v26 : Vec F S128x128 .bf16 ← Prog.lift (.load arg4 (Rect.unit (s := S512x128) ![0, 0] S128x128.size inb_S512x128_S128x128_0_0).toLoadRect (View.loadsAt_vmem h_S128x128))
      let v25 : IVec S128x128 32 := iota .tc S128x128 32 [0] iota_S128x128_d0_w32
      let v27 : FVec F S128x128 .bf16 := shapeCast S128x128 v26 shapeCasts_S128x128_S128x128
      let c64_i32 : BitVec 32 := 64#32
      let v29 : IVec S128x128 32 := divsi v25 (broadcast S128x128 64#32)
      let v32 : IVec S128x128 32 := extui 32 (cmpi .sgt v25 (broadcast S128x128 0#32)) natLt_1_32
      let v34 : IVec S128x128 1 := cmpi .slt v25 (broadcast S128x128 0#32)
      let ⟨v60, v62, v76, v78⟩ : Σ' (v60 : FVec F S128x128 .bf16) (v62 : IVec S128x128 32) (v76 : IVec S128x128 1), IVec S128x128 32 ← k0_part121 i arg3 harg3 arg4 harg4 arg5 harg5 arg6 harg6 arg7 harg7 arg8 harg8 arg9 harg9 arg10 harg10 arg11 harg11 arg12 harg12 arg13 harg13 arg14 harg14 v25 v27 c64_i32 v29 v32 v34
      let ⟨v93, v119, v120⟩ : Σ' (v93 : FVec F S128x128 .bf16) (v119 : IVec S128x128 1), FVec F S128x128 .bf16 ← k0_part122 i arg3 harg3 arg4 harg4 arg5 harg5 arg6 harg6 arg7 harg7 arg8 harg8 arg9 harg9 arg10 harg10 arg11 harg11 arg12 harg12 arg13 harg13 arg14 harg14 v25 v60 v62 v76 v78
      let ⟨v159, c64_i32_59, v160⟩ : Σ' (v159 : FVec F S128x128 .bf16) (c64_i32_59 : BitVec 32), IVec S128x128 32 ← k0_part123 i arg3 harg3 arg4 harg4 arg5 harg5 arg6 harg6 arg7 harg7 arg8 harg8 arg9 harg9 arg10 harg10 arg11 harg11 arg12 harg12 arg13 harg13 arg14 harg14 v25 v93 v119 v120
      let ⟨v192, c64_i32_71, v194, v201, v203⟩ : Σ' (v192 : FVec F S128x128 .bf16) (c64_i32_71 : BitVec 32) (v194 : IVec S128x128 32) (v201 : IVec S128x128 32), BitVec 32 ← k0_part124 i arg3 harg3 arg4 harg4 arg5 harg5 arg6 harg6 arg7 harg7 arg8 harg8 arg9 harg9 arg10 harg10 arg11 harg11 arg12 harg12 arg13 harg13 arg14 harg14 v25 v159 c64_i32_59 v160
      let ⟨v225, v227, v246, c1_i32_89⟩ : Σ' (v225 : FVec F S128x128 .bf16) (v227 : IVec S128x128 32) (v246 : IVec S128x128 1), BitVec 32 ← k0_part125 i arg3 harg3 arg4 harg4 arg5 harg5 arg6 harg6 arg7 harg7 arg8 harg8 arg9 harg9 arg10 harg10 arg11 harg11 arg12 harg12 arg13 harg13 arg14 harg14 v25 v192 c64_i32_71 v194 v201 v203
      let v286 : FVec F S128x128 .bf16 ← k0_part126 i arg3 harg3 arg4 harg4 arg5 harg5 arg6 harg6 arg7 harg7 arg8 harg8 arg9 harg9 arg10 harg10 arg11 harg11 arg12 harg12 arg13 harg13 arg14 harg14 v25 v225 v227 v246 c1_i32_89
      let ⟨v293, v294, v324⟩ : Σ' (v293 : IVec S256x128 32) (v294 : IVec S256x128 32), BitVec 32 ← k0_part127 i arg3 harg3 arg4 harg4 arg5 harg5 arg6 harg6 arg7 harg7 arg8 harg8 arg9 harg9 arg10 harg10 arg11 harg11 arg12 harg12 arg13 harg13 arg14 harg14 arg2 v24 v286
      K v293 v294 v324) = (ropeFill arg4 arg11 harg11 >>= fun _ => clearSums arg13 arg14 >>= fun _ => quads i arg3 harg3 arg4 harg4 arg5 harg5 arg6 harg6 arg7 harg7 arg8 harg8 arg9 harg9 arg10 harg10 arg11 harg11 arg12 harg12 arg13 harg13 arg14 harg14 >>= fun _ =>
        K (addi (broadcast S256x128 (Scalar.muli arg2 128#32)) (iota .tc S256x128 32 [1] iota_S256x128_d1_w32))
          (iota .tc S256x128 32 [0] iota_S256x128_d0_w32) x) := by
  refine ⟨Scalar.addi 0#32 (Scalar.muli (Scalar.divsi (Scalar.subi (perFour v24) 0#32) 1#32) 1#32), fun K => ?_⟩
  rw [← quads_eq i arg3 harg3 arg4 harg4 arg5 harg5 arg6 harg6 arg7 harg7 arg8 harg8 arg9 harg9 arg10 harg10 arg11 harg11 arg12 harg12 arg13 harg13 arg14 harg14 arg2 v24 (broadcast S128x128 (Scalar.ofBits .bf16 0x0000#16 : F .bf16))]
  refine Eq.trans (b := ropeFill arg4 arg11 harg11 >>= fun _ => clearSums arg13 arg14 >>= fun _ =>
    (Scf.Loop.for (k0_t2_loop i) (k0_t2_ok i) ⟨⟩ (Gen.k0_t2_body i arg3 harg3 arg4 harg4 arg5 harg5 arg6 harg6 arg7 harg7 arg8 harg8 arg9 harg9 arg10 harg10 arg11 harg11 arg12 harg12 arg13 harg13 arg14 harg14 arg2 v24 (broadcast S128x128 (Scalar.ofBits .bf16 0x0000#16 : F .bf16))) >>= fun _ =>
      (pure ⟨addi (broadcast S256x128 (Scalar.muli arg2 128#32)) (iota .tc S256x128 32 [1] iota_S256x128_d1_w32),
          iota .tc S256x128 32 [0] iota_S256x128_d0_w32, Scalar.addi 0#32 (Scalar.muli (Scalar.divsi (Scalar.subi (perFour v24) 0#32) 1#32) 1#32)⟩ :
        Prog (TpuEff nD τ sig (Elt F) Λ₀ .tc) (Σ' (_ : IVec S256x128 32) (_ : IVec S256x128 32), BitVec 32))) >>= fun x => K x.1 x.2.1 x.2.2) rfl ?_
  simp only [Prog.bind_assoc]
  rfl

end Cert.KernelIdeal.Mla
-- ==== Proof.Mla.Root3.lean ====
/- The part of the body with the two further tiles. -/
module

public import proofs.«01_k».proof.Proof.Mla.Pieces

@[expose] public section

set_option maxRecDepth 65536
set_option maxHeartbeats 0

noncomputable section

namespace Cert.KernelIdeal.Mla

open Idealize.ShloMosaic Idealize.SL.Sem Facts₀ Facts

variable {F : FTy → Type} [FloatOps F] [Facts]

theorem part128_eq (i : grid0.Coords) (arg3 : Memref sig .tc .vmem S1024x128 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x1024 .bf16) (harg6 : arg6.IsWhole) (arg7 : Memref sig .tc .vmem S4096x1024 .bf16) (harg7 : arg7.IsWhole) (arg8 : Memref sig .tc .vmem S1x32x16384 .f32) (harg8 : arg8.IsWhole) (arg9 : Memref sig .tc .vmem S128x1024 .bf16) (harg9 : arg9.IsWhole) (arg10 : Memref sig .tc .vmem S32x16384 .bf16) (harg10 : arg10.IsWhole) (arg11 : Memref sig .tc .vmem S128x1024 .bf16) (harg11 : arg11.IsWhole) (arg12 : Memref sig .tc .vmem S8x16x128x256 .bf16) (harg12 : arg12.IsWhole) (arg13 : Memref sig .tc .vmem S8x1x128 .f32) (harg13 : arg13.IsWhole) (arg14 : Memref sig .tc .vmem S8x136x128 .f32) (harg14 : arg14.IsWhole) (v24 v324 : BitVec 32) : ∃ x : (Σ' (_ : BitVec 32) (_ : BitVec 32) (_ : BitVec 1), BitVec 1),
    k0_part128 (F := F) i arg3 harg3 arg4 harg4 arg5 harg5 arg6 harg6 arg7 harg7 arg8 harg8 arg9 harg9 arg10 harg10 arg11 harg11 arg12 harg12 arg13 harg13 arg14 harg14 v24 v324 = (Scf.Loop.for (k0_t3_loop i) (k0_t3_ok i) ⟨⟩ (Gen.k0_t3_body i arg3 harg3 arg4 harg4 arg5 harg5 arg6 harg6 arg7 harg7 arg8 harg8 arg9 harg9 arg10 harg10 arg11 harg11 arg12 harg12 arg13 harg13 arg14 harg14 v24 v324) >>= fun _ =>
      two i arg3 harg3 arg4 harg4 arg5 harg5 arg6 harg6 arg7 harg7 arg8 harg8 arg9 harg9 arg10 harg10 arg11 harg11 arg12 harg12 arg13 harg13 arg14 harg14 >>= fun _ => pure x) := by
  refine ⟨⟨Scalar.select (Scalar.cmpi .eq 2#32 0#32) 1#32 2#32, Scalar.remsi v24 (Scalar.select (Scalar.cmpi .eq 2#32 0#32) 1#32 2#32),
    Scalar.cmpi .ne (Scalar.remsi v24 (Scalar.select (Scalar.cmpi .eq 2#32 0#32) 1#32 2#32)) 0#32,
    Scalar.cmpi .slt (Scalar.remsi v24 (Scalar.select (Scalar.cmpi .eq 2#32 0#32) 1#32 2#32)) 0#32⟩, ?_⟩
  unfold k0_part128 two
  refine congrArg (Scf.Loop.for (k0_t3_loop i) (k0_t3_ok i) ⟨⟩ (Gen.k0_t3_body (F := F) i arg3 harg3 arg4 harg4 arg5 harg5 arg6 harg6 arg7 harg7 arg8 harg8 arg9 harg9 arg10 harg10 arg11 harg11 arg12 harg12 arg13 harg13 arg14 harg14 v24 v324) >>= ·) (funext fun _ => ?_)
  by_cases h : k0_cond2 i = 1#1
  · simp only [dif_pos h]
    rfl
  · simp only [dif_neg h]
    rfl

end Cert.KernelIdeal.Mla
-- ==== Proof.Mla.Root4.lean ====
/- The end of the body: the single further tile, the masked tile and the outputs. -/
module

public import proofs.«01_k».proof.Proof.Mla.Pieces

@[expose] public section

set_option maxRecDepth 65536
set_option maxHeartbeats 0

noncomputable section

namespace Cert.KernelIdeal.Mla

open Idealize.ShloMosaic Idealize.SL.Sem Facts₀ Facts

variable {F : FTy → Type} [FloatOps F] [Facts]

theorem rest_eq (i : grid0.Coords) (arg3 : Memref sig .tc .vmem S1024x128 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x1024 .bf16) (harg6 : arg6.IsWhole) (arg7 : Memref sig .tc .vmem S4096x1024 .bf16) (harg7 : arg7.IsWhole) (arg8 : Memref sig .tc .vmem S1x32x16384 .f32) (harg8 : arg8.IsWhole) (arg9 : Memref sig .tc .vmem S128x1024 .bf16) (harg9 : arg9.IsWhole) (arg10 : Memref sig .tc .vmem S32x16384 .bf16) (harg10 : arg10.IsWhole) (arg11 : Memref sig .tc .vmem S128x1024 .bf16) (harg11 : arg11.IsWhole) (arg12 : Memref sig .tc .vmem S8x16x128x256 .bf16) (harg12 : arg12.IsWhole) (arg13 : Memref sig .tc .vmem S8x1x128 .f32) (harg13 : arg13.IsWhole) (arg14 : Memref sig .tc .vmem S8x136x128 .f32) (harg14 : arg14.IsWhole) (v357 v358 : BitVec 32) (v359 v360 : BitVec 1) :
    (do
      let v24 : BitVec 32 := nFull i
      let v293 : IVec S256x128 32 := qPos i
      let v294 : IVec S256x128 32 := iota .tc S256x128 32 [0] iota_S256x128_d0_w32
      let ⟨v370, v376, v393, v396, v398⟩ : Σ' (v370 : BitVec 32) (v376 : FVec F S256x1024 .f32) (v393 : FVec F S256x128 .f32) (v396 : FVec F S128x256 .bf16), FVec F S1x128 .f32 ← k0_part129 i arg3 harg3 arg4 harg4 arg5 harg5 arg6 harg6 arg7 harg7 arg8 harg8 arg9 harg9 arg10 harg10 arg11 harg11 arg12 harg12 arg13 harg13 arg14 harg14 v24 v293 v294 v357 v358 v359 v360
      let v434 : FVec F S256x128 .bf16 ← k0_part130 i arg3 harg3 arg4 harg4 arg5 harg5 arg6 harg6 arg7 harg7 arg8 harg8 arg9 harg9 arg10 harg10 arg11 harg11 arg12 harg12 arg13 harg13 arg14 harg14 v370 v393 v396 v398
      let ⟨v451, v458, v460, v463⟩ : Σ' (v451 : FVec F S128x256 .bf16) (v458 : FVec F S1x128 .f32) (v460 : FVec F S1x128 .f32), FVec F S256x128 .f32 ← k0_part131 i arg3 harg3 arg4 harg4 arg5 harg5 arg6 harg6 arg7 harg7 arg8 harg8 arg9 harg9 arg10 harg10 arg11 harg11 arg12 harg12 arg13 harg13 arg14 harg14 v24 v293 v294 v370 v376 v434
      let ⟨v503, v506, v508⟩ : Σ' (v503 : FVec F S256x128 .f32) (v506 : FVec F S128x256 .bf16), FVec F S1x128 .f32 ← k0_part132 i arg3 harg3 arg4 harg4 arg5 harg5 arg6 harg6 arg7 harg7 arg8 harg8 arg9 harg9 arg10 harg10 arg11 harg11 arg12 harg12 arg13 harg13 arg14 harg14 v24 v293 v294 v370 v376 v451 v458 v460 v463
      let v544 : FVec F S256x128 .bf16 ← k0_part133 i arg3 harg3 arg4 harg4 arg5 harg5 arg6 harg6 arg7 harg7 arg8 harg8 arg9 harg9 arg10 harg10 arg11 harg11 arg12 harg12 arg13 harg13 arg14 harg14 v370 v503 v506 v508
      let ⟨v561, v568, v570, v573⟩ : Σ' (v561 : FVec F S128x256 .bf16) (v568 : FVec F S1x128 .f32) (v570 : FVec F S1x128 .f32), FVec F S256x128 .f32 ← k0_part134 i arg3 harg3 arg4 harg4 arg5 harg5 arg6 harg6 arg7 harg7 arg8 harg8 arg9 harg9 arg10 harg10 arg11 harg11 arg12 harg12 arg13 harg13 arg14 harg14 v24 v293 v294 v370 v376 v544
      let ⟨v613, v616, v618⟩ : Σ' (v613 : FVec F S256x128 .f32) (v616 : FVec F S128x256 .bf16), FVec F S1x128 .f32 ← k0_part135 i arg3 harg3 arg4 harg4 arg5 harg5 arg6 harg6 arg7 harg7 arg8 harg8 arg9 harg9 arg10 harg10 arg11 harg11 arg12 harg12 arg13 harg13 arg14 harg14 v24 v293 v294 v370 v376 v561 v568 v570 v573
      let v654 : FVec F S256x128 .bf16 ← k0_part136 i arg3 harg3 arg4 harg4 arg5 harg5 arg6 harg6 arg7 harg7 arg8 harg8 arg9 harg9 arg10 harg10 arg11 harg11 arg12 harg12 arg13 harg13 arg14 harg14 v370 v613 v616 v618
      let ⟨v671, v678, v680, v683⟩ : Σ' (v671 : FVec F S128x256 .bf16) (v678 : FVec F S1x128 .f32) (v680 : FVec F S1x128 .f32), FVec F S256x128 .f32 ← k0_part137 i arg3 harg3 arg4 harg4 arg5 harg5 arg6 harg6 arg7 harg7 arg8 harg8 arg9 harg9 arg10 harg10 arg11 harg11 arg12 harg12 arg13 harg13 arg14 harg14 v24 v293 v294 v370 v376 v654
      let ⟨v723, v726, v728⟩ : Σ' (v723 : FVec F S256x128 .f32) (v726 : FVec F S128x256 .bf16), FVec F S1x128 .f32 ← k0_part138 i arg3 harg3 arg4 harg4 arg5 harg5 arg6 harg6 arg7 harg7 arg8 harg8 arg9 harg9 arg10 harg10 arg11 harg11 arg12 harg12 arg13 harg13 arg14 harg14 v24 v293 v294 v370 v376 v671 v678 v680 v683
      let v764 : FVec F S256x128 .bf16 ← k0_part139 i arg3 harg3 arg4 harg4 arg5 harg5 arg6 harg6 arg7 harg7 arg8 harg8 arg9 harg9 arg10 harg10 arg11 harg11 arg12 harg12 arg13 harg13 arg14 harg14 v370 v723 v726 v728
      let ⟨v781, v788, v790, v793⟩ : Σ' (v781 : FVec F S128x256 .bf16) (v788 : FVec F S1x128 .f32) (v790 : FVec F S1x128 .f32), FVec F S256x128 .f32 ← k0_part140 i arg3 harg3 arg4 harg4 arg5 harg5 arg6 harg6 arg7 harg7 arg8 harg8 arg9 harg9 arg10 harg10 arg11 harg11 arg12 harg12 arg13 harg13 arg14 harg14 v24 v293 v294 v370 v376 v764
      let ⟨v833, v834⟩ : Σ' (v833 : FVec F S128x128 .f32), FVec F S128x128 .f32 ← k0_part141 i arg3 harg3 arg4 harg4 arg5 harg5 arg6 harg6 arg7 harg7 arg8 harg8 arg9 harg9 arg10 harg10 arg11 harg11 arg12 harg12 arg13 harg13 arg14 harg14 v781 v788 v790 v793
      let v864 : FVec F S1x128 .f32 ← k0_part142 i arg3 harg3 arg4 harg4 arg5 harg5 arg6 harg6 arg7 harg7 arg8 harg8 arg9 harg9 arg10 harg10 arg11 harg11 arg12 harg12 arg13 harg13 arg14 harg14 v833 v834
      let v897 : FVec F S1x128 .f32 ← k0_part143 i arg3 harg3 arg4 harg4 arg5 harg5 arg6 harg6 arg7 harg7 arg8 harg8 arg9 harg9 arg10 harg10 arg11 harg11 arg12 harg12 arg13 harg13 arg14 harg14 v864
      let c7_468 : Index := 7#32
      let c0_469 : Index := 0#32
      let c0_470 : Index := 0#32
      let v898 : Vec F S1x128x128 .f32 ← Prog.lift (.load arg14 (Rect.unit (s := S8x136x128) ![7, 0, 0] S1x128x128.size inb_S8x136x128_S1x128x128_7_0_0).toLoadRect (View.loadsAt_vmem h_S1x128x128))
      have v899 : FVec F S128x128 .f32 := shapeCast S128x128 v898 shapeCasts_S1x128x128_S128x128
      have v900 : FVec F S128x128 .f32 := broadcastTo S128x128 v897 broadcasts_S1x128_S128x128
      have v901 : FVec F S128x128 .f32 := divf v899 v900
      have v902 : FVec F S128x128 .f32 := transpose S128x128 [1, 0] v901 transposes_S128x128_p1_0_S128x128
      have v903 : FVec F S128x128 .bf16 := truncf .bf16 v902 bitsLt_bf16_f32
      let c0_471 : Index := 0#32
      let c896_472 : Index := 896#32
      let v904 : Vec F S128x128 .bf16 ← Prog.lift (.load arg9 (Rect.unit (s := S128x1024) ![0, 896] S128x128.size inb_S128x1024_S128x128_0_896).toLoadRect (View.loadsAt_vmem h_S128x128))
      Prog.lift (.store arg9 (Rect.unit (s := S128x1024) ![0, 896] S128x128.size inb_S128x1024_S128x128_0_896) v903 Finset.univ (View.stores_vmem h_S128x128 (harg9.storeExact_slice rfl _ packedbf16_S128x1024_S128x128_0_896) (fun _ => rfl)) (.inl rfl))
      pure ⟨⟩) = rest (F := F) i arg3 harg3 arg4 harg4 arg5 harg5 arg6 harg6 arg7 harg7 arg8 harg8 arg9 harg9 arg10 harg10 arg11 harg11 arg12 harg12 arg13 harg13 arg14 harg14 := by
  unfold rest one k0_part129
  by_cases h : k0_cond3 i = 1#1
  · simp only [dif_pos h]
    rfl
  · simp only [dif_neg h]
    rfl

end Cert.KernelIdeal.Mla
-- ==== Proof.Mla.Own.lean ====
/- Loads and stores at the head of a body, over memrefs held at what they read; and what one head's update by a key tile
   does to the running maxima and the sums. -/
module

public import proofs.«01_k».proof.Proof.Mla.Step
public import proofs.«01_k».proof.Proof.Gen.KernelIdeal.Frame

@[expose] public section

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig Unit (Elt F) ℕ (UR sig nD τ) ℕ

/-- What a body program meets: its weakest precondition on core `c`. -/
abbrev Wp (c : Dev nD) {α : Type} (p : Prog (TpuEff nD τ sig (Elt F) Λ₀ .tc) α) (Q : α → sProp 𝕄) : sProp 𝕄 :=
  wp frame (wpE (defs₀ (F := F)) Variants.none c none) Set.univ p Q

/-- One program after another. -/
theorem Wp.seq (c : Dev nD) {α β : Type} {p : Prog (TpuEff nD τ sig (Elt F) Λ₀ .tc) α} {k : α → Prog (TpuEff nD τ sig (Elt F) Λ₀ .tc) β}
    {P : sProp 𝕄} {R : α → sProp 𝕄} {Q : β → sProp 𝕄} (hp : P ⊢ Wp c p R) (hk : ∀ x, R x ⊢ Wp c (k x) Q) : P ⊢ Wp c (p >>= k) Q := by
  unfold Wp
  rw [wp_bind]
  exact hp.trans (wp_mono _ _ _ hk)

/-- A load of a memref that reads `X` gives `X` at the rectangle. -/
theorem Wp.load (c : Dev nD) {S : Shape} {e : EltTy} (M : Memref sig .tc .vmem S e) (X : S.Idx → Elt F e)
    (r : Rect S) (hl : M.view.LoadsAt r.toLoadRect) {α : Type} (k : (r.shape.Idx → Elt F e) → Prog (TpuEff nD τ sig (Elt F) Λ₀ .tc) α)
    (Q : α → sProp 𝕄) :
    owns (c : Thread nD τ) M fullShare X ⊢ iprop((owns (c : Thread nD τ) M fullShare X -∗ Wp c (k (View.ld X r)) Q)
      -∗ Wp c (Prog.lift (.load M r.toLoadRect hl) >>= k) Q) := by
  unfold owns
  iintro ⟨%f, %hf, H⟩ HK
  simp only [Prog.bind_lift]
  iapply (wp_load Variants.none (c : Thread nD τ) none Set.univ (hl := hl) (k := k) (View.setOn_subset_set M.view _)) $$ H
  iintro H
  have e1 : M.view.readAt (Elt F) r.toLoadRect f = View.ld X r := by rw [← hf]; rfl
  rw [e1]
  iapply HK
  iexists f
  isplitr; · ipureintro; exact hf
  iexact H

/-- What the memref reads after an unmasked store. -/
theorem read_store {S : Shape} {e : EltTy} (M : Memref sig .tc .vmem S e) (f : M.view.ty.Contents (Elt F)) (r : Rect S)
    (w : r.shape.Idx → Elt F e) :
    M.view.read (Elt F) ((M.access r).write (Elt F) f w Finset.univ) = r.overlay (M.view.read (Elt F) f) w := by
  funext y
  by_cases hy : y ∈ r.set
  · obtain ⟨x, rfl⟩ : ∃ x, r.emb x = y := r.exists_idx_of_mem hy
    rw [Rect.overlay_emb]
    exact View.read_slice_write_emb r f w (Finset.mem_univ x)
  · rw [Rect.overlay_of_not_mem _ _ _ hy]
    exact View.read_slice_write_of_not_mem r f w _ (by rwa [Rect.map_emb_univ])

/-- A store lays its payload over the rectangle. -/
theorem Wp.store (c : Dev nD) {S : Shape} {e : EltTy} (M : Memref sig .tc .vmem S e) (X : S.Idx → Elt F e)
    (r : Rect S) (w : r.shape.Idx → Elt F e) (hx : (M.access r).Stores Finset.univ) (hm : Finset.univ = Finset.univ ∨ ∀ a, r.stride a = 1)
    {α : Type} (k : PUnit → Prog (TpuEff nD τ sig (Elt F) Λ₀ .tc) α) (Q : α → sProp 𝕄) :
    owns (c : Thread nD τ) M fullShare X ⊢ iprop((owns (c : Thread nD τ) M fullShare (r.overlay X w) -∗ Wp c (k ⟨⟩) Q)
      -∗ Wp c (Prog.lift (.store M r w Finset.univ hx hm) >>= k) Q) := by
  unfold owns
  iintro ⟨%f, %hf, H⟩ HK
  simp only [Prog.bind_lift]
  iapply (wp_store Variants.none (c : Thread nD τ) none Set.univ (Q := Q) (w := w) (hx := hx) (hm := hm) (k := k) (Mk := Finset.univ) (f := f) (Memref.setOn_access_subset M r _)) $$ H
  iintro H
  iapply HK
  iexists _
  isplitr
  swap; · iexact H
  ipureintro
  rw [read_store, hf]

/-- The same for a program's last store. -/
theorem Wp.storeLast (c : Dev nD) {S : Shape} {e : EltTy} (M : Memref sig .tc .vmem S e) (X : S.Idx → Elt F e)
    (r : Rect S) (w : r.shape.Idx → Elt F e) (hx : (M.access r).Stores Finset.univ) (hm : Finset.univ = Finset.univ ∨ ∀ a, r.stride a = 1)
    (Q : PUnit → sProp 𝕄) :
    owns (c : Thread nD τ) M fullShare X ⊢ iprop((owns (c : Thread nD τ) M fullShare (r.overlay X w) -∗ Q ⟨⟩)
      -∗ Wp c (Prog.lift (.store M r w Finset.univ hx hm)) Q) := by
  have h := Wp.store c M X r w hx hm (fun x => pure x) Q
  rw [Prog.bind_pure] at h
  refine h.trans ?_
  iintro H HK
  iapply H
  iintro HX
  unfold Wp
  rw [Prog.pure_eq_ret, wp_ret]
  imodintro
  iapply HK
  iexact HX

/-! ## One head's update -/

abbrev rQ (h : Fin 8) : Rect S1024x128 := Rect.unit (s := S1024x128) ![128 * h.val, 0] S128x128.size (inb_q h)
abbrev rM (h : Fin 8) : Rect S8x1x128 := Rect.unit (s := S8x1x128) ![h.val, 0, 0] S1x1x128.size (inb_m h)
abbrev rD (h : Fin 8) : Rect S8x136x128 := Rect.unit (s := S8x136x128) ![h.val, 128, 0] S1x8x128.size (inb_d h)
abbrev rN (h : Fin 8) : Rect S8x136x128 := Rect.unit (s := S8x136x128) ![h.val, 0, 0] S1x128x128.size (inb_n h)

/-- The running maxima and the sums of the eight heads. -/
abbrev Sums (F : FTy → Type) : Type := (S8x1x128.Idx → Elt F .f32) × (S8x136x128.Idx → Elt F .f32)

/-- The logits a head's update uses. -/
def headLogits (X3 : Vec F S1024x128 .bf16) (X6 : Vec F S4096x1024 .bf16) (h : Fin 8)
    (ok : Fin 2 → Nat) (hok : ∀ a, ok a + S256x128.size a ≤ S4096x1024.size a)
    (mask : FVec F S256x128 .f32 → FVec F S256x128 .f32) (r : FVec F S256x128 .f32) : FVec F S256x128 .f32 :=
  mask (logits (View.ld X6 (Rect.unit (s := S4096x1024) ok S256x128.size hok)) (View.ld X3 (rQ h)) r)

/-- A head's update of the maxima and the sums, from the tile's logits and values. -/
def headSums (h : Fin 8) (l : FVec F S256x128 .f32) (v : FVec F S1x1x128x256 .bf16) (s : Sums F) : Sums F :=
  ((rM h).overlay s.1 (shapeCast S1x1x128 (newMax (View.ld s.1 (rM h)) l) shapeCasts_S1x128_S1x1x128),
   let m' := newMax (View.ld s.1 (rM h)) l
   let N₁ := (rD h).overlay s.2 (newDen (View.ld s.2 (rD h)) (scaleOld (View.ld s.1 (rM h)) m') (weights l m'))
   (rN h).overlay N₁ (newNum (View.ld N₁ (rN h)) (scaleOld (View.ld s.1 (rM h)) m') (weights l m') v))

/-- The memrefs a key tile uses, at what they read. -/
def held (c : Dev nD) (arg3 : Memref sig .tc .vmem S1024x128 .bf16) (arg5 : Memref sig .tc .vmem S4096x128 .f32) (arg6 : Memref sig .tc .vmem S4096x1024 .bf16)
    (arg11 : Memref sig .tc .vmem S128x1024 .bf16) (arg12 : Memref sig .tc .vmem S8x16x128x256 .bf16) (arg13 : Memref sig .tc .vmem S8x1x128 .f32)
    (arg14 : Memref sig .tc .vmem S8x136x128 .f32) (X3 : Vec F S1024x128 .bf16) (X5 : Vec F S4096x128 .f32) (X6 : Vec F S4096x1024 .bf16)
    (X11 : Vec F S128x1024 .bf16) (X12 : Vec F S8x16x128x256 .bf16) (s : Sums F) : sProp 𝕄 :=
  iprop(owns (c : Thread nD τ) arg3 fullShare X3 ∗ owns (c : Thread nD τ) arg5 fullShare X5 ∗ owns (c : Thread nD τ) arg6 fullShare X6
    ∗ owns (c : Thread nD τ) arg11 fullShare X11 ∗ owns (c : Thread nD τ) arg12 fullShare X12
    ∗ owns (c : Thread nD τ) arg13 fullShare s.1 ∗ owns (c : Thread nD τ) arg14 fullShare s.2)

section
variable (c : Dev nD) (arg3 : Memref sig .tc .vmem S1024x128 .bf16) (arg5 : Memref sig .tc .vmem S4096x128 .f32) (arg6 : Memref sig .tc .vmem S4096x1024 .bf16)
    (arg11 : Memref sig .tc .vmem S128x1024 .bf16) (arg12 : Memref sig .tc .vmem S8x16x128x256 .bf16) (arg13 : Memref sig .tc .vmem S8x1x128 .f32)
    (arg14 : Memref sig .tc .vmem S8x136x128 .f32) (X3 : Vec F S1024x128 .bf16) (X5 : Vec F S4096x128 .f32) (X6 : Vec F S4096x1024 .bf16)
    (X11 : Vec F S128x1024 .bf16) (X12 : Vec F S8x16x128x256 .bf16)

theorem headStep_wp (s : Sums F) (h : Fin 8)
    (ok : Fin 2 → Nat) (hok : ∀ a, ok a + S256x128.size a ≤ S4096x1024.size a)
    (ov : Fin 4 → Nat) (hov : ∀ a, ov a + S1x1x128x256.size a ≤ S8x16x128x256.size a)
    (mask : FVec F S256x128 .f32 → FVec F S256x128 .f32) (r : FVec F S256x128 .f32) :
    held c arg3 arg5 arg6 arg11 arg12 arg13 arg14 X3 X5 X6 X11 X12 s ⊢
      Wp c (headStep arg3 arg6 arg12 arg13 arg14 h ok hok ov hov mask r)
        fun _ => held c arg3 arg5 arg6 arg11 arg12 arg13 arg14 X3 X5 X6 X11 X12
          (headSums h (headLogits X3 X6 h ok hok mask r) (View.ld X12 (Rect.unit (s := S8x16x128x256) ov S1x1x128x256.size hov)) s) := by
  unfold held headStep
  iintro ⟨H3, H5, H6, H11, H12, H13, H14⟩
  iapply (Wp.load c arg6) $$ H6
  iintro H6
  iapply (Wp.load c arg3) $$ H3
  iintro H3
  iapply (Wp.load c arg12) $$ H12
  iintro H12
  iapply (Wp.load c arg13) $$ H13
  iintro H13
  iapply (Wp.load c arg14) $$ H14
  iintro H14
  iapply (Wp.load c arg14) $$ H14
  iintro H14
  iapply (Wp.store c arg14) $$ H14
  iintro H14
  iapply (Wp.load c arg14) $$ H14
  iintro H14
  iapply (Wp.load c arg14) $$ H14
  iintro H14
  iapply (Wp.store c arg14) $$ H14
  iintro H14
  iapply (Wp.load c arg13) $$ H13
  iintro H13
  iapply (Wp.storeLast c arg13) $$ H13
  iintro H13
  isplitl [H3]; · iexact H3
  isplitl [H5]; · iexact H5
  isplitl [H6]; · iexact H6
  isplitl [H11]; · iexact H11
  isplitl [H12]; · iexact H12
  isplitl [H13]; · iexact H13
  iexact H14

end

end Cert.KernelIdeal.Mla
-- ==== Proof.Mla.Tile.lean ====
/- One key tile: the rectangles it reads, and what it does to the running maxima and the sums. -/
module

public import proofs.«01_k».proof.Proof.Mla.Own

@[expose] public section

set_option maxRecDepth 65536
set_option maxHeartbeats 0

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig Unit (Elt F) ℕ (UR sig nD τ) ℕ

theorem inb_key : ∀ (n : Fin 16) (h : Fin 8), ∀ a, (![256 * n.val, 128 * h.val] : Fin 2 → Nat) a + S256x128.size a ≤ S4096x1024.size a := by decide +kernel
theorem inb_val : ∀ (n : Fin 16) (h : Fin 8), ∀ a, (![h.val, n.val, 0, 0] : Fin 4 → Nat) a + S1x1x128x256.size a ≤ S8x16x128x256.size a := by decide +kernel
theorem inb_rope : ∀ (n : Fin 16), ∀ a, (![256 * n.val, 0] : Fin 2 → Nat) a + S256x128.size a ≤ S4096x128.size a := by decide +kernel
theorem slices_head : ∀ h : Fin 8, S256x1024.Slices ![0, 128 * h.val] S256x128 := by decide +kernel

/-- The values a head reads for a tile. -/
abbrev tileValues (X12 : Vec F S8x16x128x256 .bf16) (n : Fin 16) (h : Fin 8) : FVec F S1x1x128x256 .bf16 :=
  View.ld X12 (Rect.unit (s := S8x16x128x256) ![h.val, n.val, 0, 0] S1x1x128x256.size (inb_val n h))

/-- The rope logits of a tile, of the eight heads. -/
abbrev tileRope (X5 : Vec F S4096x128 .f32) (X11 : Vec F S128x1024 .bf16) (n : Fin 16) : FVec F S256x1024 .f32 :=
  ropeLogits (View.ld X5 (Rect.unit (s := S4096x128) ![256 * n.val, 0] S256x128.size (inb_rope n)))
    (View.ld X11 (Rect.unit (s := S128x1024) ![0, 0] S128x1024.size inb_S128x1024_S128x1024_0_0))

/-- The logits of a tile for a head. -/
abbrev tileLogits (X3 : Vec F S1024x128 .bf16) (X5 : Vec F S4096x128 .f32) (X6 : Vec F S4096x1024 .bf16) (X11 : Vec F S128x1024 .bf16)
    (n : Fin 16) (mask : FVec F S256x128 .f32 → FVec F S256x128 .f32) (h : Fin 8) : FVec F S256x128 .f32 :=
  headLogits X3 X6 h ![256 * n.val, 128 * h.val] (inb_key n h) mask
    (extractStridedSlice S256x128 ![0, 128 * h.val] (tileRope X5 X11 n) (slices_head h))

/-- What a tile's update of one head makes of the maxima and the sums. -/
abbrev tileHead (X3 : Vec F S1024x128 .bf16) (X5 : Vec F S4096x128 .f32) (X6 : Vec F S4096x1024 .bf16) (X11 : Vec F S128x1024 .bf16)
    (X12 : Vec F S8x16x128x256 .bf16) (n : Fin 16) (mask : FVec F S256x128 .f32 → FVec F S256x128 .f32) (h : Fin 8) (s : Sums F) : Sums F :=
  headSums h (tileLogits X3 X5 X6 X11 n mask h) (tileValues X12 n h) s

/-- What a tile makes of the maxima and the sums. -/
def tileSums (X3 : Vec F S1024x128 .bf16) (X5 : Vec F S4096x128 .f32) (X6 : Vec F S4096x1024 .bf16) (X11 : Vec F S128x1024 .bf16)
    (X12 : Vec F S8x16x128x256 .bf16) (n : Fin 16) (mask : FVec F S256x128 .f32 → FVec F S256x128 .f32) (s : Sums F) : Sums F :=
  (tileHead X3 X5 X6 X11 X12 n mask 7 (tileHead X3 X5 X6 X11 X12 n mask 6 (tileHead X3 X5 X6 X11 X12 n mask 5 (tileHead X3 X5 X6 X11 X12 n mask 4 (tileHead X3 X5 X6 X11 X12 n mask 3 (tileHead X3 X5 X6 X11 X12 n mask 2 (tileHead X3 X5 X6 X11 X12 n mask 1 (tileHead X3 X5 X6 X11 X12 n mask 0 s))))))))

/-- The places a program's tile reads are those of tile `n`. -/
def At (n : Fin 16) (or : Fin 2 → Nat) (k0 : Fin 2 → Nat) (v0 : Fin 4 → Nat) (k1 : Fin 2 → Nat) (v1 : Fin 4 → Nat) (k2 : Fin 2 → Nat) (v2 : Fin 4 → Nat) (k3 : Fin 2 → Nat) (v3 : Fin 4 → Nat) (k4 : Fin 2 → Nat) (v4 : Fin 4 → Nat) (k5 : Fin 2 → Nat) (v5 : Fin 4 → Nat) (k6 : Fin 2 → Nat) (v6 : Fin 4 → Nat) (k7 : Fin 2 → Nat) (v7 : Fin 4 → Nat) : Prop :=
  or = ![256 * n.val, 0] ∧ k0 = ![256 * n.val, 128 * 0] ∧ v0 = ![0, n.val, 0, 0] ∧ k1 = ![256 * n.val, 128 * 1] ∧ v1 = ![1, n.val, 0, 0] ∧ k2 = ![256 * n.val, 128 * 2] ∧ v2 = ![2, n.val, 0, 0] ∧ k3 = ![256 * n.val, 128 * 3] ∧ v3 = ![3, n.val, 0, 0] ∧ k4 = ![256 * n.val, 128 * 4] ∧ v4 = ![4, n.val, 0, 0] ∧ k5 = ![256 * n.val, 128 * 5] ∧ v5 = ![5, n.val, 0, 0] ∧ k6 = ![256 * n.val, 128 * 6] ∧ v6 = ![6, n.val, 0, 0] ∧ k7 = ![256 * n.val, 128 * 7] ∧ v7 = ![7, n.val, 0, 0]

instance (n : Fin 16) (or : Fin 2 → Nat) (k0 : Fin 2 → Nat) (v0 : Fin 4 → Nat) (k1 : Fin 2 → Nat) (v1 : Fin 4 → Nat) (k2 : Fin 2 → Nat) (v2 : Fin 4 → Nat) (k3 : Fin 2 → Nat) (v3 : Fin 4 → Nat) (k4 : Fin 2 → Nat) (v4 : Fin 4 → Nat) (k5 : Fin 2 → Nat) (v5 : Fin 4 → Nat) (k6 : Fin 2 → Nat) (v6 : Fin 4 → Nat) (k7 : Fin 2 → Nat) (v7 : Fin 4 → Nat) :
    Decidable (At n or k0 v0 k1 v1 k2 v2 k3 v3 k4 v4 k5 v5 k6 v6 k7 v7) := by
  unfold At; infer_instance

theorem tile_wp (c : Dev nD) (arg3 : Memref sig .tc .vmem S1024x128 .bf16) (arg5 : Memref sig .tc .vmem S4096x128 .f32) (arg6 : Memref sig .tc .vmem S4096x1024 .bf16)
    (arg11 : Memref sig .tc .vmem S128x1024 .bf16) (arg12 : Memref sig .tc .vmem S8x16x128x256 .bf16) (arg13 : Memref sig .tc .vmem S8x1x128 .f32)
    (arg14 : Memref sig .tc .vmem S8x136x128 .f32) (X3 : Vec F S1024x128 .bf16) (X5 : Vec F S4096x128 .f32) (X6 : Vec F S4096x1024 .bf16)
    (X11 : Vec F S128x1024 .bf16) (X12 : Vec F S8x16x128x256 .bf16) (s : Sums F) (n : Fin 16)
    (or : Fin 2 → Nat) (hor : ∀ a, or a + S256x128.size a ≤ S4096x128.size a)
    (k0 : Fin 2 → Nat) (hk0 : ∀ a, k0 a + S256x128.size a ≤ S4096x1024.size a)
    (v0 : Fin 4 → Nat) (hv0 : ∀ a, v0 a + S1x1x128x256.size a ≤ S8x16x128x256.size a)
    (k1 : Fin 2 → Nat) (hk1 : ∀ a, k1 a + S256x128.size a ≤ S4096x1024.size a)
    (v1 : Fin 4 → Nat) (hv1 : ∀ a, v1 a + S1x1x128x256.size a ≤ S8x16x128x256.size a)
    (k2 : Fin 2 → Nat) (hk2 : ∀ a, k2 a + S256x128.size a ≤ S4096x1024.size a)
    (v2 : Fin 4 → Nat) (hv2 : ∀ a, v2 a + S1x1x128x256.size a ≤ S8x16x128x256.size a)
    (k3 : Fin 2 → Nat) (hk3 : ∀ a, k3 a + S256x128.size a ≤ S4096x1024.size a)
    (v3 : Fin 4 → Nat) (hv3 : ∀ a, v3 a + S1x1x128x256.size a ≤ S8x16x128x256.size a)
    (k4 : Fin 2 → Nat) (hk4 : ∀ a, k4 a + S256x128.size a ≤ S4096x1024.size a)
    (v4 : Fin 4 → Nat) (hv4 : ∀ a, v4 a + S1x1x128x256.size a ≤ S8x16x128x256.size a)
    (k5 : Fin 2 → Nat) (hk5 : ∀ a, k5 a + S256x128.size a ≤ S4096x1024.size a)
    (v5 : Fin 4 → Nat) (hv5 : ∀ a, v5 a + S1x1x128x256.size a ≤ S8x16x128x256.size a)
    (k6 : Fin 2 → Nat) (hk6 : ∀ a, k6 a + S256x128.size a ≤ S4096x1024.size a)
    (v6 : Fin 4 → Nat) (hv6 : ∀ a, v6 a + S1x1x128x256.size a ≤ S8x16x128x256.size a)
    (k7 : Fin 2 → Nat) (hk7 : ∀ a, k7 a + S256x128.size a ≤ S4096x1024.size a)
    (v7 : Fin 4 → Nat) (hv7 : ∀ a, v7 a + S1x1x128x256.size a ≤ S8x16x128x256.size a)
    (mask : FVec F S256x128 .f32 → FVec F S256x128 .f32)
    (hat : At n or k0 v0 k1 v1 k2 v2 k3 v3 k4 v4 k5 v5 k6 v6 k7 v7) :
    held c arg3 arg5 arg6 arg11 arg12 arg13 arg14 X3 X5 X6 X11 X12 s ⊢
      Wp c (tile arg3 arg5 arg6 arg11 arg12 arg13 arg14 or hor k0 hk0 v0 hv0 k1 hk1 v1 hv1 k2 hk2 v2 hv2 k3 hk3 v3 hv3 k4 hk4 v4 hv4 k5 hk5 v5 hv5 k6 hk6 v6 hv6 k7 hk7 v7 hv7 mask)
        fun _ => held c arg3 arg5 arg6 arg11 arg12 arg13 arg14 X3 X5 X6 X11 X12 (tileSums X3 X5 X6 X11 X12 n mask s) := by
  obtain ⟨rfl, rfl, rfl, rfl, rfl, rfl, rfl, rfl, rfl, rfl, rfl, rfl, rfl, rfl, rfl, rfl, rfl⟩ := hat
  unfold tile held
  iintro ⟨H3, H5, H6, H11, H12, H13, H14⟩
  iapply (Wp.load c arg5) $$ H5
  iintro H5
  iapply (Wp.load c arg11) $$ H11
  iintro H11
  ihave H : held c arg3 arg5 arg6 arg11 arg12 arg13 arg14 X3 X5 X6 X11 X12 s $$ [H3 H5 H6 H11 H12 H13 H14]
  · unfold held
    isplitl [H3]; · iexact H3
    isplitl [H5]; · iexact H5
    isplitl [H6]; · iexact H6
    isplitl [H11]; · iexact H11
    isplitl [H12]; · iexact H12
    isplitl [H13]; · iexact H13
    iexact H14
  irevert H
  refine entails_wand ?_
  refine BIBase.Entails.trans (Q := Wp c _ fun _ => held c arg3 arg5 arg6 arg11 arg12 arg13 arg14 X3 X5 X6 X11 X12 (tileSums X3 X5 X6 X11 X12 n mask s)) ?_ .rfl
  unfold tileSums
  refine Wp.seq c (headStep_wp c arg3 arg5 arg6 arg11 arg12 arg13 arg14 X3 X5 X6 X11 X12 _ 0 _ _ _ _ mask _) fun _ => ?_
  refine Wp.seq c (headStep_wp c arg3 arg5 arg6 arg11 arg12 arg13 arg14 X3 X5 X6 X11 X12 _ 1 _ _ _ _ mask _) fun _ => ?_
  refine Wp.seq c (headStep_wp c arg3 arg5 arg6 arg11 arg12 arg13 arg14 X3 X5 X6 X11 X12 _ 2 _ _ _ _ mask _) fun _ => ?_
  refine Wp.seq c (headStep_wp c arg3 arg5 arg6 arg11 arg12 arg13 arg14 X3 X5 X6 X11 X12 _ 3 _ _ _ _ mask _) fun _ => ?_
  refine Wp.seq c (headStep_wp c arg3 arg5 arg6 arg11 arg12 arg13 arg14 X3 X5 X6 X11 X12 _ 4 _ _ _ _ mask _) fun _ => ?_
  refine Wp.seq c (headStep_wp c arg3 arg5 arg6 arg11 arg12 arg13 arg14 X3 X5 X6 X11 X12 _ 5 _ _ _ _ mask _) fun _ => ?_
  refine Wp.seq c (headStep_wp c arg3 arg5 arg6 arg11 arg12 arg13 arg14 X3 X5 X6 X11 X12 _ 6 _ _ _ _ mask _) fun _ => ?_
  exact headStep_wp c arg3 arg5 arg6 arg11 arg12 arg13 arg14 X3 X5 X6 X11 X12 _ 7 _ _ _ _ mask _

end Cert.KernelIdeal.Mla
-- ==== Proof.Mla.Offsets.lean ====
/- Where the key tiles of a grid point lie: the trips of the loop, which tiles are left after it, and the places each tile reads. -/
module

public import proofs.«01_k».proof.Proof.Mla.Tile

@[expose] public section

set_option maxRecDepth 65536
set_option maxHeartbeats 0

noncomputable section

namespace Cert.KernelIdeal.Mla

open Idealize.ShloMosaic Idealize.SL.Sem Facts₀ Facts

/-- The grid point of a query block, in the first batch row and the first group of heads. -/
def pt (x : Fin 32) : grid0.Coords := fun a => match a with | ⟨0, _⟩ => (0 : Fin 2) | ⟨1, _⟩ => (0 : Fin 2) | ⟨2, _⟩ => x

theorem trips_pt : ∀ x : Fin 32, (k0_t2_loop (pt x)).trips = x.val / 2 / 4 := by decide +kernel
theorem left_pt : ∀ x : Fin 32, (k0_t3_loop (pt x)).trips = 0 := by decide +kernel
theorem cond1_pt : ∀ x : Fin 32, k0_cond1 (pt x) = 1#1 ↔ x.val = 0 := by decide +kernel
theorem cond2_pt : ∀ x : Fin 32, k0_cond2 (pt x) = 1#1 ↔ 2 ≤ x.val / 2 % 4 := by decide +kernel
theorem cond3_pt : ∀ x : Fin 32, k0_cond3 (pt x) = 1#1 ↔ x.val / 2 % 2 = 1 := by decide +kernel

theorem quad_pt : ∀ (x : Fin 32) (t : Fin (k0_t2_loop (pt x)).trips) (r : Fin 4),
    At (Fin.ofNat 16 (4 * t.val + r.val)) (k0_off17 (pt x) t (BitVec.ofNat 32 r.val)) (k0_off18 (pt x) t (BitVec.ofNat 32 r.val)) (k0_off19 (pt x) t (BitVec.ofNat 32 r.val)) (k0_off20 (pt x) t (BitVec.ofNat 32 r.val)) (k0_off21 (pt x) t (BitVec.ofNat 32 r.val)) (k0_off22 (pt x) t (BitVec.ofNat 32 r.val)) (k0_off23 (pt x) t (BitVec.ofNat 32 r.val)) (k0_off24 (pt x) t (BitVec.ofNat 32 r.val)) (k0_off25 (pt x) t (BitVec.ofNat 32 r.val)) (k0_off26 (pt x) t (BitVec.ofNat 32 r.val)) (k0_off27 (pt x) t (BitVec.ofNat 32 r.val)) (k0_off28 (pt x) t (BitVec.ofNat 32 r.val)) (k0_off29 (pt x) t (BitVec.ofNat 32 r.val)) (k0_off30 (pt x) t (BitVec.ofNat 32 r.val)) (k0_off31 (pt x) t (BitVec.ofNat 32 r.val)) (k0_off32 (pt x) t (BitVec.ofNat 32 r.val)) (k0_off33 (pt x) t (BitVec.ofNat 32 r.val)) := by decide +kernel
theorem two_pt : ∀ x : Fin 32, 2 ≤ x.val / 2 % 4 →
    At (Fin.ofNat 16 (4 * (x.val / 2 / 4))) (k0_off51 (pt x)) (k0_off52 (pt x)) (k0_off53 (pt x)) (k0_off54 (pt x)) (k0_off55 (pt x)) (k0_off56 (pt x)) (k0_off57 (pt x)) (k0_off58 (pt x)) (k0_off59 (pt x)) (k0_off60 (pt x)) (k0_off61 (pt x)) (k0_off62 (pt x)) (k0_off63 (pt x)) (k0_off64 (pt x)) (k0_off65 (pt x)) (k0_off66 (pt x)) (k0_off67 (pt x))
      ∧ At (Fin.ofNat 16 (4 * (x.val / 2 / 4) + 1)) (k0_off68 (pt x)) (k0_off69 (pt x)) (k0_off70 (pt x)) (k0_off71 (pt x)) (k0_off72 (pt x)) (k0_off73 (pt x)) (k0_off74 (pt x)) (k0_off75 (pt x)) (k0_off76 (pt x)) (k0_off77 (pt x)) (k0_off78 (pt x)) (k0_off79 (pt x)) (k0_off80 (pt x)) (k0_off81 (pt x)) (k0_off82 (pt x)) (k0_off83 (pt x)) (k0_off84 (pt x)) := by decide +kernel
theorem one_pt : ∀ x : Fin 32, x.val / 2 % 2 = 1 →
    At (Fin.ofNat 16 (x.val / 2 - 1)) (k0_off85 (pt x)) (k0_off86 (pt x)) (k0_off87 (pt x)) (k0_off88 (pt x)) (k0_off89 (pt x)) (k0_off90 (pt x)) (k0_off91 (pt x)) (k0_off92 (pt x)) (k0_off93 (pt x)) (k0_off94 (pt x)) (k0_off95 (pt x)) (k0_off96 (pt x)) (k0_off97 (pt x)) (k0_off98 (pt x)) (k0_off99 (pt x)) (k0_off100 (pt x)) (k0_off101 (pt x)) := by decide +kernel
theorem last_pt : ∀ x : Fin 32, At (Fin.ofNat 16 (x.val / 2)) (k0_off102 (pt x)) (k0_off103 (pt x)) (k0_off104 (pt x)) (k0_off105 (pt x)) (k0_off106 (pt x)) (k0_off107 (pt x)) (k0_off108 (pt x)) (k0_off109 (pt x)) (k0_off110 (pt x)) (k0_off111 (pt x)) (k0_off112 (pt x)) (k0_off113 (pt x)) (k0_off114 (pt x)) (k0_off115 (pt x)) (k0_off116 (pt x)) (k0_off117 (pt x)) (k0_off118 (pt x)) := by decide +kernel

/-! The same at any grid point: only the third coordinate counts. -/

theorem trips_at (i : grid0.Coords) : (k0_t2_loop i).trips = (i 2).val / 2 / 4 := trips_pt (i 2)
theorem left_at (i : grid0.Coords) : (k0_t3_loop i).trips = 0 := left_pt (i 2)
theorem cond1_at (i : grid0.Coords) : k0_cond1 i = 1#1 ↔ (i 2).val = 0 := cond1_pt (i 2)
theorem cond2_at (i : grid0.Coords) : k0_cond2 i = 1#1 ↔ 2 ≤ (i 2).val / 2 % 4 := cond2_pt (i 2)
theorem cond3_at (i : grid0.Coords) : k0_cond3 i = 1#1 ↔ (i 2).val / 2 % 2 = 1 := cond3_pt (i 2)
theorem quad_at (i : grid0.Coords) (t : Fin (k0_t2_loop i).trips) (r : Fin 4) :
    At (Fin.ofNat 16 (4 * t.val + r.val)) (k0_off17 i t (BitVec.ofNat 32 r.val)) (k0_off18 i t (BitVec.ofNat 32 r.val)) (k0_off19 i t (BitVec.ofNat 32 r.val)) (k0_off20 i t (BitVec.ofNat 32 r.val)) (k0_off21 i t (BitVec.ofNat 32 r.val)) (k0_off22 i t (BitVec.ofNat 32 r.val)) (k0_off23 i t (BitVec.ofNat 32 r.val)) (k0_off24 i t (BitVec.ofNat 32 r.val)) (k0_off25 i t (BitVec.ofNat 32 r.val)) (k0_off26 i t (BitVec.ofNat 32 r.val)) (k0_off27 i t (BitVec.ofNat 32 r.val)) (k0_off28 i t (BitVec.ofNat 32 r.val)) (k0_off29 i t (BitVec.ofNat 32 r.val)) (k0_off30 i t (BitVec.ofNat 32 r.val)) (k0_off31 i t (BitVec.ofNat 32 r.val)) (k0_off32 i t (BitVec.ofNat 32 r.val)) (k0_off33 i t (BitVec.ofNat 32 r.val)) := quad_pt (i 2) t r
theorem two_at (i : grid0.Coords) (h : 2 ≤ (i 2).val / 2 % 4) :
    At (Fin.ofNat 16 (4 * ((i 2).val / 2 / 4))) (k0_off51 i) (k0_off52 i) (k0_off53 i) (k0_off54 i) (k0_off55 i) (k0_off56 i) (k0_off57 i) (k0_off58 i) (k0_off59 i) (k0_off60 i) (k0_off61 i) (k0_off62 i) (k0_off63 i) (k0_off64 i) (k0_off65 i) (k0_off66 i) (k0_off67 i)
      ∧ At (Fin.ofNat 16 (4 * ((i 2).val / 2 / 4) + 1)) (k0_off68 i) (k0_off69 i) (k0_off70 i) (k0_off71 i) (k0_off72 i) (k0_off73 i) (k0_off74 i) (k0_off75 i) (k0_off76 i) (k0_off77 i) (k0_off78 i) (k0_off79 i) (k0_off80 i) (k0_off81 i) (k0_off82 i) (k0_off83 i) (k0_off84 i) := two_pt (i 2) h
theorem one_at (i : grid0.Coords) (h : (i 2).val / 2 % 2 = 1) :
    At (Fin.ofNat 16 ((i 2).val / 2 - 1)) (k0_off85 i) (k0_off86 i) (k0_off87 i) (k0_off88 i) (k0_off89 i) (k0_off90 i) (k0_off91 i) (k0_off92 i) (k0_off93 i) (k0_off94 i) (k0_off95 i) (k0_off96 i) (k0_off97 i) (k0_off98 i) (k0_off99 i) (k0_off100 i) (k0_off101 i) := one_pt (i 2) h
theorem last_at (i : grid0.Coords) : At (Fin.ofNat 16 ((i 2).val / 2)) (k0_off102 i) (k0_off103 i) (k0_off104 i) (k0_off105 i) (k0_off106 i) (k0_off107 i) (k0_off108 i) (k0_off109 i) (k0_off110 i) (k0_off111 i) (k0_off112 i) (k0_off113 i) (k0_off114 i) (k0_off115 i) (k0_off116 i) (k0_off117 i) (k0_off118 i) := last_pt (i 2)

end Cert.KernelIdeal.Mla
-- ==== Proof.Mla.Left.lean ====
/- The loop over the key tiles left by the loop over four makes no trip. -/
module

public import proofs.«01_k».proof.Proof.Mla.Root1
public import proofs.«01_k».proof.Proof.Mla.Root2
public import proofs.«01_k».proof.Proof.Mla.Root3
public import proofs.«01_k».proof.Proof.Mla.Root4
public import proofs.«01_k».proof.Proof.Mla.Offsets
public import Idealize.ShloMosaic.Lib.LoopRemainder

@[expose] public section

set_option maxRecDepth 65536
set_option maxHeartbeats 0

noncomputable section

namespace Cert.KernelIdeal.Mla

open Idealize.ShloMosaic Idealize.SL.Sem Facts₀ Facts

variable {F : FTy → Type} [FloatOps F] [Facts]

/-- The loop over the tiles left by the loop over four makes no trip. -/
theorem left_eq (i : grid0.Coords) (arg3 : Memref sig .tc .vmem S1024x128 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x1024 .bf16) (harg6 : arg6.IsWhole) (arg7 : Memref sig .tc .vmem S4096x1024 .bf16) (harg7 : arg7.IsWhole) (arg8 : Memref sig .tc .vmem S1x32x16384 .f32) (harg8 : arg8.IsWhole) (arg9 : Memref sig .tc .vmem S128x1024 .bf16) (harg9 : arg9.IsWhole) (arg10 : Memref sig .tc .vmem S32x16384 .bf16) (harg10 : arg10.IsWhole) (arg11 : Memref sig .tc .vmem S128x1024 .bf16) (harg11 : arg11.IsWhole) (arg12 : Memref sig .tc .vmem S8x16x128x256 .bf16) (harg12 : arg12.IsWhole) (arg13 : Memref sig .tc .vmem S8x1x128 .f32) (harg13 : arg13.IsWhole) (arg14 : Memref sig .tc .vmem S8x136x128 .f32) (harg14 : arg14.IsWhole) (v24 v324 : BitVec 32) :
    Scf.Loop.for (k0_t3_loop i) (k0_t3_ok i) ⟨⟩ (Gen.k0_t3_body (F := F) i arg3 harg3 arg4 harg4 arg5 harg5 arg6 harg6 arg7 harg7 arg8 harg8 arg9 harg9 arg10 harg10 arg11 harg11 arg12 harg12 arg13 harg13 arg14 harg14 v24 v324) = (pure ⟨⟩ : Prog (TpuEff nD τ sig (Elt F) Λ₀ .tc) Unit) :=
  Scf.for_eq_ret (htr := left_at i) ..

end Cert.KernelIdeal.Mla
-- ==== Proof.Mla.Root.lean ====
/- The attention call's body is its pieces, one after another. -/
module

public import proofs.«01_k».proof.Proof.Mla.Root1
public import proofs.«01_k».proof.Proof.Mla.Root2
public import proofs.«01_k».proof.Proof.Mla.Root3
public import proofs.«01_k».proof.Proof.Mla.Root4
public import proofs.«01_k».proof.Proof.Mla.Offsets
public import proofs.«01_k».proof.Proof.Mla.Left

@[expose] public section

set_option maxRecDepth 65536
set_option maxHeartbeats 0

noncomputable section

namespace Cert.KernelIdeal.Mla

open Idealize.ShloMosaic Idealize.SL.Sem Facts₀ Facts

variable {F : FTy → Type} [FloatOps F] [Facts]

theorem body_eq (i : grid0.Coords) (arg3 : Memref sig .tc .vmem S1024x128 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x1024 .bf16) (harg6 : arg6.IsWhole) (arg7 : Memref sig .tc .vmem S4096x1024 .bf16) (harg7 : arg7.IsWhole) (arg8 : Memref sig .tc .vmem S1x32x16384 .f32) (harg8 : arg8.IsWhole) (arg9 : Memref sig .tc .vmem S128x1024 .bf16) (harg9 : arg9.IsWhole) (arg10 : Memref sig .tc .vmem S32x16384 .bf16) (harg10 : arg10.IsWhole) (arg11 : Memref sig .tc .vmem S128x1024 .bf16) (harg11 : arg11.IsWhole) (arg12 : Memref sig .tc .vmem S8x16x128x256 .bf16) (harg12 : arg12.IsWhole) (arg13 : Memref sig .tc .vmem S8x1x128 .f32) (harg13 : arg13.IsWhole) (arg14 : Memref sig .tc .vmem S8x136x128 .f32) (harg14 : arg14.IsWhole) :
    cc0__mla_kernel (F := F) i arg3 harg3 arg4 harg4 arg5 harg5 arg6 harg6 arg7 harg7 arg8 harg8 arg9 harg9 arg10 harg10 arg11 harg11 arg12 harg12 arg13 harg13 arg14 harg14 = (castBlock arg8 arg10 harg10 >>= fun _ => fillValues i arg3 harg3 arg4 harg4 arg5 harg5 arg6 harg6 arg7 harg7 arg8 harg8 arg9 harg9 arg10 harg10 arg11 harg11 arg12 harg12 arg13 harg13 arg14 harg14 >>= fun _ => ropeFill arg4 arg11 harg11 >>= fun _ =>
      clearSums arg13 arg14 >>= fun _ => quads i arg3 harg3 arg4 harg4 arg5 harg5 arg6 harg6 arg7 harg7 arg8 harg8 arg9 harg9 arg10 harg10 arg11 harg11 arg12 harg12 arg13 harg13 arg14 harg14 >>= fun _ => two i arg3 harg3 arg4 harg4 arg5 harg5 arg6 harg6 arg7 harg7 arg8 harg8 arg9 harg9 arg10 harg10 arg11 harg11 arg12 harg12 arg13 harg13 arg14 harg14 >>= fun _ => rest i arg3 harg3 arg4 harg4 arg5 harg5 arg6 harg6 arg7 harg7 arg8 harg8 arg9 harg9 arg10 harg10 arg11 harg11 arg12 harg12 arg13 harg13 arg14 harg14) := by
  obtain ⟨x, hx⟩ := middle_eq (F := F) i arg3 harg3 arg4 harg4 arg5 harg5 arg6 harg6 arg7 harg7 arg8 harg8 arg9 harg9 arg10 harg10 arg11 harg11 arg12 harg12 arg13 harg13 arg14 harg14 (BitVec.ofNat 32 (i 2).val) (nFull i)
  obtain ⟨y, hy⟩ := part128_eq (F := F) i arg3 harg3 arg4 harg4 arg5 harg5 arg6 harg6 arg7 harg7 arg8 harg8 arg9 harg9 arg10 harg10 arg11 harg11 arg12 harg12 arg13 harg13 arg14 harg14 (nFull i) x
  unfold cc0__mla_kernel
  rw [part120_eq]
  refine (Prog.bind_assoc _ _ _).trans ?_
  refine congrArg (castBlock arg8 arg10 harg10 >>= ·) (funext fun _ => ?_)
  refine (Prog.bind_assoc _ _ _).trans ?_
  refine congrArg (fillValues i arg3 harg3 arg4 harg4 arg5 harg5 arg6 harg6 arg7 harg7 arg8 harg8 arg9 harg9 arg10 harg10 arg11 harg11 arg12 harg12 arg13 harg13 arg14 harg14 >>= ·) (funext fun _ => ?_)
  refine Eq.trans ?_ ((hx (fun v293 v294 v324 => do
      let v24 : BitVec 32 := nFull i
      let ⟨v357, v358, v359, v360⟩ : Σ' (v357 : BitVec 32) (v358 : BitVec 32) (v359 : BitVec 1), BitVec 1 ← k0_part128 i arg3 harg3 arg4 harg4 arg5 harg5 arg6 harg6 arg7 harg7 arg8 harg8 arg9 harg9 arg10 harg10 arg11 harg11 arg12 harg12 arg13 harg13 arg14 harg14 v24 v324
      let ⟨v370, v376, v393, v396, v398⟩ : Σ' (v370 : BitVec 32) (v376 : FVec F S256x1024 .f32) (v393 : FVec F S256x128 .f32) (v396 : FVec F S128x256 .bf16), FVec F S1x128 .f32 ← k0_part129 i arg3 harg3 arg4 harg4 arg5 harg5 arg6 harg6 arg7 harg7 arg8 harg8 arg9 harg9 arg10 harg10 arg11 harg11 arg12 harg12 arg13 harg13 arg14 harg14 v24 v293 v294 v357 v358 v359 v360
      let v434 : FVec F S256x128 .bf16 ← k0_part130 i arg3 harg3 arg4 harg4 arg5 harg5 arg6 harg6 arg7 harg7 arg8 harg8 arg9 harg9 arg10 harg10 arg11 harg11 arg12 harg12 arg13 harg13 arg14 harg14 v370 v393 v396 v398
      let ⟨v451, v458, v460, v463⟩ : Σ' (v451 : FVec F S128x256 .bf16) (v458 : FVec F S1x128 .f32) (v460 : FVec F S1x128 .f32), FVec F S256x128 .f32 ← k0_part131 i arg3 harg3 arg4 harg4 arg5 harg5 arg6 harg6 arg7 harg7 arg8 harg8 arg9 harg9 arg10 harg10 arg11 harg11 arg12 harg12 arg13 harg13 arg14 harg14 v24 v293 v294 v370 v376 v434
      let ⟨v503, v506, v508⟩ : Σ' (v503 : FVec F S256x128 .f32) (v506 : FVec F S128x256 .bf16), FVec F S1x128 .f32 ← k0_part132 i arg3 harg3 arg4 harg4 arg5 harg5 arg6 harg6 arg7 harg7 arg8 harg8 arg9 harg9 arg10 harg10 arg11 harg11 arg12 harg12 arg13 harg13 arg14 harg14 v24 v293 v294 v370 v376 v451 v458 v460 v463
      let v544 : FVec F S256x128 .bf16 ← k0_part133 i arg3 harg3 arg4 harg4 arg5 harg5 arg6 harg6 arg7 harg7 arg8 harg8 arg9 harg9 arg10 harg10 arg11 harg11 arg12 harg12 arg13 harg13 arg14 harg14 v370 v503 v506 v508
      let ⟨v561, v568, v570, v573⟩ : Σ' (v561 : FVec F S128x256 .bf16) (v568 : FVec F S1x128 .f32) (v570 : FVec F S1x128 .f32), FVec F S256x128 .f32 ← k0_part134 i arg3 harg3 arg4 harg4 arg5 harg5 arg6 harg6 arg7 harg7 arg8 harg8 arg9 harg9 arg10 harg10 arg11 harg11 arg12 harg12 arg13 harg13 arg14 harg14 v24 v293 v294 v370 v376 v544
      let ⟨v613, v616, v618⟩ : Σ' (v613 : FVec F S256x128 .f32) (v616 : FVec F S128x256 .bf16), FVec F S1x128 .f32 ← k0_part135 i arg3 harg3 arg4 harg4 arg5 harg5 arg6 harg6 arg7 harg7 arg8 harg8 arg9 harg9 arg10 harg10 arg11 harg11 arg12 harg12 arg13 harg13 arg14 harg14 v24 v293 v294 v370 v376 v561 v568 v570 v573
      let v654 : FVec F S256x128 .bf16 ← k0_part136 i arg3 harg3 arg4 harg4 arg5 harg5 arg6 harg6 arg7 harg7 arg8 harg8 arg9 harg9 arg10 harg10 arg11 harg11 arg12 harg12 arg13 harg13 arg14 harg14 v370 v613 v616 v618
      let ⟨v671, v678, v680, v683⟩ : Σ' (v671 : FVec F S128x256 .bf16) (v678 : FVec F S1x128 .f32) (v680 : FVec F S1x128 .f32), FVec F S256x128 .f32 ← k0_part137 i arg3 harg3 arg4 harg4 arg5 harg5 arg6 harg6 arg7 harg7 arg8 harg8 arg9 harg9 arg10 harg10 arg11 harg11 arg12 harg12 arg13 harg13 arg14 harg14 v24 v293 v294 v370 v376 v654
      let ⟨v723, v726, v728⟩ : Σ' (v723 : FVec F S256x128 .f32) (v726 : FVec F S128x256 .bf16), FVec F S1x128 .f32 ← k0_part138 i arg3 harg3 arg4 harg4 arg5 harg5 arg6 harg6 arg7 harg7 arg8 harg8 arg9 harg9 arg10 harg10 arg11 harg11 arg12 harg12 arg13 harg13 arg14 harg14 v24 v293 v294 v370 v376 v671 v678 v680 v683
      let v764 : FVec F S256x128 .bf16 ← k0_part139 i arg3 harg3 arg4 harg4 arg5 harg5 arg6 harg6 arg7 harg7 arg8 harg8 arg9 harg9 arg10 harg10 arg11 harg11 arg12 harg12 arg13 harg13 arg14 harg14 v370 v723 v726 v728
      let ⟨v781, v788, v790, v793⟩ : Σ' (v781 : FVec F S128x256 .bf16) (v788 : FVec F S1x128 .f32) (v790 : FVec F S1x128 .f32), FVec F S256x128 .f32 ← k0_part140 i arg3 harg3 arg4 harg4 arg5 harg5 arg6 harg6 arg7 harg7 arg8 harg8 arg9 harg9 arg10 harg10 arg11 harg11 arg12 harg12 arg13 harg13 arg14 harg14 v24 v293 v294 v370 v376 v764
      let ⟨v833, v834⟩ : Σ' (v833 : FVec F S128x128 .f32), FVec F S128x128 .f32 ← k0_part141 i arg3 harg3 arg4 harg4 arg5 harg5 arg6 harg6 arg7 harg7 arg8 harg8 arg9 harg9 arg10 harg10 arg11 harg11 arg12 harg12 arg13 harg13 arg14 harg14 v781 v788 v790 v793
      let v864 : FVec F S1x128 .f32 ← k0_part142 i arg3 harg3 arg4 harg4 arg5 harg5 arg6 harg6 arg7 harg7 arg8 harg8 arg9 harg9 arg10 harg10 arg11 harg11 arg12 harg12 arg13 harg13 arg14 harg14 v833 v834
      let v897 : FVec F S1x128 .f32 ← k0_part143 i arg3 harg3 arg4 harg4 arg5 harg5 arg6 harg6 arg7 harg7 arg8 harg8 arg9 harg9 arg10 harg10 arg11 harg11 arg12 harg12 arg13 harg13 arg14 harg14 v864
      let c7_468 : Index := 7#32
      let c0_469 : Index := 0#32
      let c0_470 : Index := 0#32
      let v898 : Vec F S1x128x128 .f32 ← Prog.lift (.load arg14 (Rect.unit (s := S8x136x128) ![7, 0, 0] S1x128x128.size inb_S8x136x128_S1x128x128_7_0_0).toLoadRect (View.loadsAt_vmem h_S1x128x128))
      have v899 : FVec F S128x128 .f32 := shapeCast S128x128 v898 shapeCasts_S1x128x128_S128x128
      have v900 : FVec F S128x128 .f32 := broadcastTo S128x128 v897 broadcasts_S1x128_S128x128
      have v901 : FVec F S128x128 .f32 := divf v899 v900
      have v902 : FVec F S128x128 .f32 := transpose S128x128 [1, 0] v901 transposes_S128x128_p1_0_S128x128
      have v903 : FVec F S128x128 .bf16 := truncf .bf16 v902 bitsLt_bf16_f32
      let c0_471 : Index := 0#32
      let c896_472 : Index := 896#32
      let v904 : Vec F S128x128 .bf16 ← Prog.lift (.load arg9 (Rect.unit (s := S128x1024) ![0, 896] S128x128.size inb_S128x1024_S128x128_0_896).toLoadRect (View.loadsAt_vmem h_S128x128))
      Prog.lift (.store arg9 (Rect.unit (s := S128x1024) ![0, 896] S128x128.size inb_S128x1024_S128x128_0_896) v903 Finset.univ (View.stores_vmem h_S128x128 (harg9.storeExact_slice rfl _ packedbf16_S128x1024_S128x128_0_896) (fun _ => rfl)) (.inl rfl))
      pure ⟨⟩)).trans ?_)
  · rfl
  refine congrArg (ropeFill arg4 arg11 harg11 >>= ·) (funext fun _ => ?_)
  refine congrArg (clearSums arg13 arg14 >>= ·) (funext fun _ => ?_)
  refine congrArg (quads i arg3 harg3 arg4 harg4 arg5 harg5 arg6 harg6 arg7 harg7 arg8 harg8 arg9 harg9 arg10 harg10 arg11 harg11 arg12 harg12 arg13 harg13 arg14 harg14 >>= ·) (funext fun _ => ?_)
  dsimp only
  rw [hy, left_eq]
  refine (Prog.bind_assoc _ _ _).trans ?_
  refine (Prog.bind_assoc _ _ _).trans ?_
  refine congrArg (two i arg3 harg3 arg4 harg4 arg5 harg5 arg6 harg6 arg7 harg7 arg8 harg8 arg9 harg9 arg10 harg10 arg11 harg11 arg12 harg12 arg13 harg13 arg14 harg14 >>= ·) (funext fun _ => ?_)
  exact rest_eq i arg3 harg3 arg4 harg4 arg5 harg5 arg6 harg6 arg7 harg7 arg8 harg8 arg9 harg9 arg10 harg10 arg11 harg11 arg12 harg12 arg13 harg13 arg14 harg14 _ _ _ _

end Cert.KernelIdeal.Mla
-- ==== Proof.Mla.Tiles.lean ====
/- The key tiles of a grid point: the loop over four, the tiles left, the masked tile; and what they make of the maxima and the sums. -/
module

public import proofs.«01_k».proof.Proof.Mla.Root

@[expose] public section

set_option maxRecDepth 65536
set_option maxHeartbeats 0

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig Unit (Elt F) ℕ (UR sig nD τ) ℕ

/-- The maxima and the sums after `n` tiles that every query of the block sees. -/
def fullTiles (X3 : Vec F S1024x128 .bf16) (X5 : Vec F S4096x128 .f32) (X6 : Vec F S4096x1024 .bf16) (X11 : Vec F S128x1024 .bf16) (X12 : Vec F S8x16x128x256 .bf16) (s : Sums F) : Nat → Sums F
  | 0 => s
  | n + 1 => tileSums X3 X5 X6 X11 X12 (Fin.ofNat 16 n) (fun l => l) (fullTiles X3 X5 X6 X11 X12 s n)

/-- After the masked tile. -/
def allTiles (i : grid0.Coords) (X3 : Vec F S1024x128 .bf16) (X5 : Vec F S4096x128 .f32) (X6 : Vec F S4096x1024 .bf16) (X11 : Vec F S128x1024 .bf16) (X12 : Vec F S8x16x128x256 .bf16) (s : Sums F) : Sums F :=
  tileSums X3 X5 X6 X11 X12 (Fin.ofNat 16 ((i 2).val / 2)) (chunkMask i) (fullTiles X3 X5 X6 X11 X12 s ((i 2).val / 2))

theorem quad_wp (c : Dev nD) (i : grid0.Coords) (arg3 : Memref sig .tc .vmem S1024x128 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x1024 .bf16) (harg6 : arg6.IsWhole) (arg7 : Memref sig .tc .vmem S4096x1024 .bf16) (harg7 : arg7.IsWhole) (arg8 : Memref sig .tc .vmem S1x32x16384 .f32) (harg8 : arg8.IsWhole) (arg9 : Memref sig .tc .vmem S128x1024 .bf16) (harg9 : arg9.IsWhole) (arg10 : Memref sig .tc .vmem S32x16384 .bf16) (harg10 : arg10.IsWhole) (arg11 : Memref sig .tc .vmem S128x1024 .bf16) (harg11 : arg11.IsWhole) (arg12 : Memref sig .tc .vmem S8x16x128x256 .bf16) (harg12 : arg12.IsWhole) (arg13 : Memref sig .tc .vmem S8x1x128 .f32) (harg13 : arg13.IsWhole) (arg14 : Memref sig .tc .vmem S8x136x128 .f32) (harg14 : arg14.IsWhole) (X3 : Vec F S1024x128 .bf16) (X5 : Vec F S4096x128 .f32) (X6 : Vec F S4096x1024 .bf16) (X11 : Vec F S128x1024 .bf16) (X12 : Vec F S8x16x128x256 .bf16) (s : Sums F) (t : Fin (k0_t2_loop i).trips) :
    held c arg3 arg5 arg6 arg11 arg12 arg13 arg14 X3 X5 X6 X11 X12 (fullTiles X3 X5 X6 X11 X12 s (4 * t.val)) ⊢ Wp c (quad i arg3 harg3 arg4 harg4 arg5 harg5 arg6 harg6 arg7 harg7 arg8 harg8 arg9 harg9 arg10 harg10 arg11 harg11 arg12 harg12 arg13 harg13 arg14 harg14 t)
      fun _ => held c arg3 arg5 arg6 arg11 arg12 arg13 arg14 X3 X5 X6 X11 X12 (fullTiles X3 X5 X6 X11 X12 s (4 * (t.val + 1))) := by
  unfold quad
  refine Wp.seq c (tile_wp c arg3 arg5 arg6 arg11 arg12 arg13 arg14 X3 X5 X6 X11 X12 _ (Fin.ofNat 16 (4 * t.val + 0)) _ _ _ _ _ _ _ _ _ _ _ _ _ _ _ _ _ _ _ _ _ _ _ _ _ _ _ _ _ _ _ _ _ _ (fun l => l) (quad_at i t 0)) fun _ => ?_
  refine Wp.seq c (tile_wp c arg3 arg5 arg6 arg11 arg12 arg13 arg14 X3 X5 X6 X11 X12 _ (Fin.ofNat 16 (4 * t.val + 1)) _ _ _ _ _ _ _ _ _ _ _ _ _ _ _ _ _ _ _ _ _ _ _ _ _ _ _ _ _ _ _ _ _ _ (fun l => l) (quad_at i t 1)) fun _ => ?_
  refine Wp.seq c (tile_wp c arg3 arg5 arg6 arg11 arg12 arg13 arg14 X3 X5 X6 X11 X12 _ (Fin.ofNat 16 (4 * t.val + 2)) _ _ _ _ _ _ _ _ _ _ _ _ _ _ _ _ _ _ _ _ _ _ _ _ _ _ _ _ _ _ _ _ _ _ (fun l => l) (quad_at i t 2)) fun _ => ?_
  exact tile_wp c arg3 arg5 arg6 arg11 arg12 arg13 arg14 X3 X5 X6 X11 X12 _ (Fin.ofNat 16 (4 * t.val + 3)) _ _ _ _ _ _ _ _ _ _ _ _ _ _ _ _ _ _ _ _ _ _ _ _ _ _ _ _ _ _ _ _ _ _ (fun l => l) (quad_at i t 3)

theorem quads_wp (c : Dev nD) (i : grid0.Coords) (arg3 : Memref sig .tc .vmem S1024x128 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x1024 .bf16) (harg6 : arg6.IsWhole) (arg7 : Memref sig .tc .vmem S4096x1024 .bf16) (harg7 : arg7.IsWhole) (arg8 : Memref sig .tc .vmem S1x32x16384 .f32) (harg8 : arg8.IsWhole) (arg9 : Memref sig .tc .vmem S128x1024 .bf16) (harg9 : arg9.IsWhole) (arg10 : Memref sig .tc .vmem S32x16384 .bf16) (harg10 : arg10.IsWhole) (arg11 : Memref sig .tc .vmem S128x1024 .bf16) (harg11 : arg11.IsWhole) (arg12 : Memref sig .tc .vmem S8x16x128x256 .bf16) (harg12 : arg12.IsWhole) (arg13 : Memref sig .tc .vmem S8x1x128 .f32) (harg13 : arg13.IsWhole) (arg14 : Memref sig .tc .vmem S8x136x128 .f32) (harg14 : arg14.IsWhole) (X3 : Vec F S1024x128 .bf16) (X5 : Vec F S4096x128 .f32) (X6 : Vec F S4096x1024 .bf16) (X11 : Vec F S128x1024 .bf16) (X12 : Vec F S8x16x128x256 .bf16) (s : Sums F) :
    held c arg3 arg5 arg6 arg11 arg12 arg13 arg14 X3 X5 X6 X11 X12 s ⊢ Wp c (quads i arg3 harg3 arg4 harg4 arg5 harg5 arg6 harg6 arg7 harg7 arg8 harg8 arg9 harg9 arg10 harg10 arg11 harg11 arg12 harg12 arg13 harg13 arg14 harg14)
      fun _ => held c arg3 arg5 arg6 arg11 arg12 arg13 arg14 X3 X5 X6 X11 X12 (fullTiles X3 X5 X6 X11 X12 s (4 * ((i 2).val / 2 / 4))) := by
  unfold quads
  refine BIBase.Entails.trans ?_ (Scf.wp_for frame (wpE (defs₀ (F := F)) Variants.none c none) Set.univ (k0_t2_loop i).lb (k0_t2_loop i).ub (k0_t2_loop i).st (k0_t2_ok i) () _
    (fun n _ => held c arg3 arg5 arg6 arg11 arg12 arg13 arg14 X3 X5 X6 X11 X12 (fullTiles X3 X5 X6 X11 X12 s (4 * n))) (fun t _ => quad_wp c i arg3 harg3 arg4 harg4 arg5 harg5 arg6 harg6 arg7 harg7 arg8 harg8 arg9 harg9 arg10 harg10 arg11 harg11 arg12 harg12 arg13 harg13 arg14 harg14 X3 X5 X6 X11 X12 s t))
  iintro H
  isplitl [H]; · iexact H
  iintro %_ H
  rw [show Scf.trips (k0_t2_loop i).lb (k0_t2_loop i).ub (k0_t2_loop i).st = (i 2).val / 2 / 4 from trips_at i]
  iexact H

theorem two_wp (c : Dev nD) (i : grid0.Coords) (arg3 : Memref sig .tc .vmem S1024x128 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x1024 .bf16) (harg6 : arg6.IsWhole) (arg7 : Memref sig .tc .vmem S4096x1024 .bf16) (harg7 : arg7.IsWhole) (arg8 : Memref sig .tc .vmem S1x32x16384 .f32) (harg8 : arg8.IsWhole) (arg9 : Memref sig .tc .vmem S128x1024 .bf16) (harg9 : arg9.IsWhole) (arg10 : Memref sig .tc .vmem S32x16384 .bf16) (harg10 : arg10.IsWhole) (arg11 : Memref sig .tc .vmem S128x1024 .bf16) (harg11 : arg11.IsWhole) (arg12 : Memref sig .tc .vmem S8x16x128x256 .bf16) (harg12 : arg12.IsWhole) (arg13 : Memref sig .tc .vmem S8x1x128 .f32) (harg13 : arg13.IsWhole) (arg14 : Memref sig .tc .vmem S8x136x128 .f32) (harg14 : arg14.IsWhole) (X3 : Vec F S1024x128 .bf16) (X5 : Vec F S4096x128 .f32) (X6 : Vec F S4096x1024 .bf16) (X11 : Vec F S128x1024 .bf16) (X12 : Vec F S8x16x128x256 .bf16) (s : Sums F) :
    held c arg3 arg5 arg6 arg11 arg12 arg13 arg14 X3 X5 X6 X11 X12 (fullTiles X3 X5 X6 X11 X12 s (4 * ((i 2).val / 2 / 4))) ⊢ Wp c (two i arg3 harg3 arg4 harg4 arg5 harg5 arg6 harg6 arg7 harg7 arg8 harg8 arg9 harg9 arg10 harg10 arg11 harg11 arg12 harg12 arg13 harg13 arg14 harg14)
      fun _ => held c arg3 arg5 arg6 arg11 arg12 arg13 arg14 X3 X5 X6 X11 X12 (fullTiles X3 X5 X6 X11 X12 s (2 * ((i 2).val / 2 / 2))) := by
  unfold two
  by_cases h : k0_cond2 i = 1#1
  · rw [dif_pos h]
    have h2 := (cond2_at i).1 h
    rw [show 2 * ((i 2).val / 2 / 2) = 4 * ((i 2).val / 2 / 4) + 1 + 1 by omega]
    refine Wp.seq c (tile_wp c arg3 arg5 arg6 arg11 arg12 arg13 arg14 X3 X5 X6 X11 X12 _ _ _ _ _ _ _ _ _ _ _ _ _ _ _ _ _ _ _ _ _ _ _ _ _ _ _ _ _ _ _ _ _ _ _ _ (fun l => l) (two_at i h2).1) fun _ => ?_
    exact tile_wp c arg3 arg5 arg6 arg11 arg12 arg13 arg14 X3 X5 X6 X11 X12 _ _ _ _ _ _ _ _ _ _ _ _ _ _ _ _ _ _ _ _ _ _ _ _ _ _ _ _ _ _ _ _ _ _ _ _ (fun l => l) (two_at i h2).2
  · rw [dif_neg h]
    have h2 : ¬ 2 ≤ (i 2).val / 2 % 4 := fun e => h ((cond2_at i).2 e)
    rw [show 2 * ((i 2).val / 2 / 2) = 4 * ((i 2).val / 2 / 4) by omega]
    unfold Wp
    rw [Prog.pure_eq_ret, wp_ret]
    iintro H
    imodintro
    iexact H

theorem one_wp (c : Dev nD) (i : grid0.Coords) (arg3 : Memref sig .tc .vmem S1024x128 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x1024 .bf16) (harg6 : arg6.IsWhole) (arg7 : Memref sig .tc .vmem S4096x1024 .bf16) (harg7 : arg7.IsWhole) (arg8 : Memref sig .tc .vmem S1x32x16384 .f32) (harg8 : arg8.IsWhole) (arg9 : Memref sig .tc .vmem S128x1024 .bf16) (harg9 : arg9.IsWhole) (arg10 : Memref sig .tc .vmem S32x16384 .bf16) (harg10 : arg10.IsWhole) (arg11 : Memref sig .tc .vmem S128x1024 .bf16) (harg11 : arg11.IsWhole) (arg12 : Memref sig .tc .vmem S8x16x128x256 .bf16) (harg12 : arg12.IsWhole) (arg13 : Memref sig .tc .vmem S8x1x128 .f32) (harg13 : arg13.IsWhole) (arg14 : Memref sig .tc .vmem S8x136x128 .f32) (harg14 : arg14.IsWhole) (X3 : Vec F S1024x128 .bf16) (X5 : Vec F S4096x128 .f32) (X6 : Vec F S4096x1024 .bf16) (X11 : Vec F S128x1024 .bf16) (X12 : Vec F S8x16x128x256 .bf16) (s : Sums F) :
    held c arg3 arg5 arg6 arg11 arg12 arg13 arg14 X3 X5 X6 X11 X12 (fullTiles X3 X5 X6 X11 X12 s (2 * ((i 2).val / 2 / 2))) ⊢ Wp c (one i arg3 harg3 arg4 harg4 arg5 harg5 arg6 harg6 arg7 harg7 arg8 harg8 arg9 harg9 arg10 harg10 arg11 harg11 arg12 harg12 arg13 harg13 arg14 harg14)
      fun _ => held c arg3 arg5 arg6 arg11 arg12 arg13 arg14 X3 X5 X6 X11 X12 (fullTiles X3 X5 X6 X11 X12 s ((i 2).val / 2)) := by
  unfold one
  by_cases h : k0_cond3 i = 1#1
  · rw [dif_pos h]
    have h2 := (cond3_at i).1 h
    have h3 := one_at i h2
    rw [show (i 2).val / 2 - 1 = 2 * ((i 2).val / 2 / 2) by omega] at h3
    rw [show (i 2).val / 2 = 2 * ((i 2).val / 2 / 2) + 1 by omega]
    rw [show (2 * ((i 2).val / 2 / 2) + 1) / 2 = (i 2).val / 2 / 2 by omega]
    exact tile_wp c arg3 arg5 arg6 arg11 arg12 arg13 arg14 X3 X5 X6 X11 X12 _ _ _ _ _ _ _ _ _ _ _ _ _ _ _ _ _ _ _ _ _ _ _ _ _ _ _ _ _ _ _ _ _ _ _ _ (fun l => l) h3
  · rw [dif_neg h]
    have h2 : ¬ (i 2).val / 2 % 2 = 1 := fun e => h ((cond3_at i).2 e)
    rw [show 2 * ((i 2).val / 2 / 2) = (i 2).val / 2 by omega]
    unfold Wp
    rw [Prog.pure_eq_ret, wp_ret]
    iintro H
    imodintro
    iexact H

theorem last_wp (c : Dev nD) (i : grid0.Coords) (arg3 : Memref sig .tc .vmem S1024x128 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x1024 .bf16) (harg6 : arg6.IsWhole) (arg7 : Memref sig .tc .vmem S4096x1024 .bf16) (harg7 : arg7.IsWhole) (arg8 : Memref sig .tc .vmem S1x32x16384 .f32) (harg8 : arg8.IsWhole) (arg9 : Memref sig .tc .vmem S128x1024 .bf16) (harg9 : arg9.IsWhole) (arg10 : Memref sig .tc .vmem S32x16384 .bf16) (harg10 : arg10.IsWhole) (arg11 : Memref sig .tc .vmem S128x1024 .bf16) (harg11 : arg11.IsWhole) (arg12 : Memref sig .tc .vmem S8x16x128x256 .bf16) (harg12 : arg12.IsWhole) (arg13 : Memref sig .tc .vmem S8x1x128 .f32) (harg13 : arg13.IsWhole) (arg14 : Memref sig .tc .vmem S8x136x128 .f32) (harg14 : arg14.IsWhole) (X3 : Vec F S1024x128 .bf16) (X5 : Vec F S4096x128 .f32) (X6 : Vec F S4096x1024 .bf16) (X11 : Vec F S128x1024 .bf16) (X12 : Vec F S8x16x128x256 .bf16) (s : Sums F) :
    held c arg3 arg5 arg6 arg11 arg12 arg13 arg14 X3 X5 X6 X11 X12 (fullTiles X3 X5 X6 X11 X12 s ((i 2).val / 2)) ⊢ Wp c (last i arg3 harg3 arg4 harg4 arg5 harg5 arg6 harg6 arg7 harg7 arg8 harg8 arg9 harg9 arg10 harg10 arg11 harg11 arg12 harg12 arg13 harg13 arg14 harg14)
      fun _ => held c arg3 arg5 arg6 arg11 arg12 arg13 arg14 X3 X5 X6 X11 X12 (allTiles i X3 X5 X6 X11 X12 s) := by
  unfold last
  exact tile_wp c arg3 arg5 arg6 arg11 arg12 arg13 arg14 X3 X5 X6 X11 X12 _ _ _ _ _ _ _ _ _ _ _ _ _ _ _ _ _ _ _ _ _ _ _ _ _ _ _ _ _ _ _ _ _ _ _ _ (chunkMask i) (last_at i)

end Cert.KernelIdeal.Mla
-- ==== Proof.Mla.Rows.lean ====
/- Overlays of rectangles read at an index; the columns of eight heads; the rows of eight heads of the running maxima and the sums. -/
module

public import proofs.«01_k».proof.Proof.Mla.Tile
public import Idealize.ShloMosaic.Lib.Pointwise

@[expose] public section

set_option maxRecDepth 65536
set_option maxHeartbeats 0

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig Unit (Elt F) ℕ (UR sig nD τ) ℕ

open Idealize.ShloMosaic.Pointwise

/-- Inside the rectangle an overlay reads its payload. -/
theorem overlay_in {S : Shape} {α : Type} (r : Rect S) (X : S.Idx → α) (G : r.shape.Idx → α) (j : S.Idx) (y : r.shape.Idx)
    (h : r.emb y = j) : r.overlay X G j = G y := by
  subst h; exact Rect.overlay_emb r X G y

/-- Outside along one axis it reads what was there. -/
theorem overlay_out {S : Shape} {α : Type} (off size : Fin S.rank → Nat) (inb : ∀ a, off a + size a ≤ S.size a) (X : S.Idx → α)
    (G : (Rect.unit (s := S) off size inb).shape.Idx → α) (j : S.Idx) (a : Fin S.rank) (h : (j a).val < off a ∨ off a + size a ≤ (j a).val) :
    (Rect.unit (s := S) off size inb).overlay X G j = X j := by
  refine Rect.overlay_of_not_mem _ X G fun hm => ?_
  obtain ⟨y, hy⟩ : ∃ y, (Rect.unit (s := S) off size inb).emb y = j := (Rect.unit (s := S) off size inb).exists_idx_of_mem hm
  have hv : (j a).val = off a + 1 * (y a).val := by rw [← hy]; rfl
  have hl : (y a).val < size a := (y a).isLt
  omega

/-! ## Eight column blocks -/

/-- The block of columns of a head. -/
theorem inb_col : ∀ h : Fin 8, ∀ a, (![0, 128 * h.val] : Fin 2 → Nat) a + S128x128.size a ≤ S128x1024.size a := by decide +kernel

abbrev rCol (h : Fin 8) : Rect S128x1024 := Rect.unit (s := S128x1024) ![0, 128 * h.val] S128x128.size (inb_col h)

theorem col_overlay {α : Type} (h : Fin 8) (X : S128x1024.Idx → α) (G : S128x128.Idx → α) (j : S128x1024.Idx) :
    (rCol h).overlay X G j = if (j 1).val / 128 = h.val then G (ix2 (j 0) ⟨(j 1).val % 128, Nat.mod_lt _ (by decide)⟩) else X j := by
  by_cases hj : (j 1).val / 128 = h.val
  · rw [if_pos hj]
    refine overlay_in (rCol h) X G j _ (funext fun a => Fin.ext ?_)
    match a with
    | ⟨0, _⟩ => show 0 + 1 * (j 0).val = (j 0).val; omega
    | ⟨1, _⟩ => show 128 * h.val + 1 * ((j 1).val % 128) = (j 1).val; omega
  · rw [if_neg hj]
    refine overlay_out _ _ _ X G j 1 ?_
    show (j 1).val < 128 * h.val ∨ 128 * h.val + 128 ≤ (j 1).val
    omega

/-- The head a column belongs to. -/
abbrev colHead (j : S128x1024.Idx) : Fin 8 := ⟨(j 1).val / 128, by have h : (j 1).val < 1024 := (j 1).isLt; omega⟩

/-- Eight column blocks side by side. -/
def cols {α : Type} (p : Fin 8 → S128x128.Idx → α) : S128x1024.Idx → α :=
  fun j => p (colHead j) (ix2 (j 0) ⟨(j 1).val % 128, Nat.mod_lt _ (by decide)⟩)

theorem cols_eq {α : Type} (p : Fin 8 → S128x128.Idx → α) (X : S128x1024.Idx → α) :
    (rCol 7).overlay ((rCol 6).overlay ((rCol 5).overlay ((rCol 4).overlay ((rCol 3).overlay ((rCol 2).overlay ((rCol 1).overlay ((rCol 0).overlay (X) (p 0)) (p 1)) (p 2)) (p 3)) (p 4)) (p 5)) (p 6)) (p 7) = cols p := by
  funext j
  simp only [col_overlay]
  unfold cols
  have hlt : (j 1).val / 128 < 8 := by have h : (j 1).val < 1024 := (j 1).isLt; omega
  obtain ⟨h, hh⟩ : ∃ h : Fin 8, (j 1).val / 128 = h.val := ⟨⟨_, hlt⟩, rfl⟩
  have hc : colHead j = h := Fin.ext hh
  rw [hc, hh]
  match h with
  | 0 => rfl
  | 1 => rfl
  | 2 => rfl
  | 3 => rfl
  | 4 => rfl
  | 5 => rfl
  | 6 => rfl
  | 7 => rfl

/-! ## The rows of a head -/

/-- A head's running maxima, sums of weights and weighted values. -/
abbrev mRow (s : Sums F) (h : Fin 8) : FVec F S1x1x128 .f32 := View.ld s.1 (rM h)
abbrev dRow (s : Sums F) (h : Fin 8) : FVec F S1x8x128 .f32 := View.ld s.2 (rD h)
abbrev nRow (s : Sums F) (h : Fin 8) : FVec F S1x128x128 .f32 := View.ld s.2 (rN h)

/-- A load of what was laid down, and of a rectangle apart from it. -/
theorem ld_overlay {S : Shape} {α : EltTy → Type} {e : EltTy} (r : Rect S) (X : S.Idx → α e) (G : r.shape.Idx → α e) :
    (View.ld (r.overlay X G) r : r.shape.Idx → α e) = G := by
  funext y; exact Rect.overlay_emb r X G y

theorem ld_apart {S : Shape} {α : EltTy → Type} {e : EltTy} (off size : Fin S.rank → Nat) (inb : ∀ a, off a + size a ≤ S.size a)
    (off' size' : Fin S.rank → Nat) (inb' : ∀ a, off' a + size' a ≤ S.size a) (X : S.Idx → α e)
    (G : (Rect.unit (s := S) off size inb).shape.Idx → α e) (a : Fin S.rank) (h : off' a + size' a ≤ off a ∨ off a + size a ≤ off' a) :
    (View.ld ((Rect.unit (s := S) off size inb).overlay X G) (Rect.unit (s := S) off' size' inb') : _ → α e) = View.ld X (Rect.unit (s := S) off' size' inb') := by
  funext y
  refine overlay_out off size inb X G _ a ?_
  have hv : (((Rect.unit (s := S) off' size' inb').idx y) a).val = off' a + 1 * (y a).val := rfl
  have hl : (y a).val < size' a := (y a).isLt
  omega

theorem headSums_mRow (h : Fin 8) (l : FVec F S256x128 .f32) (v : FVec F S1x1x128x256 .bf16) (s : Sums F) :
    mRow (headSums h l v s) h = shapeCast S1x1x128 (newMax (mRow s h) l) shapeCasts_S1x128_S1x1x128 :=
  ld_overlay (α := Elt F) (e := .f32) (rM h) _ _

theorem headSums_dRow (h : Fin 8) (l : FVec F S256x128 .f32) (v : FVec F S1x1x128x256 .bf16) (s : Sums F) :
    dRow (headSums h l v s) h = newDen (dRow s h) (scaleOld (mRow s h) (newMax (mRow s h) l)) (weights l (newMax (mRow s h) l)) := by
  refine (ld_apart (α := Elt F) (e := .f32) _ _ _ _ _ _ _ _ 1 (.inr ?_)).trans (ld_overlay (α := Elt F) (e := .f32) (rD h) _ _)
  show 0 + 128 ≤ 128; omega

theorem headSums_nRow (h : Fin 8) (l : FVec F S256x128 .f32) (v : FVec F S1x1x128x256 .bf16) (s : Sums F) :
    nRow (headSums h l v s) h = newNum (nRow s h) (scaleOld (mRow s h) (newMax (mRow s h) l)) (weights l (newMax (mRow s h) l)) v := by
  refine (ld_overlay (α := Elt F) (e := .f32) (rN h) _ _).trans ?_
  refine congrArg (fun n => newNum n _ _ v) (ld_apart (α := Elt F) (e := .f32) _ _ _ _ _ _ _ _ 1 (.inl ?_))
  show 0 + 128 ≤ 128; omega

theorem headSums_apart (h h' : Fin 8) (hne : h ≠ h') (l : FVec F S256x128 .f32) (v : FVec F S1x1x128x256 .bf16) (s : Sums F) :
    mRow (headSums h l v s) h' = mRow s h' ∧ dRow (headSums h l v s) h' = dRow s h' ∧ nRow (headSums h l v s) h' = nRow s h' := by
  have hd : h'.val + 1 ≤ h.val ∨ h.val + 1 ≤ h'.val := by
    have : h.val ≠ h'.val := fun e => hne (Fin.ext e)
    omega
  exact ⟨ld_apart (α := Elt F) (e := .f32) _ _ _ _ _ _ _ _ 0 hd,
    (ld_apart (α := Elt F) (e := .f32) _ _ _ _ _ _ _ _ 0 hd).trans (ld_apart (α := Elt F) (e := .f32) _ _ _ _ _ _ _ _ 0 hd),
    (ld_apart (α := Elt F) (e := .f32) _ _ _ _ _ _ _ _ 0 hd).trans (ld_apart (α := Elt F) (e := .f32) _ _ _ _ _ _ _ _ 0 hd)⟩

end Cert.KernelIdeal.Mla
-- ==== Proof.Mla.Fill.lean ====
/- The values' transpose: the loop over the key tiles, and the array it leaves. -/
module

public import proofs.«01_k».proof.Proof.Mla.Rows
public import proofs.«01_k».proof.Proof.Mla.Offsets
public import proofs.«01_k».proof.Proof.Mla.Pieces

@[expose] public section

set_option maxRecDepth 65536
set_option maxHeartbeats 0

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig Unit (Elt F) ℕ (UR sig nD τ) ℕ

open Idealize.ShloMosaic.Pointwise

/-- A block of values turned, keys along the lanes. -/
abbrev turned (x : Vec F S256x128 .bf16) : FVec F S1x1x128x256 .bf16 :=
  shapeCast S1x1x128x256 (truncf .bf16 (transpose S128x256 [1, 0] (extf .f32 (shapeCast S256x128 x shapeCasts_S256x128_S256x128 : FVec F S256x128 .bf16) bitsLt_bf16_f32)
    transposes_S256x128_p1_0_S128x256) bitsLt_bf16_f32) shapeCasts_S128x256_S1x1x128x256

/-- One head's block of a key tile. -/
def valueHead (arg7 : Memref sig .tc .vmem S4096x1024 .bf16) (arg12 : Memref sig .tc .vmem S8x16x128x256 .bf16) (harg12 : arg12.IsWhole)
    (ok : Fin 2 → Nat) (hok : ∀ a, ok a + S256x128.size a ≤ S4096x1024.size a)
    (ov : Fin 4 → Nat) (hov : ∀ a, ov a + S1x1x128x256.size a ≤ S8x16x128x256.size a)
    (hp : (Rect.unit (s := S8x16x128x256) ov S1x1x128x256.size hov).PackedRows (EltTy.packing .bf16)) :
    Prog (TpuEff nD τ sig (Elt F) Λ₀ .tc) Unit := do
  let v : Vec F S256x128 .bf16 ← Prog.lift (.load arg7 (Rect.unit (s := S4096x1024) ok S256x128.size hok).toLoadRect (View.loadsAt_vmem h_S256x128))
  let _ : Vec F S1x1x128x256 .bf16 ← Prog.lift (.load arg12 (Rect.unit (s := S8x16x128x256) ov S1x1x128x256.size hov).toLoadRect (View.loadsAt_vmem h_S1x1x128x256))
  Prog.lift (.store arg12 (Rect.unit (s := S8x16x128x256) ov S1x1x128x256.size hov) (turned v)
    Finset.univ (View.stores_vmem h_S1x1x128x256 (harg12.storeExact_slice rfl _ hp) (fun _ => rfl)) (.inl rfl))

theorem fill_eq (i : grid0.Coords) (arg3 : Memref sig .tc .vmem S1024x128 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x1024 .bf16) (harg6 : arg6.IsWhole) (arg7 : Memref sig .tc .vmem S4096x1024 .bf16) (harg7 : arg7.IsWhole) (arg8 : Memref sig .tc .vmem S1x32x16384 .f32) (harg8 : arg8.IsWhole) (arg9 : Memref sig .tc .vmem S128x1024 .bf16) (harg9 : arg9.IsWhole) (arg10 : Memref sig .tc .vmem S32x16384 .bf16) (harg10 : arg10.IsWhole) (arg11 : Memref sig .tc .vmem S128x1024 .bf16) (harg11 : arg11.IsWhole) (arg12 : Memref sig .tc .vmem S8x16x128x256 .bf16) (harg12 : arg12.IsWhole) (arg13 : Memref sig .tc .vmem S8x1x128 .f32) (harg13 : arg13.IsWhole) (arg14 : Memref sig .tc .vmem S8x136x128 .f32) (harg14 : arg14.IsWhole) (h : k0_cond1 i = 1#1) (t : Fin k0_t1_loop.trips) :
    Gen.k0_t1_body (F := F) i arg3 harg3 arg4 harg4 arg5 harg5 arg6 harg6 arg7 harg7 arg8 harg8 arg9 harg9 arg10 harg10 arg11 harg11 arg12 harg12 arg13 harg13 arg14 harg14 h t () = (do
      valueHead arg7 arg12 harg12 (k0_off1 t) (k0_off1_inb i t h) (k0_off2 t) (k0_off2_inb i t h) (k0_off2_packedbf16 i t h)
      valueHead arg7 arg12 harg12 (k0_off3 t) (k0_off3_inb i t h) (k0_off4 t) (k0_off4_inb i t h) (k0_off4_packedbf16 i t h)
      valueHead arg7 arg12 harg12 (k0_off5 t) (k0_off5_inb i t h) (k0_off6 t) (k0_off6_inb i t h) (k0_off6_packedbf16 i t h)
      valueHead arg7 arg12 harg12 (k0_off7 t) (k0_off7_inb i t h) (k0_off8 t) (k0_off8_inb i t h) (k0_off8_packedbf16 i t h)
      valueHead arg7 arg12 harg12 (k0_off9 t) (k0_off9_inb i t h) (k0_off10 t) (k0_off10_inb i t h) (k0_off10_packedbf16 i t h)
      valueHead arg7 arg12 harg12 (k0_off11 t) (k0_off11_inb i t h) (k0_off12 t) (k0_off12_inb i t h) (k0_off12_packedbf16 i t h)
      valueHead arg7 arg12 harg12 (k0_off13 t) (k0_off13_inb i t h) (k0_off14 t) (k0_off14_inb i t h) (k0_off14_packedbf16 i t h)
      valueHead arg7 arg12 harg12 (k0_off15 t) (k0_off15_inb i t h) (k0_off16 t) (k0_off16_inb i t h) (k0_off16_packedbf16 i t h)) := by
  rfl

/-- A head's block of a key tile, turned. -/
def turnBlock (X7 : Vec F S4096x1024 .bf16) (n : Fin 16) (h : Fin 8) : FVec F S1x1x128x256 .bf16 :=
  turned (View.ld X7 (Rect.unit (s := S4096x1024) ![256 * n.val, 128 * h.val] S256x128.size (inb_key n h)))

/-- The values turned, head by head and tile by tile. -/
def turnedX (X7 : Vec F S4096x1024 .bf16) : Vec F S8x16x128x256 .bf16 := fun j =>
  turnBlock X7 (j 1) (j 0) (ix4 0 0 (j 2) (j 3))

abbrev rV (n : Fin 16) (h : Fin 8) : Rect S8x16x128x256 := Rect.unit (s := S8x16x128x256) ![h.val, n.val, 0, 0] S1x1x128x256.size (inb_val n h)

theorem val_overlay {α : Type} (n : Fin 16) (h : Fin 8) (X : S8x16x128x256.Idx → α) (G : S1x1x128x256.Idx → α) (j : S8x16x128x256.Idx) :
    (rV n h).overlay X G j = if (j 0).val = h.val ∧ (j 1).val = n.val then G (ix4 0 0 (j 2) (j 3)) else X j := by
  by_cases hj : (j 0).val = h.val ∧ (j 1).val = n.val
  · rw [if_pos hj]
    obtain ⟨h0, h1⟩ := hj
    refine overlay_in (rV n h) X G j _ (funext fun a => Fin.ext ?_)
    match a with
    | ⟨0, _⟩ => show h.val + 1 * 0 = (j 0).val; rw [h0]; rfl
    | ⟨1, _⟩ => show n.val + 1 * 0 = (j 1).val; rw [h1]; rfl
    | ⟨2, _⟩ => show 0 + 1 * (j 2).val = (j 2).val; omega
    | ⟨3, _⟩ => show 0 + 1 * (j 3).val = (j 3).val; omega
  · rw [if_neg hj]
    by_cases h0 : (j 0).val = h.val
    · have h1 : (j 1).val ≠ n.val := fun e => hj ⟨h0, e⟩
      refine overlay_out _ _ _ X G j 1 ?_
      show (j 1).val < n.val ∨ n.val + 1 ≤ (j 1).val
      omega
    · have h1 : (j 0).val ≠ h.val := h0
      refine overlay_out _ _ _ X G j 0 ?_
      show (j 0).val < h.val ∨ h.val + 1 ≤ (j 0).val
      omega

/-- What one trip leaves. -/
abbrev fillTrip (X7 : Vec F S4096x1024 .bf16) (n : Fin 16) (X : Vec F S8x16x128x256 .bf16) : Vec F S8x16x128x256 .bf16 :=
  (rV n 7).overlay ((rV n 6).overlay ((rV n 5).overlay ((rV n 4).overlay ((rV n 3).overlay ((rV n 2).overlay ((rV n 1).overlay ((rV n 0).overlay (X) (turnBlock X7 n 0)) (turnBlock X7 n 1)) (turnBlock X7 n 2)) (turnBlock X7 n 3)) (turnBlock X7 n 4)) (turnBlock X7 n 5)) (turnBlock X7 n 6)) (turnBlock X7 n 7)

theorem fillTrip_apply (X7 : Vec F S4096x1024 .bf16) (n : Fin 16) (X : Vec F S8x16x128x256 .bf16) (j : S8x16x128x256.Idx) :
    fillTrip X7 n X j = if (j 1).val = n.val then turnedX X7 j else X j := by
  unfold turnedX
  simp only [val_overlay]
  by_cases hn : (j 1).val = n.val
  · have hn' : j 1 = n := Fin.ext hn
    obtain ⟨h, hh⟩ : ∃ h : Fin 8, j 0 = h := ⟨_, rfl⟩
    rw [hn', hh]
    simp only [and_true, if_true]
    match h with
    | 0 => rfl
    | 1 => rfl
    | 2 => rfl
    | 3 => rfl
    | 4 => rfl
    | 5 => rfl
    | 6 => rfl
    | 7 => rfl
  · simp only [hn, and_false, if_false]

section
variable (c : Dev nD) (arg7 : Memref sig .tc .vmem S4096x1024 .bf16) (arg12 : Memref sig .tc .vmem S8x16x128x256 .bf16) (harg12 : arg12.IsWhole)
  (X7 : Vec F S4096x1024 .bf16)

/-- The values and their transpose, at what they read. -/
def heldV (X12 : Vec F S8x16x128x256 .bf16) : sProp 𝕄 :=
  iprop(owns (c : Thread nD τ) arg7 fullShare X7 ∗ owns (c : Thread nD τ) arg12 fullShare X12)

theorem valueHead_wp (X12 : Vec F S8x16x128x256 .bf16) (n : Fin 16) (h : Fin 8) (ok : Fin 2 → Nat) (hok : ∀ a, ok a + S256x128.size a ≤ S4096x1024.size a)
    (ov : Fin 4 → Nat) (hov : ∀ a, ov a + S1x1x128x256.size a ≤ S8x16x128x256.size a)
    (hp : (Rect.unit (s := S8x16x128x256) ov S1x1x128x256.size hov).PackedRows (EltTy.packing .bf16))
    (hk : ok = ![256 * n.val, 128 * h.val]) (hv : ov = ![h.val, n.val, 0, 0]) :
    heldV c arg7 arg12 X7 X12 ⊢ Wp c (valueHead arg7 arg12 harg12 ok hok ov hov hp) fun _ => heldV c arg7 arg12 X7
      ((rV n h).overlay X12 (turnBlock X7 n h)) := by
  subst hk hv
  unfold heldV valueHead turnBlock
  iintro ⟨H7, H12⟩
  iapply (Wp.load c arg7) $$ H7
  iintro H7
  iapply (Wp.load c arg12) $$ H12
  iintro H12
  iapply (Wp.storeLast c arg12) $$ H12
  iintro H12
  isplitl [H7]; · iexact H7
  iexact H12

theorem fill_at : ∀ t : Fin k0_t1_loop.trips, k0_off1 t = ![256 * t.val, 128 * 0] ∧ k0_off2 t = ![0, t.val, 0, 0] ∧ k0_off3 t = ![256 * t.val, 128 * 1] ∧ k0_off4 t = ![1, t.val, 0, 0] ∧ k0_off5 t = ![256 * t.val, 128 * 2] ∧ k0_off6 t = ![2, t.val, 0, 0] ∧ k0_off7 t = ![256 * t.val, 128 * 3] ∧ k0_off8 t = ![3, t.val, 0, 0] ∧ k0_off9 t = ![256 * t.val, 128 * 4] ∧ k0_off10 t = ![4, t.val, 0, 0] ∧ k0_off11 t = ![256 * t.val, 128 * 5] ∧ k0_off12 t = ![5, t.val, 0, 0] ∧ k0_off13 t = ![256 * t.val, 128 * 6] ∧ k0_off14 t = ![6, t.val, 0, 0] ∧ k0_off15 t = ![256 * t.val, 128 * 7] ∧ k0_off16 t = ![7, t.val, 0, 0] := by decide +kernel
theorem fill_trips : k0_t1_loop.trips = 16 := by decide +kernel

end

theorem fill_wp (c : Dev nD) (i : grid0.Coords) (arg3 : Memref sig .tc .vmem S1024x128 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x1024 .bf16) (harg6 : arg6.IsWhole) (arg7 : Memref sig .tc .vmem S4096x1024 .bf16) (harg7 : arg7.IsWhole) (arg8 : Memref sig .tc .vmem S1x32x16384 .f32) (harg8 : arg8.IsWhole) (arg9 : Memref sig .tc .vmem S128x1024 .bf16) (harg9 : arg9.IsWhole) (arg10 : Memref sig .tc .vmem S32x16384 .bf16) (harg10 : arg10.IsWhole) (arg11 : Memref sig .tc .vmem S128x1024 .bf16) (harg11 : arg11.IsWhole) (arg12 : Memref sig .tc .vmem S8x16x128x256 .bf16) (harg12 : arg12.IsWhole) (arg13 : Memref sig .tc .vmem S8x1x128 .f32) (harg13 : arg13.IsWhole) (arg14 : Memref sig .tc .vmem S8x136x128 .f32) (harg14 : arg14.IsWhole) (X7 : Vec F S4096x1024 .bf16) (X12 : Vec F S8x16x128x256 .bf16)
    (hX : (i 2).val ≠ 0 → X12 = turnedX X7) :
    heldV c arg7 arg12 X7 X12 ⊢ Wp c (fillValues i arg3 harg3 arg4 harg4 arg5 harg5 arg6 harg6 arg7 harg7 arg8 harg8 arg9 harg9 arg10 harg10 arg11 harg11 arg12 harg12 arg13 harg13 arg14 harg14) fun _ => heldV c arg7 arg12 X7 (turnedX X7) := by
  unfold fillValues
  by_cases h : k0_cond1 i = 1#1
  · rw [dif_pos h]
    have hstep : ∀ (t : Fin k0_t1_loop.trips) (X : Vec F S8x16x128x256 .bf16), heldV c arg7 arg12 X7 X ⊢
        Wp c (Gen.k0_t1_body (F := F) i arg3 harg3 arg4 harg4 arg5 harg5 arg6 harg6 arg7 harg7 arg8 harg8 arg9 harg9 arg10 harg10 arg11 harg11 arg12 harg12 arg13 harg13 arg14 harg14 h t ()) fun _ => heldV c arg7 arg12 X7 (fillTrip X7 (t.cast fill_trips) X) := by
      intro t X
      obtain ⟨ek0, ev0, ek1, ev1, ek2, ev2, ek3, ev3, ek4, ev4, ek5, ev5, ek6, ev6, ek7, ev7⟩ := fill_at t
      rw [fill_eq]
      refine Wp.seq c (valueHead_wp c arg7 arg12 harg12 X7 _ (t.cast fill_trips) 0 _ _ _ _ _ ek0 ev0) fun _ => ?_
      refine Wp.seq c (valueHead_wp c arg7 arg12 harg12 X7 _ (t.cast fill_trips) 1 _ _ _ _ _ ek1 ev1) fun _ => ?_
      refine Wp.seq c (valueHead_wp c arg7 arg12 harg12 X7 _ (t.cast fill_trips) 2 _ _ _ _ _ ek2 ev2) fun _ => ?_
      refine Wp.seq c (valueHead_wp c arg7 arg12 harg12 X7 _ (t.cast fill_trips) 3 _ _ _ _ _ ek3 ev3) fun _ => ?_
      refine Wp.seq c (valueHead_wp c arg7 arg12 harg12 X7 _ (t.cast fill_trips) 4 _ _ _ _ _ ek4 ev4) fun _ => ?_
      refine Wp.seq c (valueHead_wp c arg7 arg12 harg12 X7 _ (t.cast fill_trips) 5 _ _ _ _ _ ek5 ev5) fun _ => ?_
      refine Wp.seq c (valueHead_wp c arg7 arg12 harg12 X7 _ (t.cast fill_trips) 6 _ _ _ _ _ ek6 ev6) fun _ => ?_
      exact valueHead_wp c arg7 arg12 harg12 X7 _ (t.cast fill_trips) 7 _ _ _ _ _ ek7 ev7
    refine BIBase.Entails.trans ?_ (Scf.wp_for frame (wpE (defs₀ (F := F)) Variants.none c none) Set.univ k0_t1_loop.lb k0_t1_loop.ub k0_t1_loop.st (k0_t1_ok i h) () _
      (fun n _ => iprop(∃ X, ⌜∀ j : S8x16x128x256.Idx, (j 1).val < n → X j = turnedX X7 j⌝ ∗ heldV c arg7 arg12 X7 X)) ?_)
    iintro H
    isplitl [H]
    · iexists X12
      isplitr; · ipureintro; exact fun j hj => absurd hj (Nat.not_lt_zero _)
      iexact H
    · iintro %_ ⟨%X, %hXj, H⟩
      have e : X = turnedX X7 := funext fun j => hXj j (by
        have h1 : (j 1).val < 16 := (j 1).isLt
        have h2 := fill_trips
        change (j 1).val < k0_t1_loop.trips
        omega)
      subst e
      iexact H
    intro k acc
    iintro ⟨%X, %hXj, H⟩
    irevert H
    refine entails_wand ((hstep k X).trans (wp_mono _ _ _ fun _ => ?_))
    iintro H
    iexists (fillTrip X7 (k.cast fill_trips) X)
    isplitr
    · ipureintro
      intro j hj
      rw [fillTrip_apply]
      by_cases hk : (j 1).val = k.val
      · exact if_pos hk
      · refine (if_neg hk).trans ?_
        refine hXj j ?_
        omega
    iexact H
  · rw [dif_neg h]
    have h2 : (i 2).val ≠ 0 := fun e => h ((cond1_at i).2 e)
    rw [hX h2]
    unfold Wp
    rw [Prog.pure_eq_ret, wp_ret]
    iintro H
    imodintro
    iexact H

end Cert.KernelIdeal.Mla
-- ==== Proof.Mla.Beside.lean ====
/- The pieces beside the key tiles: the weight cast, the rope queries, the cleared sums and the outputs. -/
module

public import proofs.«01_k».proof.Proof.Mla.Rows
public import proofs.«01_k».proof.Proof.Mla.Pieces

@[expose] public section

set_option maxRecDepth 65536
set_option maxHeartbeats 0

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig Unit (Elt F) ℕ (UR sig nD τ) ℕ

/-- A store over a whole array leaves its payload. -/
theorem overlay_full {S : Shape} {α : Type} (off : Fin S.rank → Nat) (h : ∀ a, off a = 0) (inb : ∀ a, off a + S.size a ≤ S.size a) (X : S.Idx → α)
    (G : S.Idx → α) : (Rect.unit (s := S) off S.size inb).overlay X G = G := by
  funext j
  refine overlay_in (Rect.unit (s := S) off S.size inb) X G j j (funext fun a => Fin.ext ?_)
  show off a + 1 * (j a).val = (j a).val
  rw [h a]; omega

/-- The weight block cast. -/
def castX (X8 : Vec F S1x32x16384 .f32) : Vec F S32x16384 .bf16 :=
  truncf .bf16 (shapeCast S32x16384 (View.ld X8 (Rect.unit (s := S1x32x16384) ![0, 0, 0] S1x32x16384.size inb_S1x32x16384_S1x32x16384_0_0_0) : FVec F S1x32x16384 .f32)
    shapeCasts_S1x32x16384_S32x16384 : FVec F S32x16384 .f32) bitsLt_bf16_f32

theorem zero2 : ∀ a : Fin 2, (![0, 0] : Fin 2 → Nat) a = 0 := by decide
theorem zero3 : ∀ a : Fin 3, (![0, 0, 0] : Fin 3 → Nat) a = 0 := by decide

theorem cast_wp (c : Dev nD) (arg8 : Memref sig .tc .vmem S1x32x16384 .f32) (arg10 : Memref sig .tc .vmem S32x16384 .bf16) (harg10 : arg10.IsWhole)
    (X8 : Vec F S1x32x16384 .f32) (X10 : Vec F S32x16384 .bf16) :
    iprop(owns (c : Thread nD τ) arg8 fullShare X8 ∗ owns (c : Thread nD τ) arg10 fullShare X10) ⊢ Wp c (castBlock arg8 arg10 harg10)
      fun _ => iprop(owns (c : Thread nD τ) arg8 fullShare X8 ∗ owns (c : Thread nD τ) arg10 fullShare (castX X8)) := by
  unfold castBlock
  iintro ⟨H8, H10⟩
  iapply (Wp.load c arg8) $$ H8
  iintro H8
  iapply (Wp.load c arg10) $$ H10
  iintro H10
  iapply (Wp.storeLast c arg10) $$ H10
  iintro H10
  isplitl [H8]; · iexact H8
  rw [show castX X8 = _ from (overlay_full (S := S32x16384) ![0, 0] zero2 inb_S32x16384_S32x16384_0_0 X10 (castX X8)).symm]
  iexact H10

/-- The maxima and the sums before the first tile. -/
def clear : Sums F :=
  (shapeCast S8x1x128 (broadcast S8x1x128 (Scalar.ofBits .f32 0xF149F2CA#32 : F .f32)) shapeCasts_S8x1x128_S8x1x128,
   shapeCast S8x136x128 (broadcast S8x136x128 (Scalar.ofBits .f32 0x00000000#32 : F .f32)) shapeCasts_S8x136x128_S8x136x128)

theorem clear_wp (c : Dev nD) (arg13 : Memref sig .tc .vmem S8x1x128 .f32) (arg14 : Memref sig .tc .vmem S8x136x128 .f32) (s : Sums F) :
    iprop(owns (c : Thread nD τ) arg13 fullShare s.1 ∗ owns (c : Thread nD τ) arg14 fullShare s.2) ⊢ Wp c (clearSums arg13 arg14)
      fun _ => iprop(owns (c : Thread nD τ) arg13 fullShare (clear (F := F)).1 ∗ owns (c : Thread nD τ) arg14 fullShare (clear (F := F)).2) := by
  unfold clearSums
  iintro ⟨H13, H14⟩
  iapply (Wp.load c arg13) $$ H13
  iintro H13
  iapply (Wp.store c arg13) $$ H13
  iintro H13
  iapply (Wp.load c arg14) $$ H14
  iintro H14
  iapply (Wp.storeLast c arg14) $$ H14
  iintro H14
  rw [show (clear (F := F)).1 = _ from (overlay_full (S := S8x1x128) ![0, 0, 0] zero3 inb_S8x1x128_S8x1x128_0_0_0 s.1 (clear (F := F)).1).symm,
    show (clear (F := F)).2 = _ from (overlay_full (S := S8x136x128) ![0, 0, 0] zero3 inb_S8x136x128_S8x136x128_0_0_0 s.2 (clear (F := F)).2).symm]
  isplitl [H13]; · iexact H13
  iexact H14

/-! ## The rope queries -/

theorem inb_pair : ∀ h : Fin 8, ∀ a, (![128 * (h.val / 2), 0] : Fin 2 → Nat) a + S128x128.size a ≤ S512x128.size a := by decide +kernel

/-- A head's rope queries. -/
def ropeBlock (X4 : Vec F S512x128 .bf16) (h : Fin 8) : FVec F S128x128 .bf16 :=
  shapeCast S128x128 (select (cmpi .eq featHalf (broadcast S128x128 (BitVec.ofNat 32 (h.val % 2))))
    (shapeCast S128x128 (View.ld X4 (Rect.unit (s := S512x128) ![128 * (h.val / 2), 0] S128x128.size (inb_pair h)) : FVec F S128x128 .bf16) shapeCasts_S128x128_S128x128 : FVec F S128x128 .bf16)
      (broadcast S128x128 (Scalar.ofBits .bf16 0x0000#16 : F .bf16))) shapeCasts_S128x128_S128x128

theorem ropeHead_wp (c : Dev nD) (arg4 : Memref sig .tc .vmem S512x128 .bf16) (arg11 : Memref sig .tc .vmem S128x1024 .bf16) (harg11 : arg11.IsWhole)
    (X4 : Vec F S512x128 .bf16) (X11 : Vec F S128x1024 .bf16) (h : Fin 8)
    (oq : Fin 2 → Nat) (hoq : ∀ a, oq a + S128x128.size a ≤ S512x128.size a)
    (o : Fin 2 → Nat) (ho : ∀ a, o a + S128x128.size a ≤ S128x1024.size a)
    (hp : (Rect.unit (s := S128x1024) o S128x128.size ho).PackedRows (EltTy.packing .bf16)) (half : BitVec 32)
    (eq : oq = ![128 * (h.val / 2), 0]) (e : o = ![0, 128 * h.val]) (eh : half = BitVec.ofNat 32 (h.val % 2)) :
    iprop(owns (c : Thread nD τ) arg4 fullShare X4 ∗ owns (c : Thread nD τ) arg11 fullShare X11) ⊢ Wp c (ropeHead arg4 arg11 harg11 oq hoq o ho hp half)
      fun _ => iprop(owns (c : Thread nD τ) arg4 fullShare X4 ∗ owns (c : Thread nD τ) arg11 fullShare ((rCol h).overlay X11 (ropeBlock X4 h))) := by
  subst eq e eh
  unfold ropeHead ropeBlock
  iintro ⟨H4, H11⟩
  iapply (Wp.load c arg4) $$ H4
  iintro H4
  iapply (Wp.load c arg11) $$ H11
  iintro H11
  iapply (Wp.storeLast c arg11) $$ H11
  iintro H11
  isplitl [H4]; · iexact H4
  iexact H11

theorem rope_wp (c : Dev nD) (arg4 : Memref sig .tc .vmem S512x128 .bf16) (arg11 : Memref sig .tc .vmem S128x1024 .bf16) (harg11 : arg11.IsWhole)
    (X4 : Vec F S512x128 .bf16) (X11 : Vec F S128x1024 .bf16) :
    iprop(owns (c : Thread nD τ) arg4 fullShare X4 ∗ owns (c : Thread nD τ) arg11 fullShare X11) ⊢ Wp c (ropeFill arg4 arg11 harg11)
      fun _ => iprop(owns (c : Thread nD τ) arg4 fullShare X4 ∗ owns (c : Thread nD τ) arg11 fullShare (cols (ropeBlock X4))) := by
  rw [← cols_eq (ropeBlock X4) X11]
  unfold ropeFill
  refine Wp.seq c (ropeHead_wp c arg4 arg11 harg11 X4 _ 0 _ _ _ _ _ _ rfl rfl rfl) fun _ => ?_
  refine Wp.seq c (ropeHead_wp c arg4 arg11 harg11 X4 _ 1 _ _ _ _ _ _ rfl rfl rfl) fun _ => ?_
  refine Wp.seq c (ropeHead_wp c arg4 arg11 harg11 X4 _ 2 _ _ _ _ _ _ rfl rfl rfl) fun _ => ?_
  refine Wp.seq c (ropeHead_wp c arg4 arg11 harg11 X4 _ 3 _ _ _ _ _ _ rfl rfl rfl) fun _ => ?_
  refine Wp.seq c (ropeHead_wp c arg4 arg11 harg11 X4 _ 4 _ _ _ _ _ _ rfl rfl rfl) fun _ => ?_
  refine Wp.seq c (ropeHead_wp c arg4 arg11 harg11 X4 _ 5 _ _ _ _ _ _ rfl rfl rfl) fun _ => ?_
  refine Wp.seq c (ropeHead_wp c arg4 arg11 harg11 X4 _ 6 _ _ _ _ _ _ rfl rfl rfl) fun _ => ?_
  exact ropeHead_wp c arg4 arg11 harg11 X4 _ 7 _ _ _ _ _ _ rfl rfl rfl

/-! ## The outputs -/

/-- A head's result, from its sums. -/
def outBlock (s : Sums F) (h : Fin 8) : FVec F S128x128 .bf16 :=
  truncf .bf16 (transpose S128x128 [1, 0] (divf (shapeCast S128x128 (nRow s h) shapeCasts_S1x128x128_S128x128 : FVec F S128x128 .f32)
      (broadcastTo S128x128 (shapeCast S1x128 (multiReduction .add [0] S128 (shapeCast S8x128 (dRow s h) shapeCasts_S1x8x128_S8x128 : FVec F S8x128 .f32)
        0x00000000#32 reduces_S8x128_S128 (.inl rfl) rfl) shapeCasts_S128_S1x128) broadcasts_S1x128_S128x128))
      transposes_S128x128_p1_0_S128x128) bitsLt_bf16_f32

theorem outHead_wp (c : Dev nD) (arg9 : Memref sig .tc .vmem S128x1024 .bf16) (harg9 : arg9.IsWhole) (arg14 : Memref sig .tc .vmem S8x136x128 .f32)
    (s : Sums F) (X9 : Vec F S128x1024 .bf16) (h : Fin 8)
    (o : Fin 2 → Nat) (ho : ∀ a, o a + S128x128.size a ≤ S128x1024.size a)
    (hp : (Rect.unit (s := S128x1024) o S128x128.size ho).PackedRows (EltTy.packing .bf16)) (e : o = ![0, 128 * h.val]) :
    iprop(owns (c : Thread nD τ) arg14 fullShare s.2 ∗ owns (c : Thread nD τ) arg9 fullShare X9) ⊢ Wp c (outHead arg9 harg9 arg14 h o ho hp)
      fun _ => iprop(owns (c : Thread nD τ) arg14 fullShare s.2 ∗ owns (c : Thread nD τ) arg9 fullShare ((rCol h).overlay X9 (outBlock s h))) := by
  subst e
  unfold outHead outBlock
  iintro ⟨H14, H9⟩
  iapply (Wp.load c arg14) $$ H14
  iintro H14
  iapply (Wp.load c arg14) $$ H14
  iintro H14
  iapply (Wp.load c arg9) $$ H9
  iintro H9
  iapply (Wp.storeLast c arg9) $$ H9
  iintro H9
  isplitl [H14]; · iexact H14
  iexact H9

theorem outs_wp (c : Dev nD) (arg9 : Memref sig .tc .vmem S128x1024 .bf16) (harg9 : arg9.IsWhole) (arg14 : Memref sig .tc .vmem S8x136x128 .f32)
    (s : Sums F) (X9 : Vec F S128x1024 .bf16) :
    iprop(owns (c : Thread nD τ) arg14 fullShare s.2 ∗ owns (c : Thread nD τ) arg9 fullShare X9) ⊢ Wp c (outs arg9 harg9 arg14)
      fun _ => iprop(owns (c : Thread nD τ) arg14 fullShare s.2 ∗ owns (c : Thread nD τ) arg9 fullShare (cols (outBlock s))) := by
  rw [← cols_eq (outBlock s) X9]
  unfold outs
  refine Wp.seq c (outHead_wp c arg9 harg9 arg14 s _ 0 _ _ _ rfl) fun _ => ?_
  refine Wp.seq c (outHead_wp c arg9 harg9 arg14 s _ 1 _ _ _ rfl) fun _ => ?_
  refine Wp.seq c (outHead_wp c arg9 harg9 arg14 s _ 2 _ _ _ rfl) fun _ => ?_
  refine Wp.seq c (outHead_wp c arg9 harg9 arg14 s _ 3 _ _ _ rfl) fun _ => ?_
  refine Wp.seq c (outHead_wp c arg9 harg9 arg14 s _ 4 _ _ _ rfl) fun _ => ?_
  refine Wp.seq c (outHead_wp c arg9 harg9 arg14 s _ 5 _ _ _ rfl) fun _ => ?_
  refine Wp.seq c (outHead_wp c arg9 harg9 arg14 s _ 6 _ _ _ rfl) fun _ => ?_
  exact outHead_wp c arg9 harg9 arg14 s _ 7 _ _ _ rfl

end Cert.KernelIdeal.Mla
-- ==== Proof.Mla.Point.lean ====
/- The body of a grid point: what it reads, and what it leaves. -/
module

public import proofs.«01_k».proof.Proof.Mla.Tiles
public import proofs.«01_k».proof.Proof.Mla.Fill
public import proofs.«01_k».proof.Proof.Mla.Beside

@[expose] public section

set_option maxRecDepth 65536
set_option maxHeartbeats 0

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Facts]

local notation "𝕄" => MT nD τ sig Unit (Elt F) ℕ (UR sig nD τ) ℕ

/-- A program at the head of another, in the proof of the whole. -/
theorem Wp.step (c : Dev nD) {α β : Type} {p : Prog (TpuEff nD τ sig (Elt F) Λ₀ .tc) α} {k : α → Prog (TpuEff nD τ sig (Elt F) Λ₀ .tc) β}
    {P : sProp 𝕄} {R : α → sProp 𝕄} {Q : β → sProp 𝕄} (hp : P ⊢ Wp c p R) : P ⊢ iprop((∀ x, R x -∗ Wp c (k x) Q) -∗ Wp c (p >>= k) Q) := by
  unfold Wp at hp ⊢
  rw [wp_bind]
  exact hp.trans (wp_wand _ _ _)

theorem Wp.stepLast (c : Dev nD) {α : Type} {p : Prog (TpuEff nD τ sig (Elt F) Λ₀ .tc) α}
    {P : sProp 𝕄} {R : α → sProp 𝕄} {Q : α → sProp 𝕄} (hp : P ⊢ Wp c p R) : P ⊢ iprop((∀ x, R x -∗ Q x) -∗ Wp c p Q) := by
  unfold Wp at hp ⊢
  exact hp.trans (wp_wand _ _ _)

/-- The maxima and the sums a grid point ends with. -/
def endSums (i : grid0.Coords) (X3 : Vec F S1024x128 .bf16) (X4 : Vec F S512x128 .bf16) (X5 : Vec F S4096x128 .f32) (X6 : Vec F S4096x1024 .bf16)
    (X7 : Vec F S4096x1024 .bf16) : Sums F :=
  allTiles i X3 X5 X6 (cols (ropeBlock X4)) (turnedX X7) clear

/-- The attention block a grid point writes. -/
def outX (i : grid0.Coords) (X3 : Vec F S1024x128 .bf16) (X4 : Vec F S512x128 .bf16) (X5 : Vec F S4096x128 .f32) (X6 : Vec F S4096x1024 .bf16)
    (X7 : Vec F S4096x1024 .bf16) : Vec F S128x1024 .bf16 :=
  cols (outBlock (endSums i X3 X4 X5 X6 X7))

theorem body_wp (c : Dev nD) (i : grid0.Coords) (arg3 : Memref sig .tc .vmem S1024x128 .bf16) (harg3 : arg3.IsWhole) (arg4 : Memref sig .tc .vmem S512x128 .bf16) (harg4 : arg4.IsWhole) (arg5 : Memref sig .tc .vmem S4096x128 .f32) (harg5 : arg5.IsWhole) (arg6 : Memref sig .tc .vmem S4096x1024 .bf16) (harg6 : arg6.IsWhole) (arg7 : Memref sig .tc .vmem S4096x1024 .bf16) (harg7 : arg7.IsWhole) (arg8 : Memref sig .tc .vmem S1x32x16384 .f32) (harg8 : arg8.IsWhole) (arg9 : Memref sig .tc .vmem S128x1024 .bf16) (harg9 : arg9.IsWhole) (arg10 : Memref sig .tc .vmem S32x16384 .bf16) (harg10 : arg10.IsWhole) (arg11 : Memref sig .tc .vmem S128x1024 .bf16) (harg11 : arg11.IsWhole) (arg12 : Memref sig .tc .vmem S8x16x128x256 .bf16) (harg12 : arg12.IsWhole) (arg13 : Memref sig .tc .vmem S8x1x128 .f32) (harg13 : arg13.IsWhole) (arg14 : Memref sig .tc .vmem S8x136x128 .f32) (harg14 : arg14.IsWhole) (X3 : Vec F S1024x128 .bf16) (X4 : Vec F S512x128 .bf16) (X5 : Vec F S4096x128 .f32) (X6 : Vec F S4096x1024 .bf16)
    (X7 : Vec F S4096x1024 .bf16) (X8 : Vec F S1x32x16384 .f32) (X9 : Vec F S128x1024 .bf16) (X10 : Vec F S32x16384 .bf16)
    (X11 : Vec F S128x1024 .bf16) (X12 : Vec F S8x16x128x256 .bf16) (s : Sums F) (hX : (i 2).val ≠ 0 → X12 = turnedX X7) (Q : Unit → sProp 𝕄) :
    iprop(owns (c : Thread nD τ) arg3 fullShare X3 ∗ owns (c : Thread nD τ) arg4 fullShare X4 ∗ owns (c : Thread nD τ) arg5 fullShare X5
      ∗ owns (c : Thread nD τ) arg6 fullShare X6 ∗ owns (c : Thread nD τ) arg7 fullShare X7 ∗ owns (c : Thread nD τ) arg8 fullShare X8
      ∗ owns (c : Thread nD τ) arg9 fullShare X9 ∗ owns (c : Thread nD τ) arg10 fullShare X10 ∗ owns (c : Thread nD τ) arg11 fullShare X11
      ∗ owns (c : Thread nD τ) arg12 fullShare X12 ∗ owns (c : Thread nD τ) arg13 fullShare s.1 ∗ owns (c : Thread nD τ) arg14 fullShare s.2
      ∗ (iprop(owns (c : Thread nD τ) arg3 fullShare X3 ∗ owns (c : Thread nD τ) arg4 fullShare X4 ∗ owns (c : Thread nD τ) arg5 fullShare X5
          ∗ owns (c : Thread nD τ) arg6 fullShare X6 ∗ owns (c : Thread nD τ) arg7 fullShare X7 ∗ owns (c : Thread nD τ) arg8 fullShare X8
          ∗ owns (c : Thread nD τ) arg9 fullShare (outX i X3 X4 X5 X6 X7) ∗ owns (c : Thread nD τ) arg10 fullShare (castX X8)
          ∗ owns (c : Thread nD τ) arg11 fullShare (cols (ropeBlock X4)) ∗ owns (c : Thread nD τ) arg12 fullShare (turnedX X7)
          ∗ owns (c : Thread nD τ) arg13 fullShare (endSums i X3 X4 X5 X6 X7).1 ∗ owns (c : Thread nD τ) arg14 fullShare (endSums i X3 X4 X5 X6 X7).2) -∗ Q ()))
      ⊢ Wp c (cc0__mla_kernel (F := F) i arg3 harg3 arg4 harg4 arg5 harg5 arg6 harg6 arg7 harg7 arg8 harg8 arg9 harg9 arg10 harg10 arg11 harg11 arg12 harg12 arg13 harg13 arg14 harg14) Q := by
  rw [body_eq]
  unfold rest
  iintro ⟨H3, H4, H5, H6, H7, H8, H9, H10, H11, H12, H13, H14, HQ⟩
  iapply (Wp.step c (cast_wp c arg8 arg10 harg10 X8 X10)) $$ [H8 H10]
  · isplitl [H8]; · iexact H8
    iexact H10
  iintro %_ ⟨H8, H10⟩
  iapply (Wp.step c (fill_wp c i arg3 harg3 arg4 harg4 arg5 harg5 arg6 harg6 arg7 harg7 arg8 harg8 arg9 harg9 arg10 harg10 arg11 harg11 arg12 harg12 arg13 harg13 arg14 harg14 X7 X12 hX)) $$ [H7 H12]
  · unfold heldV
    isplitl [H7]; · iexact H7
    iexact H12
  unfold heldV
  iintro %_ ⟨H7, H12⟩
  iapply (Wp.step c (rope_wp c arg4 arg11 harg11 X4 X11)) $$ [H4 H11]
  · isplitl [H4]; · iexact H4
    iexact H11
  iintro %_ ⟨H4, H11⟩
  iapply (Wp.step c (clear_wp c arg13 arg14 s)) $$ [H13 H14]
  · isplitl [H13]; · iexact H13
    iexact H14
  iintro %_ ⟨H13, H14⟩
  iapply (Wp.step c (quads_wp c i arg3 harg3 arg4 harg4 arg5 harg5 arg6 harg6 arg7 harg7 arg8 harg8 arg9 harg9 arg10 harg10 arg11 harg11 arg12 harg12 arg13 harg13 arg14 harg14 X3 X5 X6 (cols (ropeBlock X4)) (turnedX X7) clear)) $$ [H3 H5 H6 H11 H12 H13 H14]
  · unfold held
    isplitl [H3]; · iexact H3
    isplitl [H5]; · iexact H5
    isplitl [H6]; · iexact H6
    isplitl [H11]; · iexact H11
    isplitl [H12]; · iexact H12
    isplitl [H13]; · iexact H13
    iexact H14
  iintro %_ H
  iapply (Wp.step c (two_wp c i arg3 harg3 arg4 harg4 arg5 harg5 arg6 harg6 arg7 harg7 arg8 harg8 arg9 harg9 arg10 harg10 arg11 harg11 arg12 harg12 arg13 harg13 arg14 harg14 X3 X5 X6 (cols (ropeBlock X4)) (turnedX X7) clear)) $$ H
  iintro %_ H
  iapply (Wp.step c (one_wp c i arg3 harg3 arg4 harg4 arg5 harg5 arg6 harg6 arg7 harg7 arg8 harg8 arg9 harg9 arg10 harg10 arg11 harg11 arg12 harg12 arg13 harg13 arg14 harg14 X3 X5 X6 (cols (ropeBlock X4)) (turnedX X7) clear)) $$ H
  iintro %_ H
  iapply (Wp.step c (last_wp c i arg3 harg3 arg4 harg4 arg5 harg5 arg6 harg6 arg7 harg7 arg8 harg8 arg9 harg9 arg10 harg10 arg11 harg11 arg12 harg12 arg13 harg13 arg14 harg14 X3 X5 X6 (cols (ropeBlock X4)) (turnedX X7) clear)) $$ H
  unfold held
  iintro %_ ⟨H3, H5, H6, H11, H12, H13, H14⟩
  iapply (Wp.stepLast c (outs_wp c arg9 harg9 arg14 (endSums i X3 X4 X5 X6 X7) X9)) $$ [H14 H9]
  · isplitl [H14]
    · unfold endSums
      iexact H14
    iexact H9
  iintro %_ ⟨H14, H9⟩
  iapply HQ
  isplitl [H3]; · iexact H3
  isplitl [H4]; · iexact H4
  isplitl [H5]; · iexact H5
  isplitl [H6]; · iexact H6
  isplitl [H7]; · iexact H7
  isplitl [H8]; · iexact H8
  isplitl [H9]
  · unfold outX
    iexact H9
  isplitl [H10]; · iexact H10
  isplitl [H11]; · iexact H11
  isplitl [H12]; · iexact H12
  isplitl [H13]
  · unfold endSums
    iexact H13
  iexact H14

end Cert.KernelIdeal.Mla
-- ==== Proof.Mla.Frame.lean ====
/- The launch of the attention call: the proof data of its pipeline, the body at every grid point, the run and the frame. -/
module

public import proofs.«01_k».proof.Proof.Mla.Point
public import Idealize.ShloMosaic.Lib.Claim

@[expose] public section

set_option maxRecDepth 65536
set_option maxHeartbeats 0

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

abbrev ms0 (t : Fin cfg0.N) : Memref sig .tc .vmem S1024x128 .bf16 := win0_0.stage (cfg0.slots t 0)
abbrev ms1 (t : Fin cfg0.N) : Memref sig .tc .vmem S512x128 .bf16 := win0_1.stage (cfg0.slots t 1)
abbrev ms2 (t : Fin cfg0.N) : Memref sig .tc .vmem S4096x128 .f32 := win0_2.stage (cfg0.slots t 2)
abbrev ms3 (t : Fin cfg0.N) : Memref sig .tc .vmem S4096x1024 .bf16 := win0_3.stage (cfg0.slots t 3)
abbrev ms4 (t : Fin cfg0.N) : Memref sig .tc .vmem S4096x1024 .bf16 := win0_4.stage (cfg0.slots t 4)
abbrev ms5 (t : Fin cfg0.N) : Memref sig .tc .vmem S1x32x16384 .f32 := win0_5.stage (cfg0.slots t 5)
abbrev ms6 (t : Fin cfg0.N) : Memref sig .tc .vmem S128x1024 .bf16 := win0_6.stage (cfg0.slots t 6)
abbrev ms7 (t : Fin cfg0.N) : Memref sig .tc .vmem S32x16384 .bf16 := win0_7.stage (cfg0.slots t 7)
abbrev sc0 : Memref sig .tc .vmem S128x1024 .bf16 := Memref.whole cc0_scratch0
abbrev sc1 : Memref sig .tc .vmem S8x16x128x256 .bf16 := Memref.whole cc0_scratch1
abbrev sc2 : Memref sig .tc .vmem S8x1x128 .f32 := Memref.whole cc0_scratch2
abbrev sc3 : Memref sig .tc .vmem S8x136x128 .f32 := Memref.whole cc0_scratch3
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl

theorem phiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## What a point leaves -/

/-- The values' block is that of the point before within one group of heads. -/
theorem index4 : ∀ t : Fin 128, t.val % 32 ≠ 0 → win0_4.index (⟨t.val - 1, by omega⟩ : Fin 128) 0 = win0_4.index t 0 ∧ win0_4.index (⟨t.val - 1, by omega⟩ : Fin 128) 1 = win0_4.index t 1 := by decide +kernel
theorem coord2 : ∀ t : Fin 128, ((grid0.coords t) 2).val = t.val % 32 := by decide +kernel

theorem iblk4_eq (c : Dev nD) (s t : Fin cfg0.N) (h : win0_4.index s 0 = win0_4.index t 0 ∧ win0_4.index s 1 = win0_4.index t 1) : (iblk m c 4 s : Vec F S4096x1024 .bf16) = iblk m c 4 t := by
  funext y
  unfold iblk
  refine congrArg (V m c (Pipeline.arrRef spec0 4)) (funext fun a => Fin.ext ?_)
  match a with
  | ⟨0, _⟩ => show win0_4.index s 0 * 4096 + 1 * (y 0).val = win0_4.index t 0 * 4096 + 1 * (y 0).val; rw [h.1]
  | ⟨1, _⟩ => show win0_4.index s 1 * 1024 + 1 * (y 1).val = win0_4.index t 1 * 1024 + 1 * (y 1).val; rw [h.2]

/-- The attention block of a point, from the blocks of its windows. -/
def attn (c : Dev nD) (t : Fin cfg0.N) : Vec F S128x1024 .bf16 :=
  outX (grid0.coords t) (iblk m c 0 t) (iblk m c 1 t) (iblk m c 2 t) (iblk m c 3 t) (iblk m c 4 t)

/-- The cast block of a point. -/
def castW (c : Dev nD) (t : Fin cfg0.N) : Vec F S32x16384 .bf16 := castX (iblk m c 5 t)

/-- Between points: the turned values of the point before; the other scratch at anything. -/
def phi (c : Dev nD) : (n : ℕ) → n ≤ cfg0.N → sProp 𝕄
  | 0, _ => Pipeline.ΦA spec0 c
  | n + 1, hn => iprop(iprop((∃ d, owns (c : Thread nD τ) sc0 fullShare d) ∗ owns (c : Thread nD τ) sc1 fullShare (turnedX (iblk m c 4 ⟨n, hn⟩))
          ∗ (∃ d, owns (c : Thread nD τ) sc2 fullShare d) ∗ (∃ d, owns (c : Thread nD τ) sc3 fullShare d)) ∗ (∃ r, prngReg c r))

theorem phi_zero (c : Dev nD) (n : ℕ) (h : n ≤ cfg0.N) (hz : n = 0) : phi m c n h = Pipeline.ΦA spec0 c := by
  subst hz; rfl

theorem phi_pos (c : Dev nD) (n : ℕ) (h : n ≤ cfg0.N) (hz : n ≠ 0) :
    phi m c n h = iprop(iprop((∃ d, owns (c : Thread nD τ) sc0 fullShare d) ∗ owns (c : Thread nD τ) sc1 fullShare (turnedX (iblk m c 4 ⟨n - 1, by omega⟩))
          ∗ (∃ d, owns (c : Thread nD τ) sc2 fullShare d) ∗ (∃ d, owns (c : Thread nD τ) sc3 fullShare d)) ∗ (∃ r, prngReg c r)) := by
  cases n with
  | zero => exact absurd rfl hz
  | succ n => rfl

/-- Before a point the turned values are the point's own, unless it begins a group of heads. -/
theorem phi_open (c : Dev nD) (t : Fin cfg0.N) : phi m c t.val (Nat.le_of_lt t.isLt) ⊢
    iprop(iprop((∃ d, owns (c : Thread nD τ) sc0 fullShare d) ∗ (∃ d, ⌜((grid0.coords t) 2).val ≠ 0 → d = turnedX (iblk m c 4 t)⌝ ∗ owns (c : Thread nD τ) sc1 fullShare d)
          ∗ (∃ d, owns (c : Thread nD τ) sc2 fullShare d) ∗ (∃ d, owns (c : Thread nD τ) sc3 fullShare d)) ∗ (∃ r, prngReg c r)) := by
  by_cases hz : t.val = 0
  · rw [phi_zero m c _ _ hz, phiA_eq]
    iintro ⟨⟨H0, ⟨%d, H1⟩, H2, H3⟩, Hg⟩
    isplitl [H0 H1 H2 H3]
    · isplitl [H0]; · iexact H0
      isplitl [H1]
      · iexists d
        isplitr
        · ipureintro
          intro h
          exact absurd (by rw [coord2 t, hz]) h
        iexact H1
      isplitl [H2]; · iexact H2
      iexact H3
    iexact Hg
  · rw [phi_pos m c _ _ hz]
    iintro ⟨⟨H0, H1, H2, H3⟩, Hg⟩
    isplitl [H0 H1 H2 H3]
    · isplitl [H0]; · iexact H0
      isplitl [H1]
      · iexists _
        isplitr
        swap; · iexact H1
        ipureintro
        intro h
        rw [coord2 t] at h
        exact congrArg turnedX (iblk4_eq m c _ t (index4 t h))
      isplitl [H2]; · iexact H2
      iexact H3
    iexact Hg

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => attn m c t
    | ⟨7, _⟩ => castW m c t
  Φ t := phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem phi_castSucc (c : Dev nD) (t : Fin cfg0.N) :
    (dats m 0 c).Φ t.castSucc = phi m c t.val (Nat.le_of_lt t.isLt) := by
  dsimp only [dats]; exact Pipeline.Dat.Φ_castSucc (phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = attn m c t := by dsimp only [dats]
theorem after7 (c : Dev nD) (t : Fin cfg0.N) : (dats m 0 c).after 7 t = castW m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = phi m c (t.val + 1) t.isLt from rfl, phi_pos m c _ _ (Nat.succ_ne_zero _), phi_castSucc m c t]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HP := (phi_open m c t) $$ HP
  icases HP with ⟨⟨⟨%e0, S0⟩, ⟨%e1, %he, S1⟩, ⟨%e2, S2⟩, ⟨%e3, S3⟩⟩, Hg⟩
  iapply (body_wp c (grid0.coords t) _ _ _ _ _ _ _ _ _ _ _ _ _ _ _ _ _ _ _ _ _ _ _ _ (iblk m c 0 t) (iblk m c 1 t) (iblk m c 2 t) (iblk m c 3 t) (iblk m c 4 t) (iblk m c 5 t)
    ((dats m 0 c).before 6 t d6) ((dats m 0 c).before 7 t d7) e0 e1 (e2, e3) he _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  iintro ⟨H0, H1, H2, H3, H4, H5, H6, H7, S0, S1, S2, S3⟩
  isplitl [S0 S1 S2 S3 Hg]
  · isplitl [S0 S1 S2 S3]
    · isplitl [S0]; · iexists _; iexact S0
      isplitl [S1]; · iexact S1
      isplitl [S2]; · iexists _; iexact S2
      iexists _; iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold attn
    iexact H6
  unfold castW
  iexact H7

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = phi m c 0 (Nat.zero_le _) from rfl, phi_zero m c 0 _ rfl]

theorem hout (c : Dev nD) : (dats m 0 c).Φ (Fin.last cfg0.N) ⊢ Pipeline.ΦA spec0 c := by
  rw [show (dats m 0 c).Φ (Fin.last cfg0.N) = phi m c cfg0.N (Nat.le_refl _) from rfl,
    phi_pos m c _ _ (by rw [show cfg0.N = 128 from N_0]; decide), phiA_eq]
  iintro ⟨⟨H0, H1, H2, H3⟩, Hg⟩
  isplitl [H0 H1 H2 H3]
  · isplitl [H0]; · iexact H0
    isplitl [H1]; · iexists _; iexact H1
    isplitl [H2]; · iexact H2
    iexact H3
  iexact Hg

set_option backward.isDefEq.respectTransparency.types false in
/-- The run: every execution ends, with the arrays at what the proof data says and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame, for any float values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.KernelIdeal.Mla
-- ==== Proof.Mla.Bits.lean ====
/- The frames of the attention call, for the bits and for the extended reals, from its one run. -/
module

public import proofs.«01_k».proof.Proof.Mla.Frame
public import proofs.«01_k».proof.Defs

@[expose] public section

set_option maxRecDepth 65536
set_option maxHeartbeats 0

noncomputable section

open Idealize Idealize.ShloMosaic
open Idealize.SL Idealize.SL.Sem

namespace Cert.KernelIdeal.Mla

theorem frame_ideal : Cert.quiescent_KernelIdeal := fun m ρ _ => frame_any (F := Ideal) m ρ

section
variable [Cert.Kernel.Facts] [Cert.KernelIdeal.Facts]
variable {F : FTy → Type} [FloatOps F]

/-- The two programs' bodies are one text. -/
theorem body_same : Cert.Kernel.cc0__mla_kernel (F := F) = Cert.KernelIdeal.cc0__mla_kernel (F := F) := rfl

theorem defs₀_same : Cert.Kernel.defs₀ (F := F) = Cert.KernelIdeal.defs₀ (F := F) := by
  unfold Cert.Kernel.defs₀ Cert.KernelIdeal.defs₀
  refine congrArg Defs.onTc ?_
  funext l x
  match l, x with
  | ⟨0, _⟩, (t, s) => rfl

theorem defs_same : Cert.Kernel.defs (F := F) = Cert.KernelIdeal.defs (F := F) := by
  unfold Cert.Kernel.defs Cert.KernelIdeal.defs
  exact congrArg (Pipeline.defs _) defs₀_same

theorem main_same : Cert.Kernel.main (F := F) = Cert.KernelIdeal.main (F := F) := rfl
end

theorem frame_kernel [Cert.Kernel.Facts] : Cert.quiescent_Kernel := by
  intro m ρ _
  have h := frame_any (F := Bits) m ρ
  refine (congrArg (fun d => θ_run d (onTc (τ := Cert.Kernel.τ) (Cert.Kernel.main (F := Bits))) ⟨m, fun _ => 0, ρ⟩ _) (defs_same (F := Bits))).mpr ?_
  refine (congrArg (fun p => θ_run (Cert.KernelIdeal.defs (F := Bits)) (onTc (τ := Cert.Kernel.τ) p) ⟨m, fun _ => 0, ρ⟩ _) (main_same (F := Bits))).mpr ?_
  exact h

end Cert.KernelIdeal.Mla
-- ==== Proof.Mla.Online.lean ====
/- The running softmax over the extended reals: sums scaled by one maximum, brought to another, and their quotient. -/
module

public import Idealize.ShloMosaic.PureOps.Ideal

@[expose] public section

noncomputable section

open Idealize.ShloMosaic

namespace Cert.Online

/-- A real factor, not negative, distributes over a sum of extended reals. -/
theorem coe_mul_sum {ι : Type} (s : Finset ι) (a : ℝ) (ha : 0 ≤ a) (f : ι → EReal) :
    (a : EReal) * ∑ k ∈ s, f k = ∑ k ∈ s, (a : EReal) * f k := by
  classical
  induction s using Finset.induction_on with
  | empty => simp
  | insert k s hk ih =>
    rw [Finset.sum_insert hk, Finset.sum_insert hk, ← ih]
    exact EReal.left_distrib_of_nonneg_of_ne_top (by exact_mod_cast ha) (EReal.coe_ne_top a) _ _

/-- A finite power of two, as a real. -/
theorem exp2_sub (l : EReal) (hl : l ≠ ⊤) (μ : ℝ) : ∃ w : ℝ, 0 ≤ w ∧ Ideal.exp2 (l - (μ : EReal)) = (w : EReal) := by
  induction l with
  | bot => exact ⟨0, le_refl _, by rw [EReal.bot_sub, Ideal.exp2_bot]; rfl⟩
  | top => exact absurd rfl hl
  | coe x => exact ⟨Real.rpow 2 (x - μ), (Real.rpow_pos_of_pos (by norm_num) _).le, by rw [← EReal.coe_sub, Ideal.exp2_coe]⟩

/-- The weight under an old maximum, brought to a new one. -/
theorem weight_step (μ μ' : ℝ) (l : EReal) (hl : l ≠ ⊤) :
    Ideal.exp2 ((μ : EReal) - (μ' : EReal)) * Ideal.exp2 (l - (μ : EReal)) = Ideal.exp2 (l - (μ' : EReal)) := by
  induction l with
  | bot => rw [EReal.bot_sub, EReal.bot_sub, Ideal.exp2_bot, mul_zero]
  | top => exact absurd rfl hl
  | coe x =>
    rw [← EReal.coe_sub, ← EReal.coe_sub, ← EReal.coe_sub, Ideal.exp2_coe, Ideal.exp2_coe, Ideal.exp2_coe, ← EReal.coe_mul]
    congr 1
    show (2 : ℝ) ^ (μ - μ') * (2 : ℝ) ^ (x - μ) = (2 : ℝ) ^ (x - μ')
    rw [← Real.rpow_add (by norm_num)]
    congr 1
    ring

theorem old_eq (μ μ' : ℝ) : ∃ a : ℝ, 0 ≤ a ∧ Ideal.exp2 ((μ : EReal) - (μ' : EReal)) = (a : EReal) :=
  exp2_sub _ (EReal.coe_ne_top _) _

/-- The sum of weights, brought to a new maximum. -/
theorem den_step {ι : Type} (s : Finset ι) (μ μ' : ℝ) (L : ι → EReal) (hL : ∀ k, L k ≠ ⊤) :
    Ideal.exp2 ((μ : EReal) - (μ' : EReal)) * ∑ k ∈ s, Ideal.exp2 (L k - (μ : EReal)) = ∑ k ∈ s, Ideal.exp2 (L k - (μ' : EReal)) := by
  obtain ⟨a, ha, e⟩ := old_eq μ μ'
  rw [e, coe_mul_sum _ a ha]
  refine Finset.sum_congr rfl fun k _ => ?_
  rw [← e]
  exact weight_step μ μ' _ (hL k)

/-- The weighted sum, brought to a new maximum. -/
theorem num_step {ι : Type} (s : Finset ι) (μ μ' : ℝ) (L V : ι → EReal) (hL : ∀ k, L k ≠ ⊤) :
    Ideal.exp2 ((μ : EReal) - (μ' : EReal)) * ∑ k ∈ s, V k * Ideal.exp2 (L k - (μ : EReal)) = ∑ k ∈ s, V k * Ideal.exp2 (L k - (μ' : EReal)) := by
  obtain ⟨a, ha, e⟩ := old_eq μ μ'
  rw [e, coe_mul_sum _ a ha]
  refine Finset.sum_congr rfl fun k _ => ?_
  rw [mul_left_comm, ← e, weight_step μ μ' _ (hL k)]

/-- The constant that turns natural exponents to powers of two. -/
def c2 : ℝ := (Real.log 2)⁻¹

theorem exp2_scaled (x y : ℝ) (μ : ℝ) : Real.rpow 2 (c2 * x - μ) = Real.rpow 2 (c2 * y - μ) * Real.exp (x - y) := by
  have h2 : Real.log 2 ≠ 0 := (Real.log_pos (by norm_num)).ne'
  have e : ∀ z : ℝ, Real.rpow 2 z = Real.exp (Real.log 2 * z) := fun z => Real.rpow_def_of_pos (by norm_num) z
  rw [e, e, ← Real.exp_add]
  congr 1
  unfold c2
  field_simp
  ring

/-- The weight of the running sums and the softmax's weight differ by one factor. -/
theorem weight_scaled (A : EReal) (hA : A ≠ ⊤) (M μ : ℝ) :
    Ideal.exp2 ((c2 : EReal) * A - (μ : EReal)) = ((Real.rpow 2 (c2 * M - μ) : ℝ) : EReal) * Ideal.exp (A - (M : EReal)) := by
  have hc : 0 < c2 := inv_pos.mpr (Real.log_pos (by norm_num))
  induction A with
  | bot => rw [EReal.coe_mul_bot_of_pos hc, EReal.bot_sub, EReal.bot_sub, Ideal.exp2_bot, Ideal.exp_bot, mul_zero]
  | top => exact absurd rfl hA
  | coe x =>
    rw [← EReal.coe_mul, ← EReal.coe_sub, ← EReal.coe_sub, Ideal.exp2_coe, Ideal.exp_coe, ← EReal.coe_mul, exp2_scaled x M μ]

theorem exp_sub (A : EReal) (hA : A ≠ ⊤) (M : ℝ) : ∃ w : ℝ, 0 ≤ w ∧ (A ≠ ⊥ → 0 < w) ∧ Ideal.exp (A - (M : EReal)) = (w : EReal) := by
  induction A with
  | bot => exact ⟨0, le_refl _, fun h => absurd rfl h, by rw [EReal.bot_sub, Ideal.exp_bot]; rfl⟩
  | top => exact absurd rfl hA
  | coe x => exact ⟨Real.exp (x - M), (Real.exp_pos _).le, fun _ => Real.exp_pos _, by rw [← EReal.coe_sub, Ideal.exp_coe]⟩

theorem coe_sum {ι : Type} (s : Finset ι) (f : ι → ℝ) : ((∑ k ∈ s, f k : ℝ) : EReal) = ∑ k ∈ s, (f k : EReal) := by
  classical
  induction s using Finset.induction_on with
  | empty => simp
  | insert k s hk ih => rw [Finset.sum_insert hk, Finset.sum_insert hk, EReal.coe_add, ih]

/-- The quotient of the running sums is the softmax-weighted sum. -/
theorem quotient {ι : Type} [Fintype ι] (A V : ι → EReal) (hA : ∀ k, A k ≠ ⊤) (k₀ : ι) (h₀ : A k₀ ≠ ⊥) (M μ : ℝ) :
    Ideal.div (∑ k, V k * Ideal.exp2 ((c2 : EReal) * A k - (μ : EReal))) (∑ k, Ideal.exp2 ((c2 : EReal) * A k - (μ : EReal)))
      = ∑ k, V k * Ideal.div (Ideal.exp (A k - (M : EReal))) (∑ j, Ideal.exp (A j - (M : EReal))) := by
  choose w hw hw' e using fun k => exp_sub (A k) (hA k) M
  have hW : 0 < ∑ k, w k := Finset.sum_pos' (fun k _ => hw k) ⟨k₀, Finset.mem_univ _, hw' k₀ h₀⟩
  have hg : 0 < Real.rpow 2 (c2 * M - μ) := Real.rpow_pos_of_pos (by norm_num) _
  generalize hG : Real.rpow 2 (c2 * M - μ) = g at hg
  have hs : ∀ k, Ideal.exp2 ((c2 : EReal) * A k - (μ : EReal)) = (g : EReal) * (w k : EReal) := fun k => by
    rw [weight_scaled (A k) (hA k) M μ, e, hG]
  simp only [hs, e]
  rw [← coe_sum, ← coe_mul_sum _ g hg.le, ← coe_sum, ← EReal.coe_mul, Ideal.div_coe (mul_pos hg hW).ne']
  rw [Finset.sum_congr rfl (g := fun k => (g : EReal) * (V k * (w k : EReal))) (fun k _ => mul_left_comm _ _ _), ← coe_mul_sum _ g hg.le]
  rw [mul_comm (g : EReal), mul_assoc, ← EReal.coe_mul, show g * (1 / (g * ∑ k, w k)) = 1 / ∑ k, w k from by field_simp,
    mul_comm, coe_mul_sum _ _ (by positivity)]
  refine Finset.sum_congr rfl fun k _ => ?_
  rw [Ideal.div_coe hW.ne', mul_comm, mul_assoc]

/-- Finite numbers: sums, products and maxima. -/
def IsReal (x : EReal) : Prop := ∃ r : ℝ, x = (r : EReal)

theorem IsReal.mul {x y : EReal} : IsReal x → IsReal y → IsReal (x * y) := by
  rintro ⟨a, rfl⟩ ⟨b, rfl⟩; exact ⟨a * b, (EReal.coe_mul a b).symm⟩

theorem IsReal.add {x y : EReal} : IsReal x → IsReal y → IsReal (x + y) := by
  rintro ⟨a, rfl⟩ ⟨b, rfl⟩; exact ⟨a + b, (EReal.coe_add a b).symm⟩

theorem IsReal.sum {ι : Type} (s : Finset ι) (f : ι → EReal) (h : ∀ k, IsReal (f k)) : IsReal (∑ k ∈ s, f k) := by
  choose r e using h
  exact ⟨∑ k ∈ s, r k, by rw [coe_sum]; exact Finset.sum_congr rfl fun k _ => e k⟩

theorem isReal_of (x : EReal) (h : x ≠ ⊤) (h' : x ≠ ⊥) : IsReal x := by
  induction x with
  | bot => exact absurd rfl h'
  | top => exact absurd rfl h
  | coe x => exact ⟨x, rfl⟩

theorem IsReal.ne_top {x : EReal} (h : IsReal x) : x ≠ ⊤ := by rcases h with ⟨r, rfl⟩; exact EReal.coe_ne_top r
theorem IsReal.ne_bot {x : EReal} (h : IsReal x) : x ≠ ⊥ := by rcases h with ⟨r, rfl⟩; exact EReal.coe_ne_bot r

end Cert.Online
-- ==== Proof.Mla.Row.lean ====
/- One query's attention as the reference writes it, and that the kernel's quotient of sums is the same number. -/
module

public import proofs.«01_k».proof.Proof.Mla.Online

@[expose] public section

noncomputable section

namespace Cert.Attn

open Idealize.ShloMosaic Cert.Online

/-- The square root of the width of a query. -/
def root : EReal := ((Real.sqrt 192 : ℝ) : EReal)

/-- What the kernel scales its queries by. -/
def factor : EReal := Ideal.div 1 (root * ((Real.log 2 : ℝ) : EReal))

theorem root_pos : 0 < Real.sqrt 192 := Real.sqrt_pos.mpr (by norm_num)

theorem div_root (a : ℝ) : Ideal.div (a : EReal) root = ((a * (1 / Real.sqrt 192) : ℝ) : EReal) := by
  unfold root
  rw [Ideal.div_coe (ne_of_gt root_pos), EReal.coe_mul]

theorem factor_eq : factor = ((1 / (Real.sqrt 192 * Real.log 2) : ℝ) : EReal) := by
  unfold factor root
  rw [← EReal.coe_mul, Ideal.div_coe (ne_of_gt (mul_pos root_pos (Real.log_pos (by norm_num)))), one_mul]

section
variable (s : ℕ) (q : Fin 192 → EReal) (kv : Fin 4096 → Fin 128 → EReal) (kr : Fin 4096 → Fin 64 → EReal) (v : Fin 4096 → EReal)

/-- The product of a query with a key: its plain part and its rotary part. -/
def score (k : Fin 4096) : EReal :=
  ∑ x : Fin 128, q ⟨x.val, by omega⟩ * kv k x + ∑ x : Fin 64, q ⟨128 + x.val, by omega⟩ * kr k x

/-- The logit: a query sees the keys of its own chunk and of the chunks before. -/
def logit (k : Fin 4096) : EReal := if k.val / 64 ≤ s / 64 then Ideal.div (score q kv kr k) root else ⊥

/-- The largest logit. -/
def top : EReal := Finset.univ.fold max ⊥ (logit s q kv kr)

/-- The softmax of the logits times the values. -/
def att : EReal := ∑ k, v k * Ideal.div (Ideal.exp (logit s q kv kr k - top s q kv kr)) (∑ j, Ideal.exp (logit s q kv kr j - top s q kv kr))

variable {s q kv kr v} (hq : ∀ x, IsReal (q x)) (hkv : ∀ k x, IsReal (kv k x)) (hkr : ∀ k x, IsReal (kr k x))
include hq hkv hkr

theorem score_real (k : Fin 4096) : IsReal (score q kv kr k) :=
  IsReal.add (IsReal.sum _ _ fun x => (hq _).mul (hkv k x)) (IsReal.sum _ _ fun x => (hq _).mul (hkr k x))

/-- The kernel's products, of the queries scaled beforehand, are the logits in units of `log 2`. -/
theorem scaled (k : Fin 4096) :
    ∑ x : Fin 128, kv k x * (q ⟨x.val, by omega⟩ * factor) + ∑ x : Fin 64, kr k x * (q ⟨128 + x.val, by omega⟩ * factor)
      = (c2 : EReal) * Ideal.div (score q kv kr k) root := by
  choose q' hq' using hq
  choose kv' hkv' using hkv
  choose kr' hkr' using hkr
  rw [factor_eq]
  unfold score
  simp only [hq', hkv', hkr', ← EReal.coe_mul, ← coe_sum, ← EReal.coe_add]
  rw [div_root, ← EReal.coe_mul]
  refine congrArg _ ?_
  unfold c2
  have h1 : Real.sqrt 192 ≠ 0 := ne_of_gt root_pos
  have h2 : Real.log 2 ≠ 0 := ne_of_gt (Real.log_pos (by norm_num))
  rw [add_mul, mul_add, Finset.sum_mul, Finset.sum_mul, Finset.mul_sum, Finset.mul_sum]
  refine congrArg₂ _ (Finset.sum_congr rfl fun x _ => ?_) (Finset.sum_congr rfl fun x _ => ?_) <;> field_simp

theorem logit_ne_top (k : Fin 4096) : logit s q kv kr k ≠ ⊤ := by
  unfold logit
  split
  · obtain ⟨a, ha⟩ := score_real hq hkv hkr k
    rw [ha, div_root]
    exact EReal.coe_ne_top _
  · exact bot_ne_top

theorem own_ne_bot (h : s < 4096) : logit s q kv kr ⟨s, h⟩ ≠ ⊥ := by
  unfold logit
  rw [if_pos (Nat.le_refl _)]
  obtain ⟨a, ha⟩ := score_real hq hkv hkr ⟨s, h⟩
  rw [ha, div_root]
  exact EReal.coe_ne_bot _

theorem top_real (h : s < 4096) : ∃ M : ℝ, top s q kv kr = (M : EReal) := by
  have h1 : top s q kv kr ≠ ⊤ := by
    have hlt : Finset.univ.fold max ⊥ (logit s q kv kr) < ⊤ :=
      (Finset.fold_max_lt (f := logit s q kv kr) (b := ⊥) (s := Finset.univ) ⊤).mpr
        ⟨bot_lt_top, fun k _ => lt_top_iff_ne_top.mpr (logit_ne_top hq hkv hkr k)⟩
    exact ne_of_lt hlt
  have h2 : top s q kv kr ≠ ⊥ := by
    intro e
    have hle : logit s q kv kr ⟨s, h⟩ ≤ top s q kv kr :=
      (Finset.le_fold_max (f := logit s q kv kr) (b := ⊥) (s := Finset.univ) _).mpr (Or.inr ⟨⟨s, h⟩, Finset.mem_univ _, le_refl _⟩)
    rw [e] at hle
    exact own_ne_bot hq hkv hkr h (le_bot_iff.mp hle)
  exact ⟨_, (EReal.coe_toReal h1 h2).symm⟩

/-- The kernel's quotient over the keys in order is the attention. -/
theorem att_eq (h : s < 4096) (L V : ℕ → EReal) (hL : ∀ k : Fin 4096, L k.val = (c2 : EReal) * logit s q kv kr k) (hV : ∀ k : Fin 4096, V k.val = v k)
    (μ : ℝ) : Ideal.div (∑ k ∈ Finset.range 4096, V k * Ideal.exp2 (L k - (μ : EReal))) (∑ k ∈ Finset.range 4096, Ideal.exp2 (L k - (μ : EReal)))
      = att s q kv kr v := by
  obtain ⟨M, hM⟩ := top_real hq hkv hkr h
  rw [Finset.sum_range, Finset.sum_range]
  simp only [hL, hV]
  unfold att
  rw [hM]
  exact quotient (logit s q kv kr) v (logit_ne_top hq hkv hkr) ⟨s, h⟩ (own_ne_bot hq hkv hkr h) M μ
end

end Cert.Attn
-- ==== Proof.Mla.Arrays.lean ====
/- The arrays the host code prepares for the attention call, element by element. -/
module

public import proofs.«01_k».proof.Proof.Mla.Frame
public import proofs.«01_k».proof.Proof.Mla.Row
public import Idealize.ShloMosaic.Lib.Pointwise
public import Idealize.ShloMosaic.Lib.Tactic

@[expose] public section

set_option maxRecDepth 65536
set_option maxHeartbeats 0

noncomputable section

namespace Cert.KernelIdeal.Mla

open Idealize.ShloMosaic Idealize.SL.Sem Idealize.ShloMosaic.Pointwise

open Idealize.ShloMosaic.TcCoe Cert.KernelIdeal.Gen Cert.Attn

variable (m : (ℓ : Loc nD τ sig) → Buf (Elt Ideal) ℓ)

/-- The arguments: queries, keys with values, rotary keys, the weight to cast. -/
def argQ (c : Dev nD) : S2x4096x16x192.Idx → EReal := m ((c : Thread nD τ).loc main_arg0)
def argKV (c : Dev nD) : S2x4096x16x256.Idx → EReal := m ((c : Thread nD τ).loc main_arg1)
def argKR (c : Dev nD) : S2x4096x64.Idx → EReal := m ((c : Thread nD τ).loc main_arg2)
def argW (c : Dev nD) : S2x4096x16384.Idx → EReal := m ((c : Thread nD τ).loc main_arg3)

/-- The scaled queries. -/
def scaledQ (c : Dev nD) : FVec Ideal S8192x16x192 .f32 :=
  mulf (shapeCast S8192x16x192 (show FVec Ideal S2x4096x16x192 .f32 from m ((c : Thread nD τ).loc main_arg0)) shapeCasts_S2x4096x16x192_S8192x16x192)
    (broadcastInDim S8192x16x192 ![] bcast_S_S8192x16x192 (Host.divf (constant S_ .f32 0x3F800000#32)
      (mulf (Host.sqrt (constant S_ .f32 0x43400000#32)) (Host.log (constant S_ .f32 0x40000000#32)))))

theorem eq_v10 (c : Dev nD) : V m c main_v10 = truncf .bf16 (transpose S2048x8192 [1, 0] (shapeCast S8192x2048
    (extractStridedSlice S8192x16x128 ![0, 0, 0] (scaledQ m c) slices_S8192x16x192_S8192x16x128_0_0_0) shapeCasts_S8192x16x128_S8192x2048)
    transposes_S8192x2048_S2048x8192_1_0) bitsLt_bf16_f32 := by
  dsimp only [V, hostOps0]; after_results <;> rfl

theorem eq_v14 (c : Dev nD) : V m c main_v14 = truncf .bf16 (transpose S1024x8192 [1, 0] (shapeCast S8192x1024
    (extractStridedSlice S8192x16x64 ![0, 0, 128] (scaledQ m c) slices_S8192x16x192_S8192x16x64_0_0_128) shapeCasts_S8192x16x64_S8192x1024)
    transposes_S8192x1024_S1024x8192_1_0) bitsLt_bf16_f32 := by
  dsimp only [V, hostOps0]; after_results <;> rfl

def allKV (c : Dev nD) : FVec Ideal S8192x16x256 .f32 :=
  shapeCast S8192x16x256 (show FVec Ideal S2x4096x16x256 .f32 from m ((c : Thread nD τ).loc main_arg1)) shapeCasts_S2x4096x16x256_S8192x16x256

theorem eq_v21 (c : Dev nD) : V m c main_v21 = truncf .bf16 (concatenate S8192x4096 1
    [⟨S8192x2048, shapeCast S8192x2048 (extractStridedSlice S8192x16x128 ![0, 0, 0] (allKV m c) slices_S8192x16x256_S8192x16x128_0_0_0) shapeCasts_S8192x16x128_S8192x2048⟩,
     ⟨S8192x2048, shapeCast S8192x2048 (extractStridedSlice S8192x16x128 ![0, 0, 128] (allKV m c) slices_S8192x16x256_S8192x16x128_0_0_128) shapeCasts_S8192x16x128_S8192x2048⟩]
    concatenates_S8192x2048_S8192x2048_S8192x4096_d1) bitsLt_bf16_f32 := by
  dsimp only [V, hostOps0]; after_results <;> rfl

def allKR (c : Dev nD) : FVec Ideal S8192x64 .f32 :=
  shapeCast S8192x64 (show FVec Ideal S2x4096x64 .f32 from m ((c : Thread nD τ).loc main_arg2)) shapeCasts_S2x4096x64_S8192x64

theorem eq_v24 (c : Dev nD) : V m c main_v24 = concatenate S8192x512 1
    [⟨S8192x64, allKR m c⟩, ⟨S8192x64, allKR m c⟩, ⟨S8192x384, broadcastInDim S8192x384 ![] bcast_S_S8192x384 (constant S_ .f32 0x00000000#32)⟩]
    concatenates_S8192x64_S8192x64_S8192x384_S8192x512_d1 := by
  dsimp only [V, hostOps0]; after_results <;> rfl

theorem eq_arg3 (c : Dev nD) : V m c main_arg3 = m ((c : Thread nD τ).loc main_arg3) := by
  dsimp only [V, hostOps0]; after_results <;> rfl

theorem word192 : Ideal.ofBits FTy.f32 1128267776#32 = ((192 : ℝ) : EReal) := by
  simp [Ideal.ofBits, Ideal.ieee]; rw [← EReal.coe_mul]; norm_num

theorem word2 : Ideal.ofBits FTy.f32 1073741824#32 = ((2 : ℝ) : EReal) := by
  simp [Ideal.ofBits, Ideal.ieee]; rw [← EReal.coe_mul]; norm_num

theorem root_word : Ideal.sqrt (Ideal.ofBits FTy.f32 1128267776#32) = root := by
  rw [word192, Ideal.sqrt_coe, if_neg (by norm_num)]; rfl

theorem factor_word : Ideal.div 1 (Ideal.sqrt (Ideal.ofBits FTy.f32 1128267776#32) * Ideal.log (Ideal.ofBits FTy.f32 1073741824#32)) = factor := by
  rw [root_word, word2, Ideal.log_coe, if_neg (by norm_num)]; rfl

theorem scaledQ_apply (c : Dev nD) (b : Fin 2) (s : Fin 4096) (h : Fin 16) (d : Fin 192) :
    (scaledQ m c (ix3 ⟨4096 * b.val + s.val, by omega⟩ h d) : EReal) = argQ m c (ix4 b s h d) * factor := by
  pointwise [scaledQ]
  rw [factor_word]; rfl

theorem v10_apply (c : Dev nD) (b : Fin 2) (s : Fin 4096) (h : Fin 16) (d : Fin 128) :
    (V m c main_v10 (ix2 ⟨128 * h.val + d.val, by omega⟩ ⟨4096 * b.val + s.val, by omega⟩) : EReal)
      = argQ m c (ix4 b s h ⟨d.val, by omega⟩) * factor := by
  rw [eq_v10]
  pointwise
  exact scaledQ_apply m c b s h ⟨d.val, by omega⟩

theorem v14_apply (c : Dev nD) (b : Fin 2) (s : Fin 4096) (h : Fin 16) (d : Fin 64) :
    (V m c main_v14 (ix2 ⟨64 * h.val + d.val, by omega⟩ ⟨4096 * b.val + s.val, by omega⟩) : EReal)
      = argQ m c (ix4 b s h ⟨128 + d.val, by omega⟩) * factor := by
  rw [eq_v14]
  pointwise
  exact scaledQ_apply m c b s h ⟨128 + d.val, by omega⟩

theorem v24_apply (c : Dev nD) (b : Fin 2) (s : Fin 4096) (j : Fin 128) :
    (V m c main_v24 (ix2 ⟨4096 * b.val + s.val, by omega⟩ ⟨j.val, by omega⟩) : EReal) = argKR m c (ix3 b s ⟨j.val % 64, by omega⟩) := by
  rw [eq_v24]
  pointwise [allKR]
  by_cases h : j.val < 64
  · rw [dif_pos h]
    exact congrArg (fun x => argKR m c (ix3 b s x)) (Fin.ext (show j.val = j.val % 64 by omega))
  · rw [dif_neg h, dif_pos (by omega)]
    exact congrArg (fun x => argKR m c (ix3 b s x)) (Fin.ext (show j.val - 64 = j.val % 64 by omega))

theorem v21_keys (c : Dev nD) (b : Fin 2) (s : Fin 4096) (h : Fin 16) (d : Fin 128) :
    (V m c main_v21 (ix2 ⟨4096 * b.val + s.val, by omega⟩ ⟨128 * h.val + d.val, by omega⟩) : EReal) = argKV m c (ix4 b s h ⟨d.val, by omega⟩) := by
  rw [eq_v21]
  pointwise [allKV]
  rw [dif_pos (by omega)]
  rfl

theorem v21_values (c : Dev nD) (b : Fin 2) (s : Fin 4096) (h : Fin 16) (d : Fin 128) :
    (V m c main_v21 (ix2 ⟨4096 * b.val + s.val, by omega⟩ ⟨2048 + (128 * h.val + d.val), by omega⟩) : EReal) = argKV m c (ix4 b s h ⟨128 + d.val, by omega⟩) := by
  rw [eq_v21]
  pointwise [allKV]
  rfl

/-! ## The blocks of a point -/

theorem coord0 : ∀ t : Fin 128, win0_0.index t (0 : Fin 2) = t.val / 32 % 2 ∧ win0_0.index t (1 : Fin 2) = 32 * (t.val / 64) + t.val % 32
    ∧ win0_1.index t (0 : Fin 2) = t.val / 32 % 2 ∧ win0_1.index t (1 : Fin 2) = 32 * (t.val / 64) + t.val % 32
    ∧ win0_2.index t (0 : Fin 2) = t.val / 64 ∧ win0_2.index t (1 : Fin 2) = 0
    ∧ win0_3.index t (0 : Fin 2) = t.val / 64 ∧ win0_3.index t (1 : Fin 2) = t.val / 32 % 2
    ∧ win0_4.index t (0 : Fin 2) = t.val / 64 ∧ win0_4.index t (1 : Fin 2) = 2 + t.val / 32 % 2
    ∧ win0_5.index t (0 : Fin 3) = 1 ∧ win0_5.index t (1 : Fin 3) = t.val ∧ win0_5.index t (2 : Fin 3) = 0
    ∧ win0_6.index t (0 : Fin 2) = 32 * (t.val / 64) + t.val % 32 ∧ win0_6.index t (1 : Fin 2) = t.val / 32 % 2
    ∧ win0_7.index t (0 : Fin 2) = t.val ∧ win0_7.index t (1 : Fin 2) = 0 := by decide +kernel

/-- The batch, the head and the query of a place in a point's block. -/
def batch (t : Fin 128) : Fin 2 := ⟨t.val / 64, by omega⟩
def head (t : Fin 128) (h : Fin 8) : Fin 16 := ⟨8 * (t.val / 32 % 2) + h.val, by omega⟩
def query (t : Fin 128) (k : Fin 128) : Fin 4096 := ⟨128 * (t.val % 32) + k.val, by omega⟩

theorem blk0_apply (c : Dev nD) (t : Fin 128) (h : Fin 8) (x k : Fin 128) :
    ((iblk m c 0 t : Vec Ideal S1024x128 .bf16) (ix2 ⟨128 * h.val + x.val, by omega⟩ k) : EReal)
      = argQ m c (ix4 (batch t) (query t k) (head t h) ⟨x.val, by omega⟩) * factor := by
  obtain ⟨e0, e1, _⟩ := coord0 t
  refine Eq.trans ?_ (v10_apply m c (batch t) (query t k) (head t h) x)
  unfold iblk
  refine congrArg (V m c main_v10) (funext fun a => Fin.ext ?_)
  match a with
  | ⟨0, _⟩ => show win0_0.index t 0 * 1024 + 1 * (128 * h.val + x.val) = 128 * (8 * (t.val / 32 % 2) + h.val) + x.val
              rw [e0]; omega
  | ⟨1, _⟩ => show win0_0.index t 1 * 128 + 1 * k.val = 4096 * (t.val / 64) + (128 * (t.val % 32) + k.val)
              rw [e1]; omega

theorem blk1_apply (c : Dev nD) (t : Fin 128) (h : Fin 8) (x k : Fin 128) (hx : x.val / 64 = h.val % 2) :
    ((iblk m c 1 t : Vec Ideal S512x128 .bf16) (ix2 ⟨128 * (h.val / 2) + x.val, by omega⟩ k) : EReal)
      = argQ m c (ix4 (batch t) (query t k) (head t h) ⟨128 + x.val % 64, by omega⟩) * factor := by
  obtain ⟨_, _, e0, e1, _⟩ := coord0 t
  refine Eq.trans ?_ (v14_apply m c (batch t) (query t k) (head t h) ⟨x.val % 64, by omega⟩)
  unfold iblk
  refine congrArg (V m c main_v14) (funext fun a => Fin.ext ?_)
  match a with
  | ⟨0, _⟩ => show win0_1.index t 0 * 512 + 1 * (128 * (h.val / 2) + x.val) = 64 * (8 * (t.val / 32 % 2) + h.val) + x.val % 64
              rw [e0]; omega
  | ⟨1, _⟩ => show win0_1.index t 1 * 128 + 1 * k.val = 4096 * (t.val / 64) + (128 * (t.val % 32) + k.val)
              rw [e1]; omega

theorem blk2_apply (c : Dev nD) (t : Fin 128) (k : Fin 4096) (x : Fin 128) :
    ((iblk m c 2 t : Vec Ideal S4096x128 .f32) (ix2 k x) : EReal) = argKR m c (ix3 (batch t) k ⟨x.val % 64, by omega⟩) := by
  obtain ⟨_, _, _, _, e0, e1, _⟩ := coord0 t
  refine Eq.trans ?_ (v24_apply m c (batch t) k x)
  unfold iblk
  refine congrArg (V m c main_v24) (funext fun a => Fin.ext ?_)
  match a with
  | ⟨0, _⟩ => show win0_2.index t 0 * 4096 + 1 * k.val = 4096 * (t.val / 64) + k.val
              rw [e0]; omega
  | ⟨1, _⟩ => show win0_2.index t 1 * 128 + 1 * x.val = x.val
              rw [e1]; omega

theorem blk3_apply (c : Dev nD) (t : Fin 128) (k : Fin 4096) (h : Fin 8) (x : Fin 128) :
    ((iblk m c 3 t : Vec Ideal S4096x1024 .bf16) (ix2 k ⟨128 * h.val + x.val, by omega⟩) : EReal)
      = argKV m c (ix4 (batch t) k (head t h) ⟨x.val, by omega⟩) := by
  obtain ⟨_, _, _, _, _, _, e0, e1, _⟩ := coord0 t
  refine Eq.trans ?_ (v21_keys m c (batch t) k (head t h) x)
  unfold iblk
  refine congrArg (V m c main_v21) (funext fun a => Fin.ext ?_)
  match a with
  | ⟨0, _⟩ => show win0_3.index t 0 * 4096 + 1 * k.val = 4096 * (t.val / 64) + k.val
              rw [e0]; omega
  | ⟨1, _⟩ => show win0_3.index t 1 * 1024 + 1 * (128 * h.val + x.val) = 128 * (8 * (t.val / 32 % 2) + h.val) + x.val
              rw [e1]; omega

theorem blk4_apply (c : Dev nD) (t : Fin 128) (k : Fin 4096) (h : Fin 8) (x : Fin 128) :
    ((iblk m c 4 t : Vec Ideal S4096x1024 .bf16) (ix2 k ⟨128 * h.val + x.val, by omega⟩) : EReal)
      = argKV m c (ix4 (batch t) k (head t h) ⟨128 + x.val, by omega⟩) := by
  obtain ⟨_, _, _, _, _, _, _, _, e0, e1, _⟩ := coord0 t
  refine Eq.trans ?_ (v21_values m c (batch t) k (head t h) x)
  unfold iblk
  refine congrArg (V m c main_v21) (funext fun a => Fin.ext ?_)
  match a with
  | ⟨0, _⟩ => show win0_4.index t 0 * 4096 + 1 * k.val = 4096 * (t.val / 64) + k.val
              rw [e0]; omega
  | ⟨1, _⟩ => show win0_4.index t 1 * 1024 + 1 * (128 * h.val + x.val) = 2048 + (128 * (8 * (t.val / 32 % 2) + h.val) + x.val)
              rw [e1]; omega

theorem blk5_apply (c : Dev nD) (t : Fin 128) (j : Fin 32) (x : Fin 16384) :
    ((iblk m c 5 t : Vec Ideal S1x32x16384 .f32) (ix3 0 j x) : EReal) = argW m c (ix3 1 ⟨32 * t.val + j.val, by omega⟩ x) := by
  obtain ⟨_, _, _, _, _, _, _, _, _, _, e0, e1, e2, _⟩ := coord0 t
  refine Eq.trans ?_ (congrFun (eq_arg3 m c) (ix3 1 ⟨32 * t.val + j.val, by omega⟩ x))
  unfold iblk
  refine congrArg (V m c main_arg3) (funext fun a => Fin.ext ?_)
  match a with
  | ⟨0, _⟩ => show win0_5.index t 0 * 1 + 1 * 0 = 1
              rw [e0]
  | ⟨1, _⟩ => show win0_5.index t 1 * 32 + 1 * j.val = 32 * t.val + j.val
              rw [e1]; omega
  | ⟨2, _⟩ => show win0_5.index t 2 * 16384 + 1 * x.val = x.val
              rw [e2]; omega

end Cert.KernelIdeal.Mla
-- ==== Proof.Mla.Read.lean ====
/- The running sums of a head at one query, over the extended reals: what a key tile makes of them. -/
module

public import proofs.«01_k».proof.Proof.Mla.Tiles
public import proofs.«01_k».proof.Proof.Mla.Beside
public import proofs.«01_k».proof.Proof.Mla.Rows
public import proofs.«01_k».proof.Proof.Mla.Online
public import Idealize.ShloMosaic.Lib.Pointwise

@[expose] public section

set_option maxRecDepth 65536
set_option maxHeartbeats 0

noncomputable section

namespace Cert.KernelIdeal.Mla

open Idealize.ShloMosaic Idealize.SL.Sem Idealize.ShloMosaic.Pointwise Facts₀ Facts

variable [Facts]

theorem newMax_apply (m : FVec Ideal S1x1x128 .f32) (l : FVec Ideal S256x128 .f32) (c : Fin 128) :
    newMax m l (ix2 0 c) = max (m (ix3 0 0 c) : EReal) (Finset.fold max ⊥ (fun r : Fin 8 => Finset.fold max (⊥ : EReal)
      (fun i : Fin 32 => (l (ix2 ⟨i.val * 8 + r.val, by omega⟩ c) : EReal)) Finset.univ) Finset.univ) := by
  have hb : Ideal.ofBits FTy.f32 4286578688#32 = (⊥ : EReal) := by simp [Ideal.ofBits, Ideal.ieee]
  pointwise [newMax]
  simp only [hb]

theorem newDen_apply (d : FVec Ideal S1x8x128 .f32) (a : FVec Ideal S1x128 .f32) (p : FVec Ideal S256x128 .f32) (r : Fin 8) (c : Fin 128) :
    newDen d a p (ix3 0 r c) = (a (ix2 0 c) : EReal) * d (ix3 0 r c) + ∑ i : Fin 32, (p (ix2 ⟨i.val * 8 + r.val, by omega⟩ c) : EReal) := by
  pointwise [newDen]

theorem newNum_apply (n : FVec Ideal S1x128x128 .f32) (a : FVec Ideal S1x128 .f32) (p : FVec Ideal S256x128 .f32)
    (v : FVec Ideal S1x1x128x256 .bf16) (d c : Fin 128) :
    newNum n a p v (ix3 0 d c) = (a (ix2 0 c) : EReal) * n (ix3 0 d c) + ∑ k : Fin 256, (v (ix4 0 0 d k) : EReal) * p (ix2 k c) := by
  pointwise [newNum]

theorem weights_apply (l : FVec Ideal S256x128 .f32) (m : FVec Ideal S1x128 .f32) (k : Fin 256) (c : Fin 128) :
    weights l m (ix2 k c) = Ideal.exp2 ((l (ix2 k c) : EReal) - m (ix2 0 c)) := by
  pointwise [weights]
  rfl

theorem scaleOld_apply (m : FVec Ideal S1x1x128 .f32) (m' : FVec Ideal S1x128 .f32) (c : Fin 128) :
    scaleOld m m' (ix2 0 c) = Ideal.exp2 ((m (ix3 0 0 c) : EReal) - m' (ix2 0 c)) := by
  pointwise [scaleOld]
  rfl

theorem cast_newMax (m : FVec Ideal S1x128 .f32) (c : Fin 128) :
    (shapeCast S1x1x128 m shapeCasts_S1x128_S1x1x128 (ix3 0 0 c) : EReal) = m (ix2 0 c) := by
  pointwise

/-- A maximum of numbers below `⊤`. -/
theorem fold_ne_top {ι : Type} (s : Finset ι) (f : ι → EReal) (h : ∀ k, f k ≠ ⊤) : Finset.fold max (⊥ : EReal) f s ≠ ⊤ := by
  classical
  induction s using Finset.induction_on with
  | empty => simp
  | insert k s hk ih =>
    rw [Finset.fold_insert hk]
    rcases max_choice (f k) (Finset.fold max (⊥ : EReal) f s) with e | e <;> rw [e]
    · exact h k
    · exact ih

/-- At query `c` the rows of head `h` hold the sums over the first `256 n` keys of logits `L` and values `V`. -/
def Holds (L : ℕ → EReal) (V : Fin 128 → ℕ → EReal) (n : ℕ) (s : Sums Ideal) (h : Fin 8) (c : Fin 128) : Prop :=
  ∃ μ : ℝ, (mRow s h (ix3 0 0 c) : EReal) = (μ : EReal)
    ∧ (∀ r : Fin 8, (dRow s h (ix3 0 r c) : EReal) = ∑ i ∈ Finset.range (32 * n), Ideal.exp2 (L (8 * i + r.val) - (μ : EReal)))
    ∧ ∀ d : Fin 128, (nRow s h (ix3 0 d c) : EReal) = ∑ k ∈ Finset.range (256 * n), V d k * Ideal.exp2 (L k - (μ : EReal))

theorem holds_step (L : ℕ → EReal) (V : Fin 128 → ℕ → EReal) (hL : ∀ k, L k ≠ ⊤) (n : ℕ) (s : Sums Ideal) (h : Fin 8) (c : Fin 128)
    (H : Holds L V n s h c) (l : FVec Ideal S256x128 .f32) (v : FVec Ideal S1x1x128x256 .bf16)
    (hl : ∀ k : Fin 256, (l (ix2 k c) : EReal) = L (256 * n + k.val))
    (hv : ∀ (d : Fin 128) (k : Fin 256), (v (ix4 0 0 d k) : EReal) = V d (256 * n + k.val)) :
    Holds L V (n + 1) (headSums h l v s) h c := by
  obtain ⟨μ, hm, hd, hn⟩ := H
  have hreal : Online.IsReal (newMax (mRow s h) l (ix2 0 c)) := by
    rw [newMax_apply, hm]
    refine Online.isReal_of _ ?_ ?_
    · intro e
      rcases max_choice (μ : EReal) (Finset.fold max ⊥ (fun r : Fin 8 => Finset.fold max (⊥ : EReal)
        (fun i : Fin 32 => (l (ix2 ⟨i.val * 8 + r.val, by omega⟩ c) : EReal)) Finset.univ) Finset.univ) with e' | e' <;> rw [e'] at e
      · exact EReal.coe_ne_top _ e
      · exact fold_ne_top _ _ (fun r => fold_ne_top _ _ fun i => by rw [hl]; exact hL _) e
    · intro e
      have := (le_max_left (μ : EReal) _).trans_eq e
      exact EReal.coe_ne_bot _ (le_bot_iff.mp this)
  obtain ⟨μ', hμ⟩ := hreal
  refine ⟨μ', ?_, fun r => ?_, fun d => ?_⟩
  · rw [headSums_mRow, cast_newMax, hμ]
  · rw [headSums_dRow, newDen_apply, scaleOld_apply, hm, hμ, hd r, Online.den_step _ μ μ' _ (fun i => hL _), Nat.mul_succ, Finset.sum_range_add,
      ← Fin.sum_univ_eq_sum_range (fun x => Ideal.exp2 (L (8 * (32 * n + x) + r.val) - (μ' : EReal)))]
    refine congrArg _ (Finset.sum_congr rfl fun i _ => ?_)
    rw [weights_apply, hμ, hl]
    congr 3
    show 256 * n + (i.val * 8 + r.val) = 8 * (32 * n + i.val) + r.val
    omega
  · rw [headSums_nRow, newNum_apply, scaleOld_apply, hm, hμ, hn d, Online.num_step _ μ μ' _ _ hL, Nat.mul_succ, Finset.sum_range_add,
      ← Fin.sum_univ_eq_sum_range (fun x => V d (256 * n + x) * Ideal.exp2 (L (256 * n + x) - (μ' : EReal)))]
    refine congrArg _ (Finset.sum_congr rfl fun k _ => ?_)
    rw [weights_apply, hμ, hl, hv]

/-- Another head's update leaves a head's rows. -/
theorem holds_apart (L : ℕ → EReal) (V : Fin 128 → ℕ → EReal) (n : ℕ) (s : Sums Ideal) (h h' : Fin 8) (hne : h' ≠ h) (c : Fin 128)
    (H : Holds L V n s h c) (l : FVec Ideal S256x128 .f32) (v : FVec Ideal S1x1x128x256 .bf16) : Holds L V n (headSums h' l v s) h c := by
  obtain ⟨e1, e2, e3⟩ := headSums_apart h' h hne l v s
  unfold Holds
  rw [e1, e2, e3]
  exact H

/-- A key tile: from the sums over `256 n` keys to those over the next 256. -/
theorem holds_tile (L : ℕ → EReal) (V : Fin 128 → ℕ → EReal) (hL : ∀ k, L k ≠ ⊤) (s : Sums Ideal) (h : Fin 8) (c : Fin 128)
    (X3 : Vec Ideal S1024x128 .bf16) (X5 : Vec Ideal S4096x128 .f32) (X6 : Vec Ideal S4096x1024 .bf16) (X11 : Vec Ideal S128x1024 .bf16)
    (X12 : Vec Ideal S8x16x128x256 .bf16) (n : Fin 16) (mask : FVec Ideal S256x128 .f32 → FVec Ideal S256x128 .f32)
    (hl : ∀ k : Fin 256, (tileLogits X3 X5 X6 X11 n mask h (ix2 k c) : EReal) = L (256 * n.val + k.val))
    (hv : ∀ (d : Fin 128) (k : Fin 256), (tileValues X12 n h (ix4 0 0 d k) : EReal) = V d (256 * n.val + k.val))
    (H : Holds L V n.val s h c) : Holds L V (n.val + 1) (tileSums X3 X5 X6 X11 X12 n mask s) h c := by
  unfold tileSums
  match h, hl, hv, H with
  | ⟨0, _⟩, hl, hv, H =>
    have H := holds_step L V hL n.val _ 0 c H (tileLogits X3 X5 X6 X11 n mask 0) (tileValues X12 n 0) hl hv
    have H := holds_apart L V _ _ 0 1 (by decide) c H (tileLogits X3 X5 X6 X11 n mask 1) (tileValues X12 n 1)
    have H := holds_apart L V _ _ 0 2 (by decide) c H (tileLogits X3 X5 X6 X11 n mask 2) (tileValues X12 n 2)
    have H := holds_apart L V _ _ 0 3 (by decide) c H (tileLogits X3 X5 X6 X11 n mask 3) (tileValues X12 n 3)
    have H := holds_apart L V _ _ 0 4 (by decide) c H (tileLogits X3 X5 X6 X11 n mask 4) (tileValues X12 n 4)
    have H := holds_apart L V _ _ 0 5 (by decide) c H (tileLogits X3 X5 X6 X11 n mask 5) (tileValues X12 n 5)
    have H := holds_apart L V _ _ 0 6 (by decide) c H (tileLogits X3 X5 X6 X11 n mask 6) (tileValues X12 n 6)
    have H := holds_apart L V _ _ 0 7 (by decide) c H (tileLogits X3 X5 X6 X11 n mask 7) (tileValues X12 n 7)
    exact H
  | ⟨1, _⟩, hl, hv, H =>
    have H := holds_apart L V _ _ 1 0 (by decide) c H (tileLogits X3 X5 X6 X11 n mask 0) (tileValues X12 n 0)
    have H := holds_step L V hL n.val _ 1 c H (tileLogits X3 X5 X6 X11 n mask 1) (tileValues X12 n 1) hl hv
    have H := holds_apart L V _ _ 1 2 (by decide) c H (tileLogits X3 X5 X6 X11 n mask 2) (tileValues X12 n 2)
    have H := holds_apart L V _ _ 1 3 (by decide) c H (tileLogits X3 X5 X6 X11 n mask 3) (tileValues X12 n 3)
    have H := holds_apart L V _ _ 1 4 (by decide) c H (tileLogits X3 X5 X6 X11 n mask 4) (tileValues X12 n 4)
    have H := holds_apart L V _ _ 1 5 (by decide) c H (tileLogits X3 X5 X6 X11 n mask 5) (tileValues X12 n 5)
    have H := holds_apart L V _ _ 1 6 (by decide) c H (tileLogits X3 X5 X6 X11 n mask 6) (tileValues X12 n 6)
    have H := holds_apart L V _ _ 1 7 (by decide) c H (tileLogits X3 X5 X6 X11 n mask 7) (tileValues X12 n 7)
    exact H
  | ⟨2, _⟩, hl, hv, H =>
    have H := holds_apart L V _ _ 2 0 (by decide) c H (tileLogits X3 X5 X6 X11 n mask 0) (tileValues X12 n 0)
    have H := holds_apart L V _ _ 2 1 (by decide) c H (tileLogits X3 X5 X6 X11 n mask 1) (tileValues X12 n 1)
    have H := holds_step L V hL n.val _ 2 c H (tileLogits X3 X5 X6 X11 n mask 2) (tileValues X12 n 2) hl hv
    have H := holds_apart L V _ _ 2 3 (by decide) c H (tileLogits X3 X5 X6 X11 n mask 3) (tileValues X12 n 3)
    have H := holds_apart L V _ _ 2 4 (by decide) c H (tileLogits X3 X5 X6 X11 n mask 4) (tileValues X12 n 4)
    have H := holds_apart L V _ _ 2 5 (by decide) c H (tileLogits X3 X5 X6 X11 n mask 5) (tileValues X12 n 5)
    have H := holds_apart L V _ _ 2 6 (by decide) c H (tileLogits X3 X5 X6 X11 n mask 6) (tileValues X12 n 6)
    have H := holds_apart L V _ _ 2 7 (by decide) c H (tileLogits X3 X5 X6 X11 n mask 7) (tileValues X12 n 7)
    exact H
  | ⟨3, _⟩, hl, hv, H =>
    have H := holds_apart L V _ _ 3 0 (by decide) c H (tileLogits X3 X5 X6 X11 n mask 0) (tileValues X12 n 0)
    have H := holds_apart L V _ _ 3 1 (by decide) c H (tileLogits X3 X5 X6 X11 n mask 1) (tileValues X12 n 1)
    have H := holds_apart L V _ _ 3 2 (by decide) c H (tileLogits X3 X5 X6 X11 n mask 2) (tileValues X12 n 2)
    have H := holds_step L V hL n.val _ 3 c H (tileLogits X3 X5 X6 X11 n mask 3) (tileValues X12 n 3) hl hv
    have H := holds_apart L V _ _ 3 4 (by decide) c H (tileLogits X3 X5 X6 X11 n mask 4) (tileValues X12 n 4)
    have H := holds_apart L V _ _ 3 5 (by decide) c H (tileLogits X3 X5 X6 X11 n mask 5) (tileValues X12 n 5)
    have H := holds_apart L V _ _ 3 6 (by decide) c H (tileLogits X3 X5 X6 X11 n mask 6) (tileValues X12 n 6)
    have H := holds_apart L V _ _ 3 7 (by decide) c H (tileLogits X3 X5 X6 X11 n mask 7) (tileValues X12 n 7)
    exact H
  | ⟨4, _⟩, hl, hv, H =>
    have H := holds_apart L V _ _ 4 0 (by decide) c H (tileLogits X3 X5 X6 X11 n mask 0) (tileValues X12 n 0)
    have H := holds_apart L V _ _ 4 1 (by decide) c H (tileLogits X3 X5 X6 X11 n mask 1) (tileValues X12 n 1)
    have H := holds_apart L V _ _ 4 2 (by decide) c H (tileLogits X3 X5 X6 X11 n mask 2) (tileValues X12 n 2)
    have H := holds_apart L V _ _ 4 3 (by decide) c H (tileLogits X3 X5 X6 X11 n mask 3) (tileValues X12 n 3)
    have H := holds_step L V hL n.val _ 4 c H (tileLogits X3 X5 X6 X11 n mask 4) (tileValues X12 n 4) hl hv
    have H := holds_apart L V _ _ 4 5 (by decide) c H (tileLogits X3 X5 X6 X11 n mask 5) (tileValues X12 n 5)
    have H := holds_apart L V _ _ 4 6 (by decide) c H (tileLogits X3 X5 X6 X11 n mask 6) (tileValues X12 n 6)
    have H := holds_apart L V _ _ 4 7 (by decide) c H (tileLogits X3 X5 X6 X11 n mask 7) (tileValues X12 n 7)
    exact H
  | ⟨5, _⟩, hl, hv, H =>
    have H := holds_apart L V _ _ 5 0 (by decide) c H (tileLogits X3 X5 X6 X11 n mask 0) (tileValues X12 n 0)
    have H := holds_apart L V _ _ 5 1 (by decide) c H (tileLogits X3 X5 X6 X11 n mask 1) (tileValues X12 n 1)
    have H := holds_apart L V _ _ 5 2 (by decide) c H (tileLogits X3 X5 X6 X11 n mask 2) (tileValues X12 n 2)
    have H := holds_apart L V _ _ 5 3 (by decide) c H (tileLogits X3 X5 X6 X11 n mask 3) (tileValues X12 n 3)
    have H := holds_apart L V _ _ 5 4 (by decide) c H (tileLogits X3 X5 X6 X11 n mask 4) (tileValues X12 n 4)
    have H := holds_step L V hL n.val _ 5 c H (tileLogits X3 X5 X6 X11 n mask 5) (tileValues X12 n 5) hl hv
    have H := holds_apart L V _ _ 5 6 (by decide) c H (tileLogits X3 X5 X6 X11 n mask 6) (tileValues X12 n 6)
    have H := holds_apart L V _ _ 5 7 (by decide) c H (tileLogits X3 X5 X6 X11 n mask 7) (tileValues X12 n 7)
    exact H
  | ⟨6, _⟩, hl, hv, H =>
    have H := holds_apart L V _ _ 6 0 (by decide) c H (tileLogits X3 X5 X6 X11 n mask 0) (tileValues X12 n 0)
    have H := holds_apart L V _ _ 6 1 (by decide) c H (tileLogits X3 X5 X6 X11 n mask 1) (tileValues X12 n 1)
    have H := holds_apart L V _ _ 6 2 (by decide) c H (tileLogits X3 X5 X6 X11 n mask 2) (tileValues X12 n 2)
    have H := holds_apart L V _ _ 6 3 (by decide) c H (tileLogits X3 X5 X6 X11 n mask 3) (tileValues X12 n 3)
    have H := holds_apart L V _ _ 6 4 (by decide) c H (tileLogits X3 X5 X6 X11 n mask 4) (tileValues X12 n 4)
    have H := holds_apart L V _ _ 6 5 (by decide) c H (tileLogits X3 X5 X6 X11 n mask 5) (tileValues X12 n 5)
    have H := holds_step L V hL n.val _ 6 c H (tileLogits X3 X5 X6 X11 n mask 6) (tileValues X12 n 6) hl hv
    have H := holds_apart L V _ _ 6 7 (by decide) c H (tileLogits X3 X5 X6 X11 n mask 7) (tileValues X12 n 7)
    exact H
  | ⟨7, _⟩, hl, hv, H =>
    have H := holds_apart L V _ _ 7 0 (by decide) c H (tileLogits X3 X5 X6 X11 n mask 0) (tileValues X12 n 0)
    have H := holds_apart L V _ _ 7 1 (by decide) c H (tileLogits X3 X5 X6 X11 n mask 1) (tileValues X12 n 1)
    have H := holds_apart L V _ _ 7 2 (by decide) c H (tileLogits X3 X5 X6 X11 n mask 2) (tileValues X12 n 2)
    have H := holds_apart L V _ _ 7 3 (by decide) c H (tileLogits X3 X5 X6 X11 n mask 3) (tileValues X12 n 3)
    have H := holds_apart L V _ _ 7 4 (by decide) c H (tileLogits X3 X5 X6 X11 n mask 4) (tileValues X12 n 4)
    have H := holds_apart L V _ _ 7 5 (by decide) c H (tileLogits X3 X5 X6 X11 n mask 5) (tileValues X12 n 5)
    have H := holds_apart L V _ _ 7 6 (by decide) c H (tileLogits X3 X5 X6 X11 n mask 6) (tileValues X12 n 6)
    have H := holds_step L V hL n.val _ 7 c H (tileLogits X3 X5 X6 X11 n mask 7) (tileValues X12 n 7) hl hv
    exact H

/-- The sums over eight interleaved rows are the sum over all. -/
theorem sum_rows (f : ℕ → EReal) : ∀ n : ℕ, ∑ r : Fin 8, ∑ i ∈ Finset.range n, f (8 * i + r.val) = ∑ k ∈ Finset.range (8 * n), f k
  | 0 => by simp
  | n + 1 => by
    simp only [Finset.sum_range_succ (fun i => f (8 * i + _))]
    rw [Finset.sum_add_distrib, sum_rows f n, Nat.mul_succ, Finset.sum_range_add, ← Fin.sum_univ_eq_sum_range (fun x => f (8 * n + x))]

theorem outBlock_apply (s : Sums Ideal) (h : Fin 8) (c d : Fin 128) :
    (outBlock s h (ix2 c d) : EReal) = Ideal.div (nRow s h (ix3 0 d c)) (∑ r : Fin 8, (dRow s h (ix3 0 r c) : EReal)) := by
  pointwise [outBlock]
  try rfl

/-- A head's result, when its rows hold the sums over `256 n` keys. -/
theorem out_of_holds (L : ℕ → EReal) (V : Fin 128 → ℕ → EReal) (n : ℕ) (s : Sums Ideal) (h : Fin 8) (c : Fin 128) (H : Holds L V n s h c) :
    ∃ μ : ℝ, ∀ d, (outBlock s h (ix2 c d) : EReal)
      = Ideal.div (∑ k ∈ Finset.range (256 * n), V d k * Ideal.exp2 (L k - (μ : EReal))) (∑ k ∈ Finset.range (256 * n), Ideal.exp2 (L k - (μ : EReal))) := by
  obtain ⟨μ, hm, hd, hn⟩ := H
  refine ⟨μ, fun d => ?_⟩
  rw [outBlock_apply, hn d]
  congr 1
  rw [Finset.sum_congr rfl fun r _ => hd r, sum_rows (fun k => Ideal.exp2 (L k - (μ : EReal)))]
  congr 2
  omega

theorem holds_clear (L : ℕ → EReal) (V : Fin 128 → ℕ → EReal) (h : Fin 8) (c : Fin 128) : Holds L V 0 (clear (F := Ideal)) h c := by
  have hb : Online.IsReal (Ideal.ofBits FTy.f32 0xF149F2CA#32) := by
    unfold Ideal.ofBits Ideal.ieee
    simp only []
    rw [if_neg (by decide), if_neg (by decide)]
    exact ⟨_, rfl⟩
  have h0 : Ideal.ofBits FTy.f32 0x00000000#32 = (0 : EReal) := by simp [Ideal.ofBits, Ideal.ieee]
  obtain ⟨μ, hμ⟩ := hb
  refine ⟨μ, hμ, fun r => ?_, fun d => ?_⟩
  · rw [Nat.mul_zero, Finset.sum_range_zero]
    exact h0
  · rw [Nat.mul_zero, Finset.sum_range_zero]
    exact h0

end Cert.KernelIdeal.Mla
-- ==== Proof.Mla.Block.lean ====
/- One block of the attention call over the extended reals: each query of each head gets the quotient of its two sums over the keys. -/
module

public import proofs.«01_k».proof.Proof.Mla.Read
public import proofs.«01_k».proof.Proof.Mla.Point

@[expose] public section

set_option maxRecDepth 65536
set_option maxHeartbeats 0

noncomputable section

namespace Cert.KernelIdeal.Mla

open Idealize.ShloMosaic Idealize.SL.Sem Idealize.ShloMosaic.Pointwise Facts₀ Facts

variable [Facts]

/-! ## The mask of the last tile -/

theorem key_word : ∀ (q : Fin 32) (k : Fin 256),
    IntOp.shrsi ArithUnit.vector (IntOp.addi (BitVec.ofNat 32 k.val) (Scalar.muli (nFull (pt q)) 256#32)) 6#32
      = BitVec.ofNat 32 ((256 * (q.val / 2) + k.val) / 64) := by decide +kernel

theorem query_word : ∀ (q : Fin 32) (c : Fin 128),
    IntOp.shrsi ArithUnit.vector (IntOp.addi (Scalar.muli (BitVec.ofNat 32 q.val) 128#32) (BitVec.ofNat 32 c.val)) 6#32
      = BitVec.ofNat 32 ((128 * q.val + c.val) / 64) := by decide +kernel

theorem word_le : ∀ a b : Fin 64, IntOp.cmpi CmpIPredicate.sle (BitVec.ofNat 32 a.val) (BitVec.ofNat 32 b.val) = if a.val ≤ b.val then 1#1 else 0#1 := by
  decide +kernel

theorem chunkMask_apply (i : grid0.Coords) (l : FVec Ideal S256x128 .f32) (k : Fin 256) (c : Fin 128) :
    (chunkMask i l (ix2 k c) : EReal) = if (256 * ((i 2).val / 2) + k.val) / 64 ≤ (128 * (i 2).val + c.val) / 64 then (l (ix2 k c) : EReal) else ⊥ := by
  have hb : Ideal.ofBits FTy.f32 4286578688#32 = (⊥ : EReal) := by simp [Ideal.ofBits, Ideal.ieee]
  pointwise [chunkMask, qPos]
  have hi : (i 2).val < 32 := (i 2).isLt
  have hk := key_word (i 2) k
  have hq := query_word (i 2) c
  have hw := word_le ⟨(256 * ((i 2).val / 2) + k.val) / 64, by omega⟩ ⟨(128 * (i 2).val + c.val) / 64, by omega⟩
  refine (congrArg₂ (fun a b => Scalar.select (IntOp.cmpi CmpIPredicate.sle a b) (l (ix2 k c) : EReal) (Ideal.ofBits FTy.f32 4286578688#32)) hk hq).trans ?_
  rw [hb]
  refine (congrArg (fun w => Scalar.select w (l (ix2 k c) : EReal) ⊥) hw).trans ?_
  by_cases h : (256 * ((i 2).val / 2) + k.val) / 64 ≤ (128 * (i 2).val + c.val) / 64
  · rw [if_pos h, if_pos h]; rfl
  · rw [if_neg h, if_neg h]; rfl

/-! ## The rope queries -/

theorem half_word : ∀ (h : Fin 8) (j : Fin 128),
    (IntOp.cmpi CmpIPredicate.eq
        (Scalar.select
          (IntOp.andi
            (IntOp.cmpi CmpIPredicate.ne
              (IntOp.subi (BitVec.setWidth 32 (IntOp.cmpi CmpIPredicate.sgt (BitVec.ofNat 32 j.val) 0#32))
                (BitVec.setWidth 32 (IntOp.cmpi CmpIPredicate.slt (BitVec.ofNat 32 j.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 j.val) 64#32) 0#32))
          (IntOp.subi (IntOp.divsi ArithUnit.vector (BitVec.ofNat 32 j.val) 64#32) 1#32)
          (IntOp.divsi ArithUnit.vector (BitVec.ofNat 32 j.val) 64#32))
        (BitVec.ofNat 32 (h.val % 2))) = if j.val / 64 = h.val % 2 then 1#1 else 0#1 := by decide +kernel

theorem ropeBlock_apply (X4 : Vec Ideal S512x128 .bf16) (h : Fin 8) (j c : Fin 128) :
    (ropeBlock X4 h (ix2 j c) : EReal) = if j.val / 64 = h.val % 2 then (X4 (ix2 ⟨128 * (h.val / 2) + j.val, by omega⟩ c) : EReal) else 0 := by
  pointwise [ropeBlock, View.ld, featHalf]
  refine (congrArg (fun w => Scalar.select w (X4 (ix2 ⟨128 * (h.val / 2) + j.val, by omega⟩ c) : EReal) 0) (half_word h j)).trans ?_
  by_cases e : j.val / 64 = h.val % 2
  · rw [if_pos e, if_pos e]; rfl
  · rw [if_neg e, if_neg e]; rfl

theorem cols_apply (p : Fin 8 → FVec Ideal S128x128 .bf16) (h : Fin 8) (j c : Fin 128) :
    cols (α := EReal) p (ix2 j ⟨128 * h.val + c.val, by omega⟩) = p h (ix2 j c) := by
  have e : colHead (ix2 j ⟨128 * h.val + c.val, by omega⟩ : S128x1024.Idx) = h := Fin.ext (by show (128 * h.val + c.val) / 128 = h.val; omega)
  unfold cols
  rw [e]
  refine congrArg (p h) ?_
  have e2 : (⟨(128 * h.val + c.val) % 128, Nat.mod_lt _ (by decide)⟩ : Fin 128) = c := Fin.ext (by show (128 * h.val + c.val) % 128 = c.val; omega)
  exact congrArg (ix2 j) e2

/-! ## The logits and the values of a tile -/

theorem tileLogits_apply (X3 : Vec Ideal S1024x128 .bf16) (X5 : Vec Ideal S4096x128 .f32) (X6 : Vec Ideal S4096x1024 .bf16) (X11 : Vec Ideal S128x1024 .bf16)
    (n : Fin 16) (h : Fin 8) (k : Fin 256) (c : Fin 128) : (tileLogits X3 X5 X6 X11 n (fun l => l) h (ix2 k c) : EReal)
      = ∑ x : Fin 128, (X6 (ix2 ⟨256 * n.val + k.val, by omega⟩ ⟨128 * h.val + x.val, by omega⟩) : EReal) * X3 (ix2 ⟨128 * h.val + x.val, by omega⟩ c)
        + ∑ x : Fin 128, (X5 (ix2 ⟨256 * n.val + k.val, by omega⟩ x) : EReal) * X11 (ix2 x ⟨128 * h.val + c.val, by omega⟩) := by
  pointwise [tileLogits, headLogits, tileRope, ropeLogits, logits, View.ld]

theorem turned_apply (X7 : Vec Ideal S4096x1024 .bf16) (n : Fin 16) (h : Fin 8) (d : Fin 128) (k : Fin 256) :
    (turnBlock X7 n h (ix4 0 0 d k) : EReal) = X7 (ix2 ⟨256 * n.val + k.val, by omega⟩ ⟨128 * h.val + d.val, by omega⟩) := by
  pointwise [turnBlock, turned, View.ld]

theorem tileValues_apply (X7 : Vec Ideal S4096x1024 .bf16) (n : Fin 16) (h : Fin 8) (d : Fin 128) (k : Fin 256) :
    (tileValues (turnedX X7) n h (ix4 0 0 d k) : EReal) = X7 (ix2 ⟨256 * n.val + k.val, by omega⟩ ⟨128 * h.val + d.val, by omega⟩) := by
  have e : (tileValues (turnedX X7) n h (ix4 0 0 d k) : EReal) = turnedX X7 (ix4 h n d k) := by
    pointwise [tileValues, View.ld]
  rw [e]
  exact turned_apply X7 n h d k

/-! ## The block -/

section
variable (X3 : Vec Ideal S1024x128 .bf16) (X4 : Vec Ideal S512x128 .bf16) (X5 : Vec Ideal S4096x128 .f32) (X6 X7 : Vec Ideal S4096x1024 .bf16)

/-- The logit of a key for a head's query, before the mask. -/
def rawLogit (h : Fin 8) (c : Fin 128) (k : Fin 4096) : EReal :=
  ∑ x : Fin 128, (X6 (ix2 k ⟨128 * h.val + x.val, by omega⟩) : EReal) * X3 (ix2 ⟨128 * h.val + x.val, by omega⟩ c)
    + ∑ x : Fin 128, (X5 (ix2 k x) : EReal) * (if x.val / 64 = h.val % 2 then (X4 (ix2 ⟨128 * (h.val / 2) + x.val, by omega⟩ c) : EReal) else 0)

theorem logits_raw (n : Fin 16) (h : Fin 8) (k : Fin 256) (c : Fin 128) :
    (tileLogits X3 X5 X6 (cols (ropeBlock X4)) n (fun l => l) h (ix2 k c) : EReal) = rawLogit X3 X4 X5 X6 h c ⟨256 * n.val + k.val, by omega⟩ := by
  rw [tileLogits_apply]
  unfold rawLogit
  refine congrArg _ (Finset.sum_congr rfl fun x _ => ?_)
  exact congrArg _ ((cols_apply (ropeBlock X4) h x c).trans (ropeBlock_apply X4 h x c))

theorem logits_masked (i : grid0.Coords) (n : Fin 16) (hn : n.val = (i 2).val / 2) (h : Fin 8) (k : Fin 256) (c : Fin 128) :
    (tileLogits X3 X5 X6 (cols (ropeBlock X4)) n (chunkMask i) h (ix2 k c) : EReal)
      = if (256 * n.val + k.val) / 64 ≤ (128 * (i 2).val + c.val) / 64 then rawLogit X3 X4 X5 X6 h c ⟨256 * n.val + k.val, by omega⟩ else ⊥ := by
  refine (chunkMask_apply i _ k c).trans ?_
  exact if_congr (by rw [hn]) (logits_raw X3 X4 X5 X6 n h k c) rfl

/-- Each query's results are the quotient of the weighted values by the weights, over all keys its mask lets through. -/
theorem outX_apply (i : grid0.Coords) (h : Fin 8) (c : Fin 128) (L : ℕ → EReal) (V : Fin 128 → ℕ → EReal) (hL : ∀ k, L k ≠ ⊤)
    (hraw : ∀ k : Fin 4096, k.val / 64 ≤ (128 * (i 2).val + c.val) / 64 → rawLogit X3 X4 X5 X6 h c k = L k.val)
    (hmask : ∀ k : ℕ, ¬ k / 64 ≤ (128 * (i 2).val + c.val) / 64 → L k = ⊥)
    (hV : ∀ (d : Fin 128) (k : Fin 4096), (X7 (ix2 k ⟨128 * h.val + d.val, by omega⟩) : EReal) = V d k.val) :
    ∃ μ : ℝ, ∀ d : Fin 128, (outX i X3 X4 X5 X6 X7 (ix2 c ⟨128 * h.val + d.val, by omega⟩) : EReal)
      = Ideal.div (∑ k ∈ Finset.range 4096, V d k * Ideal.exp2 (L k - (μ : EReal))) (∑ k ∈ Finset.range 4096, Ideal.exp2 (L k - (μ : EReal))) := by
  have hi : (i 2).val < 32 := (i 2).isLt
  have hfull : ∀ n : ℕ, n ≤ (i 2).val / 2 → Holds L V n (fullTiles X3 X5 X6 (cols (ropeBlock X4)) (turnedX X7) clear n) h c := by
    intro n
    induction n with
    | zero => intro _; exact holds_clear L V h c
    | succ n ih =>
      intro hn
      have e : (Fin.ofNat 16 n).val = n := Nat.mod_eq_of_lt (by omega)
      have H := holds_tile L V hL _ h c X3 X5 X6 (cols (ropeBlock X4)) (turnedX X7) (Fin.ofNat 16 n) (fun l => l)
        (fun k => by rw [logits_raw]; exact hraw _ (by show (256 * (Fin.ofNat 16 n).val + k.val) / 64 ≤ _; rw [e]; omega))
        (fun d k => by rw [tileValues_apply]; exact hV d _) (by rw [e]; exact ih (by omega))
      rw [e] at H
      exact H
  have e : (Fin.ofNat 16 ((i 2).val / 2)).val = (i 2).val / 2 := Nat.mod_eq_of_lt (by omega)
  have H := holds_tile L V hL _ h c X3 X5 X6 (cols (ropeBlock X4)) (turnedX X7) (Fin.ofNat 16 ((i 2).val / 2)) (chunkMask i)
    (fun k => by
      rw [logits_masked X3 X4 X5 X6 i _ e]
      by_cases hm : (256 * (Fin.ofNat 16 ((i 2).val / 2)).val + k.val) / 64 ≤ (128 * (i 2).val + c.val) / 64
      · rw [if_pos hm]; exact hraw _ hm
      · rw [if_neg hm]; exact (hmask _ hm).symm)
    (fun d k => by rw [tileValues_apply]; exact hV d _) (by rw [e]; exact hfull _ (Nat.le_refl _))
  rw [e] at H
  obtain ⟨μ, hμ⟩ := out_of_holds L V _ _ h c H
  refine ⟨μ, fun d => ?_⟩
  refine ((cols_apply (outBlock (endSums i X3 X4 X5 X6 X7)) h c d).trans (hμ d)).trans ?_
  have hs : Finset.range (256 * ((i 2).val / 2 + 1)) ⊆ Finset.range 4096 := Finset.range_subset_range.mpr (by omega)
  have hz : ∀ k ∈ Finset.range 4096, k ∉ Finset.range (256 * ((i 2).val / 2 + 1)) → Ideal.exp2 (L k - (μ : EReal)) = 0 := by
    intro k _ hk
    rw [Finset.mem_range] at hk
    rw [hmask k (by omega), EReal.bot_sub, Ideal.exp2_bot]
  rw [Finset.sum_subset hs hz, Finset.sum_subset hs fun k h1 h2 => by rw [hz k h1 h2, mul_zero]]
end

theorem castX_apply (X : Vec Ideal S1x32x16384 .f32) (j : Fin 32) (c : Fin 16384) : (castX X (ix2 j c) : EReal) = X (ix3 0 j c) := by
  pointwise [castX, View.ld]

end Cert.KernelIdeal.Mla
-- ==== Proof.Mla.Whole.lean ====
/- The two result arrays of the attention call after its run: the attention of every query, and the cast weight. -/
module

public import proofs.«01_k».proof.Proof.Mla.Arrays
public import proofs.«01_k».proof.Proof.Mla.Block

@[expose] public section

set_option maxRecDepth 65536
set_option maxHeartbeats 0

noncomputable section

namespace Cert.KernelIdeal.Mla

open Idealize.ShloMosaic Idealize.SL.Sem Idealize.ShloMosaic.Pointwise

open Idealize.ShloMosaic.TcCoe Cert.KernelIdeal.Gen Cert.Attn Cert.Online
open Idealize.ShloMosaic.Pipeline (Dat)

/-- The attention of one batch, query, head and value, of whole arrays. -/
def attAt (Q : S2x4096x16x192.Idx → EReal) (KV : S2x4096x16x256.Idx → EReal) (KR : S2x4096x64.Idx → EReal)
    (b : Fin 2) (s : Fin 4096) (h : Fin 16) (d : Fin 128) : EReal :=
  att s.val (fun x => Q (ix4 b s h x)) (fun k x => KV (ix4 b k h ⟨x.val, by omega⟩)) (fun k x => KR (ix3 b k x))
    (fun k => KV (ix4 b k h ⟨128 + d.val, by omega⟩))

/-- The attention of every query, laid out as the result array. -/
def attArray (Q : S2x4096x16x192.Idx → EReal) (KV : S2x4096x16x256.Idx → EReal) (KR : S2x4096x64.Idx → EReal) : S8192x2048.Idx → EReal := fun i =>
  attAt Q KV KR ⟨(i 0).val / 4096, by have : (i 0).val < 8192 := (i 0).isLt; omega⟩ ⟨(i 0).val % 4096, by omega⟩
    ⟨(i 1).val / 128, by have : (i 1).val < 2048 := (i 1).isLt; omega⟩ ⟨(i 1).val % 128, by omega⟩

/-- Of a sum over two halves, one of which is cleared, the other is left. -/
theorem half_sum (p : ℕ) (hp : p < 2) (f g : Fin 64 → EReal) :
    ∑ x : Fin 128, g ⟨x.val % 64, by omega⟩ * (if x.val / 64 = p then f ⟨x.val % 64, by omega⟩ else 0) = ∑ x : Fin 64, g x * f x := by
  rw [show (∑ x : Fin 128, g ⟨x.val % 64, by omega⟩ * (if x.val / 64 = p then f ⟨x.val % 64, by omega⟩ else 0))
    = _ from Fin.sum_univ_add (a := 64) (b := 64) fun x : Fin (64 + 64) => g ⟨x.val % 64, by omega⟩ * (if x.val / 64 = p then f ⟨x.val % 64, by omega⟩ else 0)]
  have e1 : ∀ x : Fin 64, (Fin.castAdd 64 x).val / 64 = 0 := fun x => by show x.val / 64 = 0; omega
  have e2 : ∀ x : Fin 64, (Fin.natAdd 64 x).val / 64 = 1 := fun x => by show (64 + x.val) / 64 = 1; omega
  have e3 : ∀ x : Fin 64, (⟨(Fin.castAdd 64 x).val % 64, by omega⟩ : Fin 64) = x := fun x => Fin.ext (by show x.val % 64 = x.val; omega)
  have e4 : ∀ x : Fin 64, (⟨(Fin.natAdd 64 x).val % 64, by omega⟩ : Fin 64) = x := fun x => Fin.ext (by show (64 + x.val) % 64 = x.val; omega)
  simp only [e1, e2, e3, e4]
  match p, hp with
  | 0, _ => simp
  | 1, _ => simp

variable (m : (ℓ : Loc nD τ sig) → Buf (Elt Ideal) ℓ) (c : Dev nD)

/-- Before the mask, a logit of a point's block is a product of the scaled query with the key. -/
theorem rawLogit_blk (t : Fin 128) (h : Fin 8) (j : Fin 128) (k : Fin 4096) :
    rawLogit (iblk m c 0 t) (iblk m c 1 t) (iblk m c 2 t) (iblk m c 3 t) h j k
      = ∑ x : Fin 128, argKV m c (ix4 (batch t) k (head t h) ⟨x.val, by omega⟩) * (argQ m c (ix4 (batch t) (query t j) (head t h) ⟨x.val, by omega⟩) * factor)
        + ∑ x : Fin 64, argKR m c (ix3 (batch t) k x) * (argQ m c (ix4 (batch t) (query t j) (head t h) ⟨128 + x.val, by omega⟩) * factor) := by
  unfold rawLogit
  refine congrArg₂ (fun a b : EReal => a + b) (Finset.sum_congr rfl fun x _ => ?_) ?_
  · exact congrArg₂ (fun a b : EReal => a * b) (blk3_apply m c t k h x) (blk0_apply m c t h x j)
  · refine Eq.trans (Finset.sum_congr rfl fun x _ => ?_)
      (half_sum (h.val % 2) (by omega) (fun x => argQ m c (ix4 (batch t) (query t j) (head t h) ⟨128 + x.val, by omega⟩) * factor) (fun x => argKR m c (ix3 (batch t) k x)))
    refine congrArg₂ (fun a b : EReal => a * b) (blk2_apply m c t k x) ?_
    by_cases hx : x.val / 64 = h.val % 2
    · rw [if_pos hx, if_pos hx]; exact blk1_apply m c t h x j hx
    · rw [if_neg hx, if_neg hx]

section
variable (hQ : ∀ i, IsReal (argQ m c i)) (hK : ∀ (b : Fin 2) (k : Fin 4096) (h : Fin 16) (x : Fin 128), IsReal (argKV m c (ix4 b k h ⟨x.val, by omega⟩)))
  (hR : ∀ i, IsReal (argKR m c i))
include hQ hK hR

/-- What a point writes to the attention's array. -/
theorem attn_apply (t : Fin 128) (h : Fin 8) (j d : Fin 128) :
    ((attn m c t) (ix2 j ⟨128 * h.val + d.val, by omega⟩) : EReal)
      = attAt (argQ m c) (argKV m c) (argKR m c) (batch t) (query t j) (head t h) d := by
  have hi : ((grid0.coords t) 2).val = t.val % 32 := coord2 t
  have hq : ∀ x, IsReal (argQ m c (ix4 (batch t) (query t j) (head t h) x)) := fun x => hQ _
  have hk : ∀ (k : Fin 4096) (x : Fin 128), IsReal (argKV m c (ix4 (batch t) k (head t h) ⟨x.val, by omega⟩)) := fun k x => hK _ _ _ _
  have hr : ∀ (k : Fin 4096) (x : Fin 64), IsReal (argKR m c (ix3 (batch t) k x)) := fun k x => hR _
  have hc : 0 < c2 := inv_pos.mpr (Real.log_pos (by norm_num))
  let lg : Fin 4096 → EReal := logit (query t j).val (fun x => argQ m c (ix4 (batch t) (query t j) (head t h) x))
    (fun k x => argKV m c (ix4 (batch t) k (head t h) ⟨x.val, by omega⟩)) (fun k x => argKR m c (ix3 (batch t) k x))
  let L : ℕ → EReal := fun k => if hk : k < 4096 then (c2 : EReal) * lg ⟨k, hk⟩ else ⊥
  let W : Fin 128 → ℕ → EReal := fun d k => if hk : k < 4096 then argKV m c (ix4 (batch t) ⟨k, hk⟩ (head t h) ⟨128 + d.val, by omega⟩) else 0
  have hlg : ∀ k, ¬ k.val / 64 ≤ (query t j).val / 64 → lg k = ⊥ := fun k hm => if_neg hm
  have hL : ∀ k : Fin 4096, L k.val = (c2 : EReal) * lg k := fun k => dif_pos k.isLt
  have hW : ∀ (d : Fin 128) (k : Fin 4096), W d k.val = argKV m c (ix4 (batch t) k (head t h) ⟨128 + d.val, by omega⟩) := fun d k => dif_pos k.isLt
  obtain ⟨μ, hμ⟩ := outX_apply (iblk m c 0 t) (iblk m c 1 t) (iblk m c 2 t) (iblk m c 3 t) (iblk m c 4 t) (grid0.coords t) h j L W
    (fun k => by
      by_cases hk4 : k < 4096
      · rw [hL ⟨k, hk4⟩]
        have h1 := logit_ne_top (s := (query t j).val) hq hk hr ⟨k, hk4⟩
        show (c2 : EReal) * lg ⟨k, hk4⟩ ≠ ⊤
        induction e : lg ⟨k, hk4⟩ with
        | bot => rw [EReal.coe_mul_bot_of_pos hc]; exact bot_ne_top
        | top => exact absurd e h1
        | coe x => rw [← EReal.coe_mul]; exact EReal.coe_ne_top _
      · show (if hk : k < 4096 then (c2 : EReal) * lg ⟨k, hk⟩ else ⊥) ≠ ⊤
        rw [dif_neg hk4]; exact bot_ne_top)
    (fun k hm => by
      rw [hL k, rawLogit_blk, scaled hq hk hr k]
      refine congrArg _ (if_pos ?_).symm
      rw [hi] at hm
      exact hm)
    (fun k hm => by
      rw [hi] at hm
      by_cases hk4 : k < 4096
      · rw [hL ⟨k, hk4⟩, hlg ⟨k, hk4⟩ hm, EReal.coe_mul_bot_of_pos hc]
      · exact dif_neg hk4)
    (fun d k => by rw [hW]; exact blk4_apply m c t k h d)
  refine (hμ d).trans ?_
  exact att_eq hq hk hr (query t j).isLt L (W d) hL (hW d) μ

theorem flushed6 (t : Fin cfg0.N) : (dats (F := Ideal) m 0 c).flushed 6 t
    = ((cfg0.win 6).blk t).view.read (Elt Ideal) (attArray (argQ m c) (argKV m c) (argKR m c)) := by
  show (cfg0.win 6).cut (grid0.coords t) ((dats m 0 c).after 6 t) = _
  rw [after6]
  funext y
  obtain ⟨_, _, _, _, _, _, _, _, _, _, _, _, _, e0, e1, _⟩ := coord0 t
  have ht : t.val < 128 := t.isLt
  have hy0 : (y 0).val < 128 := (y 0).isLt
  have hy1 : (y 1).val < 1024 := (y 1).isLt
  have h0 : ((win0_6.blk t).view.emb y 0).val = (32 * (t.val / 64) + t.val % 32) * 128 + 1 * (y 0).val := by
    rw [← e0]; rfl
  have h1 : ((win0_6.blk t).view.emb y 1).val = t.val / 32 % 2 * 1024 + 1 * (y 1).val := by
    rw [← e1]; rfl
  have hy : y = ix2 (⟨(y 0).val, hy0⟩ : Fin 128) (⟨128 * ((y 1).val / 128) + (y 1).val % 128, by omega⟩ : Fin 1024) := by
    refine funext fun a => Fin.ext ?_
    match a with
    | ⟨0, _⟩ => rfl
    | ⟨1, _⟩ => show (y 1).val = 128 * ((y 1).val / 128) + (y 1).val % 128; omega
  show attn m c t y = attArray (argQ m c) (argKV m c) (argKR m c) ((win0_6.blk t).view.emb y)
  refine (congrArg (attn m c t) hy).trans ((attn_apply m c hQ hK hR t ⟨(y 1).val / 128, by omega⟩ ⟨(y 0).val, hy0⟩ ⟨(y 1).val % 128, by omega⟩).trans ?_)
  have a1 : batch t = ⟨((win0_6.blk t).view.emb y 0).val / 4096, by rw [h0]; omega⟩ := Fin.ext (by show t.val / 64 = ((win0_6.blk t).view.emb y 0).val / 4096; rw [h0]; omega)
  have a2 : query t ⟨(y 0).val, hy0⟩ = ⟨((win0_6.blk t).view.emb y 0).val % 4096, by omega⟩ :=
    Fin.ext (by show 128 * (t.val % 32) + (y 0).val = ((win0_6.blk t).view.emb y 0).val % 4096; rw [h0]; omega)
  have a3 : head t ⟨(y 1).val / 128, by omega⟩ = ⟨((win0_6.blk t).view.emb y 1).val / 128, by rw [h1]; omega⟩ :=
    Fin.ext (by show 8 * (t.val / 32 % 2) + (y 1).val / 128 = ((win0_6.blk t).view.emb y 1).val / 128; rw [h1]; omega)
  have a4 : (⟨(y 1).val % 128, by omega⟩ : Fin 128) = ⟨((win0_6.blk t).view.emb y 1).val % 128, by omega⟩ :=
    Fin.ext (by show (y 1).val % 128 = ((win0_6.blk t).view.emb y 1).val % 128; rw [h1]; omega)
  rw [a1, a2, a3, a4]
  rfl

end

theorem onto6 : ∀ (a : Fin 64) (b : Fin 2), ∃ t : Fin cfg0.N, win0_6.flush t = true ∧ win0_6.index t (0 : Fin 2) = a.val ∧ win0_6.index t (1 : Fin 2) = b.val :=
  (by decide +kernel : ∀ (a : Fin 64) (b : Fin 2), ∃ t : Fin grid0.N, win0_6.flush t = true ∧ win0_6.index t (0 : Fin 2) = a.val ∧ win0_6.index t (1 : Fin 2) = b.val)

theorem onto7 : ∀ (a : Fin 128), ∃ t : Fin cfg0.N, win0_7.flush t = true ∧ win0_7.index t (0 : Fin 2) = a.val ∧ win0_7.index t (1 : Fin 2) = 0 :=
  (by decide +kernel : ∀ (a : Fin 128), ∃ t : Fin grid0.N, win0_7.flush t = true ∧ win0_7.index t (0 : Fin 2) = a.val ∧ win0_7.index t (1 : Fin 2) = 0)

theorem mem6 (t : Fin cfg0.N) (i : S8192x2048.Idx) :
    i ∈ ((cfg0.win 6).blk t).view.set ↔ ∀ a : Fin 2, win0_6.index t a * win0_6.size a ≤ (i a : Nat)
      ∧ (i a : Nat) < win0_6.index t a * win0_6.size a + win0_6.xsize (grid0.coords t) a := by
  show i ∈ ((View.whole main_v25_0).slice (win0_6.rect t)).set ↔ _
  rw [View.set_slice_whole, Rect.mem_set_unit]
  exact Iff.rfl

theorem mem7 (t : Fin cfg0.N) (i : S4096x16384.Idx) :
    i ∈ ((cfg0.win 7).blk t).view.set ↔ ∀ a : Fin 2, win0_7.index t a * win0_7.size a ≤ (i a : Nat)
      ∧ (i a : Nat) < win0_7.index t a * win0_7.size a + win0_7.xsize (grid0.coords t) a := by
  show i ∈ ((View.whole main_v25_1).slice (win0_7.rect t)).set ↔ _
  rw [View.set_slice_whole, Rect.mem_set_unit]
  exact Iff.rfl

theorem cover6 (i : S8192x2048.Idx) : ∃ t : Fin cfg0.N, (cfg0.win 6).flush t = true ∧ i ∈ ((cfg0.win 6).blk t).view.set := by
  have h0 : (i 0 : Nat) < 8192 := (i 0).isLt
  have h1 : (i 1 : Nat) < 2048 := (i 1).isLt
  obtain ⟨t, hf, e0, e1⟩ := onto6 ⟨(i 0 : Nat) / 128, by omega⟩ ⟨(i 1 : Nat) / 1024, by omega⟩
  refine ⟨t, hf, ?_⟩
  rw [mem6]
  intro a
  match a with
  | ⟨0, _⟩ => show win0_6.index t 0 * 128 ≤ (i 0 : Nat) ∧ (i 0 : Nat) < win0_6.index t 0 * 128 + 128
              rw [e0]; dsimp only; omega
  | ⟨1, _⟩ => show win0_6.index t 1 * 1024 ≤ (i 1 : Nat) ∧ (i 1 : Nat) < win0_6.index t 1 * 1024 + 1024
              rw [e1]; dsimp only; omega

theorem cover7 (i : S4096x16384.Idx) : ∃ t : Fin cfg0.N, (cfg0.win 7).flush t = true ∧ i ∈ ((cfg0.win 7).blk t).view.set := by
  have h0 : (i 0 : Nat) < 4096 := (i 0).isLt
  have h1 : (i 1 : Nat) < 16384 := (i 1).isLt
  obtain ⟨t, hf, e0, e1⟩ := onto7 ⟨(i 0 : Nat) / 32, by omega⟩
  refine ⟨t, hf, ?_⟩
  rw [mem7]
  intro a
  match a with
  | ⟨0, _⟩ => show win0_7.index t 0 * 32 ≤ (i 0 : Nat) ∧ (i 0 : Nat) < win0_7.index t 0 * 32 + 32
              rw [e0]; dsimp only; omega
  | ⟨1, _⟩ => show win0_7.index t 1 * 16384 ≤ (i 1 : Nat) ∧ (i 1 : Nat) < win0_7.index t 1 * 16384 + 16384
              rw [e1]; omega

/-- The attention's array ends holding the attention of every query. -/
theorem final6 (hQ : ∀ i, IsReal (argQ m c i)) (hK : ∀ (b : Fin 2) (k : Fin 4096) (h : Fin 16) (x : Fin 128), IsReal (argKV m c (ix4 b k h ⟨x.val, by omega⟩)))
    (hR : ∀ i, IsReal (argKR m c i)) : (dats (F := Ideal) m 0 c).arrAt 6 cfg0.N = attArray (argQ m c) (argKV m c) (argKR m c) :=
  (dats m 0 c).arrAt_eq_of_cover 6 (attArray (argQ m c) (argKV m c) (argKR m c)) (fun t _ => flushed6 m c hQ hK hR t) cover6

/-- The second layer's weight. -/
def castArray (W : S2x4096x16384.Idx → EReal) : S4096x16384.Idx → EReal := fun i => W (ix3 1 (i 0) (i 1))

theorem flushed7 (t : Fin cfg0.N) : (dats (F := Ideal) m 0 c).flushed 7 t
    = ((cfg0.win 7).blk t).view.read (Elt Ideal) (castArray (argW m c)) := by
  show (cfg0.win 7).cut (grid0.coords t) ((dats m 0 c).after 7 t) = _
  rw [after7]
  funext y
  obtain ⟨_, _, _, _, _, _, _, _, _, _, _, _, _, _, _, e0, e1⟩ := coord0 t
  have hy0 : (y 0).val < 32 := (y 0).isLt
  have hy1 : (y 1).val < 16384 := (y 1).isLt
  have ht : t.val < 128 := t.isLt
  show castX (iblk m c 5 t) y = castArray (argW m c) ((win0_7.blk t).view.emb y)
  have hy : y = ix2 (⟨(y 0).val, hy0⟩ : Fin 32) (⟨(y 1).val, hy1⟩ : Fin 16384) := by
    refine funext fun a => Fin.ext ?_
    match a with
    | ⟨0, _⟩ => rfl
    | ⟨1, _⟩ => rfl
  refine (congrArg (castX (iblk m c 5 t)) hy).trans ((castX_apply (iblk m c 5 t) ⟨(y 0).val, hy0⟩ ⟨(y 1).val, hy1⟩).trans ((blk5_apply m c t _ _).trans ?_))
  unfold castArray
  refine congrArg₂ (fun a b => argW m c (ix3 1 a b)) (Fin.ext ?_) (Fin.ext ?_)
  · show 32 * t.val + (y 0).val = win0_7.index t 0 * 32 + 1 * (y 0).val
    rw [e0]; omega
  · show (y 1).val = win0_7.index t 1 * 16384 + 1 * (y 1).val
    rw [e1]; omega

theorem final7 : (dats (F := Ideal) m 0 c).arrAt 7 cfg0.N = castArray (argW m c) :=
  (dats m 0 c).arrAt_eq_of_cover 7 (castArray (argW m c)) (fun t _ => flushed7 m c t) cover7

end Cert.KernelIdeal.Mla
-- ==== Proof.Mla.Ref.lean ====
/- The reference of the attention call, element by element: the attention of every query, and the cast weight. -/
module

public import proofs.«01_k».proof.Proof.Mla.Whole
public import proofs.«01_k».proof.Proof.Gen.ReferenceIdeal.Run
public import proofs.«01_k».proof.Proof.Gen.ReferenceIdeal.Read
public import Idealize.ShloMosaic.Lib.Pointwise
public import Idealize.ShloMosaic.Lib.Tactic

@[expose] public section

set_option maxRecDepth 65536
set_option maxHeartbeats 0

noncomputable section

namespace Cert.ReferenceIdeal.Mla

open Idealize.ShloMosaic Idealize.SL.Sem Idealize.ShloMosaic.Pointwise

open Cert.ReferenceIdeal Cert.ReferenceIdeal.Gen Cert.ReferenceIdeal.Read Cert.Attn

variable (x0 : (⟨S2x4096x16x192, .f32⟩ : BufTy).Contents (Elt Ideal)) (x1 : (⟨S2x4096x16x256, .f32⟩ : BufTy).Contents (Elt Ideal))
  (x2 : (⟨S2x4096x64, .f32⟩ : BufTy).Contents (Elt Ideal)) (x3 : (⟨S2x4096x16384, .f32⟩ : BufTy).Contents (Elt Ideal))

theorem bot_word : Ideal.ofBits FTy.f32 4286578688#32 = (⊥ : EReal) := by simp [Ideal.ofBits, Ideal.ieee]

theorem zero_word : Ideal.ofBits FTy.f32 0#32 = (0 : EReal) := by simp [Ideal.ofBits, Ideal.ieee]

/-- A key's chunk: its position over 64, as the integer quotient rounded down computes it. -/
theorem chunk_apply (k : Fin 4096) : val_main_v9 (F := Ideal) (ix1 k) = BitVec.ofNat 32 (k.val / 64) := by
  pointwise [val_main_v9, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_c, val_main_call0_c_0, val_main_c, val_main_v4]
  revert k
  decide +kernel

/-- A query's chunk is computed the same way. -/
theorem chunk'_apply (k : Fin 4096) : val_main_v11 (F := Ideal) (ix1 k) = BitVec.ofNat 32 (k.val / 64) :=
  chunk_apply k

/-- The key of a position and head: its own 128 entries, then the 64 rotary entries all heads share. -/
theorem key_apply (b : Fin 2) (k : Fin 4096) (h : Fin 16) (x : Fin 192) :
    (val_main_v3 (F := Ideal) x1 x2 (ix4 b k h x) : EReal)
      = if hx : x.val < 128 then x1 (ix4 b k h ⟨x.val, by omega⟩) else x2 (ix3 b k ⟨x.val - 128, by omega⟩) := by
  pointwise [val_main_v3, val_main_v0, val_main_v1, val_main_v2]

theorem logits_apply (b : Fin 2) (h : Fin 16) (s k : Fin 4096) :
    (val_main_v16 (F := Ideal) x0 x1 x2 (ix4 b h s k) : EReal)
      = logit s.val (fun x => x0 (ix4 b s h x)) (fun k x => x1 (ix4 b k h ⟨x.val, by omega⟩)) (fun k x => x2 (ix3 b k x)) k := by
  pointwise [val_main_v16, val_main_call2_v0, val_main_call2_v1, val_main_call2_v2, val_main_v15, val_main_v14, val_main_v13, val_main_v12, val_main_v10, val_main_v8, val_main_v7, val_main_v6, val_main_v5, val_main_cst, val_main_cst_1]
  rw [chunk_apply, chunk'_apply]
  have hw := Cert.KernelIdeal.Mla.word_le ⟨k.val / 64, by omega⟩ ⟨s.val / 64, by omega⟩
  have hs : (∑ x : Fin 192, (x0 (ix4 b s h x) : EReal) * (val_main_v3 (F := Ideal) x1 x2 (ix4 b k h x) : EReal))
      = score (fun x => x0 (ix4 b s h x)) (fun k x => x1 (ix4 b k h ⟨x.val, by omega⟩)) (fun k x => x2 (ix3 b k x)) k := by
    simp only [key_apply]
    refine (Fin.sum_univ_add (a := 128) (b := 64) fun x : Fin (128 + 64) => (x0 (ix4 b s h x) : EReal) * (if hx : x.val < 128 then x1 (ix4 b k h ⟨x.val, by omega⟩) else x2 (ix3 b k ⟨x.val - 128, by omega⟩))).trans ?_
    unfold score
    refine congrArg₂ (fun a b : EReal => a + b) (Finset.sum_congr rfl fun x _ => ?_) (Finset.sum_congr rfl fun x _ => ?_)
    · exact congrArg (fun a : EReal => (x0 (ix4 b s h ⟨x.val, by omega⟩) : EReal) * a) (dif_pos x.isLt)
    · refine congrArg (fun a : EReal => (x0 (ix4 b s h ⟨128 + x.val, by omega⟩) : EReal) * a) ((dif_neg (show ¬ (128 + x.val < 128) by omega)).trans ?_)
      exact congrArg (fun y : Fin 64 => (x2 (ix3 b k y) : EReal)) (Fin.ext (show 128 + x.val - 128 = x.val by omega))
  refine (congrArg₂ (fun (w : BitVec 1) (a : EReal) => Scalar.select w (Ideal.div a (Ideal.sqrt (Ideal.ofBits FTy.f32 1128267776#32))) (Ideal.ofBits FTy.f32 4286578688#32)) hw hs).trans ?_
  show Scalar.select _ (Ideal.div _ (Ideal.sqrt (Ideal.ofBits FTy.f32 1128267776#32))) (Ideal.ofBits FTy.f32 4286578688#32) = _
  rw [Cert.KernelIdeal.Mla.root_word, bot_word]
  unfold logit
  dsimp only
  by_cases hc : k.val / 64 ≤ s.val / 64
  · rw [if_pos hc, if_pos hc]; rfl
  · rw [if_neg hc, if_neg hc]; rfl

/-- A maximum over the last axis is the fold of `max`. -/
theorem fold_apply (y : FVec Ideal S2x16x4096x4096 .f32) (v : FVec Ideal S_ .f32) (b : Fin 2) (h : Fin 16) (s : Fin 4096) :
    (show EReal from Host.reduce (FloatOps.maximumf (F := Ideal) (φ := .f32)) y v reducesTo_S2x16x4096x4096_S2x16x4096_d3 h_S_ (ix3 b h s))
      = Finset.univ.fold max (v ix0 : EReal) (fun k : Fin 4096 => (y (ix4 b h s k) : EReal)) := by
  show Host.reduce (FloatOps.maximumf (F := Ideal) (φ := .f32)) y v reducesTo_S2x16x4096x4096_S2x16x4096_d3 h_S_ (ix3 b h s) = _
  pointwise
  exact congrArg (fun i => Finset.univ.fold max (v i : EReal) (fun k : Fin 4096 => (y (ix4 b h s k) : EReal))) (funext fun a => a.elim0)

/-- A sum over the last axis. -/
theorem sum_apply (y : FVec Ideal S2x16x4096x4096 .f32) (v : FVec Ideal S_ .f32) (b : Fin 2) (h : Fin 16) (s : Fin 4096) :
    (show EReal from Host.reduceAdd y v reducesTo_S2x16x4096x4096_S2x16x4096_d3 h_S_ (ix3 b h s))
      = (v ix0 : EReal) + ∑ k : Fin 4096, (y (ix4 b h s k) : EReal) := by
  show Host.reduceAdd y v reducesTo_S2x16x4096x4096_S2x16x4096_d3 h_S_ (ix3 b h s) = _
  pointwise
  exact congrArg (fun i => (v i : EReal) + ∑ k : Fin 4096, (y (ix4 b h s k) : EReal)) (funext fun a => a.elim0)

/-- The largest logit of a row. -/
theorem max_apply (y : FVec Ideal S2x16x4096x4096 .f32) (f : Fin 4096 → EReal) (b : Fin 2) (h : Fin 16) (s : Fin 4096)
    (hy : ∀ k : Fin 4096, (y (ix4 b h s k) : EReal) = f k) :
    (show EReal from Host.reduce (FloatOps.maximumf (F := Ideal) (φ := .f32)) y (val_main_cst_2 (F := Ideal)) reducesTo_S2x16x4096x4096_S2x16x4096_d3 h_S_ (ix3 b h s))
      = Finset.univ.fold max ⊥ f := by
  have hb : (val_main_cst_2 (F := Ideal) ix0 : EReal) = ⊥ := bot_word
  rw [fold_apply, hb]
  exact congrArg (fun f : Fin 4096 → EReal => Finset.univ.fold max ⊥ f) (funext hy)

theorem low_apply (b : Fin 2) (h : Fin 16) (s : Fin 4096) : (val_main_v18 (F := Ideal) (ix3 b h s) : EReal) = ⊥ := by
  pointwise [val_main_v18, val_main_cst_3]
  exact bot_word

theorem row_apply (b : Fin 2) (h : Fin 16) (s : Fin 4096) :
    (val_main_v17 (F := Ideal) x0 x1 x2 (ix3 b h s) : EReal)
      = Finset.univ.fold max ⊥ (logit s.val (fun x => x0 (ix4 b s h x)) (fun k x => x1 (ix4 b k h ⟨x.val, by omega⟩)) (fun k x => x2 (ix3 b k x))) :=
  max_apply (val_main_v16 (F := Ideal) x0 x1 x2) _ b h s fun k => logits_apply x0 x1 x2 b h s k

theorem max_bot (a b : EReal) (h : a = ⊥) : max a b = b := by rw [h]; exact max_eq_right bot_le

theorem max_at (u v : FVec Ideal S2x16x4096 .f32) (i : S2x16x4096.Idx) (h : (u i : EReal) = ⊥) : (maximumf u v i : EReal) = v i :=
  max_bot _ _ h

theorem top_apply (b : Fin 2) (h : Fin 16) (s : Fin 4096) :
    (val_main_v19 (F := Ideal) x0 x1 x2 (ix3 b h s) : EReal)
      = top s.val (fun x => x0 (ix4 b s h x)) (fun k x => x1 (ix4 b k h ⟨x.val, by omega⟩)) (fun k x => x2 (ix3 b k x)) :=
  (max_at (val_main_v18 (F := Ideal)) (val_main_v17 (F := Ideal) x0 x1 x2) (ix3 b h s) (low_apply b h s)).trans (row_apply x0 x1 x2 b h s)

/-- The exponential of a logit less the largest. -/
theorem exp_apply (b : Fin 2) (h : Fin 16) (s k : Fin 4096) :
    (val_main_v23 (F := Ideal) x0 x1 x2 (ix4 b h s k) : EReal)
      = Ideal.exp ((val_main_v16 (F := Ideal) x0 x1 x2 (ix4 b h s k) : EReal) - val_main_v19 (F := Ideal) x0 x1 x2 (ix3 b h s)) := by
  pointwise [val_main_v23, val_main_v22, val_main_v21, val_main_v20]

/-- The sum of the exponentials. -/
theorem norm_apply (b : Fin 2) (h : Fin 16) (s : Fin 4096) :
    (val_main_v24 (F := Ideal) x0 x1 x2 (ix3 b h s) : EReal) = ∑ k : Fin 4096, (val_main_v23 (F := Ideal) x0 x1 x2 (ix4 b h s k) : EReal) := by
  unfold val_main_v24
  refine (sum_apply (val_main_v23 (F := Ideal) x0 x1 x2) _ b h s).trans ?_
  have : (val_main_cst_4 (F := Ideal) ix0 : EReal) = 0 := zero_word
  rw [this, zero_add]

theorem out_apply (b : Fin 2) (s : Fin 4096) (h : Fin 16) (d : Fin 128) :
    (val_main_v32 (F := Ideal) x0 x1 x2 (ix2 ⟨4096 * b.val + s.val, by omega⟩ ⟨128 * h.val + d.val, by omega⟩) : EReal)
      = att s.val (fun x => x0 (ix4 b s h x)) (fun k x => x1 (ix4 b k h ⟨x.val, by omega⟩)) (fun k x => x2 (ix3 b k x))
          (fun k => x1 (ix4 b k h ⟨128 + d.val, by omega⟩)) := by
  have h1 : (val_main_v32 (F := Ideal) x0 x1 x2 (ix2 ⟨4096 * b.val + s.val, by omega⟩ ⟨128 * h.val + d.val, by omega⟩) : EReal)
      = ∑ k : Fin 4096, (x1 (ix4 b k h ⟨128 + d.val, by omega⟩) : EReal) * Ideal.div (val_main_v23 (F := Ideal) x0 x1 x2 (ix4 b h s k)) (val_main_v24 (F := Ideal) x0 x1 x2 (ix3 b h s)) := by
    pointwise [val_main_v32, val_main_v31, val_main_v30, val_main_v29, val_main_v28, val_main_v27, val_main_v26, val_main_v25]
  rw [h1, norm_apply]
  simp only [exp_apply, logits_apply, top_apply]
  rfl

theorem out_eq : (val_main_v32 (F := Ideal) x0 x1 x2 : S8192x2048.Idx → EReal) = Cert.KernelIdeal.Mla.attArray x0 x1 x2 := by
  funext i
  have h0 : (i 0).val < 8192 := (i 0).isLt
  have h1 : (i 1).val < 2048 := (i 1).isLt
  have hi : i = ix2 (⟨4096 * ((i 0).val / 4096) + (i 0).val % 4096, by omega⟩ : Fin 8192) (⟨128 * ((i 1).val / 128) + (i 1).val % 128, by omega⟩ : Fin 2048) := by
    funext a
    match a with
    | ⟨0, _⟩ => exact Fin.ext (show (i 0).val = 4096 * ((i 0).val / 4096) + (i 0).val % 4096 by omega)
    | ⟨1, _⟩ => exact Fin.ext (show (i 1).val = 128 * ((i 1).val / 128) + (i 1).val % 128 by omega)
  refine (congrArg (fun j : S8192x2048.Idx => (val_main_v32 (F := Ideal) x0 x1 x2 j : EReal)) hi).trans ?_
  exact out_apply x0 x1 x2 ⟨(i 0).val / 4096, by omega⟩ ⟨(i 0).val % 4096, by omega⟩ ⟨(i 1).val / 128, by omega⟩ ⟨(i 1).val % 128, by omega⟩

theorem cast_eq : (val_main_v35 (F := Ideal) x3 : S4096x16384.Idx → EReal) = Cert.KernelIdeal.Mla.castArray x3 := by
  funext i
  pointwise! [val_main_v35, val_main_v34, val_main_v33, Cert.KernelIdeal.Mla.castArray]

end Cert.ReferenceIdeal.Mla
-- ==== Proof.Mla.Finite.lean ====
/- What the precondition says: every query, every key and every rotary key is a real number. -/
module

public import proofs.«01_k».proof.Defs
public import proofs.«01_k».proof.Proof.Gen.Pre_finite
public import proofs.«01_k».proof.Proof.Mla.Online
public import Idealize.ShloMosaic.Lib.Pointwise
public import Idealize.ShloMosaic.Lib.Tactic

@[expose] public section

set_option maxRecDepth 65536
set_option maxHeartbeats 0

noncomputable section

namespace Cert.Pre_finite.Mla

open Idealize.ShloMosaic Idealize.SL.Sem Idealize.ShloMosaic.Pointwise
open Cert.Pre_finite Cert.Pre_finite.Gen Cert.Online

variable {a0 : FVec Ideal S2x4096x16x192 .f32} {a1 : FVec Ideal S2x4096x16x256 .f32} {a2 : FVec Ideal S2x4096x64 .f32} {a3 : FVec Ideal S2x4096x16384 .f32}

theorem top_word : Ideal.ofBits FTy.f32 2139095040#32 = (⊤ : EReal) := by simp [Ideal.ofBits, Ideal.ieee]

/-- A number whose absolute value lies below `⊤` is real. -/
theorem real_of_abs (x : EReal) (h : Ideal.cmp .olt (max x (-x)) (⊤ : EReal) = 1#1) : IsReal x := by
  have h' : max x (-x) < ⊤ := by
    by_contra hc
    simp [Ideal.cmp, hc] at h
  refine isReal_of x (fun e => ?_) (fun e => ?_)
  · subst e; simp at h'
  · subst e; simp at h'

/-- The predicate at one entry: the queries, the keys and the rotary keys side by side. -/
theorem fn_apply (b : Fin 2) (k : Fin 4096) (h : Fin 16) (x : Fin 384) (hf : fn (F := Ideal) a0 a1 a2 a3 = fun _ => 1#1) :
    IsReal (if _ : x.val < 192 then (a0 (ix4 b k h ⟨x.val, by omega⟩) : EReal)
      else if _ : x.val - 192 < 128 then a1 (ix4 b k h ⟨x.val - 192, by omega⟩) else a2 (ix3 b k ⟨x.val - 192 - 128, by omega⟩)) := by
  have e := congrFun hf (ix4 b k h x)
  unfold fn at e
  pointwise at e
  refine real_of_abs _ ?_
  rw [← top_word]
  exact e

theorem query_real (hf : fn (F := Ideal) a0 a1 a2 a3 = fun _ => 1#1) (i : S2x4096x16x192.Idx) : IsReal (a0 i) := by
  have := fn_apply (i 0) (i 1) (i 2) ⟨(i 3).val, lt_trans (i 3).isLt (by decide)⟩ hf
  rw [dif_pos (show (i 3).val < 192 from (i 3).isLt)] at this
  exact (congrArg (fun j : S2x4096x16x192.Idx => IsReal (a0 j)) (show ix4 (i 0) (i 1) (i 2) (i 3) = i from by
    funext a
    match a with
    | ⟨0, _⟩ => rfl
    | ⟨1, _⟩ => rfl
    | ⟨2, _⟩ => rfl
    | ⟨3, _⟩ => rfl)).mp this

theorem key_real (hf : fn (F := Ideal) a0 a1 a2 a3 = fun _ => 1#1) (b : Fin 2) (k : Fin 4096) (h : Fin 16) (x : Fin 128) :
    IsReal (a1 (ix4 b k h ⟨x.val, by omega⟩)) := by
  have := fn_apply b k h ⟨192 + x.val, by omega⟩ hf
  rw [dif_neg (show ¬ (192 + x.val < 192) by omega), dif_pos (show 192 + x.val - 192 < 128 by omega)] at this
  exact (congrArg (fun y : Fin 256 => IsReal (a1 (ix4 b k h y))) (Fin.ext (show 192 + x.val - 192 = x.val by omega))).mp this

theorem rotary_real (hf : fn (F := Ideal) a0 a1 a2 a3 = fun _ => 1#1) (i : S2x4096x64.Idx) : IsReal (a2 i) := by
  have hi : (i 2).val < 64 := (i 2).isLt
  have := fn_apply (i 0) (i 1) 0 ⟨320 + (i 2).val, by omega⟩ hf
  rw [dif_neg (show ¬ (320 + (i 2).val < 192) by omega), dif_neg (show ¬ (320 + (i 2).val - 192 < 128) by omega)] at this
  exact (congrArg (fun j : S2x4096x64.Idx => IsReal (a2 j)) (show ix3 (i 0) (i 1) (⟨320 + (i 2).val - 192 - 128, by omega⟩ : Fin 64) = i from by
    funext a
    match a with
    | ⟨0, _⟩ => rfl
    | ⟨1, _⟩ => rfl
    | ⟨2, _⟩ => exact Fin.ext (show 320 + (i 2).val - 192 - 128 = (i 2).val by omega))).mp this

end Cert.Pre_finite.Mla
-- ==== Proof.Mla.Equation.lean ====
/- The attention call and its reference give the same two arrays, where the queries and keys are real numbers. -/
module

public import proofs.«01_k».proof.Proof.Mla.Frame
public import proofs.«01_k».proof.Proof.Mla.Whole
public import proofs.«01_k».proof.Proof.Mla.Ref
public import proofs.«01_k».proof.Proof.Mla.Finite

@[expose] public section

set_option maxRecDepth 65536

noncomputable section

namespace Cert.KernelIdeal.Mla

open Idealize.ShloMosaic Idealize.SL.Sem
open Idealize.ShloMosaic.TcCoe Cert.KernelIdeal.Gen

variable (m : (ℓ : Loc nD τ sig) → Buf (Elt Ideal) ℓ) (ρ : Dev nD → PrngReg)

/-- The kernel's run: its two result arrays, and its arguments as they were. -/
theorem run_values (hp : Cert.Pre_KernelIdeal_finite m) : θ_run defs (onTc (τ := τ) (main (F := Ideal))) ⟨m, fun _ => 0, ρ⟩ (fun r => ∀ c : Dev nD,
      r.2.mem ((c.tc : Thread nD τ).loc main_v25_0) = attArray (argQ m c) (argKV m c) (argKR m c)
      ∧ r.2.mem ((c.tc : Thread nD τ).loc main_v25_1) = castArray (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).1 6).trans (final6 m c (Cert.Pre_finite.Mla.query_real (hp c)) (Cert.Pre_finite.Mla.key_real (hp c)) (Cert.Pre_finite.Mla.rotary_real (hp c))),
      ((h.1 c).1 7).trans (final7 m c), h.2 c⟩)
    (θ_run_and (run_main m ρ) (frame_of m ρ (dats m) (A_eq m) (run_main m ρ)))

/-- Over the extended reals the kernel and the reference give the same attention and the same cast weight. -/
theorem algebraic : Cert.algebraic_KernelIdeal_ReferenceIdeal_pre_finite := fun m g m' g' hp agree =>
  ⟨fun c => attArray (argQ m c) (argKV m c) (argKR m c), fun c => castArray (argW m c),
    run_values m g hp,
    (θ_run Cert.ReferenceIdeal.defs _ _).mono (fun _ h c => by
      obtain ⟨e0, e1, e2, e3⟩ := agree c
      refine ⟨(h c).1.trans ((Cert.ReferenceIdeal.Read.val_main_v32_eq (F := Ideal) m' c).trans ((Cert.ReferenceIdeal.Mla.out_eq _ _ _).trans ?_)),
        (h c).2.1.trans ((Cert.ReferenceIdeal.Read.val_main_v35_eq (F := Ideal) _).trans ((Cert.ReferenceIdeal.Mla.cast_eq _).trans ?_)), (h c).2.2⟩
      · show _ = attArray (argQ m c) (argKV m c) (argKR m c)
        rw [e0, e1, e2]; rfl
      · show _ = castArray (argW m c)
        rw [e3]; rfl) (Cert.ReferenceIdeal.Value.run m' g')⟩

end Cert.KernelIdeal.Mla
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Loops
public import proofs.«01_k».proof.Proof.Gen.KernelIdeal.Frame
public import proofs.«01_k».proof.Proof.Gen.Pre_finite
public import proofs.«01_k».proof.Proof.Gen.ReferenceIdeal
public import proofs.«01_k».proof.Proof.Gen.ReferenceIdeal.Read
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.UpProjection
public import proofs.«01_k».proof.Proof.DownProjection
public import proofs.«01_k».proof.Proof.OutProjection
public import proofs.«01_k».proof.Proof.FinalNorm
public import proofs.«01_k».proof.Proof.InPlain
public import proofs.«01_k».proof.Proof.LatentQueries
public import proofs.«01_k».proof.Proof.LatentKeys
public import proofs.«01_k».proof.Proof.KeyValues
public import proofs.«01_k».proof.Proof.InPrepRun
public import proofs.«01_k».proof.Proof.Mla.Bits
public import proofs.«01_k».proof.Proof.Mla.Equation
public import Idealize.ShloMosaic.Adequacy
public import Idealize.ShloMosaic.Init

@[expose] public section

noncomputable section

namespace Cert.Proof

open Idealize.ShloMosaic Idealize.SL.Sem

/-- The attention's reference runs and leaves its arguments. -/
theorem frame_r1 : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- The reference 2 runs and leaves its arguments: the generated run of its operations, which counts no semaphore. -/
theorem frame_r2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The reference 3 runs and leaves its arguments: the generated run of its operations, which counts no semaphore. -/
theorem frame_r3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

/-- The reference 4 runs and leaves its arguments: the generated run of its operations, which counts no semaphore. -/
theorem frame_r4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- The reference 5 runs and leaves its arguments: the generated run of its operations, which counts no semaphore. -/
theorem frame_r5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

/-- The reference 6 runs and leaves its arguments: the generated run of its operations, which counts no semaphore. -/
theorem frame_r6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

/-- The reference 7 runs and leaves its arguments: the generated run of its operations, which counts no semaphore. -/
theorem frame_r7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

/-- The reference 8 runs and leaves its arguments: the generated run of its operations, which counts no semaphore. -/
theorem frame_r8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run m ρ)

/-- The reference 9 runs and leaves its arguments: the generated run of its operations, which counts no semaphore. -/
theorem frame_r9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

/-- The reference 10 runs and leaves its arguments: the generated run of its operations, which counts no semaphore. -/
theorem frame_r10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

theorem claim : Cert.Claim := ⟨Cert.Kernel.Gen.facts,
    Cert.KernelIdeal.Gen.facts, Cert.ReferenceIdeal.Gen.facts,
    Cert.Kernel2.Gen.facts,
    Cert.Kernel2Ideal.Gen.facts, Cert.Reference2Ideal.Gen.facts,
    Cert.Kernel3.Gen.facts,
    Cert.Kernel3Ideal.Gen.facts, Cert.Reference3Ideal.Gen.facts,
    Cert.Kernel4.Gen.facts,
    Cert.Kernel4Ideal.Gen.facts, Cert.Reference4Ideal.Gen.facts,
    Cert.Kernel5.Gen.facts,
    Cert.Kernel5Ideal.Gen.facts, Cert.Reference5Ideal.Gen.facts,
    Cert.Kernel6.Gen.facts,
    Cert.Kernel6Ideal.Gen.facts, Cert.Reference6Ideal.Gen.facts,
    Cert.Kernel7.Gen.facts,
    Cert.Kernel7Ideal.Gen.facts, Cert.Reference7Ideal.Gen.facts,
    Cert.Kernel8.Gen.facts,
    Cert.Kernel8Ideal.Gen.facts, Cert.Reference8Ideal.Gen.facts,
    Cert.Kernel9.Gen.facts,
    Cert.Kernel9Ideal.Gen.facts, Cert.Reference9Ideal.Gen.facts,
    Cert.Kernel10.Gen.facts,
    Cert.Kernel10Ideal.Gen.facts, Cert.Reference10Ideal.Gen.facts,
    Cert.Pre_finite.Gen.facts,
    Cert.KernelIdeal.Mla.frame_kernel,
    Cert.KernelIdeal.Mla.frame_ideal,
    fun m ρ _ => Cert.KernelIdeal.Mla.frame_ideal m ρ trivial,
    frame_r1,
    fun m ρ _ => frame_r1 m ρ trivial,
    fun m ρ _ => Cert.Kernel2.Gen.frame m ρ,
    fun m ρ _ => Cert.Kernel2Ideal.Gen.frame m ρ,
    frame_r2,
    fun m ρ _ => Cert.Kernel3.Gen.frame m ρ,
    fun m ρ _ => Cert.Kernel3Ideal.Gen.frame m ρ,
    frame_r3,
    fun m ρ _ => Cert.Kernel4.Gen.frame m ρ,
    fun m ρ _ => Cert.Kernel4Ideal.Gen.frame m ρ,
    frame_r4,
    fun m ρ _ => Cert.Kernel5.Gen.frame m ρ,
    fun m ρ _ => Cert.Kernel5Ideal.Gen.frame m ρ,
    frame_r5,
    fun m ρ _ => Cert.Kernel6.Gen.frame m ρ,
    fun m ρ _ => Cert.Kernel6Ideal.Gen.frame m ρ,
    frame_r6,
    fun m ρ _ => Cert.Kernel7.Gen.frame m ρ,
    fun m ρ _ => Cert.Kernel7Ideal.Gen.frame m ρ,
    frame_r7,
    fun m ρ _ => Cert.Kernel8.Gen.frame m ρ,
    fun m ρ _ => Cert.Kernel8Ideal.Gen.frame m ρ,
    frame_r8,
    fun m ρ _ => Cert.Kernel9.Gen.frame m ρ,
    fun m ρ _ => Cert.Kernel9Ideal.Gen.frame m ρ,
    frame_r9,
    fun m ρ _ => Cert.Kernel10.Gen.frame m ρ,
    fun m ρ _ => Cert.Kernel10Ideal.Gen.frame m ρ,
    frame_r10,
    trivial, Cert.KernelIdeal.Mla.algebraic, trivial, Up.algebraic, trivial, Down.algebraic, trivial, OutProj.algebraic,
    trivial, Norm.algebraic, trivial, Plain.algebraic, trivial, Cqn.algebraic, trivial, Ckvn.algebraic, trivial, Kv.algebraic,
    trivial, InPrep.algebraic⟩

end Cert.Proof

end
